-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x1024 .f32) (main_arg2 : FVec F S1x4096x64x128 .f32) (main_arg3 : FVec F S1x4096x64x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x2048x1024 .f32) (main_arg1 : FVec F S1024x8192 .f32) (main_arg2 : FVec F S1x4096x64x128 .f32) (main_arg3 : FVec F S1x4096x64x128 .f32) (main_arg4 : FVec F S8192x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S8x256x1024 : Shape := ⟨3, ![8, 256, 1024]⟩
abbrev S2x3x1408x128 : Shape := ⟨4, ![2, 3, 1408, 128]⟩
abbrev S8x3x1408x128 : Shape := ⟨4, ![8, 3, 1408, 128]⟩
abbrev S256x1024 : Shape := ⟨2, ![256, 1024]⟩
abbrev S2x256x1024 : Shape := ⟨3, ![2, 256, 1024]⟩
abbrev S7x256x1024 : Shape := ⟨3, ![7, 256, 1024]⟩
abbrev S7 : Shape := ⟨1, ![7]⟩
abbrev S2x2 : Shape := ⟨2, ![2, 2]⟩
abbrev S64x128 : Shape := ⟨2, ![64, 128]⟩
abbrev S1x1x64x128 : Shape := ⟨4, ![1, 1, 64, 128]⟩
abbrev S1x1 : Shape := ⟨2, ![1, 1]⟩
abbrev S_ : Shape := ⟨0, ![]⟩
abbrev S1x64x1x128 : Shape := ⟨4, ![1, 64, 1, 128]⟩
abbrev S1 : Shape := ⟨1, ![1]⟩
abbrev S1x3x1408x128 : Shape := ⟨4, ![1, 3, 1408, 128]⟩
abbrev S3x1408x128 : Shape := ⟨3, ![3, 1408, 128]⟩
abbrev S1x1x1408x128 : Shape := ⟨4, ![1, 1, 1408, 128]⟩
abbrev S1408x128 : Shape := ⟨2, ![1408, 128]⟩
abbrev S64x1408 : Shape := ⟨2, ![64, 1408]⟩
abbrev S128x128 : Shape := ⟨2, ![128, 128]⟩
abbrev S64 : Shape := ⟨1, ![64]⟩
abbrev S64x1 : Shape := ⟨2, ![64, 1]⟩
abbrev S256x128 : Shape := ⟨2, ![256, 128]⟩

abbrev nBuf : Space → Nat
  | .hbm => 6
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S8x256x1024, .bf16⟩
  | .local _ .vmem, ⟨5, _⟩ => ⟨S8x256x1024, .f32⟩
  | .local _ .vmem, ⟨6, _⟩ => ⟨S2x3x1408x128, .f32⟩
  | .local _ .vmem, ⟨7, _⟩ => ⟨S2x3x1408x128, .f32⟩
  | .local _ .vmem, ⟨8, _⟩ => ⟨S8x3x1408x128, .bf16⟩
  | .local _ .vmem, ⟨9, _⟩ => ⟨S8x3x1408x128, .bf16⟩
  | .local _ .vmem, ⟨10, _⟩ => ⟨S256x1024, .bf16⟩
  | .local _ .vmem, ⟨11, _⟩ => ⟨S256x1024, .bf16⟩
  | .local _ .vmem, ⟨12, _⟩ => ⟨S2x256x1024, .f32⟩
  | .local _ .vmem, ⟨13, _⟩ => ⟨S7x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_i32_168 : BitVec 32 := 0#32
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32 : BitVec 32 := 0#32
  let v41 : BitVec 32 := Scalar.addi v8 c0_i32
  let c0_i32_176 : BitVec 32 := 0#32
  ![0, 0, v41.toNat, 0]
def k0_off2 (d0 : Dev nD) : Fin 4 → Nat :=
  let c0_i32_186 : BitVec 32 := 0#32
  let c192_i32 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_42 : BitVec 32 := 0#32
  let v43 : BitVec 32 := Scalar.addi v8 c0_i32_42
  let c0_i32_192 : BitVec 32 := 0#32
  ![0, 192, v43.toNat, 0]
def k0_off3 (d0 : Dev nD) : Fin 4 → Nat :=
  let c0_i32_202 : BitVec 32 := 0#32
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_44 : BitVec 32 := 0#32
  let v45 : BitVec 32 := Scalar.addi v8 c0_i32_44
  let c0_i32_208 : BitVec 32 := 0#32
  ![0, 384, v45.toNat, 0]
def k0_off4 (d0 : Dev nD) : Fin 4 → Nat :=
  let c0_i32_218 : BitVec 32 := 0#32
  let c576_i32 : BitVec 32 := 576#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_46 : BitVec 32 := 0#32
  let v47 : BitVec 32 := Scalar.addi v8 c0_i32_46
  let c0_i32_225 : BitVec 32 := 0#32
  ![0, 576, v47.toNat, 0]
def k0_off5 (d0 : Dev nD) : Fin 4 → Nat :=
  let c0_i32_235 : BitVec 32 := 0#32
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_48 : BitVec 32 := 0#32
  let v49 : BitVec 32 := Scalar.addi v8 c0_i32_48
  let c0_i32_241 : BitVec 32 := 0#32
  ![0, 768, v49.toNat, 0]
def k0_off6 (d0 : Dev nD) : Fin 4 → Nat :=
  let c0_i32_251 : BitVec 32 := 0#32
  let c960_i32 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_50 : BitVec 32 := 0#32
  let v51 : BitVec 32 := Scalar.addi v8 c0_i32_50
  let c0_i32_257 : BitVec 32 := 0#32
  ![0, 960, v51.toNat, 0]
def k0_off7 (d0 : Dev nD) : Fin 4 → Nat :=
  let c0_i32_267 : BitVec 32 := 0#32
  let c1152_i32 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_52 : BitVec 32 := 0#32
  let v53 : BitVec 32 := Scalar.addi v8 c0_i32_52
  let c0_i32_274 : BitVec 32 := 0#32
  ![0, 1152, v53.toNat, 0]
def k0_off8 (d0 : Dev nD) : Fin 4 → Nat :=
  let c0_i32_284 : BitVec 32 := 0#32
  let c1344_i32 : BitVec 32 := 1344#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_54 : BitVec 32 := 0#32
  let v55 : BitVec 32 := Scalar.addi v8 c0_i32_54
  let c0_i32_290 : BitVec 32 := 0#32
  ![0, 1344, v55.toNat, 0]
def k0_off9 (d0 : Dev nD) : Fin 4 → Nat :=
  let c0_i32_300 : BitVec 32 := 0#32
  let c1536_i32 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_56 : BitVec 32 := 0#32
  let v57 : BitVec 32 := Scalar.addi v8 c0_i32_56
  let c0_i32_306 : BitVec 32 := 0#32
  ![0, 1536, v57.toNat, 0]
def k0_off10 (d0 : Dev nD) : Fin 4 → Nat :=
  let c0_i32_316 : BitVec 32 := 0#32
  let c1728_i32 : BitVec 32 := 1728#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_58 : BitVec 32 := 0#32
  let v59 : BitVec 32 := Scalar.addi v8 c0_i32_58
  let c0_i32_323 : BitVec 32 := 0#32
  ![0, 1728, v59.toNat, 0]
def k0_off11 (d0 : Dev nD) : Fin 4 → Nat :=
  let c0_i32_333 : BitVec 32 := 0#32
  let c1920_i32 : BitVec 32 := 1920#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_60 : BitVec 32 := 0#32
  let v61 : BitVec 32 := Scalar.addi v8 c0_i32_60
  let c0_i32_339 : BitVec 32 := 0#32
  ![0, 1920, v61.toNat, 0]
def k0_off12 (d0 : Dev nD) : Fin 4 → Nat :=
  let c0_i32_349 : BitVec 32 := 0#32
  let c2112_i32 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_62 : BitVec 32 := 0#32
  let v63 : BitVec 32 := Scalar.addi v8 c0_i32_62
  let c0_i32_355 : BitVec 32 := 0#32
  ![0, 2112, v63.toNat, 0]
def k0_off13 (d0 : Dev nD) : Fin 4 → Nat :=
  let c0_i32_365 : BitVec 32 := 0#32
  let c2304_i32 : BitVec 32 := 2304#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_64 : BitVec 32 := 0#32
  let v65 : BitVec 32 := Scalar.addi v8 c0_i32_64
  let c0_i32_372 : BitVec 32 := 0#32
  ![0, 2304, v65.toNat, 0]
def k0_off14 (d0 : Dev nD) : Fin 4 → Nat :=
  let c0_i32_382 : BitVec 32 := 0#32
  let c2496_i32 : BitVec 32 := 2496#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_66 : BitVec 32 := 0#32
  let v67 : BitVec 32 := Scalar.addi v8 c0_i32_66
  let c0_i32_388 : BitVec 32 := 0#32
  ![0, 2496, v67.toNat, 0]
def k0_off15 (d0 : Dev nD) : Fin 4 → Nat :=
  let c0_i32_398 : BitVec 32 := 0#32
  let c2688_i32 : BitVec 32 := 2688#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_68 : BitVec 32 := 0#32
  let v69 : BitVec 32 := Scalar.addi v8 c0_i32_68
  let c0_i32_404 : BitVec 32 := 0#32
  ![0, 2688, v69.toNat, 0]
def k0_off16 (d0 : Dev nD) : Fin 4 → Nat :=
  let c0_i32_414 : BitVec 32 := 0#32
  let c2880_i32 : BitVec 32 := 2880#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_70 : BitVec 32 := 0#32
  let v71 : BitVec 32 := Scalar.addi v8 c0_i32_70
  let c0_i32_421 : BitVec 32 := 0#32
  ![0, 2880, v71.toNat, 0]
def k0_off17 (d0 : Dev nD) : Fin 4 → Nat :=
  let c0_i32_431 : BitVec 32 := 0#32
  let c3072_i32 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_72 : BitVec 32 := 0#32
  let v73 : BitVec 32 := Scalar.addi v8 c0_i32_72
  let c0_i32_437 : BitVec 32 := 0#32
  ![0, 3072, v73.toNat, 0]
def k0_off18 (d0 : Dev nD) : Fin 4 → Nat :=
  let c0_i32_447 : BitVec 32 := 0#32
  let c3264_i32 : BitVec 32 := 3264#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_74 : BitVec 32 := 0#32
  let v75 : BitVec 32 := Scalar.addi v8 c0_i32_74
  let c0_i32_453 : BitVec 32 := 0#32
  ![0, 3264, v75.toNat, 0]
def k0_off19 (d0 : Dev nD) : Fin 4 → Nat :=
  let c0_i32_463 : BitVec 32 := 0#32
  let c3456_i32 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_76 : BitVec 32 := 0#32
  let v77 : BitVec 32 := Scalar.addi v8 c0_i32_76
  let c0_i32_470 : BitVec 32 := 0#32
  ![0, 3456, v77.toNat, 0]
def k0_off20 (d0 : Dev nD) : Fin 4 → Nat :=
  let c0_i32_480 : BitVec 32 := 0#32
  let c3648_i32 : BitVec 32 := 3648#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_78 : BitVec 32 := 0#32
  let v79 : BitVec 32 := Scalar.addi v8 c0_i32_78
  let c0_i32_486 : BitVec 32 := 0#32
  ![0, 3648, v79.toNat, 0]
def k0_off21 (d0 : Dev nD) : Fin 4 → Nat :=
  let c0_i32_496 : BitVec 32 := 0#32
  let c3840_i32 : BitVec 32 := 3840#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_80 : BitVec 32 := 0#32
  let v81 : BitVec 32 := Scalar.addi v8 c0_i32_80
  let c0_i32_502 : BitVec 32 := 0#32
  ![0, 3840, v81.toNat, 0]
def k0_off22 (d0 : Dev nD) : Fin 4 → Nat :=
  let c0_i32_512 : BitVec 32 := 0#32
  let c4032_i32 : BitVec 32 := 4032#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_82 : BitVec 32 := 0#32
  let v83 : BitVec 32 := Scalar.addi v8 c0_i32_82
  let c0_i32_519 : BitVec 32 := 0#32
  ![0, 4032, v83.toNat, 0]
def k0_off23 (d0 : Dev nD) : Fin 4 → Nat :=
  let c0_i32_529 : BitVec 32 := 0#32
  let c64_i32_536 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_84 : BitVec 32 := 0#32
  let v85 : BitVec 32 := Scalar.addi v8 c0_i32_84
  let c0_i32_537 : BitVec 32 := 0#32
  ![0, 64, v85.toNat, 0]
def k0_off24 (d0 : Dev nD) : Fin 4 → Nat :=
  let c0_i32_547 : BitVec 32 := 0#32
  let c256_i32_554 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_86 : BitVec 32 := 0#32
  let v87 : BitVec 32 := Scalar.addi v8 c0_i32_86
  let c0_i32_555 : BitVec 32 := 0#32
  ![0, 256, v87.toNat, 0]
def k0_off25 (d0 : Dev nD) : Fin 4 → Nat :=
  let c0_i32_565 : BitVec 32 := 0#32
  let c448_i32_572 : BitVec 32 := 448#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_88 : BitVec 32 := 0#32
  let v89 : BitVec 32 := Scalar.addi v8 c0_i32_88
  let c0_i32_573 : BitVec 32 := 0#32
  ![0, 448, v89.toNat, 0]
def k0_off26 (d0 : Dev nD) : Fin 4 → Nat :=
  let c0_i32_583 : BitVec 32 := 0#32
  let c640_i32_590 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_90 : BitVec 32 := 0#32
  let v91 : BitVec 32 := Scalar.addi v8 c0_i32_90
  let c0_i32_591 : BitVec 32 := 0#32
  ![0, 640, v91.toNat, 0]
def k0_off27 (d0 : Dev nD) : Fin 4 → Nat :=
  let c0_i32_601 : BitVec 32 := 0#32
  let c832_i32_608 : BitVec 32 := 832#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_92 : BitVec 32 := 0#32
  let v93 : BitVec 32 := Scalar.addi v8 c0_i32_92
  let c0_i32_609 : BitVec 32 := 0#32
  ![0, 832, v93.toNat, 0]
def k0_off28 (d0 : Dev nD) : Fin 4 → Nat :=
  let c0_i32_619 : BitVec 32 := 0#32
  let c1024_i32_626 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_94 : BitVec 32 := 0#32
  let v95 : BitVec 32 := Scalar.addi v8 c0_i32_94
  let c0_i32_627 : BitVec 32 := 0#32
  ![0, 1024, v95.toNat, 0]
def k0_off29 (d0 : Dev nD) : Fin 4 → Nat :=
  let c0_i32_637 : BitVec 32 := 0#32
  let c1216_i32_644 : BitVec 32 := 1216#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_96 : BitVec 32 := 0#32
  let v97 : BitVec 32 := Scalar.addi v8 c0_i32_96
  let c0_i32_645 : BitVec 32 := 0#32
  ![0, 1216, v97.toNat, 0]
def k0_off30 (d0 : Dev nD) : Fin 4 → Nat :=
  let c0_i32_655 : BitVec 32 := 0#32
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_98 : BitVec 32 := 0#32
  let v99 : BitVec 32 := Scalar.addi v8 c0_i32_98
  let c0_i32_662 : BitVec 32 := 0#32
  ![0, 1408, v99.toNat, 0]
def k0_off31 (d0 : Dev nD) : Fin 4 → Nat :=
  let c0_i32_672 : BitVec 32 := 0#32
  let c1600_i32 : BitVec 32 := 1600#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_100 : BitVec 32 := 0#32
  let v101 : BitVec 32 := Scalar.addi v8 c0_i32_100
  let c0_i32_679 : BitVec 32 := 0#32
  ![0, 1600, v101.toNat, 0]
def k0_off32 (d0 : Dev nD) : Fin 4 → Nat :=
  let c0_i32_689 : BitVec 32 := 0#32
  let c1792_i32 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_102 : BitVec 32 := 0#32
  let v103 : BitVec 32 := Scalar.addi v8 c0_i32_102
  let c0_i32_696 : BitVec 32 := 0#32
  ![0, 1792, v103.toNat, 0]
def k0_off33 (d0 : Dev nD) : Fin 4 → Nat :=
  let c0_i32_706 : BitVec 32 := 0#32
  let c1984_i32 : BitVec 32 := 1984#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_104 : BitVec 32 := 0#32
  let v105 : BitVec 32 := Scalar.addi v8 c0_i32_104
  let c0_i32_713 : BitVec 32 := 0#32
  ![0, 1984, v105.toNat, 0]
def k0_off34 (d0 : Dev nD) : Fin 4 → Nat :=
  let c0_i32_723 : BitVec 32 := 0#32
  let c2176_i32 : BitVec 32 := 2176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_106 : BitVec 32 := 0#32
  let v107 : BitVec 32 := Scalar.addi v8 c0_i32_106
  let c0_i32_730 : BitVec 32 := 0#32
  ![0, 2176, v107.toNat, 0]
def k0_off35 (d0 : Dev nD) : Fin 4 → Nat :=
  let c0_i32_740 : BitVec 32 := 0#32
  let c2368_i32 : BitVec 32 := 2368#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_108 : BitVec 32 := 0#32
  let v109 : BitVec 32 := Scalar.addi v8 c0_i32_108
  let c0_i32_747 : BitVec 32 := 0#32
  ![0, 2368, v109.toNat, 0]
def k0_off36 (d0 : Dev nD) : Fin 4 → Nat :=
  let c0_i32_757 : BitVec 32 := 0#32
  let c2560_i32 : BitVec 32 := 2560#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_110 : BitVec 32 := 0#32
  let v111 : BitVec 32 := Scalar.addi v8 c0_i32_110
  let c0_i32_764 : BitVec 32 := 0#32
  ![0, 2560, v111.toNat, 0]
def k0_off37 (d0 : Dev nD) : Fin 4 → Nat :=
  let c0_i32_774 : BitVec 32 := 0#32
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_112 : BitVec 32 := 0#32
  let v113 : BitVec 32 := Scalar.addi v8 c0_i32_112
  let c0_i32_781 : BitVec 32 := 0#32
  ![0, 2752, v113.toNat, 0]
def k0_off38 (d0 : Dev nD) : Fin 4 → Nat :=
  let c0_i32_791 : BitVec 32 := 0#32
  let c2944_i32 : BitVec 32 := 2944#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_114 : BitVec 32 := 0#32
  let v115 : BitVec 32 := Scalar.addi v8 c0_i32_114
  let c0_i32_798 : BitVec 32 := 0#32
  ![0, 2944, v115.toNat, 0]
def k0_off39 (d0 : Dev nD) : Fin 4 → Nat :=
  let c0_i32_808 : BitVec 32 := 0#32
  let c3136_i32 : BitVec 32 := 3136#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_116 : BitVec 32 := 0#32
  let v117 : BitVec 32 := Scalar.addi v8 c0_i32_116
  let c0_i32_815 : BitVec 32 := 0#32
  ![0, 3136, v117.toNat, 0]
def k0_off40 (d0 : Dev nD) : Fin 4 → Nat :=
  let c0_i32_825 : BitVec 32 := 0#32
  let c3328_i32 : BitVec 32 := 3328#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_118 : BitVec 32 := 0#32
  let v119 : BitVec 32 := Scalar.addi v8 c0_i32_118
  let c0_i32_832 : BitVec 32 := 0#32
  ![0, 3328, v119.toNat, 0]
def k0_off41 (d0 : Dev nD) : Fin 4 → Nat :=
  let c0_i32_842 : BitVec 32 := 0#32
  let c3520_i32 : BitVec 32 := 3520#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_120 : BitVec 32 := 0#32
  let v121 : BitVec 32 := Scalar.addi v8 c0_i32_120
  let c0_i32_849 : BitVec 32 := 0#32
  ![0, 3520, v121.toNat, 0]
def k0_off42 (d0 : Dev nD) : Fin 4 → Nat :=
  let c0_i32_859 : BitVec 32 := 0#32
  let c3712_i32 : BitVec 32 := 3712#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_122 : BitVec 32 := 0#32
  let v123 : BitVec 32 := Scalar.addi v8 c0_i32_122
  let c0_i32_866 : BitVec 32 := 0#32
  ![0, 3712, v123.toNat, 0]
def k0_off43 (d0 : Dev nD) : Fin 4 → Nat :=
  let c0_i32_876 : BitVec 32 := 0#32
  let c3904_i32 : BitVec 32 := 3904#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_124 : BitVec 32 := 0#32
  let v125 : BitVec 32 := Scalar.addi v8 c0_i32_124
  let c0_i32_883 : BitVec 32 := 0#32
  ![0, 3904, v125.toNat, 0]
def k0_off44 (d0 : Dev nD) : Fin 4 → Nat :=
  let c0_i32_893 : BitVec 32 := 0#32
  let c128_i32_899 : BitVec 32 := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_126 : BitVec 32 := 0#32
  let v127 : BitVec 32 := Scalar.addi v8 c0_i32_126
  let c0_i32_900 : BitVec 32 := 0#32
  ![0, 128, v127.toNat, 0]
def k0_off45 (d0 : Dev nD) : Fin 4 → Nat :=
  let c0_i32_910 : BitVec 32 := 0#32
  let c320_i32_917 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_128 : BitVec 32 := 0#32
  let v129 : BitVec 32 := Scalar.addi v8 c0_i32_128
  let c0_i32_918 : BitVec 32 := 0#32
  ![0, 320, v129.toNat, 0]
def k0_off46 (d0 : Dev nD) : Fin 4 → Nat :=
  let c0_i32_928 : BitVec 32 := 0#32
  let c512_i32_935 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_130 : BitVec 32 := 0#32
  let v131 : BitVec 32 := Scalar.addi v8 c0_i32_130
  let c0_i32_936 : BitVec 32 := 0#32
  ![0, 512, v131.toNat, 0]
def k0_off47 (d0 : Dev nD) : Fin 4 → Nat :=
  let c0_i32_946 : BitVec 32 := 0#32
  let c704_i32_953 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_132 : BitVec 32 := 0#32
  let v133 : BitVec 32 := Scalar.addi v8 c0_i32_132
  let c0_i32_954 : BitVec 32 := 0#32
  ![0, 704, v133.toNat, 0]
def k0_off48 (d0 : Dev nD) : Fin 4 → Nat :=
  let c0_i32_964 : BitVec 32 := 0#32
  let c896_i32_971 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_134 : BitVec 32 := 0#32
  let v135 : BitVec 32 := Scalar.addi v8 c0_i32_134
  let c0_i32_972 : BitVec 32 := 0#32
  ![0, 896, v135.toNat, 0]
def k0_off49 (d0 : Dev nD) : Fin 4 → Nat :=
  let c0_i32_982 : BitVec 32 := 0#32
  let c1088_i32_989 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_136 : BitVec 32 := 0#32
  let v137 : BitVec 32 := Scalar.addi v8 c0_i32_136
  let c0_i32_990 : BitVec 32 := 0#32
  ![0, 1088, v137.toNat, 0]
def k0_off50 (d0 : Dev nD) : Fin 4 → Nat :=
  let c0_i32_1000 : BitVec 32 := 0#32
  let c1280_i32_1007 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_138 : BitVec 32 := 0#32
  let v139 : BitVec 32 := Scalar.addi v8 c0_i32_138
  let c0_i32_1008 : BitVec 32 := 0#32
  ![0, 1280, v139.toNat, 0]
def k0_off51 (d0 : Dev nD) : Fin 4 → Nat :=
  let c0_i32_1018 : BitVec 32 := 0#32
  let c1472_i32 : BitVec 32 := 1472#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_140 : BitVec 32 := 0#32
  let v141 : BitVec 32 := Scalar.addi v8 c0_i32_140
  let c0_i32_1025 : BitVec 32 := 0#32
  ![0, 1472, v141.toNat, 0]
def k0_off52 (d0 : Dev nD) : Fin 4 → Nat :=
  let c0_i32_1035 : BitVec 32 := 0#32
  let c1664_i32 : BitVec 32 := 1664#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_142 : BitVec 32 := 0#32
  let v143 : BitVec 32 := Scalar.addi v8 c0_i32_142
  let c0_i32_1042 : BitVec 32 := 0#32
  ![0, 1664, v143.toNat, 0]
def k0_off53 (d0 : Dev nD) : Fin 4 → Nat :=
  let c0_i32_1052 : BitVec 32 := 0#32
  let c1856_i32 : BitVec 32 := 1856#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_144 : BitVec 32 := 0#32
  let v145 : BitVec 32 := Scalar.addi v8 c0_i32_144
  let c0_i32_1059 : BitVec 32 := 0#32
  ![0, 1856, v145.toNat, 0]
def k0_off54 (d0 : Dev nD) : Fin 4 → Nat :=
  let c0_i32_1069 : BitVec 32 := 0#32
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_146 : BitVec 32 := 0#32
  let v147 : BitVec 32 := Scalar.addi v8 c0_i32_146
  let c0_i32_1076 : BitVec 32 := 0#32
  ![0, 2048, v147.toNat, 0]
def k0_off55 (d0 : Dev nD) : Fin 4 → Nat :=
  let c0_i32_1086 : BitVec 32 := 0#32
  let c2240_i32 : BitVec 32 := 2240#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_148 : BitVec 32 := 0#32
  let v149 : BitVec 32 := Scalar.addi v8 c0_i32_148
  let c0_i32_1093 : BitVec 32 := 0#32
  ![0, 2240, v149.toNat, 0]
def k0_off56 (d0 : Dev nD) : Fin 4 → Nat :=
  let c0_i32_1103 : BitVec 32 := 0#32
  let c2432_i32 : BitVec 32 := 2432#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_150 : BitVec 32 := 0#32
  let v151 : BitVec 32 := Scalar.addi v8 c0_i32_150
  let c0_i32_1110 : BitVec 32 := 0#32
  ![0, 2432, v151.toNat, 0]
def k0_off57 (d0 : Dev nD) : Fin 4 → Nat :=
  let c0_i32_1120 : BitVec 32 := 0#32
  let c2624_i32 : BitVec 32 := 2624#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_152 : BitVec 32 := 0#32
  let v153 : BitVec 32 := Scalar.addi v8 c0_i32_152
  let c0_i32_1127 : BitVec 32 := 0#32
  ![0, 2624, v153.toNat, 0]
def k0_off58 (d0 : Dev nD) : Fin 4 → Nat :=
  let c0_i32_1137 : BitVec 32 := 0#32
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_154 : BitVec 32 := 0#32
  let v155 : BitVec 32 := Scalar.addi v8 c0_i32_154
  let c0_i32_1144 : BitVec 32 := 0#32
  ![0, 2816, v155.toNat, 0]
def k0_off59 (d0 : Dev nD) : Fin 4 → Nat :=
  let c0_i32_1154 : BitVec 32 := 0#32
  let c3008_i32 : BitVec 32 := 3008#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_156 : BitVec 32 := 0#32
  let v157 : BitVec 32 := Scalar.addi v8 c0_i32_156
  let c0_i32_1161 : BitVec 32 := 0#32
  ![0, 3008, v157.toNat, 0]
def k0_off60 (d0 : Dev nD) : Fin 4 → Nat :=
  let c0_i32_1171 : BitVec 32 := 0#32
  let c3200_i32 : BitVec 32 := 3200#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_158 : BitVec 32 := 0#32
  let v159 : BitVec 32 := Scalar.addi v8 c0_i32_158
  let c0_i32_1178 : BitVec 32 := 0#32
  ![0, 3200, v159.toNat, 0]
def k0_off61 (d0 : Dev nD) : Fin 4 → Nat :=
  let c0_i32_1188 : BitVec 32 := 0#32
  let c3392_i32 : BitVec 32 := 3392#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_160 : BitVec 32 := 0#32
  let v161 : BitVec 32 := Scalar.addi v8 c0_i32_160
  let c0_i32_1195 : BitVec 32 := 0#32
  ![0, 3392, v161.toNat, 0]
def k0_off62 (d0 : Dev nD) : Fin 4 → Nat :=
  let c0_i32_1205 : BitVec 32 := 0#32
  let c3584_i32 : BitVec 32 := 3584#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_162 : BitVec 32 := 0#32
  let v163 : BitVec 32 := Scalar.addi v8 c0_i32_162
  let c0_i32_1212 : BitVec 32 := 0#32
  ![0, 3584, v163.toNat, 0]
def k0_off63 (d0 : Dev nD) : Fin 4 → Nat :=
  let c0_i32_1222 : BitVec 32 := 0#32
  let c3776_i32 : BitVec 32 := 3776#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_164 : BitVec 32 := 0#32
  let v165 : BitVec 32 := Scalar.addi v8 c0_i32_164
  let c0_i32_1229 : BitVec 32 := 0#32
  ![0, 3776, v165.toNat, 0]
def k0_off64 (d0 : Dev nD) : Fin 4 → Nat :=
  let c0_i32_1239 : BitVec 32 := 0#32
  let c3968_i32 : BitVec 32 := 3968#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_166 : BitVec 32 := 0#32
  let v167 : BitVec 32 := Scalar.addi v8 c0_i32_166
  let c0_i32_1246 : BitVec 32 := 0#32
  ![0, 3968, v167.toNat, 0]
def k0_off65 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v940 : Index := Scalar.indexCast v2
  let c0_1259 : Index := 0#32
  let c0_1260 : Index := 0#32
  ![v940.toNat, 0, 0]
def k0_dev1 (d0 : Dev nD) : Nat :=
  let c0_i32_1263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1262 : BitVec 32 := 1#32
  let v945 : BitVec 32 := Scalar.muli v5 c1_i32_1262
  let v946 : BitVec 32 := Scalar.addi c0_i32_1263 v945
  v946.toNat
def k0_dev2 (d0 : Dev nD) : Nat :=
  let c0_i32_1266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1265 : BitVec 32 := 1#32
  let v947 : BitVec 32 := Scalar.muli v7 c1_i32_1265
  let v948 : BitVec 32 := Scalar.addi c0_i32_1266 v947
  v948.toNat
def k0_off66 (d0 : Dev nD) (c0_i32_1272 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v955 : BitVec 32 := Scalar.subi v2 c0_i32_1272
  let c8_i32_1273 : BitVec 32 := 8#32
  let v956 : BitVec 32 := Scalar.addi v955 c8_i32_1273
  let c8_i32_1274 : BitVec 32 := 8#32
  let v957 : BitVec 32 := Scalar.remsi v956 c8_i32_1274
  let c0_i32_1279 : BitVec 32 := 0#32
  let c0_i32_1280 : BitVec 32 := 0#32
  ![v957.toNat, 0, 0]
def k0_dev3 (d0 : Dev nD) : Nat :=
  let c0_i32_1278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1277 : BitVec 32 := 1#32
  let v958 : BitVec 32 := Scalar.muli v7 c1_i32_1277
  let v959 : BitVec 32 := Scalar.addi c0_i32_1278 v958
  v959.toNat
def k0_off67 (d0 : Dev nD) (c0_i32_1272 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v955 : BitVec 32 := Scalar.subi v2 c0_i32_1272
  let c8_i32_1273 : BitVec 32 := 8#32
  let v956 : BitVec 32 := Scalar.addi v955 c8_i32_1273
  let c8_i32_1274 : BitVec 32 := 8#32
  let v957 : BitVec 32 := Scalar.remsi v956 c8_i32_1274
  let v966 : Index := Scalar.indexCast v957
  let c0_1283 : Index := 0#32
  let c0_1284 : Index := 0#32
  ![v966.toNat, 0, 0]
@[reducible] def k0_t1_loop : Scf.Loop 32 :=
  let c0_i32_1288 : BitVec 32 := 0#32
  let c8_i32_1289 : BitVec 32 := 8#32
  let v974 : BitVec 32 := Scalar.addi c0_i32_1288 c8_i32_1289
  let c1_i32_1290 : BitVec 32 := 1#32
  ⟨c0_i32_1288, v974, c1_i32_1290⟩
def k0_off68 (k0_t1 : Fin k0_t1_loop.trips) : Fin 2 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1827 : BitVec 32 := 0#32
  ![v1453.toNat, 0]
def k0_off69 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1826 : BitVec 32 := 0#32
  let c0_i32_1828 : BitVec 32 := 0#32
  let c0_i32_1829 : BitVec 32 := 0#32
  ![v1453.toNat, 0, 0, 0]
def k0_off70 (d0 : Dev nD) (k0_t1 : Fin k0_t1_loop.trips) : Fin 4 → Nat :=
  let c0_i32_1825 : BitVec 32 := 0#32
  let c0_i32_1830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1454 : BitVec 32 := Scalar.addi v8 arg21
  let c0_i32_1831 : BitVec 32 := 0#32
  ![0, 0, v1454.toNat, 0]
def k0_off71 (k0_t1 : Fin k0_t1_loop.trips) : Fin 2 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_1834 : BitVec 32 := 1#32
  ![v1453.toNat, 1]
def k0_off72 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1840 : BitVec 32 := 0#32
  let c64_i32_1842 : BitVec 32 := 64#32
  let c0_i32_1843 : BitVec 32 := 0#32
  ![v1453.toNat, 0, 64, 0]
def k0_off73 (d0 : Dev nD) (k0_t1 : Fin k0_t1_loop.trips) : Fin 4 → Nat :=
  let c0_i32_1839 : BitVec 32 := 0#32
  let c192_i32_1844 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1456 : BitVec 32 := Scalar.addi v8 arg21
  let c0_i32_1845 : BitVec 32 := 0#32
  ![0, 192, v1456.toNat, 0]
def k0_off74 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1854 : BitVec 32 := 0#32
  let c128_i32_1856 : BitVec 32 := 128#32
  let c0_i32_1857 : BitVec 32 := 0#32
  ![v1453.toNat, 0, 128, 0]
def k0_off75 (d0 : Dev nD) (k0_t1 : Fin k0_t1_loop.trips) : Fin 4 → Nat :=
  let c0_i32_1853 : BitVec 32 := 0#32
  let c384_i32_1858 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1458 : BitVec 32 := Scalar.addi v8 arg21
  let c0_i32_1859 : BitVec 32 := 0#32
  ![0, 384, v1458.toNat, 0]
def k0_off76 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1868 : BitVec 32 := 0#32
  let c192_i32_1870 : BitVec 32 := 192#32
  let c0_i32_1871 : BitVec 32 := 0#32
  ![v1453.toNat, 0, 192, 0]
def k0_off77 (d0 : Dev nD) (k0_t1 : Fin k0_t1_loop.trips) : Fin 4 → Nat :=
  let c0_i32_1867 : BitVec 32 := 0#32
  let c576_i32_1872 : BitVec 32 := 576#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1460 : BitVec 32 := Scalar.addi v8 arg21
  let c0_i32_1873 : BitVec 32 := 0#32
  ![0, 576, v1460.toNat, 0]
def k0_off78 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1882 : BitVec 32 := 0#32
  let c256_i32_1884 : BitVec 32 := 256#32
  let c0_i32_1885 : BitVec 32 := 0#32
  ![v1453.toNat, 0, 256, 0]
def k0_off79 (d0 : Dev nD) (k0_t1 : Fin k0_t1_loop.trips) : Fin 4 → Nat :=
  let c0_i32_1881 : BitVec 32 := 0#32
  let c768_i32_1886 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1462 : BitVec 32 := Scalar.addi v8 arg21
  let c0_i32_1887 : BitVec 32 := 0#32
  ![0, 768, v1462.toNat, 0]
def k0_off80 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1896 : BitVec 32 := 0#32
  let c320_i32_1898 : BitVec 32 := 320#32
  let c0_i32_1899 : BitVec 32 := 0#32
  ![v1453.toNat, 0, 320, 0]
def k0_off81 (d0 : Dev nD) (k0_t1 : Fin k0_t1_loop.trips) : Fin 4 → Nat :=
  let c0_i32_1895 : BitVec 32 := 0#32
  let c960_i32_1900 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1464 : BitVec 32 := Scalar.addi v8 arg21
  let c0_i32_1901 : BitVec 32 := 0#32
  ![0, 960, v1464.toNat, 0]
def k0_off82 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1910 : BitVec 32 := 0#32
  let c384_i32_1912 : BitVec 32 := 384#32
  let c0_i32_1913 : BitVec 32 := 0#32
  ![v1453.toNat, 0, 384, 0]
def k0_off83 (d0 : Dev nD) (k0_t1 : Fin k0_t1_loop.trips) : Fin 4 → Nat :=
  let c0_i32_1909 : BitVec 32 := 0#32
  let c1152_i32_1914 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1466 : BitVec 32 := Scalar.addi v8 arg21
  let c0_i32_1915 : BitVec 32 := 0#32
  ![0, 1152, v1466.toNat, 0]
def k0_off84 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1924 : BitVec 32 := 0#32
  let c448_i32_1926 : BitVec 32 := 448#32
  let c0_i32_1927 : BitVec 32 := 0#32
  ![v1453.toNat, 0, 448, 0]
def k0_off85 (d0 : Dev nD) (k0_t1 : Fin k0_t1_loop.trips) : Fin 4 → Nat :=
  let c0_i32_1923 : BitVec 32 := 0#32
  let c1344_i32_1928 : BitVec 32 := 1344#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1468 : BitVec 32 := Scalar.addi v8 arg21
  let c0_i32_1929 : BitVec 32 := 0#32
  ![0, 1344, v1468.toNat, 0]
def k0_off86 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1938 : BitVec 32 := 0#32
  let c512_i32_1940 : BitVec 32 := 512#32
  let c0_i32_1941 : BitVec 32 := 0#32
  ![v1453.toNat, 0, 512, 0]
def k0_off87 (d0 : Dev nD) (k0_t1 : Fin k0_t1_loop.trips) : Fin 4 → Nat :=
  let c0_i32_1937 : BitVec 32 := 0#32
  let c1536_i32_1942 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1470 : BitVec 32 := Scalar.addi v8 arg21
  let c0_i32_1943 : BitVec 32 := 0#32
  ![0, 1536, v1470.toNat, 0]
def k0_off88 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1952 : BitVec 32 := 0#32
  let c576_i32_1954 : BitVec 32 := 576#32
  let c0_i32_1955 : BitVec 32 := 0#32
  ![v1453.toNat, 0, 576, 0]
def k0_off89 (d0 : Dev nD) (k0_t1 : Fin k0_t1_loop.trips) : Fin 4 → Nat :=
  let c0_i32_1951 : BitVec 32 := 0#32
  let c1728_i32_1956 : BitVec 32 := 1728#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1472 : BitVec 32 := Scalar.addi v8 arg21
  let c0_i32_1957 : BitVec 32 := 0#32
  ![0, 1728, v1472.toNat, 0]
def k0_off90 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1966 : BitVec 32 := 0#32
  let c640_i32_1968 : BitVec 32 := 640#32
  let c0_i32_1969 : BitVec 32 := 0#32
  ![v1453.toNat, 0, 640, 0]
def k0_off91 (d0 : Dev nD) (k0_t1 : Fin k0_t1_loop.trips) : Fin 4 → Nat :=
  let c0_i32_1965 : BitVec 32 := 0#32
  let c1920_i32_1970 : BitVec 32 := 1920#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1474 : BitVec 32 := Scalar.addi v8 arg21
  let c0_i32_1971 : BitVec 32 := 0#32
  ![0, 1920, v1474.toNat, 0]
def k0_off92 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1980 : BitVec 32 := 0#32
  let c704_i32_1982 : BitVec 32 := 704#32
  let c0_i32_1983 : BitVec 32 := 0#32
  ![v1453.toNat, 0, 704, 0]
def k0_off93 (d0 : Dev nD) (k0_t1 : Fin k0_t1_loop.trips) : Fin 4 → Nat :=
  let c0_i32_1979 : BitVec 32 := 0#32
  let c2112_i32_1984 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1476 : BitVec 32 := Scalar.addi v8 arg21
  let c0_i32_1985 : BitVec 32 := 0#32
  ![0, 2112, v1476.toNat, 0]
def k0_off94 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_1994 : BitVec 32 := 0#32
  let c768_i32_1996 : BitVec 32 := 768#32
  let c0_i32_1997 : BitVec 32 := 0#32
  ![v1453.toNat, 0, 768, 0]
def k0_off95 (d0 : Dev nD) (k0_t1 : Fin k0_t1_loop.trips) : Fin 4 → Nat :=
  let c0_i32_1993 : BitVec 32 := 0#32
  let c2304_i32_1998 : BitVec 32 := 2304#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1478 : BitVec 32 := Scalar.addi v8 arg21
  let c0_i32_1999 : BitVec 32 := 0#32
  ![0, 2304, v1478.toNat, 0]
def k0_off96 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2008 : BitVec 32 := 0#32
  let c832_i32_2010 : BitVec 32 := 832#32
  let c0_i32_2011 : BitVec 32 := 0#32
  ![v1453.toNat, 0, 832, 0]
def k0_off97 (d0 : Dev nD) (k0_t1 : Fin k0_t1_loop.trips) : Fin 4 → Nat :=
  let c0_i32_2007 : BitVec 32 := 0#32
  let c2496_i32_2012 : BitVec 32 := 2496#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1480 : BitVec 32 := Scalar.addi v8 arg21
  let c0_i32_2013 : BitVec 32 := 0#32
  ![0, 2496, v1480.toNat, 0]
def k0_off98 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2022 : BitVec 32 := 0#32
  let c896_i32_2024 : BitVec 32 := 896#32
  let c0_i32_2025 : BitVec 32 := 0#32
  ![v1453.toNat, 0, 896, 0]
def k0_off99 (d0 : Dev nD) (k0_t1 : Fin k0_t1_loop.trips) : Fin 4 → Nat :=
  let c0_i32_2021 : BitVec 32 := 0#32
  let c2688_i32_2026 : BitVec 32 := 2688#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1482 : BitVec 32 := Scalar.addi v8 arg21
  let c0_i32_2027 : BitVec 32 := 0#32
  ![0, 2688, v1482.toNat, 0]
def k0_off100 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2036 : BitVec 32 := 0#32
  let c960_i32_2038 : BitVec 32 := 960#32
  let c0_i32_2039 : BitVec 32 := 0#32
  ![v1453.toNat, 0, 960, 0]
def k0_off101 (d0 : Dev nD) (k0_t1 : Fin k0_t1_loop.trips) : Fin 4 → Nat :=
  let c0_i32_2035 : BitVec 32 := 0#32
  let c2880_i32_2040 : BitVec 32 := 2880#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1484 : BitVec 32 := Scalar.addi v8 arg21
  let c0_i32_2041 : BitVec 32 := 0#32
  ![0, 2880, v1484.toNat, 0]
def k0_off102 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2050 : BitVec 32 := 0#32
  let c1024_i32_2052 : BitVec 32 := 1024#32
  let c0_i32_2053 : BitVec 32 := 0#32
  ![v1453.toNat, 0, 1024, 0]
def k0_off103 (d0 : Dev nD) (k0_t1 : Fin k0_t1_loop.trips) : Fin 4 → Nat :=
  let c0_i32_2049 : BitVec 32 := 0#32
  let c3072_i32_2054 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1486 : BitVec 32 := Scalar.addi v8 arg21
  let c0_i32_2055 : BitVec 32 := 0#32
  ![0, 3072, v1486.toNat, 0]
def k0_off104 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2064 : BitVec 32 := 0#32
  let c1088_i32_2066 : BitVec 32 := 1088#32
  let c0_i32_2067 : BitVec 32 := 0#32
  ![v1453.toNat, 0, 1088, 0]
def k0_off105 (d0 : Dev nD) (k0_t1 : Fin k0_t1_loop.trips) : Fin 4 → Nat :=
  let c0_i32_2063 : BitVec 32 := 0#32
  let c3264_i32_2068 : BitVec 32 := 3264#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1488 : BitVec 32 := Scalar.addi v8 arg21
  let c0_i32_2069 : BitVec 32 := 0#32
  ![0, 3264, v1488.toNat, 0]
def k0_off106 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2078 : BitVec 32 := 0#32
  let c1152_i32_2080 : BitVec 32 := 1152#32
  let c0_i32_2081 : BitVec 32 := 0#32
  ![v1453.toNat, 0, 1152, 0]
def k0_off107 (d0 : Dev nD) (k0_t1 : Fin k0_t1_loop.trips) : Fin 4 → Nat :=
  let c0_i32_2077 : BitVec 32 := 0#32
  let c3456_i32_2082 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1490 : BitVec 32 := Scalar.addi v8 arg21
  let c0_i32_2083 : BitVec 32 := 0#32
  ![0, 3456, v1490.toNat, 0]
def k0_off108 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2092 : BitVec 32 := 0#32
  let c1216_i32_2094 : BitVec 32 := 1216#32
  let c0_i32_2095 : BitVec 32 := 0#32
  ![v1453.toNat, 0, 1216, 0]
def k0_off109 (d0 : Dev nD) (k0_t1 : Fin k0_t1_loop.trips) : Fin 4 → Nat :=
  let c0_i32_2091 : BitVec 32 := 0#32
  let c3648_i32_2096 : BitVec 32 := 3648#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1492 : BitVec 32 := Scalar.addi v8 arg21
  let c0_i32_2097 : BitVec 32 := 0#32
  ![0, 3648, v1492.toNat, 0]
def k0_off110 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2106 : BitVec 32 := 0#32
  let c1280_i32_2108 : BitVec 32 := 1280#32
  let c0_i32_2109 : BitVec 32 := 0#32
  ![v1453.toNat, 0, 1280, 0]
def k0_off111 (d0 : Dev nD) (k0_t1 : Fin k0_t1_loop.trips) : Fin 4 → Nat :=
  let c0_i32_2105 : BitVec 32 := 0#32
  let c3840_i32_2110 : BitVec 32 := 3840#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1494 : BitVec 32 := Scalar.addi v8 arg21
  let c0_i32_2111 : BitVec 32 := 0#32
  ![0, 3840, v1494.toNat, 0]
def k0_off112 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c0_i32_2120 : BitVec 32 := 0#32
  let c1344_i32_2122 : BitVec 32 := 1344#32
  let c0_i32_2123 : BitVec 32 := 0#32
  ![v1453.toNat, 0, 1344, 0]
def k0_off113 (d0 : Dev nD) (k0_t1 : Fin k0_t1_loop.trips) : Fin 4 → Nat :=
  let c0_i32_2119 : BitVec 32 := 0#32
  let c4032_i32_2124 : BitVec 32 := 4032#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1496 : BitVec 32 := Scalar.addi v8 arg21
  let c0_i32_2125 : BitVec 32 := 0#32
  ![0, 4032, v1496.toNat, 0]
def k0_off114 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2134 : BitVec 32 := 1#32
  let c0_i32_2136 : BitVec 32 := 0#32
  let c0_i32_2137 : BitVec 32 := 0#32
  ![v1453.toNat, 1, 0, 0]
def k0_off115 (d0 : Dev nD) (k0_t1 : Fin k0_t1_loop.trips) : Fin 4 → Nat :=
  let c0_i32_2133 : BitVec 32 := 0#32
  let c64_i32_2138 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1498 : BitVec 32 := Scalar.addi v8 arg21
  let c0_i32_2139 : BitVec 32 := 0#32
  ![0, 64, v1498.toNat, 0]
def k0_off116 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2148 : BitVec 32 := 1#32
  let c64_i32_2150 : BitVec 32 := 64#32
  let c0_i32_2151 : BitVec 32 := 0#32
  ![v1453.toNat, 1, 64, 0]
def k0_off117 (d0 : Dev nD) (k0_t1 : Fin k0_t1_loop.trips) : Fin 4 → Nat :=
  let c0_i32_2147 : BitVec 32 := 0#32
  let c256_i32_2152 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1500 : BitVec 32 := Scalar.addi v8 arg21
  let c0_i32_2153 : BitVec 32 := 0#32
  ![0, 256, v1500.toNat, 0]
def k0_off118 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2162 : BitVec 32 := 1#32
  let c128_i32_2164 : BitVec 32 := 128#32
  let c0_i32_2165 : BitVec 32 := 0#32
  ![v1453.toNat, 1, 128, 0]
def k0_off119 (d0 : Dev nD) (k0_t1 : Fin k0_t1_loop.trips) : Fin 4 → Nat :=
  let c0_i32_2161 : BitVec 32 := 0#32
  let c448_i32_2166 : BitVec 32 := 448#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1502 : BitVec 32 := Scalar.addi v8 arg21
  let c0_i32_2167 : BitVec 32 := 0#32
  ![0, 448, v1502.toNat, 0]
def k0_off120 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2176 : BitVec 32 := 1#32
  let c192_i32_2178 : BitVec 32 := 192#32
  let c0_i32_2179 : BitVec 32 := 0#32
  ![v1453.toNat, 1, 192, 0]
def k0_off121 (d0 : Dev nD) (k0_t1 : Fin k0_t1_loop.trips) : Fin 4 → Nat :=
  let c0_i32_2175 : BitVec 32 := 0#32
  let c640_i32_2180 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1504 : BitVec 32 := Scalar.addi v8 arg21
  let c0_i32_2181 : BitVec 32 := 0#32
  ![0, 640, v1504.toNat, 0]
def k0_off122 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2190 : BitVec 32 := 1#32
  let c256_i32_2192 : BitVec 32 := 256#32
  let c0_i32_2193 : BitVec 32 := 0#32
  ![v1453.toNat, 1, 256, 0]
def k0_off123 (d0 : Dev nD) (k0_t1 : Fin k0_t1_loop.trips) : Fin 4 → Nat :=
  let c0_i32_2189 : BitVec 32 := 0#32
  let c832_i32_2194 : BitVec 32 := 832#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1506 : BitVec 32 := Scalar.addi v8 arg21
  let c0_i32_2195 : BitVec 32 := 0#32
  ![0, 832, v1506.toNat, 0]
def k0_off124 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2204 : BitVec 32 := 1#32
  let c320_i32_2206 : BitVec 32 := 320#32
  let c0_i32_2207 : BitVec 32 := 0#32
  ![v1453.toNat, 1, 320, 0]
def k0_off125 (d0 : Dev nD) (k0_t1 : Fin k0_t1_loop.trips) : Fin 4 → Nat :=
  let c0_i32_2203 : BitVec 32 := 0#32
  let c1024_i32_2208 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1508 : BitVec 32 := Scalar.addi v8 arg21
  let c0_i32_2209 : BitVec 32 := 0#32
  ![0, 1024, v1508.toNat, 0]
def k0_off126 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2218 : BitVec 32 := 1#32
  let c384_i32_2220 : BitVec 32 := 384#32
  let c0_i32_2221 : BitVec 32 := 0#32
  ![v1453.toNat, 1, 384, 0]
def k0_off127 (d0 : Dev nD) (k0_t1 : Fin k0_t1_loop.trips) : Fin 4 → Nat :=
  let c0_i32_2217 : BitVec 32 := 0#32
  let c1216_i32_2222 : BitVec 32 := 1216#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1510 : BitVec 32 := Scalar.addi v8 arg21
  let c0_i32_2223 : BitVec 32 := 0#32
  ![0, 1216, v1510.toNat, 0]
def k0_off128 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2232 : BitVec 32 := 1#32
  let c448_i32_2234 : BitVec 32 := 448#32
  let c0_i32_2235 : BitVec 32 := 0#32
  ![v1453.toNat, 1, 448, 0]
def k0_off129 (d0 : Dev nD) (k0_t1 : Fin k0_t1_loop.trips) : Fin 4 → Nat :=
  let c0_i32_2231 : BitVec 32 := 0#32
  let c1408_i32_2236 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1512 : BitVec 32 := Scalar.addi v8 arg21
  let c0_i32_2237 : BitVec 32 := 0#32
  ![0, 1408, v1512.toNat, 0]
def k0_off130 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2246 : BitVec 32 := 1#32
  let c512_i32_2248 : BitVec 32 := 512#32
  let c0_i32_2249 : BitVec 32 := 0#32
  ![v1453.toNat, 1, 512, 0]
def k0_off131 (d0 : Dev nD) (k0_t1 : Fin k0_t1_loop.trips) : Fin 4 → Nat :=
  let c0_i32_2245 : BitVec 32 := 0#32
  let c1600_i32_2250 : BitVec 32 := 1600#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1514 : BitVec 32 := Scalar.addi v8 arg21
  let c0_i32_2251 : BitVec 32 := 0#32
  ![0, 1600, v1514.toNat, 0]
def k0_off132 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2260 : BitVec 32 := 1#32
  let c576_i32_2262 : BitVec 32 := 576#32
  let c0_i32_2263 : BitVec 32 := 0#32
  ![v1453.toNat, 1, 576, 0]
def k0_off133 (d0 : Dev nD) (k0_t1 : Fin k0_t1_loop.trips) : Fin 4 → Nat :=
  let c0_i32_2259 : BitVec 32 := 0#32
  let c1792_i32_2264 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1516 : BitVec 32 := Scalar.addi v8 arg21
  let c0_i32_2265 : BitVec 32 := 0#32
  ![0, 1792, v1516.toNat, 0]
def k0_off134 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2274 : BitVec 32 := 1#32
  let c640_i32_2276 : BitVec 32 := 640#32
  let c0_i32_2277 : BitVec 32 := 0#32
  ![v1453.toNat, 1, 640, 0]
def k0_off135 (d0 : Dev nD) (k0_t1 : Fin k0_t1_loop.trips) : Fin 4 → Nat :=
  let c0_i32_2273 : BitVec 32 := 0#32
  let c1984_i32_2278 : BitVec 32 := 1984#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1518 : BitVec 32 := Scalar.addi v8 arg21
  let c0_i32_2279 : BitVec 32 := 0#32
  ![0, 1984, v1518.toNat, 0]
def k0_off136 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2288 : BitVec 32 := 1#32
  let c704_i32_2290 : BitVec 32 := 704#32
  let c0_i32_2291 : BitVec 32 := 0#32
  ![v1453.toNat, 1, 704, 0]
def k0_off137 (d0 : Dev nD) (k0_t1 : Fin k0_t1_loop.trips) : Fin 4 → Nat :=
  let c0_i32_2287 : BitVec 32 := 0#32
  let c2176_i32_2292 : BitVec 32 := 2176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1520 : BitVec 32 := Scalar.addi v8 arg21
  let c0_i32_2293 : BitVec 32 := 0#32
  ![0, 2176, v1520.toNat, 0]
def k0_off138 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2302 : BitVec 32 := 1#32
  let c768_i32_2304 : BitVec 32 := 768#32
  let c0_i32_2305 : BitVec 32 := 0#32
  ![v1453.toNat, 1, 768, 0]
def k0_off139 (d0 : Dev nD) (k0_t1 : Fin k0_t1_loop.trips) : Fin 4 → Nat :=
  let c0_i32_2301 : BitVec 32 := 0#32
  let c2368_i32_2306 : BitVec 32 := 2368#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1522 : BitVec 32 := Scalar.addi v8 arg21
  let c0_i32_2307 : BitVec 32 := 0#32
  ![0, 2368, v1522.toNat, 0]
def k0_off140 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2316 : BitVec 32 := 1#32
  let c832_i32_2318 : BitVec 32 := 832#32
  let c0_i32_2319 : BitVec 32 := 0#32
  ![v1453.toNat, 1, 832, 0]
def k0_off141 (d0 : Dev nD) (k0_t1 : Fin k0_t1_loop.trips) : Fin 4 → Nat :=
  let c0_i32_2315 : BitVec 32 := 0#32
  let c2560_i32_2320 : BitVec 32 := 2560#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1524 : BitVec 32 := Scalar.addi v8 arg21
  let c0_i32_2321 : BitVec 32 := 0#32
  ![0, 2560, v1524.toNat, 0]
def k0_off142 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2330 : BitVec 32 := 1#32
  let c896_i32_2332 : BitVec 32 := 896#32
  let c0_i32_2333 : BitVec 32 := 0#32
  ![v1453.toNat, 1, 896, 0]
def k0_off143 (d0 : Dev nD) (k0_t1 : Fin k0_t1_loop.trips) : Fin 4 → Nat :=
  let c0_i32_2329 : BitVec 32 := 0#32
  let c2752_i32_2334 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1526 : BitVec 32 := Scalar.addi v8 arg21
  let c0_i32_2335 : BitVec 32 := 0#32
  ![0, 2752, v1526.toNat, 0]
def k0_off144 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2344 : BitVec 32 := 1#32
  let c960_i32_2346 : BitVec 32 := 960#32
  let c0_i32_2347 : BitVec 32 := 0#32
  ![v1453.toNat, 1, 960, 0]
def k0_off145 (d0 : Dev nD) (k0_t1 : Fin k0_t1_loop.trips) : Fin 4 → Nat :=
  let c0_i32_2343 : BitVec 32 := 0#32
  let c2944_i32_2348 : BitVec 32 := 2944#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1528 : BitVec 32 := Scalar.addi v8 arg21
  let c0_i32_2349 : BitVec 32 := 0#32
  ![0, 2944, v1528.toNat, 0]
def k0_off146 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2358 : BitVec 32 := 1#32
  let c1024_i32_2360 : BitVec 32 := 1024#32
  let c0_i32_2361 : BitVec 32 := 0#32
  ![v1453.toNat, 1, 1024, 0]
def k0_off147 (d0 : Dev nD) (k0_t1 : Fin k0_t1_loop.trips) : Fin 4 → Nat :=
  let c0_i32_2357 : BitVec 32 := 0#32
  let c3136_i32_2362 : BitVec 32 := 3136#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1530 : BitVec 32 := Scalar.addi v8 arg21
  let c0_i32_2363 : BitVec 32 := 0#32
  ![0, 3136, v1530.toNat, 0]
def k0_off148 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2372 : BitVec 32 := 1#32
  let c1088_i32_2374 : BitVec 32 := 1088#32
  let c0_i32_2375 : BitVec 32 := 0#32
  ![v1453.toNat, 1, 1088, 0]
def k0_off149 (d0 : Dev nD) (k0_t1 : Fin k0_t1_loop.trips) : Fin 4 → Nat :=
  let c0_i32_2371 : BitVec 32 := 0#32
  let c3328_i32_2376 : BitVec 32 := 3328#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1532 : BitVec 32 := Scalar.addi v8 arg21
  let c0_i32_2377 : BitVec 32 := 0#32
  ![0, 3328, v1532.toNat, 0]
def k0_off150 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2386 : BitVec 32 := 1#32
  let c1152_i32_2388 : BitVec 32 := 1152#32
  let c0_i32_2389 : BitVec 32 := 0#32
  ![v1453.toNat, 1, 1152, 0]
def k0_off151 (d0 : Dev nD) (k0_t1 : Fin k0_t1_loop.trips) : Fin 4 → Nat :=
  let c0_i32_2385 : BitVec 32 := 0#32
  let c3520_i32_2390 : BitVec 32 := 3520#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1534 : BitVec 32 := Scalar.addi v8 arg21
  let c0_i32_2391 : BitVec 32 := 0#32
  ![0, 3520, v1534.toNat, 0]
def k0_off152 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2400 : BitVec 32 := 1#32
  let c1216_i32_2402 : BitVec 32 := 1216#32
  let c0_i32_2403 : BitVec 32 := 0#32
  ![v1453.toNat, 1, 1216, 0]
def k0_off153 (d0 : Dev nD) (k0_t1 : Fin k0_t1_loop.trips) : Fin 4 → Nat :=
  let c0_i32_2399 : BitVec 32 := 0#32
  let c3712_i32_2404 : BitVec 32 := 3712#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1536 : BitVec 32 := Scalar.addi v8 arg21
  let c0_i32_2405 : BitVec 32 := 0#32
  ![0, 3712, v1536.toNat, 0]
def k0_off154 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c1_i32_2414 : BitVec 32 := 1#32
  let c1280_i32_2416 : BitVec 32 := 1280#32
  let c0_i32_2417 : BitVec 32 := 0#32
  ![v1453.toNat, 1, 1280, 0]
def k0_off155 (d0 : Dev nD) (k0_t1 : Fin k0_t1_loop.trips) : Fin 4 → Nat :=
  let c0_i32_2413 : BitVec 32 := 0#32
  let c3904_i32_2418 : BitVec 32 := 3904#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1538 : BitVec 32 := Scalar.addi v8 arg21
  let c0_i32_2419 : BitVec 32 := 0#32
  ![0, 3904, v1538.toNat, 0]
def k0_off156 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2428 : BitVec 32 := 2#32
  let c0_i32_2430 : BitVec 32 := 0#32
  let c0_i32_2431 : BitVec 32 := 0#32
  ![v1453.toNat, 2, 0, 0]
def k0_off157 (d0 : Dev nD) (k0_t1 : Fin k0_t1_loop.trips) : Fin 4 → Nat :=
  let c0_i32_2427 : BitVec 32 := 0#32
  let c128_i32_2432 : BitVec 32 := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1540 : BitVec 32 := Scalar.addi v8 arg21
  let c0_i32_2433 : BitVec 32 := 0#32
  ![0, 128, v1540.toNat, 0]
def k0_off158 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2442 : BitVec 32 := 2#32
  let c64_i32_2444 : BitVec 32 := 64#32
  let c0_i32_2445 : BitVec 32 := 0#32
  ![v1453.toNat, 2, 64, 0]
def k0_off159 (d0 : Dev nD) (k0_t1 : Fin k0_t1_loop.trips) : Fin 4 → Nat :=
  let c0_i32_2441 : BitVec 32 := 0#32
  let c320_i32_2446 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1542 : BitVec 32 := Scalar.addi v8 arg21
  let c0_i32_2447 : BitVec 32 := 0#32
  ![0, 320, v1542.toNat, 0]
def k0_off160 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2456 : BitVec 32 := 2#32
  let c128_i32_2458 : BitVec 32 := 128#32
  let c0_i32_2459 : BitVec 32 := 0#32
  ![v1453.toNat, 2, 128, 0]
def k0_off161 (d0 : Dev nD) (k0_t1 : Fin k0_t1_loop.trips) : Fin 4 → Nat :=
  let c0_i32_2455 : BitVec 32 := 0#32
  let c512_i32_2460 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1544 : BitVec 32 := Scalar.addi v8 arg21
  let c0_i32_2461 : BitVec 32 := 0#32
  ![0, 512, v1544.toNat, 0]
def k0_off162 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2470 : BitVec 32 := 2#32
  let c192_i32_2472 : BitVec 32 := 192#32
  let c0_i32_2473 : BitVec 32 := 0#32
  ![v1453.toNat, 2, 192, 0]
def k0_off163 (d0 : Dev nD) (k0_t1 : Fin k0_t1_loop.trips) : Fin 4 → Nat :=
  let c0_i32_2469 : BitVec 32 := 0#32
  let c704_i32_2474 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1546 : BitVec 32 := Scalar.addi v8 arg21
  let c0_i32_2475 : BitVec 32 := 0#32
  ![0, 704, v1546.toNat, 0]
def k0_off164 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2484 : BitVec 32 := 2#32
  let c256_i32_2486 : BitVec 32 := 256#32
  let c0_i32_2487 : BitVec 32 := 0#32
  ![v1453.toNat, 2, 256, 0]
def k0_off165 (d0 : Dev nD) (k0_t1 : Fin k0_t1_loop.trips) : Fin 4 → Nat :=
  let c0_i32_2483 : BitVec 32 := 0#32
  let c896_i32_2488 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1548 : BitVec 32 := Scalar.addi v8 arg21
  let c0_i32_2489 : BitVec 32 := 0#32
  ![0, 896, v1548.toNat, 0]
def k0_off166 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2498 : BitVec 32 := 2#32
  let c320_i32_2500 : BitVec 32 := 320#32
  let c0_i32_2501 : BitVec 32 := 0#32
  ![v1453.toNat, 2, 320, 0]
def k0_off167 (d0 : Dev nD) (k0_t1 : Fin k0_t1_loop.trips) : Fin 4 → Nat :=
  let c0_i32_2497 : BitVec 32 := 0#32
  let c1088_i32_2502 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1550 : BitVec 32 := Scalar.addi v8 arg21
  let c0_i32_2503 : BitVec 32 := 0#32
  ![0, 1088, v1550.toNat, 0]
def k0_off168 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2512 : BitVec 32 := 2#32
  let c384_i32_2514 : BitVec 32 := 384#32
  let c0_i32_2515 : BitVec 32 := 0#32
  ![v1453.toNat, 2, 384, 0]
def k0_off169 (d0 : Dev nD) (k0_t1 : Fin k0_t1_loop.trips) : Fin 4 → Nat :=
  let c0_i32_2511 : BitVec 32 := 0#32
  let c1280_i32_2516 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1552 : BitVec 32 := Scalar.addi v8 arg21
  let c0_i32_2517 : BitVec 32 := 0#32
  ![0, 1280, v1552.toNat, 0]
def k0_off170 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2526 : BitVec 32 := 2#32
  let c448_i32_2528 : BitVec 32 := 448#32
  let c0_i32_2529 : BitVec 32 := 0#32
  ![v1453.toNat, 2, 448, 0]
def k0_off171 (d0 : Dev nD) (k0_t1 : Fin k0_t1_loop.trips) : Fin 4 → Nat :=
  let c0_i32_2525 : BitVec 32 := 0#32
  let c1472_i32_2530 : BitVec 32 := 1472#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1554 : BitVec 32 := Scalar.addi v8 arg21
  let c0_i32_2531 : BitVec 32 := 0#32
  ![0, 1472, v1554.toNat, 0]
def k0_off172 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2540 : BitVec 32 := 2#32
  let c512_i32_2542 : BitVec 32 := 512#32
  let c0_i32_2543 : BitVec 32 := 0#32
  ![v1453.toNat, 2, 512, 0]
def k0_off173 (d0 : Dev nD) (k0_t1 : Fin k0_t1_loop.trips) : Fin 4 → Nat :=
  let c0_i32_2539 : BitVec 32 := 0#32
  let c1664_i32_2544 : BitVec 32 := 1664#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1556 : BitVec 32 := Scalar.addi v8 arg21
  let c0_i32_2545 : BitVec 32 := 0#32
  ![0, 1664, v1556.toNat, 0]
def k0_off174 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2554 : BitVec 32 := 2#32
  let c576_i32_2556 : BitVec 32 := 576#32
  let c0_i32_2557 : BitVec 32 := 0#32
  ![v1453.toNat, 2, 576, 0]
def k0_off175 (d0 : Dev nD) (k0_t1 : Fin k0_t1_loop.trips) : Fin 4 → Nat :=
  let c0_i32_2553 : BitVec 32 := 0#32
  let c1856_i32_2558 : BitVec 32 := 1856#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1558 : BitVec 32 := Scalar.addi v8 arg21
  let c0_i32_2559 : BitVec 32 := 0#32
  ![0, 1856, v1558.toNat, 0]
def k0_off176 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2568 : BitVec 32 := 2#32
  let c640_i32_2570 : BitVec 32 := 640#32
  let c0_i32_2571 : BitVec 32 := 0#32
  ![v1453.toNat, 2, 640, 0]
def k0_off177 (d0 : Dev nD) (k0_t1 : Fin k0_t1_loop.trips) : Fin 4 → Nat :=
  let c0_i32_2567 : BitVec 32 := 0#32
  let c2048_i32_2572 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1560 : BitVec 32 := Scalar.addi v8 arg21
  let c0_i32_2573 : BitVec 32 := 0#32
  ![0, 2048, v1560.toNat, 0]
def k0_off178 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2582 : BitVec 32 := 2#32
  let c704_i32_2584 : BitVec 32 := 704#32
  let c0_i32_2585 : BitVec 32 := 0#32
  ![v1453.toNat, 2, 704, 0]
def k0_off179 (d0 : Dev nD) (k0_t1 : Fin k0_t1_loop.trips) : Fin 4 → Nat :=
  let c0_i32_2581 : BitVec 32 := 0#32
  let c2240_i32_2586 : BitVec 32 := 2240#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1562 : BitVec 32 := Scalar.addi v8 arg21
  let c0_i32_2587 : BitVec 32 := 0#32
  ![0, 2240, v1562.toNat, 0]
def k0_off180 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2596 : BitVec 32 := 2#32
  let c768_i32_2598 : BitVec 32 := 768#32
  let c0_i32_2599 : BitVec 32 := 0#32
  ![v1453.toNat, 2, 768, 0]
def k0_off181 (d0 : Dev nD) (k0_t1 : Fin k0_t1_loop.trips) : Fin 4 → Nat :=
  let c0_i32_2595 : BitVec 32 := 0#32
  let c2432_i32_2600 : BitVec 32 := 2432#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1564 : BitVec 32 := Scalar.addi v8 arg21
  let c0_i32_2601 : BitVec 32 := 0#32
  ![0, 2432, v1564.toNat, 0]
def k0_off182 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2610 : BitVec 32 := 2#32
  let c832_i32_2612 : BitVec 32 := 832#32
  let c0_i32_2613 : BitVec 32 := 0#32
  ![v1453.toNat, 2, 832, 0]
def k0_off183 (d0 : Dev nD) (k0_t1 : Fin k0_t1_loop.trips) : Fin 4 → Nat :=
  let c0_i32_2609 : BitVec 32 := 0#32
  let c2624_i32_2614 : BitVec 32 := 2624#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1566 : BitVec 32 := Scalar.addi v8 arg21
  let c0_i32_2615 : BitVec 32 := 0#32
  ![0, 2624, v1566.toNat, 0]
def k0_off184 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2624 : BitVec 32 := 2#32
  let c896_i32_2626 : BitVec 32 := 896#32
  let c0_i32_2627 : BitVec 32 := 0#32
  ![v1453.toNat, 2, 896, 0]
def k0_off185 (d0 : Dev nD) (k0_t1 : Fin k0_t1_loop.trips) : Fin 4 → Nat :=
  let c0_i32_2623 : BitVec 32 := 0#32
  let c2816_i32_2628 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1568 : BitVec 32 := Scalar.addi v8 arg21
  let c0_i32_2629 : BitVec 32 := 0#32
  ![0, 2816, v1568.toNat, 0]
def k0_off186 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2638 : BitVec 32 := 2#32
  let c960_i32_2640 : BitVec 32 := 960#32
  let c0_i32_2641 : BitVec 32 := 0#32
  ![v1453.toNat, 2, 960, 0]
def k0_off187 (d0 : Dev nD) (k0_t1 : Fin k0_t1_loop.trips) : Fin 4 → Nat :=
  let c0_i32_2637 : BitVec 32 := 0#32
  let c3008_i32_2642 : BitVec 32 := 3008#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1570 : BitVec 32 := Scalar.addi v8 arg21
  let c0_i32_2643 : BitVec 32 := 0#32
  ![0, 3008, v1570.toNat, 0]
def k0_off188 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2652 : BitVec 32 := 2#32
  let c1024_i32_2654 : BitVec 32 := 1024#32
  let c0_i32_2655 : BitVec 32 := 0#32
  ![v1453.toNat, 2, 1024, 0]
def k0_off189 (d0 : Dev nD) (k0_t1 : Fin k0_t1_loop.trips) : Fin 4 → Nat :=
  let c0_i32_2651 : BitVec 32 := 0#32
  let c3200_i32_2656 : BitVec 32 := 3200#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1572 : BitVec 32 := Scalar.addi v8 arg21
  let c0_i32_2657 : BitVec 32 := 0#32
  ![0, 3200, v1572.toNat, 0]
def k0_off190 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2666 : BitVec 32 := 2#32
  let c1088_i32_2668 : BitVec 32 := 1088#32
  let c0_i32_2669 : BitVec 32 := 0#32
  ![v1453.toNat, 2, 1088, 0]
def k0_off191 (d0 : Dev nD) (k0_t1 : Fin k0_t1_loop.trips) : Fin 4 → Nat :=
  let c0_i32_2665 : BitVec 32 := 0#32
  let c3392_i32_2670 : BitVec 32 := 3392#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1574 : BitVec 32 := Scalar.addi v8 arg21
  let c0_i32_2671 : BitVec 32 := 0#32
  ![0, 3392, v1574.toNat, 0]
def k0_off192 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2680 : BitVec 32 := 2#32
  let c1152_i32_2682 : BitVec 32 := 1152#32
  let c0_i32_2683 : BitVec 32 := 0#32
  ![v1453.toNat, 2, 1152, 0]
def k0_off193 (d0 : Dev nD) (k0_t1 : Fin k0_t1_loop.trips) : Fin 4 → Nat :=
  let c0_i32_2679 : BitVec 32 := 0#32
  let c3584_i32_2684 : BitVec 32 := 3584#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1576 : BitVec 32 := Scalar.addi v8 arg21
  let c0_i32_2685 : BitVec 32 := 0#32
  ![0, 3584, v1576.toNat, 0]
def k0_off194 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2694 : BitVec 32 := 2#32
  let c1216_i32_2696 : BitVec 32 := 1216#32
  let c0_i32_2697 : BitVec 32 := 0#32
  ![v1453.toNat, 2, 1216, 0]
def k0_off195 (d0 : Dev nD) (k0_t1 : Fin k0_t1_loop.trips) : Fin 4 → Nat :=
  let c0_i32_2693 : BitVec 32 := 0#32
  let c3776_i32_2698 : BitVec 32 := 3776#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1578 : BitVec 32 := Scalar.addi v8 arg21
  let c0_i32_2699 : BitVec 32 := 0#32
  ![0, 3776, v1578.toNat, 0]
def k0_off196 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let c2_i32_2708 : BitVec 32 := 2#32
  let c1280_i32_2710 : BitVec 32 := 1280#32
  let c0_i32_2711 : BitVec 32 := 0#32
  ![v1453.toNat, 2, 1280, 0]
def k0_off197 (d0 : Dev nD) (k0_t1 : Fin k0_t1_loop.trips) : Fin 4 → Nat :=
  let c0_i32_2707 : BitVec 32 := 0#32
  let c3968_i32_2712 : BitVec 32 := 3968#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let v1580 : BitVec 32 := Scalar.addi v8 arg21
  let c0_i32_2713 : BitVec 32 := 0#32
  ![0, 3968, v1580.toNat, 0]
def k0_cond1 (k0_t1 : Fin k0_t1_loop.trips) : BitVec 1 :=
  let c0_i32_1288 : BitVec 32 := 0#32
  let c1_i32_1290 : BitVec 32 := 1#32
  let arg21 : BitVec 32 := Scf.iv c0_i32_1288 c1_i32_1290 k0_t1
  let c7_i32_2721 : BitVec 32 := 7#32
  let v2350 : BitVec 1 := Scalar.cmpi .slt arg21 c7_i32_2721
  let v2351 : BitVec 32 := Scalar.extui v2350
  let c0_i32_2722 : BitVec 32 := 0#32
  let v2352 : BitVec 1 := Scalar.cmpi .ne v2351 c0_i32_2722
  v2352

def k0_off198 (k0_t1 : Fin k0_t1_loop.trips) : Fin 2 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_2930 : BitVec 32 := 0#32
  ![v2769.toNat, 0]
def k0_off199 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_2929 : BitVec 32 := 0#32
  let c0_i32_2931 : BitVec 32 := 0#32
  let c0_i32_2932 : BitVec 32 := 0#32
  ![v2769.toNat, 0, 0, 0]
def k0_off200 (d0 : Dev nD) (k0_t1 : Fin k0_t1_loop.trips) : Fin 4 → Nat :=
  let c0_i32_2928 : BitVec 32 := 0#32
  let c0_i32_2933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2770 : BitVec 32 := Scalar.addi v8 v2768
  let c0_i32_2934 : BitVec 32 := 0#32
  ![0, 0, v2770.toNat, 0]
def k0_off201 (k0_t1 : Fin k0_t1_loop.trips) : Fin 2 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_2937 : BitVec 32 := 1#32
  ![v2769.toNat, 1]
def k0_off202 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_2943 : BitVec 32 := 0#32
  let c64_i32_2945 : BitVec 32 := 64#32
  let c0_i32_2946 : BitVec 32 := 0#32
  ![v2769.toNat, 0, 64, 0]
def k0_off203 (d0 : Dev nD) (k0_t1 : Fin k0_t1_loop.trips) : Fin 4 → Nat :=
  let c0_i32_2942 : BitVec 32 := 0#32
  let c192_i32_2947 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2772 : BitVec 32 := Scalar.addi v8 v2768
  let c0_i32_2948 : BitVec 32 := 0#32
  ![0, 192, v2772.toNat, 0]
def k0_off204 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_2957 : BitVec 32 := 0#32
  let c128_i32_2959 : BitVec 32 := 128#32
  let c0_i32_2960 : BitVec 32 := 0#32
  ![v2769.toNat, 0, 128, 0]
def k0_off205 (d0 : Dev nD) (k0_t1 : Fin k0_t1_loop.trips) : Fin 4 → Nat :=
  let c0_i32_2956 : BitVec 32 := 0#32
  let c384_i32_2961 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2774 : BitVec 32 := Scalar.addi v8 v2768
  let c0_i32_2962 : BitVec 32 := 0#32
  ![0, 384, v2774.toNat, 0]
def k0_off206 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_2971 : BitVec 32 := 0#32
  let c192_i32_2973 : BitVec 32 := 192#32
  let c0_i32_2974 : BitVec 32 := 0#32
  ![v2769.toNat, 0, 192, 0]
def k0_off207 (d0 : Dev nD) (k0_t1 : Fin k0_t1_loop.trips) : Fin 4 → Nat :=
  let c0_i32_2970 : BitVec 32 := 0#32
  let c576_i32_2975 : BitVec 32 := 576#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2776 : BitVec 32 := Scalar.addi v8 v2768
  let c0_i32_2976 : BitVec 32 := 0#32
  ![0, 576, v2776.toNat, 0]
def k0_off208 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_2985 : BitVec 32 := 0#32
  let c256_i32_2987 : BitVec 32 := 256#32
  let c0_i32_2988 : BitVec 32 := 0#32
  ![v2769.toNat, 0, 256, 0]
def k0_off209 (d0 : Dev nD) (k0_t1 : Fin k0_t1_loop.trips) : Fin 4 → Nat :=
  let c0_i32_2984 : BitVec 32 := 0#32
  let c768_i32_2989 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2778 : BitVec 32 := Scalar.addi v8 v2768
  let c0_i32_2990 : BitVec 32 := 0#32
  ![0, 768, v2778.toNat, 0]
def k0_off210 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_2999 : BitVec 32 := 0#32
  let c320_i32_3001 : BitVec 32 := 320#32
  let c0_i32_3002 : BitVec 32 := 0#32
  ![v2769.toNat, 0, 320, 0]
def k0_off211 (d0 : Dev nD) (k0_t1 : Fin k0_t1_loop.trips) : Fin 4 → Nat :=
  let c0_i32_2998 : BitVec 32 := 0#32
  let c960_i32_3003 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2780 : BitVec 32 := Scalar.addi v8 v2768
  let c0_i32_3004 : BitVec 32 := 0#32
  ![0, 960, v2780.toNat, 0]
def k0_off212 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3013 : BitVec 32 := 0#32
  let c384_i32_3015 : BitVec 32 := 384#32
  let c0_i32_3016 : BitVec 32 := 0#32
  ![v2769.toNat, 0, 384, 0]
def k0_off213 (d0 : Dev nD) (k0_t1 : Fin k0_t1_loop.trips) : Fin 4 → Nat :=
  let c0_i32_3012 : BitVec 32 := 0#32
  let c1152_i32_3017 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2782 : BitVec 32 := Scalar.addi v8 v2768
  let c0_i32_3018 : BitVec 32 := 0#32
  ![0, 1152, v2782.toNat, 0]
def k0_off214 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3027 : BitVec 32 := 0#32
  let c448_i32_3029 : BitVec 32 := 448#32
  let c0_i32_3030 : BitVec 32 := 0#32
  ![v2769.toNat, 0, 448, 0]
def k0_off215 (d0 : Dev nD) (k0_t1 : Fin k0_t1_loop.trips) : Fin 4 → Nat :=
  let c0_i32_3026 : BitVec 32 := 0#32
  let c1344_i32_3031 : BitVec 32 := 1344#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2784 : BitVec 32 := Scalar.addi v8 v2768
  let c0_i32_3032 : BitVec 32 := 0#32
  ![0, 1344, v2784.toNat, 0]
def k0_off216 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3041 : BitVec 32 := 0#32
  let c512_i32_3043 : BitVec 32 := 512#32
  let c0_i32_3044 : BitVec 32 := 0#32
  ![v2769.toNat, 0, 512, 0]
def k0_off217 (d0 : Dev nD) (k0_t1 : Fin k0_t1_loop.trips) : Fin 4 → Nat :=
  let c0_i32_3040 : BitVec 32 := 0#32
  let c1536_i32_3045 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2786 : BitVec 32 := Scalar.addi v8 v2768
  let c0_i32_3046 : BitVec 32 := 0#32
  ![0, 1536, v2786.toNat, 0]
def k0_off218 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3055 : BitVec 32 := 0#32
  let c576_i32_3057 : BitVec 32 := 576#32
  let c0_i32_3058 : BitVec 32 := 0#32
  ![v2769.toNat, 0, 576, 0]
def k0_off219 (d0 : Dev nD) (k0_t1 : Fin k0_t1_loop.trips) : Fin 4 → Nat :=
  let c0_i32_3054 : BitVec 32 := 0#32
  let c1728_i32_3059 : BitVec 32 := 1728#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2788 : BitVec 32 := Scalar.addi v8 v2768
  let c0_i32_3060 : BitVec 32 := 0#32
  ![0, 1728, v2788.toNat, 0]
def k0_off220 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3069 : BitVec 32 := 0#32
  let c640_i32_3071 : BitVec 32 := 640#32
  let c0_i32_3072 : BitVec 32 := 0#32
  ![v2769.toNat, 0, 640, 0]
def k0_off221 (d0 : Dev nD) (k0_t1 : Fin k0_t1_loop.trips) : Fin 4 → Nat :=
  let c0_i32_3068 : BitVec 32 := 0#32
  let c1920_i32_3073 : BitVec 32 := 1920#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2790 : BitVec 32 := Scalar.addi v8 v2768
  let c0_i32_3074 : BitVec 32 := 0#32
  ![0, 1920, v2790.toNat, 0]
def k0_off222 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3083 : BitVec 32 := 0#32
  let c704_i32_3085 : BitVec 32 := 704#32
  let c0_i32_3086 : BitVec 32 := 0#32
  ![v2769.toNat, 0, 704, 0]
def k0_off223 (d0 : Dev nD) (k0_t1 : Fin k0_t1_loop.trips) : Fin 4 → Nat :=
  let c0_i32_3082 : BitVec 32 := 0#32
  let c2112_i32_3087 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2792 : BitVec 32 := Scalar.addi v8 v2768
  let c0_i32_3088 : BitVec 32 := 0#32
  ![0, 2112, v2792.toNat, 0]
def k0_off224 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3097 : BitVec 32 := 0#32
  let c768_i32_3099 : BitVec 32 := 768#32
  let c0_i32_3100 : BitVec 32 := 0#32
  ![v2769.toNat, 0, 768, 0]
def k0_off225 (d0 : Dev nD) (k0_t1 : Fin k0_t1_loop.trips) : Fin 4 → Nat :=
  let c0_i32_3096 : BitVec 32 := 0#32
  let c2304_i32_3101 : BitVec 32 := 2304#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2794 : BitVec 32 := Scalar.addi v8 v2768
  let c0_i32_3102 : BitVec 32 := 0#32
  ![0, 2304, v2794.toNat, 0]
def k0_off226 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3111 : BitVec 32 := 0#32
  let c832_i32_3113 : BitVec 32 := 832#32
  let c0_i32_3114 : BitVec 32 := 0#32
  ![v2769.toNat, 0, 832, 0]
def k0_off227 (d0 : Dev nD) (k0_t1 : Fin k0_t1_loop.trips) : Fin 4 → Nat :=
  let c0_i32_3110 : BitVec 32 := 0#32
  let c2496_i32_3115 : BitVec 32 := 2496#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2796 : BitVec 32 := Scalar.addi v8 v2768
  let c0_i32_3116 : BitVec 32 := 0#32
  ![0, 2496, v2796.toNat, 0]
def k0_off228 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3125 : BitVec 32 := 0#32
  let c896_i32_3127 : BitVec 32 := 896#32
  let c0_i32_3128 : BitVec 32 := 0#32
  ![v2769.toNat, 0, 896, 0]
def k0_off229 (d0 : Dev nD) (k0_t1 : Fin k0_t1_loop.trips) : Fin 4 → Nat :=
  let c0_i32_3124 : BitVec 32 := 0#32
  let c2688_i32_3129 : BitVec 32 := 2688#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2798 : BitVec 32 := Scalar.addi v8 v2768
  let c0_i32_3130 : BitVec 32 := 0#32
  ![0, 2688, v2798.toNat, 0]
def k0_off230 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3139 : BitVec 32 := 0#32
  let c960_i32_3141 : BitVec 32 := 960#32
  let c0_i32_3142 : BitVec 32 := 0#32
  ![v2769.toNat, 0, 960, 0]
def k0_off231 (d0 : Dev nD) (k0_t1 : Fin k0_t1_loop.trips) : Fin 4 → Nat :=
  let c0_i32_3138 : BitVec 32 := 0#32
  let c2880_i32_3143 : BitVec 32 := 2880#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2800 : BitVec 32 := Scalar.addi v8 v2768
  let c0_i32_3144 : BitVec 32 := 0#32
  ![0, 2880, v2800.toNat, 0]
def k0_off232 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3153 : BitVec 32 := 0#32
  let c1024_i32_3155 : BitVec 32 := 1024#32
  let c0_i32_3156 : BitVec 32 := 0#32
  ![v2769.toNat, 0, 1024, 0]
def k0_off233 (d0 : Dev nD) (k0_t1 : Fin k0_t1_loop.trips) : Fin 4 → Nat :=
  let c0_i32_3152 : BitVec 32 := 0#32
  let c3072_i32_3157 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2802 : BitVec 32 := Scalar.addi v8 v2768
  let c0_i32_3158 : BitVec 32 := 0#32
  ![0, 3072, v2802.toNat, 0]
def k0_off234 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3167 : BitVec 32 := 0#32
  let c1088_i32_3169 : BitVec 32 := 1088#32
  let c0_i32_3170 : BitVec 32 := 0#32
  ![v2769.toNat, 0, 1088, 0]
def k0_off235 (d0 : Dev nD) (k0_t1 : Fin k0_t1_loop.trips) : Fin 4 → Nat :=
  let c0_i32_3166 : BitVec 32 := 0#32
  let c3264_i32_3171 : BitVec 32 := 3264#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2804 : BitVec 32 := Scalar.addi v8 v2768
  let c0_i32_3172 : BitVec 32 := 0#32
  ![0, 3264, v2804.toNat, 0]
def k0_off236 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3181 : BitVec 32 := 0#32
  let c1152_i32_3183 : BitVec 32 := 1152#32
  let c0_i32_3184 : BitVec 32 := 0#32
  ![v2769.toNat, 0, 1152, 0]
def k0_off237 (d0 : Dev nD) (k0_t1 : Fin k0_t1_loop.trips) : Fin 4 → Nat :=
  let c0_i32_3180 : BitVec 32 := 0#32
  let c3456_i32_3185 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2806 : BitVec 32 := Scalar.addi v8 v2768
  let c0_i32_3186 : BitVec 32 := 0#32
  ![0, 3456, v2806.toNat, 0]
def k0_off238 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3195 : BitVec 32 := 0#32
  let c1216_i32_3197 : BitVec 32 := 1216#32
  let c0_i32_3198 : BitVec 32 := 0#32
  ![v2769.toNat, 0, 1216, 0]
def k0_off239 (d0 : Dev nD) (k0_t1 : Fin k0_t1_loop.trips) : Fin 4 → Nat :=
  let c0_i32_3194 : BitVec 32 := 0#32
  let c3648_i32_3199 : BitVec 32 := 3648#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2808 : BitVec 32 := Scalar.addi v8 v2768
  let c0_i32_3200 : BitVec 32 := 0#32
  ![0, 3648, v2808.toNat, 0]
def k0_off240 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3209 : BitVec 32 := 0#32
  let c1280_i32_3211 : BitVec 32 := 1280#32
  let c0_i32_3212 : BitVec 32 := 0#32
  ![v2769.toNat, 0, 1280, 0]
def k0_off241 (d0 : Dev nD) (k0_t1 : Fin k0_t1_loop.trips) : Fin 4 → Nat :=
  let c0_i32_3208 : BitVec 32 := 0#32
  let c3840_i32_3213 : BitVec 32 := 3840#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2810 : BitVec 32 := Scalar.addi v8 v2768
  let c0_i32_3214 : BitVec 32 := 0#32
  ![0, 3840, v2810.toNat, 0]
def k0_off242 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c0_i32_3223 : BitVec 32 := 0#32
  let c1344_i32_3225 : BitVec 32 := 1344#32
  let c0_i32_3226 : BitVec 32 := 0#32
  ![v2769.toNat, 0, 1344, 0]
def k0_off243 (d0 : Dev nD) (k0_t1 : Fin k0_t1_loop.trips) : Fin 4 → Nat :=
  let c0_i32_3222 : BitVec 32 := 0#32
  let c4032_i32_3227 : BitVec 32 := 4032#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2812 : BitVec 32 := Scalar.addi v8 v2768
  let c0_i32_3228 : BitVec 32 := 0#32
  ![0, 4032, v2812.toNat, 0]
def k0_off244 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3237 : BitVec 32 := 1#32
  let c0_i32_3239 : BitVec 32 := 0#32
  let c0_i32_3240 : BitVec 32 := 0#32
  ![v2769.toNat, 1, 0, 0]
def k0_off245 (d0 : Dev nD) (k0_t1 : Fin k0_t1_loop.trips) : Fin 4 → Nat :=
  let c0_i32_3236 : BitVec 32 := 0#32
  let c64_i32_3241 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2814 : BitVec 32 := Scalar.addi v8 v2768
  let c0_i32_3242 : BitVec 32 := 0#32
  ![0, 64, v2814.toNat, 0]
def k0_off246 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3251 : BitVec 32 := 1#32
  let c64_i32_3253 : BitVec 32 := 64#32
  let c0_i32_3254 : BitVec 32 := 0#32
  ![v2769.toNat, 1, 64, 0]
def k0_off247 (d0 : Dev nD) (k0_t1 : Fin k0_t1_loop.trips) : Fin 4 → Nat :=
  let c0_i32_3250 : BitVec 32 := 0#32
  let c256_i32_3255 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2816 : BitVec 32 := Scalar.addi v8 v2768
  let c0_i32_3256 : BitVec 32 := 0#32
  ![0, 256, v2816.toNat, 0]
def k0_off248 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3265 : BitVec 32 := 1#32
  let c128_i32_3267 : BitVec 32 := 128#32
  let c0_i32_3268 : BitVec 32 := 0#32
  ![v2769.toNat, 1, 128, 0]
def k0_off249 (d0 : Dev nD) (k0_t1 : Fin k0_t1_loop.trips) : Fin 4 → Nat :=
  let c0_i32_3264 : BitVec 32 := 0#32
  let c448_i32_3269 : BitVec 32 := 448#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2818 : BitVec 32 := Scalar.addi v8 v2768
  let c0_i32_3270 : BitVec 32 := 0#32
  ![0, 448, v2818.toNat, 0]
def k0_off250 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3279 : BitVec 32 := 1#32
  let c192_i32_3281 : BitVec 32 := 192#32
  let c0_i32_3282 : BitVec 32 := 0#32
  ![v2769.toNat, 1, 192, 0]
def k0_off251 (d0 : Dev nD) (k0_t1 : Fin k0_t1_loop.trips) : Fin 4 → Nat :=
  let c0_i32_3278 : BitVec 32 := 0#32
  let c640_i32_3283 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2820 : BitVec 32 := Scalar.addi v8 v2768
  let c0_i32_3284 : BitVec 32 := 0#32
  ![0, 640, v2820.toNat, 0]
def k0_off252 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3293 : BitVec 32 := 1#32
  let c256_i32_3295 : BitVec 32 := 256#32
  let c0_i32_3296 : BitVec 32 := 0#32
  ![v2769.toNat, 1, 256, 0]
def k0_off253 (d0 : Dev nD) (k0_t1 : Fin k0_t1_loop.trips) : Fin 4 → Nat :=
  let c0_i32_3292 : BitVec 32 := 0#32
  let c832_i32_3297 : BitVec 32 := 832#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2822 : BitVec 32 := Scalar.addi v8 v2768
  let c0_i32_3298 : BitVec 32 := 0#32
  ![0, 832, v2822.toNat, 0]
def k0_off254 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3307 : BitVec 32 := 1#32
  let c320_i32_3309 : BitVec 32 := 320#32
  let c0_i32_3310 : BitVec 32 := 0#32
  ![v2769.toNat, 1, 320, 0]
def k0_off255 (d0 : Dev nD) (k0_t1 : Fin k0_t1_loop.trips) : Fin 4 → Nat :=
  let c0_i32_3306 : BitVec 32 := 0#32
  let c1024_i32_3311 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2824 : BitVec 32 := Scalar.addi v8 v2768
  let c0_i32_3312 : BitVec 32 := 0#32
  ![0, 1024, v2824.toNat, 0]
def k0_off256 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3321 : BitVec 32 := 1#32
  let c384_i32_3323 : BitVec 32 := 384#32
  let c0_i32_3324 : BitVec 32 := 0#32
  ![v2769.toNat, 1, 384, 0]
def k0_off257 (d0 : Dev nD) (k0_t1 : Fin k0_t1_loop.trips) : Fin 4 → Nat :=
  let c0_i32_3320 : BitVec 32 := 0#32
  let c1216_i32_3325 : BitVec 32 := 1216#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2826 : BitVec 32 := Scalar.addi v8 v2768
  let c0_i32_3326 : BitVec 32 := 0#32
  ![0, 1216, v2826.toNat, 0]
def k0_off258 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3335 : BitVec 32 := 1#32
  let c448_i32_3337 : BitVec 32 := 448#32
  let c0_i32_3338 : BitVec 32 := 0#32
  ![v2769.toNat, 1, 448, 0]
def k0_off259 (d0 : Dev nD) (k0_t1 : Fin k0_t1_loop.trips) : Fin 4 → Nat :=
  let c0_i32_3334 : BitVec 32 := 0#32
  let c1408_i32_3339 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2828 : BitVec 32 := Scalar.addi v8 v2768
  let c0_i32_3340 : BitVec 32 := 0#32
  ![0, 1408, v2828.toNat, 0]
def k0_off260 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3349 : BitVec 32 := 1#32
  let c512_i32_3351 : BitVec 32 := 512#32
  let c0_i32_3352 : BitVec 32 := 0#32
  ![v2769.toNat, 1, 512, 0]
def k0_off261 (d0 : Dev nD) (k0_t1 : Fin k0_t1_loop.trips) : Fin 4 → Nat :=
  let c0_i32_3348 : BitVec 32 := 0#32
  let c1600_i32_3353 : BitVec 32 := 1600#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2830 : BitVec 32 := Scalar.addi v8 v2768
  let c0_i32_3354 : BitVec 32 := 0#32
  ![0, 1600, v2830.toNat, 0]
def k0_off262 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3363 : BitVec 32 := 1#32
  let c576_i32_3365 : BitVec 32 := 576#32
  let c0_i32_3366 : BitVec 32 := 0#32
  ![v2769.toNat, 1, 576, 0]
def k0_off263 (d0 : Dev nD) (k0_t1 : Fin k0_t1_loop.trips) : Fin 4 → Nat :=
  let c0_i32_3362 : BitVec 32 := 0#32
  let c1792_i32_3367 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2832 : BitVec 32 := Scalar.addi v8 v2768
  let c0_i32_3368 : BitVec 32 := 0#32
  ![0, 1792, v2832.toNat, 0]
def k0_off264 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3377 : BitVec 32 := 1#32
  let c640_i32_3379 : BitVec 32 := 640#32
  let c0_i32_3380 : BitVec 32 := 0#32
  ![v2769.toNat, 1, 640, 0]
def k0_off265 (d0 : Dev nD) (k0_t1 : Fin k0_t1_loop.trips) : Fin 4 → Nat :=
  let c0_i32_3376 : BitVec 32 := 0#32
  let c1984_i32_3381 : BitVec 32 := 1984#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2834 : BitVec 32 := Scalar.addi v8 v2768
  let c0_i32_3382 : BitVec 32 := 0#32
  ![0, 1984, v2834.toNat, 0]
def k0_off266 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3391 : BitVec 32 := 1#32
  let c704_i32_3393 : BitVec 32 := 704#32
  let c0_i32_3394 : BitVec 32 := 0#32
  ![v2769.toNat, 1, 704, 0]
def k0_off267 (d0 : Dev nD) (k0_t1 : Fin k0_t1_loop.trips) : Fin 4 → Nat :=
  let c0_i32_3390 : BitVec 32 := 0#32
  let c2176_i32_3395 : BitVec 32 := 2176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2836 : BitVec 32 := Scalar.addi v8 v2768
  let c0_i32_3396 : BitVec 32 := 0#32
  ![0, 2176, v2836.toNat, 0]
def k0_off268 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3405 : BitVec 32 := 1#32
  let c768_i32_3407 : BitVec 32 := 768#32
  let c0_i32_3408 : BitVec 32 := 0#32
  ![v2769.toNat, 1, 768, 0]
def k0_off269 (d0 : Dev nD) (k0_t1 : Fin k0_t1_loop.trips) : Fin 4 → Nat :=
  let c0_i32_3404 : BitVec 32 := 0#32
  let c2368_i32_3409 : BitVec 32 := 2368#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2838 : BitVec 32 := Scalar.addi v8 v2768
  let c0_i32_3410 : BitVec 32 := 0#32
  ![0, 2368, v2838.toNat, 0]
def k0_off270 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3419 : BitVec 32 := 1#32
  let c832_i32_3421 : BitVec 32 := 832#32
  let c0_i32_3422 : BitVec 32 := 0#32
  ![v2769.toNat, 1, 832, 0]
def k0_off271 (d0 : Dev nD) (k0_t1 : Fin k0_t1_loop.trips) : Fin 4 → Nat :=
  let c0_i32_3418 : BitVec 32 := 0#32
  let c2560_i32_3423 : BitVec 32 := 2560#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2840 : BitVec 32 := Scalar.addi v8 v2768
  let c0_i32_3424 : BitVec 32 := 0#32
  ![0, 2560, v2840.toNat, 0]
def k0_off272 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3433 : BitVec 32 := 1#32
  let c896_i32_3435 : BitVec 32 := 896#32
  let c0_i32_3436 : BitVec 32 := 0#32
  ![v2769.toNat, 1, 896, 0]
def k0_off273 (d0 : Dev nD) (k0_t1 : Fin k0_t1_loop.trips) : Fin 4 → Nat :=
  let c0_i32_3432 : BitVec 32 := 0#32
  let c2752_i32_3437 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2842 : BitVec 32 := Scalar.addi v8 v2768
  let c0_i32_3438 : BitVec 32 := 0#32
  ![0, 2752, v2842.toNat, 0]
def k0_off274 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3447 : BitVec 32 := 1#32
  let c960_i32_3449 : BitVec 32 := 960#32
  let c0_i32_3450 : BitVec 32 := 0#32
  ![v2769.toNat, 1, 960, 0]
def k0_off275 (d0 : Dev nD) (k0_t1 : Fin k0_t1_loop.trips) : Fin 4 → Nat :=
  let c0_i32_3446 : BitVec 32 := 0#32
  let c2944_i32_3451 : BitVec 32 := 2944#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2844 : BitVec 32 := Scalar.addi v8 v2768
  let c0_i32_3452 : BitVec 32 := 0#32
  ![0, 2944, v2844.toNat, 0]
def k0_off276 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3461 : BitVec 32 := 1#32
  let c1024_i32_3463 : BitVec 32 := 1024#32
  let c0_i32_3464 : BitVec 32 := 0#32
  ![v2769.toNat, 1, 1024, 0]
def k0_off277 (d0 : Dev nD) (k0_t1 : Fin k0_t1_loop.trips) : Fin 4 → Nat :=
  let c0_i32_3460 : BitVec 32 := 0#32
  let c3136_i32_3465 : BitVec 32 := 3136#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2846 : BitVec 32 := Scalar.addi v8 v2768
  let c0_i32_3466 : BitVec 32 := 0#32
  ![0, 3136, v2846.toNat, 0]
def k0_off278 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3475 : BitVec 32 := 1#32
  let c1088_i32_3477 : BitVec 32 := 1088#32
  let c0_i32_3478 : BitVec 32 := 0#32
  ![v2769.toNat, 1, 1088, 0]
def k0_off279 (d0 : Dev nD) (k0_t1 : Fin k0_t1_loop.trips) : Fin 4 → Nat :=
  let c0_i32_3474 : BitVec 32 := 0#32
  let c3328_i32_3479 : BitVec 32 := 3328#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2848 : BitVec 32 := Scalar.addi v8 v2768
  let c0_i32_3480 : BitVec 32 := 0#32
  ![0, 3328, v2848.toNat, 0]
def k0_off280 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3489 : BitVec 32 := 1#32
  let c1152_i32_3491 : BitVec 32 := 1152#32
  let c0_i32_3492 : BitVec 32 := 0#32
  ![v2769.toNat, 1, 1152, 0]
def k0_off281 (d0 : Dev nD) (k0_t1 : Fin k0_t1_loop.trips) : Fin 4 → Nat :=
  let c0_i32_3488 : BitVec 32 := 0#32
  let c3520_i32_3493 : BitVec 32 := 3520#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2850 : BitVec 32 := Scalar.addi v8 v2768
  let c0_i32_3494 : BitVec 32 := 0#32
  ![0, 3520, v2850.toNat, 0]
def k0_off282 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3503 : BitVec 32 := 1#32
  let c1216_i32_3505 : BitVec 32 := 1216#32
  let c0_i32_3506 : BitVec 32 := 0#32
  ![v2769.toNat, 1, 1216, 0]
def k0_off283 (d0 : Dev nD) (k0_t1 : Fin k0_t1_loop.trips) : Fin 4 → Nat :=
  let c0_i32_3502 : BitVec 32 := 0#32
  let c3712_i32_3507 : BitVec 32 := 3712#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2852 : BitVec 32 := Scalar.addi v8 v2768
  let c0_i32_3508 : BitVec 32 := 0#32
  ![0, 3712, v2852.toNat, 0]
def k0_off284 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c1_i32_3517 : BitVec 32 := 1#32
  let c1280_i32_3519 : BitVec 32 := 1280#32
  let c0_i32_3520 : BitVec 32 := 0#32
  ![v2769.toNat, 1, 1280, 0]
def k0_off285 (d0 : Dev nD) (k0_t1 : Fin k0_t1_loop.trips) : Fin 4 → Nat :=
  let c0_i32_3516 : BitVec 32 := 0#32
  let c3904_i32_3521 : BitVec 32 := 3904#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2854 : BitVec 32 := Scalar.addi v8 v2768
  let c0_i32_3522 : BitVec 32 := 0#32
  ![0, 3904, v2854.toNat, 0]
def k0_off286 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3531 : BitVec 32 := 2#32
  let c0_i32_3533 : BitVec 32 := 0#32
  let c0_i32_3534 : BitVec 32 := 0#32
  ![v2769.toNat, 2, 0, 0]
def k0_off287 (d0 : Dev nD) (k0_t1 : Fin k0_t1_loop.trips) : Fin 4 → Nat :=
  let c0_i32_3530 : BitVec 32 := 0#32
  let c128_i32_3535 : BitVec 32 := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2856 : BitVec 32 := Scalar.addi v8 v2768
  let c0_i32_3536 : BitVec 32 := 0#32
  ![0, 128, v2856.toNat, 0]
def k0_off288 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3545 : BitVec 32 := 2#32
  let c64_i32_3547 : BitVec 32 := 64#32
  let c0_i32_3548 : BitVec 32 := 0#32
  ![v2769.toNat, 2, 64, 0]
def k0_off289 (d0 : Dev nD) (k0_t1 : Fin k0_t1_loop.trips) : Fin 4 → Nat :=
  let c0_i32_3544 : BitVec 32 := 0#32
  let c320_i32_3549 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2858 : BitVec 32 := Scalar.addi v8 v2768
  let c0_i32_3550 : BitVec 32 := 0#32
  ![0, 320, v2858.toNat, 0]
def k0_off290 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3559 : BitVec 32 := 2#32
  let c128_i32_3561 : BitVec 32 := 128#32
  let c0_i32_3562 : BitVec 32 := 0#32
  ![v2769.toNat, 2, 128, 0]
def k0_off291 (d0 : Dev nD) (k0_t1 : Fin k0_t1_loop.trips) : Fin 4 → Nat :=
  let c0_i32_3558 : BitVec 32 := 0#32
  let c512_i32_3563 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2860 : BitVec 32 := Scalar.addi v8 v2768
  let c0_i32_3564 : BitVec 32 := 0#32
  ![0, 512, v2860.toNat, 0]
def k0_off292 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3573 : BitVec 32 := 2#32
  let c192_i32_3575 : BitVec 32 := 192#32
  let c0_i32_3576 : BitVec 32 := 0#32
  ![v2769.toNat, 2, 192, 0]
def k0_off293 (d0 : Dev nD) (k0_t1 : Fin k0_t1_loop.trips) : Fin 4 → Nat :=
  let c0_i32_3572 : BitVec 32 := 0#32
  let c704_i32_3577 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2862 : BitVec 32 := Scalar.addi v8 v2768
  let c0_i32_3578 : BitVec 32 := 0#32
  ![0, 704, v2862.toNat, 0]
def k0_off294 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3587 : BitVec 32 := 2#32
  let c256_i32_3589 : BitVec 32 := 256#32
  let c0_i32_3590 : BitVec 32 := 0#32
  ![v2769.toNat, 2, 256, 0]
def k0_off295 (d0 : Dev nD) (k0_t1 : Fin k0_t1_loop.trips) : Fin 4 → Nat :=
  let c0_i32_3586 : BitVec 32 := 0#32
  let c896_i32_3591 : BitVec 32 := 896#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2864 : BitVec 32 := Scalar.addi v8 v2768
  let c0_i32_3592 : BitVec 32 := 0#32
  ![0, 896, v2864.toNat, 0]
def k0_off296 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3601 : BitVec 32 := 2#32
  let c320_i32_3603 : BitVec 32 := 320#32
  let c0_i32_3604 : BitVec 32 := 0#32
  ![v2769.toNat, 2, 320, 0]
def k0_off297 (d0 : Dev nD) (k0_t1 : Fin k0_t1_loop.trips) : Fin 4 → Nat :=
  let c0_i32_3600 : BitVec 32 := 0#32
  let c1088_i32_3605 : BitVec 32 := 1088#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2866 : BitVec 32 := Scalar.addi v8 v2768
  let c0_i32_3606 : BitVec 32 := 0#32
  ![0, 1088, v2866.toNat, 0]
def k0_off298 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3615 : BitVec 32 := 2#32
  let c384_i32_3617 : BitVec 32 := 384#32
  let c0_i32_3618 : BitVec 32 := 0#32
  ![v2769.toNat, 2, 384, 0]
def k0_off299 (d0 : Dev nD) (k0_t1 : Fin k0_t1_loop.trips) : Fin 4 → Nat :=
  let c0_i32_3614 : BitVec 32 := 0#32
  let c1280_i32_3619 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2868 : BitVec 32 := Scalar.addi v8 v2768
  let c0_i32_3620 : BitVec 32 := 0#32
  ![0, 1280, v2868.toNat, 0]
def k0_off300 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3629 : BitVec 32 := 2#32
  let c448_i32_3631 : BitVec 32 := 448#32
  let c0_i32_3632 : BitVec 32 := 0#32
  ![v2769.toNat, 2, 448, 0]
def k0_off301 (d0 : Dev nD) (k0_t1 : Fin k0_t1_loop.trips) : Fin 4 → Nat :=
  let c0_i32_3628 : BitVec 32 := 0#32
  let c1472_i32_3633 : BitVec 32 := 1472#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2870 : BitVec 32 := Scalar.addi v8 v2768
  let c0_i32_3634 : BitVec 32 := 0#32
  ![0, 1472, v2870.toNat, 0]
def k0_off302 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3643 : BitVec 32 := 2#32
  let c512_i32_3645 : BitVec 32 := 512#32
  let c0_i32_3646 : BitVec 32 := 0#32
  ![v2769.toNat, 2, 512, 0]
def k0_off303 (d0 : Dev nD) (k0_t1 : Fin k0_t1_loop.trips) : Fin 4 → Nat :=
  let c0_i32_3642 : BitVec 32 := 0#32
  let c1664_i32_3647 : BitVec 32 := 1664#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2872 : BitVec 32 := Scalar.addi v8 v2768
  let c0_i32_3648 : BitVec 32 := 0#32
  ![0, 1664, v2872.toNat, 0]
def k0_off304 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3657 : BitVec 32 := 2#32
  let c576_i32_3659 : BitVec 32 := 576#32
  let c0_i32_3660 : BitVec 32 := 0#32
  ![v2769.toNat, 2, 576, 0]
def k0_off305 (d0 : Dev nD) (k0_t1 : Fin k0_t1_loop.trips) : Fin 4 → Nat :=
  let c0_i32_3656 : BitVec 32 := 0#32
  let c1856_i32_3661 : BitVec 32 := 1856#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2874 : BitVec 32 := Scalar.addi v8 v2768
  let c0_i32_3662 : BitVec 32 := 0#32
  ![0, 1856, v2874.toNat, 0]
def k0_off306 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3671 : BitVec 32 := 2#32
  let c640_i32_3673 : BitVec 32 := 640#32
  let c0_i32_3674 : BitVec 32 := 0#32
  ![v2769.toNat, 2, 640, 0]
def k0_off307 (d0 : Dev nD) (k0_t1 : Fin k0_t1_loop.trips) : Fin 4 → Nat :=
  let c0_i32_3670 : BitVec 32 := 0#32
  let c2048_i32_3675 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2876 : BitVec 32 := Scalar.addi v8 v2768
  let c0_i32_3676 : BitVec 32 := 0#32
  ![0, 2048, v2876.toNat, 0]
def k0_off308 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3685 : BitVec 32 := 2#32
  let c704_i32_3687 : BitVec 32 := 704#32
  let c0_i32_3688 : BitVec 32 := 0#32
  ![v2769.toNat, 2, 704, 0]
def k0_off309 (d0 : Dev nD) (k0_t1 : Fin k0_t1_loop.trips) : Fin 4 → Nat :=
  let c0_i32_3684 : BitVec 32 := 0#32
  let c2240_i32_3689 : BitVec 32 := 2240#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2878 : BitVec 32 := Scalar.addi v8 v2768
  let c0_i32_3690 : BitVec 32 := 0#32
  ![0, 2240, v2878.toNat, 0]
def k0_off310 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3699 : BitVec 32 := 2#32
  let c768_i32_3701 : BitVec 32 := 768#32
  let c0_i32_3702 : BitVec 32 := 0#32
  ![v2769.toNat, 2, 768, 0]
def k0_off311 (d0 : Dev nD) (k0_t1 : Fin k0_t1_loop.trips) : Fin 4 → Nat :=
  let c0_i32_3698 : BitVec 32 := 0#32
  let c2432_i32_3703 : BitVec 32 := 2432#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2880 : BitVec 32 := Scalar.addi v8 v2768
  let c0_i32_3704 : BitVec 32 := 0#32
  ![0, 2432, v2880.toNat, 0]
def k0_off312 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3713 : BitVec 32 := 2#32
  let c832_i32_3715 : BitVec 32 := 832#32
  let c0_i32_3716 : BitVec 32 := 0#32
  ![v2769.toNat, 2, 832, 0]
def k0_off313 (d0 : Dev nD) (k0_t1 : Fin k0_t1_loop.trips) : Fin 4 → Nat :=
  let c0_i32_3712 : BitVec 32 := 0#32
  let c2624_i32_3717 : BitVec 32 := 2624#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2882 : BitVec 32 := Scalar.addi v8 v2768
  let c0_i32_3718 : BitVec 32 := 0#32
  ![0, 2624, v2882.toNat, 0]
def k0_off314 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3727 : BitVec 32 := 2#32
  let c896_i32_3729 : BitVec 32 := 896#32
  let c0_i32_3730 : BitVec 32 := 0#32
  ![v2769.toNat, 2, 896, 0]
def k0_off315 (d0 : Dev nD) (k0_t1 : Fin k0_t1_loop.trips) : Fin 4 → Nat :=
  let c0_i32_3726 : BitVec 32 := 0#32
  let c2816_i32_3731 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2884 : BitVec 32 := Scalar.addi v8 v2768
  let c0_i32_3732 : BitVec 32 := 0#32
  ![0, 2816, v2884.toNat, 0]
def k0_off316 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3741 : BitVec 32 := 2#32
  let c960_i32_3743 : BitVec 32 := 960#32
  let c0_i32_3744 : BitVec 32 := 0#32
  ![v2769.toNat, 2, 960, 0]
def k0_off317 (d0 : Dev nD) (k0_t1 : Fin k0_t1_loop.trips) : Fin 4 → Nat :=
  let c0_i32_3740 : BitVec 32 := 0#32
  let c3008_i32_3745 : BitVec 32 := 3008#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2886 : BitVec 32 := Scalar.addi v8 v2768
  let c0_i32_3746 : BitVec 32 := 0#32
  ![0, 3008, v2886.toNat, 0]
def k0_off318 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3755 : BitVec 32 := 2#32
  let c1024_i32_3757 : BitVec 32 := 1024#32
  let c0_i32_3758 : BitVec 32 := 0#32
  ![v2769.toNat, 2, 1024, 0]
def k0_off319 (d0 : Dev nD) (k0_t1 : Fin k0_t1_loop.trips) : Fin 4 → Nat :=
  let c0_i32_3754 : BitVec 32 := 0#32
  let c3200_i32_3759 : BitVec 32 := 3200#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2888 : BitVec 32 := Scalar.addi v8 v2768
  let c0_i32_3760 : BitVec 32 := 0#32
  ![0, 3200, v2888.toNat, 0]
def k0_off320 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3769 : BitVec 32 := 2#32
  let c1088_i32_3771 : BitVec 32 := 1088#32
  let c0_i32_3772 : BitVec 32 := 0#32
  ![v2769.toNat, 2, 1088, 0]
def k0_off321 (d0 : Dev nD) (k0_t1 : Fin k0_t1_loop.trips) : Fin 4 → Nat :=
  let c0_i32_3768 : BitVec 32 := 0#32
  let c3392_i32_3773 : BitVec 32 := 3392#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2890 : BitVec 32 := Scalar.addi v8 v2768
  let c0_i32_3774 : BitVec 32 := 0#32
  ![0, 3392, v2890.toNat, 0]
def k0_off322 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3783 : BitVec 32 := 2#32
  let c1152_i32_3785 : BitVec 32 := 1152#32
  let c0_i32_3786 : BitVec 32 := 0#32
  ![v2769.toNat, 2, 1152, 0]
def k0_off323 (d0 : Dev nD) (k0_t1 : Fin k0_t1_loop.trips) : Fin 4 → Nat :=
  let c0_i32_3782 : BitVec 32 := 0#32
  let c3584_i32_3787 : BitVec 32 := 3584#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2892 : BitVec 32 := Scalar.addi v8 v2768
  let c0_i32_3788 : BitVec 32 := 0#32
  ![0, 3584, v2892.toNat, 0]
def k0_off324 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3797 : BitVec 32 := 2#32
  let c1216_i32_3799 : BitVec 32 := 1216#32
  let c0_i32_3800 : BitVec 32 := 0#32
  ![v2769.toNat, 2, 1216, 0]
def k0_off325 (d0 : Dev nD) (k0_t1 : Fin k0_t1_loop.trips) : Fin 4 → Nat :=
  let c0_i32_3796 : BitVec 32 := 0#32
  let c3776_i32_3801 : BitVec 32 := 3776#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2894 : BitVec 32 := Scalar.addi v8 v2768
  let c0_i32_3802 : BitVec 32 := 0#32
  ![0, 3776, v2894.toNat, 0]
def k0_off326 (k0_t1 : Fin k0_t1_loop.trips) : Fin 4 → Nat :=
  let c1_i32_2927 : BitVec 32 := 1#32
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2769 : BitVec 32 := Scalar.subi c1_i32_2927 v1453
  let c2_i32_3811 : BitVec 32 := 2#32
  let c1280_i32_3813 : BitVec 32 := 1280#32
  let c0_i32_3814 : BitVec 32 := 0#32
  ![v2769.toNat, 2, 1280, 0]
def k0_off327 (d0 : Dev nD) (k0_t1 : Fin k0_t1_loop.trips) : Fin 4 → Nat :=
  let c0_i32_3810 : BitVec 32 := 0#32
  let c3968_i32_3815 : BitVec 32 := 3968#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let c0_i32_1288 : BitVec 32 := 0#32
  let c1_i32_1290 : BitVec 32 := 1#32
  let arg21 : BitVec 32 := Scf.iv c0_i32_1288 c1_i32_1290 k0_t1
  let c1_i32_2926 : BitVec 32 := 1#32
  let v2768 : BitVec 32 := Scalar.addi arg21 c1_i32_2926
  let v2896 : BitVec 32 := Scalar.addi v8 v2768
  let c0_i32_3816 : BitVec 32 := 0#32
  ![0, 3968, v2896.toNat, 0]
def k0_off328 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let c2_i32_1824 : BitVec 32 := 2#32
  let v1453 : BitVec 32 := Scalar.remsi arg21 c2_i32_1824
  let v2353 : Index := Scalar.indexCast v1453
  let c0_2723 : Index := 0#32
  let c0_2724 : Index := 0#32
  let c0_2725 : Index := 0#32
  ![v2353.toNat, 0, 0, 0]
def k0_off329 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let v2357 : Index := Scalar.indexCast arg21
  let c0_2726 : Index := 0#32
  let c0_2727 : Index := 0#32
  let c0_2728 : Index := 0#32
  ![v2357.toNat, 0, 0, 0]
def k0_off330 (k0_t1 : Fin k0_t1_loop.trips) : Fin 2 → Nat :=
  let c0_2756 : Index := 0#32
  let c0_i32_1288 : BitVec 32 := 0#32
  let c1_i32_1290 : BitVec 32 := 1#32
  let arg21 : BitVec 32 := Scf.iv c0_i32_1288 c1_i32_1290 k0_t1
  let c128_i32_2755 : BitVec 32 := 128#32
  let v2410 : BitVec 32 := Scalar.muli arg21 c128_i32_2755
  let v2411 : Index := Scalar.indexCast v2410
  ![0, v2411.toNat]
def k0_off331 (d0 : Dev nD) (k0_t1 : Fin k0_t1_loop.trips) (c0_i32_2736 : BitVec 32) : Fin 4 → Nat :=
  let c0_i32_1288 : BitVec 32 := 0#32
  let c1_i32_1290 : BitVec 32 := 1#32
  let arg21 : BitVec 32 := Scf.iv c0_i32_1288 c1_i32_1290 k0_t1
  let v2413 : Index := Scalar.indexCast arg21
  let c3_i32_2746 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1272 : BitVec 32 := 0#32
  let v955 : BitVec 32 := Scalar.subi v2 c0_i32_1272
  let c8_i32_1273 : BitVec 32 := 8#32
  let v956 : BitVec 32 := Scalar.addi v955 c8_i32_1273
  let c8_i32_1274 : BitVec 32 := 8#32
  let v957 : BitVec 32 := Scalar.remsi v956 c8_i32_1274
  let c4_i32_2735 : BitVec 32 := 4#32
  let v2369 : BitVec 32 := Scalar.muli v957 c4_i32_2735
  let v2370 : BitVec 32 := Scalar.addi v2369 c0_i32_2736
  let c2_i32_2738 : BitVec 32 := 2#32
  let v2372 : BitVec 32 := Scalar.addi v2370 c2_i32_2738
  let c0_i32_2740 : BitVec 32 := 0#32
  let v2374 : BitVec 1 := Scalar.cmpi .sgt v2372 c0_i32_2740
  let v2375 : BitVec 32 := Scalar.extui v2374
  let c0_i32_2741 : BitVec 32 := 0#32
  let v2376 : BitVec 1 := Scalar.cmpi .slt v2372 c0_i32_2741
  let v2377 : BitVec 32 := Scalar.extui v2376
  let v2378 : BitVec 32 := Scalar.subi v2375 v2377
  let c3_i32_2739 : BitVec 32 := 3#32
  let c0_i32_2742 : BitVec 32 := 0#32
  let v2379 : BitVec 1 := Scalar.cmpi .sgt c3_i32_2739 c0_i32_2742
  let v2380 : BitVec 32 := Scalar.extui v2379
  let c0_i32_2743 : BitVec 32 := 0#32
  let v2381 : BitVec 1 := Scalar.cmpi .slt c3_i32_2739 c0_i32_2743
  let v2382 : BitVec 32 := Scalar.extui v2381
  let v2383 : BitVec 32 := Scalar.subi v2380 v2382
  let v2384 : BitVec 1 := Scalar.cmpi .ne v2378 v2383
  let v2385 : BitVec 32 := Scalar.remsi v2372 c3_i32_2739
  let c0_i32_2744 : BitVec 32 := 0#32
  let v2386 : BitVec 1 := Scalar.cmpi .ne v2385 c0_i32_2744
  let v2387 : BitVec 1 := Scalar.andi v2384 v2386
  let v2373 : BitVec 32 := Scalar.divsi v2372 c3_i32_2739
  let c1_i32_2745 : BitVec 32 := 1#32
  let v2388 : BitVec 32 := Scalar.subi v2373 c1_i32_2745
  let v2389 : BitVec 32 := Scalar.select v2387 v2388 v2373
  let v2390 : BitVec 32 := Scalar.muli c3_i32_2746 v2389
  let v2391 : BitVec 32 := Scalar.subi v2390 v2370
  let v2414 : Index := Scalar.indexCast v2391
  let c0_2757 : Index := 0#32
  let c0_2758 : Index := 0#32
  ![v2413.toNat, v2414.toNat, 0, 0]
def k0_off332 (k0_t1 : Fin k0_t1_loop.trips) : Fin 4 → Nat :=
  let c0_i32_1288 : BitVec 32 := 0#32
  let c1_i32_1290 : BitVec 32 := 1#32
  let arg21 : BitVec 32 := Scf.iv c0_i32_1288 c1_i32_1290 k0_t1
  let v2421 : Index := Scalar.indexCast arg21
  let c0_2761 : Index := 0#32
  let c0_2762 : Index := 0#32
  let c0_2763 : Index := 0#32
  ![v2421.toNat, 0, 0, 0]
def k0_off333 (d0 : Dev nD) (k0_t1 : Fin k0_t1_loop.trips) (c0_i32_2736 : BitVec 32) : Fin 4 → Nat :=
  let c0_i32_1288 : BitVec 32 := 0#32
  let c1_i32_1290 : BitVec 32 := 1#32
  let arg21 : BitVec 32 := Scf.iv c0_i32_1288 c1_i32_1290 k0_t1
  let v2424 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1272 : BitVec 32 := 0#32
  let v955 : BitVec 32 := Scalar.subi v2 c0_i32_1272
  let c8_i32_1273 : BitVec 32 := 8#32
  let v956 : BitVec 32 := Scalar.addi v955 c8_i32_1273
  let c8_i32_1274 : BitVec 32 := 8#32
  let v957 : BitVec 32 := Scalar.remsi v956 c8_i32_1274
  let c4_i32_2735 : BitVec 32 := 4#32
  let v2369 : BitVec 32 := Scalar.muli v957 c4_i32_2735
  let v2370 : BitVec 32 := Scalar.addi v2369 c0_i32_2736
  let c3_i32_2737 : BitVec 32 := 3#32
  let v2371 : BitVec 32 := Scalar.remsi v2370 c3_i32_2737
  let v2425 : Index := Scalar.indexCast v2371
  let c0_i32_2748 : BitVec 32 := 0#32
  let v2393 : BitVec 1 := Scalar.cmpi .sgt v2370 c0_i32_2748
  let v2394 : BitVec 32 := Scalar.extui v2393
  let c0_i32_2749 : BitVec 32 := 0#32
  let v2395 : BitVec 1 := Scalar.cmpi .slt v2370 c0_i32_2749
  let v2396 : BitVec 32 := Scalar.extui v2395
  let v2397 : BitVec 32 := Scalar.subi v2394 v2396
  let c3_i32_2747 : BitVec 32 := 3#32
  let c0_i32_2750 : BitVec 32 := 0#32
  let v2398 : BitVec 1 := Scalar.cmpi .sgt c3_i32_2747 c0_i32_2750
  let v2399 : BitVec 32 := Scalar.extui v2398
  let c0_i32_2751 : BitVec 32 := 0#32
  let v2400 : BitVec 1 := Scalar.cmpi .slt c3_i32_2747 c0_i32_2751
  let v2401 : BitVec 32 := Scalar.extui v2400
  let v2402 : BitVec 32 := Scalar.subi v2399 v2401
  let v2403 : BitVec 1 := Scalar.cmpi .ne v2397 v2402
  let v2404 : BitVec 32 := Scalar.remsi v2370 c3_i32_2747
  let c0_i32_2752 : BitVec 32 := 0#32
  let v2405 : BitVec 1 := Scalar.cmpi .ne v2404 c0_i32_2752
  let v2406 : BitVec 1 := Scalar.andi v2403 v2405
  let v2392 : BitVec 32 := Scalar.divsi v2370 c3_i32_2747
  let c1_i32_2753 : BitVec 32 := 1#32
  let v2407 : BitVec 32 := Scalar.subi v2392 c1_i32_2753
  let v2408 : BitVec 32 := Scalar.select v2406 v2407 v2392
  let c64_i32_2754 : BitVec 32 := 64#32
  let v2409 : BitVec 32 := Scalar.muli v2408 c64_i32_2754
  let v2426 : Index := Scalar.indexCast v2409
  let c0_2764 : Index := 0#32
  ![v2424.toNat, v2425.toNat, v2426.toNat, 0]
def k0_off334 (k0_t1 : Fin k0_t1_loop.trips) : Fin 2 → Nat :=
  let c64 : Index := 64#32
  let c0_i32_1288 : BitVec 32 := 0#32
  let c1_i32_1290 : BitVec 32 := 1#32
  let arg21 : BitVec 32 := Scf.iv c0_i32_1288 c1_i32_1290 k0_t1
  let c128_i32_2803 : BitVec 32 := 128#32
  let v2508 : BitVec 32 := Scalar.muli arg21 c128_i32_2803
  let v2509 : Index := Scalar.indexCast v2508
  ![64, v2509.toNat]
def k0_off335 (k0_t1 : Fin k0_t1_loop.trips) : Fin 2 → Nat :=
  let c128 : Index := 128#32
  let c0_i32_1288 : BitVec 32 := 0#32
  let c1_i32_1290 : BitVec 32 := 1#32
  let arg21 : BitVec 32 := Scf.iv c0_i32_1288 c1_i32_1290 k0_t1
  let c128_i32_2850 : BitVec 32 := 128#32
  let v2606 : BitVec 32 := Scalar.muli arg21 c128_i32_2850
  let v2607 : Index := Scalar.indexCast v2606
  ![128, v2607.toNat]
def k0_off336 (k0_t1 : Fin k0_t1_loop.trips) : Fin 2 → Nat :=
  let c192 : Index := 192#32
  let c0_i32_1288 : BitVec 32 := 0#32
  let c1_i32_1290 : BitVec 32 := 1#32
  let arg21 : BitVec 32 := Scf.iv c0_i32_1288 c1_i32_1290 k0_t1
  let c128_i32_2897 : BitVec 32 := 128#32
  let v2704 : BitVec 32 := Scalar.muli arg21 c128_i32_2897
  let v2705 : Index := Scalar.indexCast v2704
  ![192, v2705.toNat]
def k0_off337 (k0_t1 : Fin k0_t1_loop.trips) : Fin 2 → Nat :=
  let c0_2925 : Index := 0#32
  let c0_i32_1288 : BitVec 32 := 0#32
  let c1_i32_1290 : BitVec 32 := 1#32
  let arg21 : BitVec 32 := Scf.iv c0_i32_1288 c1_i32_1290 k0_t1
  let c128_i32_2924 : BitVec 32 := 128#32
  let v2763 : BitVec 32 := Scalar.muli arg21 c128_i32_2924
  let v2764 : Index := Scalar.indexCast v2763
  ![0, v2764.toNat]
def k0_dev4 (d0 : Dev nD) : Nat :=
  let c0_i32_1318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1317 : BitVec 32 := 1#32
  let v995 : BitVec 32 := Scalar.muli v7 c1_i32_1317
  let v996 : BitVec 32 := Scalar.addi c0_i32_1318 v995
  v996.toNat
@[reducible] def k0_t2_loop : Scf.Loop 32 :=
  let c0_i32_1328 : BitVec 32 := 0#32
  let c8_i32_1329 : BitVec 32 := 8#32
  let v1011 : BitVec 32 := Scalar.addi c0_i32_1328 c8_i32_1329
  let c1_i32_1330 : BitVec 32 := 1#32
  ⟨c0_i32_1328, v1011, c1_i32_1330⟩
def k0_off338 (k0_t2 : Fin k0_t2_loop.trips) : Fin 2 → Nat :=
  let c0_1845 : Index := 0#32
  let c0_i32_1328 : BitVec 32 := 0#32
  let c1_i32_1330 : BitVec 32 := 1#32
  let arg21 : BitVec 32 := Scf.iv c0_i32_1328 c1_i32_1330 k0_t2
  let c128_i32_1844 : BitVec 32 := 128#32
  let v1494 : BitVec 32 := Scalar.muli arg21 c128_i32_1844
  let v1495 : Index := Scalar.indexCast v1494
  ![0, v1495.toNat]
def k0_off339 (d0 : Dev nD) (k0_t2 : Fin k0_t2_loop.trips) (c0_i32_1825 : BitVec 32) : Fin 4 → Nat :=
  let c0_i32_1328 : BitVec 32 := 0#32
  let c1_i32_1330 : BitVec 32 := 1#32
  let arg21 : BitVec 32 := Scf.iv c0_i32_1328 c1_i32_1330 k0_t2
  let v1497 : Index := Scalar.indexCast arg21
  let c3_i32_1835 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1312 : BitVec 32 := 1#32
  let v992 : BitVec 32 := Scalar.subi v2 c1_i32_1312
  let c8_i32_1313 : BitVec 32 := 8#32
  let v993 : BitVec 32 := Scalar.addi v992 c8_i32_1313
  let c8_i32_1314 : BitVec 32 := 8#32
  let v994 : BitVec 32 := Scalar.remsi v993 c8_i32_1314
  let c4_i32_1824 : BitVec 32 := 4#32
  let v1453 : BitVec 32 := Scalar.muli v994 c4_i32_1824
  let v1454 : BitVec 32 := Scalar.addi v1453 c0_i32_1825
  let c2_i32_1827 : BitVec 32 := 2#32
  let v1456 : BitVec 32 := Scalar.addi v1454 c2_i32_1827
  let c0_i32_1829 : BitVec 32 := 0#32
  let v1458 : BitVec 1 := Scalar.cmpi .sgt v1456 c0_i32_1829
  let v1459 : BitVec 32 := Scalar.extui v1458
  let c0_i32_1830 : BitVec 32 := 0#32
  let v1460 : BitVec 1 := Scalar.cmpi .slt v1456 c0_i32_1830
  let v1461 : BitVec 32 := Scalar.extui v1460
  let v1462 : BitVec 32 := Scalar.subi v1459 v1461
  let c3_i32_1828 : BitVec 32 := 3#32
  let c0_i32_1831 : BitVec 32 := 0#32
  let v1463 : BitVec 1 := Scalar.cmpi .sgt c3_i32_1828 c0_i32_1831
  let v1464 : BitVec 32 := Scalar.extui v1463
  let c0_i32_1832 : BitVec 32 := 0#32
  let v1465 : BitVec 1 := Scalar.cmpi .slt c3_i32_1828 c0_i32_1832
  let v1466 : BitVec 32 := Scalar.extui v1465
  let v1467 : BitVec 32 := Scalar.subi v1464 v1466
  let v1468 : BitVec 1 := Scalar.cmpi .ne v1462 v1467
  let v1469 : BitVec 32 := Scalar.remsi v1456 c3_i32_1828
  let c0_i32_1833 : BitVec 32 := 0#32
  let v1470 : BitVec 1 := Scalar.cmpi .ne v1469 c0_i32_1833
  let v1471 : BitVec 1 := Scalar.andi v1468 v1470
  let v1457 : BitVec 32 := Scalar.divsi v1456 c3_i32_1828
  let c1_i32_1834 : BitVec 32 := 1#32
  let v1472 : BitVec 32 := Scalar.subi v1457 c1_i32_1834
  let v1473 : BitVec 32 := Scalar.select v1471 v1472 v1457
  let v1474 : BitVec 32 := Scalar.muli c3_i32_1835 v1473
  let v1475 : BitVec 32 := Scalar.subi v1474 v1454
  let v1498 : Index := Scalar.indexCast v1475
  let c0_1846 : Index := 0#32
  let c0_1847 : Index := 0#32
  ![v1497.toNat, v1498.toNat, 0, 0]
def k0_off340 (k0_t2 : Fin k0_t2_loop.trips) : Fin 4 → Nat :=
  let c0_i32_1328 : BitVec 32 := 0#32
  let c1_i32_1330 : BitVec 32 := 1#32
  let arg21 : BitVec 32 := Scf.iv c0_i32_1328 c1_i32_1330 k0_t2
  let v1505 : Index := Scalar.indexCast arg21
  let c0_1850 : Index := 0#32
  let c0_1851 : Index := 0#32
  let c0_1852 : Index := 0#32
  ![v1505.toNat, 0, 0, 0]
def k0_off341 (d0 : Dev nD) (k0_t2 : Fin k0_t2_loop.trips) (c0_i32_1825 : BitVec 32) : Fin 4 → Nat :=
  let c0_i32_1328 : BitVec 32 := 0#32
  let c1_i32_1330 : BitVec 32 := 1#32
  let arg21 : BitVec 32 := Scf.iv c0_i32_1328 c1_i32_1330 k0_t2
  let v1508 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1312 : BitVec 32 := 1#32
  let v992 : BitVec 32 := Scalar.subi v2 c1_i32_1312
  let c8_i32_1313 : BitVec 32 := 8#32
  let v993 : BitVec 32 := Scalar.addi v992 c8_i32_1313
  let c8_i32_1314 : BitVec 32 := 8#32
  let v994 : BitVec 32 := Scalar.remsi v993 c8_i32_1314
  let c4_i32_1824 : BitVec 32 := 4#32
  let v1453 : BitVec 32 := Scalar.muli v994 c4_i32_1824
  let v1454 : BitVec 32 := Scalar.addi v1453 c0_i32_1825
  let c3_i32_1826 : BitVec 32 := 3#32
  let v1455 : BitVec 32 := Scalar.remsi v1454 c3_i32_1826
  let v1509 : Index := Scalar.indexCast v1455
  let c0_i32_1837 : BitVec 32 := 0#32
  let v1477 : BitVec 1 := Scalar.cmpi .sgt v1454 c0_i32_1837
  let v1478 : BitVec 32 := Scalar.extui v1477
  let c0_i32_1838 : BitVec 32 := 0#32
  let v1479 : BitVec 1 := Scalar.cmpi .slt v1454 c0_i32_1838
  let v1480 : BitVec 32 := Scalar.extui v1479
  let v1481 : BitVec 32 := Scalar.subi v1478 v1480
  let c3_i32_1836 : BitVec 32 := 3#32
  let c0_i32_1839 : BitVec 32 := 0#32
  let v1482 : BitVec 1 := Scalar.cmpi .sgt c3_i32_1836 c0_i32_1839
  let v1483 : BitVec 32 := Scalar.extui v1482
  let c0_i32_1840 : BitVec 32 := 0#32
  let v1484 : BitVec 1 := Scalar.cmpi .slt c3_i32_1836 c0_i32_1840
  let v1485 : BitVec 32 := Scalar.extui v1484
  let v1486 : BitVec 32 := Scalar.subi v1483 v1485
  let v1487 : BitVec 1 := Scalar.cmpi .ne v1481 v1486
  let v1488 : BitVec 32 := Scalar.remsi v1454 c3_i32_1836
  let c0_i32_1841 : BitVec 32 := 0#32
  let v1489 : BitVec 1 := Scalar.cmpi .ne v1488 c0_i32_1841
  let v1490 : BitVec 1 := Scalar.andi v1487 v1489
  let v1476 : BitVec 32 := Scalar.divsi v1454 c3_i32_1836
  let c1_i32_1842 : BitVec 32 := 1#32
  let v1491 : BitVec 32 := Scalar.subi v1476 c1_i32_1842
  let v1492 : BitVec 32 := Scalar.select v1490 v1491 v1476
  let c64_i32_1843 : BitVec 32 := 64#32
  let v1493 : BitVec 32 := Scalar.muli v1492 c64_i32_1843
  let v1510 : Index := Scalar.indexCast v1493
  let c0_1853 : Index := 0#32
  ![v1508.toNat, v1509.toNat, v1510.toNat, 0]
def k0_off342 (k0_t2 : Fin k0_t2_loop.trips) : Fin 2 → Nat :=
  let c64 : Index := 64#32
  let c0_i32_1328 : BitVec 32 := 0#32
  let c1_i32_1330 : BitVec 32 := 1#32
  let arg21 : BitVec 32 := Scf.iv c0_i32_1328 c1_i32_1330 k0_t2
  let c128_i32_1892 : BitVec 32 := 128#32
  let v1592 : BitVec 32 := Scalar.muli arg21 c128_i32_1892
  let v1593 : Index := Scalar.indexCast v1592
  ![64, v1593.toNat]
def k0_off343 (k0_t2 : Fin k0_t2_loop.trips) : Fin 2 → Nat :=
  let c128 : Index := 128#32
  let c0_i32_1328 : BitVec 32 := 0#32
  let c1_i32_1330 : BitVec 32 := 1#32
  let arg21 : BitVec 32 := Scf.iv c0_i32_1328 c1_i32_1330 k0_t2
  let c128_i32_1939 : BitVec 32 := 128#32
  let v1690 : BitVec 32 := Scalar.muli arg21 c128_i32_1939
  let v1691 : Index := Scalar.indexCast v1690
  ![128, v1691.toNat]
def k0_off344 (k0_t2 : Fin k0_t2_loop.trips) : Fin 2 → Nat :=
  let c192 : Index := 192#32
  let c0_i32_1328 : BitVec 32 := 0#32
  let c1_i32_1330 : BitVec 32 := 1#32
  let arg21 : BitVec 32 := Scf.iv c0_i32_1328 c1_i32_1330 k0_t2
  let c128_i32_1986 : BitVec 32 := 128#32
  let v1788 : BitVec 32 := Scalar.muli arg21 c128_i32_1986
  let v1789 : Index := Scalar.indexCast v1788
  ![192, v1789.toNat]
def k0_off345 (k0_t2 : Fin k0_t2_loop.trips) : Fin 2 → Nat :=
  let c0_2014 : Index := 0#32
  let c0_i32_1328 : BitVec 32 := 0#32
  let c1_i32_1330 : BitVec 32 := 1#32
  let arg21 : BitVec 32 := Scf.iv c0_i32_1328 c1_i32_1330 k0_t2
  let c128_i32_2013 : BitVec 32 := 128#32
  let v1847 : BitVec 32 := Scalar.muli arg21 c128_i32_2013
  let v1848 : Index := Scalar.indexCast v1847
  ![0, v1848.toNat]
def k0_dev5 (d0 : Dev nD) : Nat :=
  let c0_i32_1347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1346 : BitVec 32 := 1#32
  let v1024 : BitVec 32 := Scalar.muli v7 c1_i32_1346
  let v1025 : BitVec 32 := Scalar.addi c0_i32_1347 v1024
  v1025.toNat
def k0_dev6 (d0 : Dev nD) : Nat :=
  let c0_i32_1373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1372 : BitVec 32 := 1#32
  let v1047 : BitVec 32 := Scalar.muli v7 c1_i32_1372
  let v1048 : BitVec 32 := Scalar.addi c0_i32_1373 v1047
  v1048.toNat
@[reducible] def k0_t3_loop : Scf.Loop 32 :=
  let c0_i32_1383 : BitVec 32 := 0#32
  let c8_i32_1384 : BitVec 32 := 8#32
  let v1063 : BitVec 32 := Scalar.addi c0_i32_1383 c8_i32_1384
  let c1_i32_1385 : BitVec 32 := 1#32
  ⟨c0_i32_1383, v1063, c1_i32_1385⟩
def k0_off346 (k0_t3 : Fin k0_t3_loop.trips) : Fin 2 → Nat :=
  let c0_1845 : Index := 0#32
  let c0_i32_1383 : BitVec 32 := 0#32
  let c1_i32_1385 : BitVec 32 := 1#32
  let arg21 : BitVec 32 := Scf.iv c0_i32_1383 c1_i32_1385 k0_t3
  let c128_i32_1844 : BitVec 32 := 128#32
  let v1494 : BitVec 32 := Scalar.muli arg21 c128_i32_1844
  let v1495 : Index := Scalar.indexCast v1494
  ![0, v1495.toNat]
def k0_off347 (d0 : Dev nD) (k0_t3 : Fin k0_t3_loop.trips) (c0_i32_1825 : BitVec 32) : Fin 4 → Nat :=
  let c0_i32_1383 : BitVec 32 := 0#32
  let c1_i32_1385 : BitVec 32 := 1#32
  let arg21 : BitVec 32 := Scf.iv c0_i32_1383 c1_i32_1385 k0_t3
  let v1497 : Index := Scalar.indexCast arg21
  let c3_i32_1835 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1367 : BitVec 32 := 2#32
  let v1044 : BitVec 32 := Scalar.subi v2 c2_i32_1367
  let c8_i32_1368 : BitVec 32 := 8#32
  let v1045 : BitVec 32 := Scalar.addi v1044 c8_i32_1368
  let c8_i32_1369 : BitVec 32 := 8#32
  let v1046 : BitVec 32 := Scalar.remsi v1045 c8_i32_1369
  let c4_i32_1824 : BitVec 32 := 4#32
  let v1453 : BitVec 32 := Scalar.muli v1046 c4_i32_1824
  let v1454 : BitVec 32 := Scalar.addi v1453 c0_i32_1825
  let c2_i32_1827 : BitVec 32 := 2#32
  let v1456 : BitVec 32 := Scalar.addi v1454 c2_i32_1827
  let c0_i32_1829 : BitVec 32 := 0#32
  let v1458 : BitVec 1 := Scalar.cmpi .sgt v1456 c0_i32_1829
  let v1459 : BitVec 32 := Scalar.extui v1458
  let c0_i32_1830 : BitVec 32 := 0#32
  let v1460 : BitVec 1 := Scalar.cmpi .slt v1456 c0_i32_1830
  let v1461 : BitVec 32 := Scalar.extui v1460
  let v1462 : BitVec 32 := Scalar.subi v1459 v1461
  let c3_i32_1828 : BitVec 32 := 3#32
  let c0_i32_1831 : BitVec 32 := 0#32
  let v1463 : BitVec 1 := Scalar.cmpi .sgt c3_i32_1828 c0_i32_1831
  let v1464 : BitVec 32 := Scalar.extui v1463
  let c0_i32_1832 : BitVec 32 := 0#32
  let v1465 : BitVec 1 := Scalar.cmpi .slt c3_i32_1828 c0_i32_1832
  let v1466 : BitVec 32 := Scalar.extui v1465
  let v1467 : BitVec 32 := Scalar.subi v1464 v1466
  let v1468 : BitVec 1 := Scalar.cmpi .ne v1462 v1467
  let v1469 : BitVec 32 := Scalar.remsi v1456 c3_i32_1828
  let c0_i32_1833 : BitVec 32 := 0#32
  let v1470 : BitVec 1 := Scalar.cmpi .ne v1469 c0_i32_1833
  let v1471 : BitVec 1 := Scalar.andi v1468 v1470
  let v1457 : BitVec 32 := Scalar.divsi v1456 c3_i32_1828
  let c1_i32_1834 : BitVec 32 := 1#32
  let v1472 : BitVec 32 := Scalar.subi v1457 c1_i32_1834
  let v1473 : BitVec 32 := Scalar.select v1471 v1472 v1457
  let v1474 : BitVec 32 := Scalar.muli c3_i32_1835 v1473
  let v1475 : BitVec 32 := Scalar.subi v1474 v1454
  let v1498 : Index := Scalar.indexCast v1475
  let c0_1846 : Index := 0#32
  let c0_1847 : Index := 0#32
  ![v1497.toNat, v1498.toNat, 0, 0]
def k0_off348 (k0_t3 : Fin k0_t3_loop.trips) : Fin 4 → Nat :=
  let c0_i32_1383 : BitVec 32 := 0#32
  let c1_i32_1385 : BitVec 32 := 1#32
  let arg21 : BitVec 32 := Scf.iv c0_i32_1383 c1_i32_1385 k0_t3
  let v1505 : Index := Scalar.indexCast arg21
  let c0_1850 : Index := 0#32
  let c0_1851 : Index := 0#32
  let c0_1852 : Index := 0#32
  ![v1505.toNat, 0, 0, 0]
def k0_off349 (d0 : Dev nD) (k0_t3 : Fin k0_t3_loop.trips) (c0_i32_1825 : BitVec 32) : Fin 4 → Nat :=
  let c0_i32_1383 : BitVec 32 := 0#32
  let c1_i32_1385 : BitVec 32 := 1#32
  let arg21 : BitVec 32 := Scf.iv c0_i32_1383 c1_i32_1385 k0_t3
  let v1508 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1367 : BitVec 32 := 2#32
  let v1044 : BitVec 32 := Scalar.subi v2 c2_i32_1367
  let c8_i32_1368 : BitVec 32 := 8#32
  let v1045 : BitVec 32 := Scalar.addi v1044 c8_i32_1368
  let c8_i32_1369 : BitVec 32 := 8#32
  let v1046 : BitVec 32 := Scalar.remsi v1045 c8_i32_1369
  let c4_i32_1824 : BitVec 32 := 4#32
  let v1453 : BitVec 32 := Scalar.muli v1046 c4_i32_1824
  let v1454 : BitVec 32 := Scalar.addi v1453 c0_i32_1825
  let c3_i32_1826 : BitVec 32 := 3#32
  let v1455 : BitVec 32 := Scalar.remsi v1454 c3_i32_1826
  let v1509 : Index := Scalar.indexCast v1455
  let c0_i32_1837 : BitVec 32 := 0#32
  let v1477 : BitVec 1 := Scalar.cmpi .sgt v1454 c0_i32_1837
  let v1478 : BitVec 32 := Scalar.extui v1477
  let c0_i32_1838 : BitVec 32 := 0#32
  let v1479 : BitVec 1 := Scalar.cmpi .slt v1454 c0_i32_1838
  let v1480 : BitVec 32 := Scalar.extui v1479
  let v1481 : BitVec 32 := Scalar.subi v1478 v1480
  let c3_i32_1836 : BitVec 32 := 3#32
  let c0_i32_1839 : BitVec 32 := 0#32
  let v1482 : BitVec 1 := Scalar.cmpi .sgt c3_i32_1836 c0_i32_1839
  let v1483 : BitVec 32 := Scalar.extui v1482
  let c0_i32_1840 : BitVec 32 := 0#32
  let v1484 : BitVec 1 := Scalar.cmpi .slt c3_i32_1836 c0_i32_1840
  let v1485 : BitVec 32 := Scalar.extui v1484
  let v1486 : BitVec 32 := Scalar.subi v1483 v1485
  let v1487 : BitVec 1 := Scalar.cmpi .ne v1481 v1486
  let v1488 : BitVec 32 := Scalar.remsi v1454 c3_i32_1836
  let c0_i32_1841 : BitVec 32 := 0#32
  let v1489 : BitVec 1 := Scalar.cmpi .ne v1488 c0_i32_1841
  let v1490 : BitVec 1 := Scalar.andi v1487 v1489
  let v1476 : BitVec 32 := Scalar.divsi v1454 c3_i32_1836
  let c1_i32_1842 : BitVec 32 := 1#32
  let v1491 : BitVec 32 := Scalar.subi v1476 c1_i32_1842
  let v1492 : BitVec 32 := Scalar.select v1490 v1491 v1476
  let c64_i32_1843 : BitVec 32 := 64#32
  let v1493 : BitVec 32 := Scalar.muli v1492 c64_i32_1843
  let v1510 : Index := Scalar.indexCast v1493
  let c0_1853 : Index := 0#32
  ![v1508.toNat, v1509.toNat, v1510.toNat, 0]
def k0_off350 (k0_t3 : Fin k0_t3_loop.trips) : Fin 2 → Nat :=
  let c64 : Index := 64#32
  let c0_i32_1383 : BitVec 32 := 0#32
  let c1_i32_1385 : BitVec 32 := 1#32
  let arg21 : BitVec 32 := Scf.iv c0_i32_1383 c1_i32_1385 k0_t3
  let c128_i32_1892 : BitVec 32 := 128#32
  let v1592 : BitVec 32 := Scalar.muli arg21 c128_i32_1892
  let v1593 : Index := Scalar.indexCast v1592
  ![64, v1593.toNat]
def k0_off351 (k0_t3 : Fin k0_t3_loop.trips) : Fin 2 → Nat :=
  let c128 : Index := 128#32
  let c0_i32_1383 : BitVec 32 := 0#32
  let c1_i32_1385 : BitVec 32 := 1#32
  let arg21 : BitVec 32 := Scf.iv c0_i32_1383 c1_i32_1385 k0_t3
  let c128_i32_1939 : BitVec 32 := 128#32
  let v1690 : BitVec 32 := Scalar.muli arg21 c128_i32_1939
  let v1691 : Index := Scalar.indexCast v1690
  ![128, v1691.toNat]
def k0_off352 (k0_t3 : Fin k0_t3_loop.trips) : Fin 2 → Nat :=
  let c192 : Index := 192#32
  let c0_i32_1383 : BitVec 32 := 0#32
  let c1_i32_1385 : BitVec 32 := 1#32
  let arg21 : BitVec 32 := Scf.iv c0_i32_1383 c1_i32_1385 k0_t3
  let c128_i32_1986 : BitVec 32 := 128#32
  let v1788 : BitVec 32 := Scalar.muli arg21 c128_i32_1986
  let v1789 : Index := Scalar.indexCast v1788
  ![192, v1789.toNat]
def k0_off353 (k0_t3 : Fin k0_t3_loop.trips) : Fin 2 → Nat :=
  let c0_2014 : Index := 0#32
  let c0_i32_1383 : BitVec 32 := 0#32
  let c1_i32_1385 : BitVec 32 := 1#32
  let arg21 : BitVec 32 := Scf.iv c0_i32_1383 c1_i32_1385 k0_t3
  let c128_i32_2013 : BitVec 32 := 128#32
  let v1847 : BitVec 32 := Scalar.muli arg21 c128_i32_2013
  let v1848 : Index := Scalar.indexCast v1847
  ![0, v1848.toNat]
def k0_dev7 (d0 : Dev nD) : Nat :=
  let c0_i32_1415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1414 : BitVec 32 := 1#32
  let v1086 : BitVec 32 := Scalar.muli v7 c1_i32_1414
  let v1087 : BitVec 32 := Scalar.addi c0_i32_1415 v1086
  v1087.toNat
def k0_dev8 (d0 : Dev nD) : Nat :=
  let c0_i32_1440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1439 : BitVec 32 := 1#32
  let v1109 : BitVec 32 := Scalar.muli v7 c1_i32_1439
  let v1110 : BitVec 32 := Scalar.addi c0_i32_1440 v1109
  v1110.toNat
@[reducible] def k0_t4_loop : Scf.Loop 32 :=
  let c0_i32_1450 : BitVec 32 := 0#32
  let c8_i32_1451 : BitVec 32 := 8#32
  let v1125 : BitVec 32 := Scalar.addi c0_i32_1450 c8_i32_1451
  let c1_i32_1452 : BitVec 32 := 1#32
  ⟨c0_i32_1450, v1125, c1_i32_1452⟩
def k0_off354 (k0_t4 : Fin k0_t4_loop.trips) : Fin 2 → Nat :=
  let c0_1845 : Index := 0#32
  let c0_i32_1450 : BitVec 32 := 0#32
  let c1_i32_1452 : BitVec 32 := 1#32
  let arg21 : BitVec 32 := Scf.iv c0_i32_1450 c1_i32_1452 k0_t4
  let c128_i32_1844 : BitVec 32 := 128#32
  let v1494 : BitVec 32 := Scalar.muli arg21 c128_i32_1844
  let v1495 : Index := Scalar.indexCast v1494
  ![0, v1495.toNat]
def k0_off355 (d0 : Dev nD) (k0_t4 : Fin k0_t4_loop.trips) (c0_i32_1825 : BitVec 32) : Fin 4 → Nat :=
  let c0_i32_1450 : BitVec 32 := 0#32
  let c1_i32_1452 : BitVec 32 := 1#32
  let arg21 : BitVec 32 := Scf.iv c0_i32_1450 c1_i32_1452 k0_t4
  let v1497 : Index := Scalar.indexCast arg21
  let c3_i32_1835 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v1106 : BitVec 32 := Scalar.subi v2 c3_i32
  let c8_i32_1435 : BitVec 32 := 8#32
  let v1107 : BitVec 32 := Scalar.addi v1106 c8_i32_1435
  let c8_i32_1436 : BitVec 32 := 8#32
  let v1108 : BitVec 32 := Scalar.remsi v1107 c8_i32_1436
  let c4_i32_1824 : BitVec 32 := 4#32
  let v1453 : BitVec 32 := Scalar.muli v1108 c4_i32_1824
  let v1454 : BitVec 32 := Scalar.addi v1453 c0_i32_1825
  let c2_i32_1827 : BitVec 32 := 2#32
  let v1456 : BitVec 32 := Scalar.addi v1454 c2_i32_1827
  let c0_i32_1829 : BitVec 32 := 0#32
  let v1458 : BitVec 1 := Scalar.cmpi .sgt v1456 c0_i32_1829
  let v1459 : BitVec 32 := Scalar.extui v1458
  let c0_i32_1830 : BitVec 32 := 0#32
  let v1460 : BitVec 1 := Scalar.cmpi .slt v1456 c0_i32_1830
  let v1461 : BitVec 32 := Scalar.extui v1460
  let v1462 : BitVec 32 := Scalar.subi v1459 v1461
  let c3_i32_1828 : BitVec 32 := 3#32
  let c0_i32_1831 : BitVec 32 := 0#32
  let v1463 : BitVec 1 := Scalar.cmpi .sgt c3_i32_1828 c0_i32_1831
  let v1464 : BitVec 32 := Scalar.extui v1463
  let c0_i32_1832 : BitVec 32 := 0#32
  let v1465 : BitVec 1 := Scalar.cmpi .slt c3_i32_1828 c0_i32_1832
  let v1466 : BitVec 32 := Scalar.extui v1465
  let v1467 : BitVec 32 := Scalar.subi v1464 v1466
  let v1468 : BitVec 1 := Scalar.cmpi .ne v1462 v1467
  let v1469 : BitVec 32 := Scalar.remsi v1456 c3_i32_1828
  let c0_i32_1833 : BitVec 32 := 0#32
  let v1470 : BitVec 1 := Scalar.cmpi .ne v1469 c0_i32_1833
  let v1471 : BitVec 1 := Scalar.andi v1468 v1470
  let v1457 : BitVec 32 := Scalar.divsi v1456 c3_i32_1828
  let c1_i32_1834 : BitVec 32 := 1#32
  let v1472 : BitVec 32 := Scalar.subi v1457 c1_i32_1834
  let v1473 : BitVec 32 := Scalar.select v1471 v1472 v1457
  let v1474 : BitVec 32 := Scalar.muli c3_i32_1835 v1473
  let v1475 : BitVec 32 := Scalar.subi v1474 v1454
  let v1498 : Index := Scalar.indexCast v1475
  let c0_1846 : Index := 0#32
  let c0_1847 : Index := 0#32
  ![v1497.toNat, v1498.toNat, 0, 0]
def k0_off356 (k0_t4 : Fin k0_t4_loop.trips) : Fin 4 → Nat :=
  let c0_i32_1450 : BitVec 32 := 0#32
  let c1_i32_1452 : BitVec 32 := 1#32
  let arg21 : BitVec 32 := Scf.iv c0_i32_1450 c1_i32_1452 k0_t4
  let v1505 : Index := Scalar.indexCast arg21
  let c0_1850 : Index := 0#32
  let c0_1851 : Index := 0#32
  let c0_1852 : Index := 0#32
  ![v1505.toNat, 0, 0, 0]
def k0_off357 (d0 : Dev nD) (k0_t4 : Fin k0_t4_loop.trips) (c0_i32_1825 : BitVec 32) : Fin 4 → Nat :=
  let c0_i32_1450 : BitVec 32 := 0#32
  let c1_i32_1452 : BitVec 32 := 1#32
  let arg21 : BitVec 32 := Scf.iv c0_i32_1450 c1_i32_1452 k0_t4
  let v1508 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v1106 : BitVec 32 := Scalar.subi v2 c3_i32
  let c8_i32_1435 : BitVec 32 := 8#32
  let v1107 : BitVec 32 := Scalar.addi v1106 c8_i32_1435
  let c8_i32_1436 : BitVec 32 := 8#32
  let v1108 : BitVec 32 := Scalar.remsi v1107 c8_i32_1436
  let c4_i32_1824 : BitVec 32 := 4#32
  let v1453 : BitVec 32 := Scalar.muli v1108 c4_i32_1824
  let v1454 : BitVec 32 := Scalar.addi v1453 c0_i32_1825
  let c3_i32_1826 : BitVec 32 := 3#32
  let v1455 : BitVec 32 := Scalar.remsi v1454 c3_i32_1826
  let v1509 : Index := Scalar.indexCast v1455
  let c0_i32_1837 : BitVec 32 := 0#32
  let v1477 : BitVec 1 := Scalar.cmpi .sgt v1454 c0_i32_1837
  let v1478 : BitVec 32 := Scalar.extui v1477
  let c0_i32_1838 : BitVec 32 := 0#32
  let v1479 : BitVec 1 := Scalar.cmpi .slt v1454 c0_i32_1838
  let v1480 : BitVec 32 := Scalar.extui v1479
  let v1481 : BitVec 32 := Scalar.subi v1478 v1480
  let c3_i32_1836 : BitVec 32 := 3#32
  let c0_i32_1839 : BitVec 32 := 0#32
  let v1482 : BitVec 1 := Scalar.cmpi .sgt c3_i32_1836 c0_i32_1839
  let v1483 : BitVec 32 := Scalar.extui v1482
  let c0_i32_1840 : BitVec 32 := 0#32
  let v1484 : BitVec 1 := Scalar.cmpi .slt c3_i32_1836 c0_i32_1840
  let v1485 : BitVec 32 := Scalar.extui v1484
  let v1486 : BitVec 32 := Scalar.subi v1483 v1485
  let v1487 : BitVec 1 := Scalar.cmpi .ne v1481 v1486
  let v1488 : BitVec 32 := Scalar.remsi v1454 c3_i32_1836
  let c0_i32_1841 : BitVec 32 := 0#32
  let v1489 : BitVec 1 := Scalar.cmpi .ne v1488 c0_i32_1841
  let v1490 : BitVec 1 := Scalar.andi v1487 v1489
  let v1476 : BitVec 32 := Scalar.divsi v1454 c3_i32_1836
  let c1_i32_1842 : BitVec 32 := 1#32
  let v1491 : BitVec 32 := Scalar.subi v1476 c1_i32_1842
  let v1492 : BitVec 32 := Scalar.select v1490 v1491 v1476
  let c64_i32_1843 : BitVec 32 := 64#32
  let v1493 : BitVec 32 := Scalar.muli v1492 c64_i32_1843
  let v1510 : Index := Scalar.indexCast v1493
  let c0_1853 : Index := 0#32
  ![v1508.toNat, v1509.toNat, v1510.toNat, 0]
def k0_off358 (k0_t4 : Fin k0_t4_loop.trips) : Fin 2 → Nat :=
  let c64 : Index := 64#32
  let c0_i32_1450 : BitVec 32 := 0#32
  let c1_i32_1452 : BitVec 32 := 1#32
  let arg21 : BitVec 32 := Scf.iv c0_i32_1450 c1_i32_1452 k0_t4
  let c128_i32_1892 : BitVec 32 := 128#32
  let v1592 : BitVec 32 := Scalar.muli arg21 c128_i32_1892
  let v1593 : Index := Scalar.indexCast v1592
  ![64, v1593.toNat]
def k0_off359 (k0_t4 : Fin k0_t4_loop.trips) : Fin 2 → Nat :=
  let c128 : Index := 128#32
  let c0_i32_1450 : BitVec 32 := 0#32
  let c1_i32_1452 : BitVec 32 := 1#32
  let arg21 : BitVec 32 := Scf.iv c0_i32_1450 c1_i32_1452 k0_t4
  let c128_i32_1939 : BitVec 32 := 128#32
  let v1690 : BitVec 32 := Scalar.muli arg21 c128_i32_1939
  let v1691 : Index := Scalar.indexCast v1690
  ![128, v1691.toNat]
def k0_off360 (k0_t4 : Fin k0_t4_loop.trips) : Fin 2 → Nat :=
  let c192 : Index := 192#32
  let c0_i32_1450 : BitVec 32 := 0#32
  let c1_i32_1452 : BitVec 32 := 1#32
  let arg21 : BitVec 32 := Scf.iv c0_i32_1450 c1_i32_1452 k0_t4
  let c128_i32_1986 : BitVec 32 := 128#32
  let v1788 : BitVec 32 := Scalar.muli arg21 c128_i32_1986
  let v1789 : Index := Scalar.indexCast v1788
  ![192, v1789.toNat]
def k0_off361 (k0_t4 : Fin k0_t4_loop.trips) : Fin 2 → Nat :=
  let c0_2014 : Index := 0#32
  let c0_i32_1450 : BitVec 32 := 0#32
  let c1_i32_1452 : BitVec 32 := 1#32
  let arg21 : BitVec 32 := Scf.iv c0_i32_1450 c1_i32_1452 k0_t4
  let c128_i32_2013 : BitVec 32 := 128#32
  let v1847 : BitVec 32 := Scalar.muli arg21 c128_i32_2013
  let v1848 : Index := Scalar.indexCast v1847
  ![0, v1848.toNat]
def k0_dev9 (d0 : Dev nD) : Nat :=
  let c0_i32_1491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1490 : BitVec 32 := 1#32
  let v1154 : BitVec 32 := Scalar.muli v7 c1_i32_1490
  let v1155 : BitVec 32 := Scalar.addi c0_i32_1491 v1154
  v1155.toNat
def k0_dev10 (d0 : Dev nD) : Nat :=
  let c0_i32_1516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1515 : BitVec 32 := 1#32
  let v1177 : BitVec 32 := Scalar.muli v7 c1_i32_1515
  let v1178 : BitVec 32 := Scalar.addi c0_i32_1516 v1177
  v1178.toNat
@[reducible] def k0_t5_loop : Scf.Loop 32 :=
  let c0_i32_1526 : BitVec 32 := 0#32
  let c8_i32_1527 : BitVec 32 := 8#32
  let v1193 : BitVec 32 := Scalar.addi c0_i32_1526 c8_i32_1527
  let c1_i32_1528 : BitVec 32 := 1#32
  ⟨c0_i32_1526, v1193, c1_i32_1528⟩
def k0_off362 (k0_t5 : Fin k0_t5_loop.trips) : Fin 2 → Nat :=
  let c0_1845 : Index := 0#32
  let c0_i32_1526 : BitVec 32 := 0#32
  let c1_i32_1528 : BitVec 32 := 1#32
  let arg21 : BitVec 32 := Scf.iv c0_i32_1526 c1_i32_1528 k0_t5
  let c128_i32_1844 : BitVec 32 := 128#32
  let v1494 : BitVec 32 := Scalar.muli arg21 c128_i32_1844
  let v1495 : Index := Scalar.indexCast v1494
  ![0, v1495.toNat]
def k0_off363 (d0 : Dev nD) (k0_t5 : Fin k0_t5_loop.trips) (c0_i32_1825 : BitVec 32) : Fin 4 → Nat :=
  let c0_i32_1526 : BitVec 32 := 0#32
  let c1_i32_1528 : BitVec 32 := 1#32
  let arg21 : BitVec 32 := Scf.iv c0_i32_1526 c1_i32_1528 k0_t5
  let v1497 : Index := Scalar.indexCast arg21
  let c3_i32_1835 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v1174 : BitVec 32 := Scalar.subi v2 c4_i32
  let c8_i32_1511 : BitVec 32 := 8#32
  let v1175 : BitVec 32 := Scalar.addi v1174 c8_i32_1511
  let c8_i32_1512 : BitVec 32 := 8#32
  let v1176 : BitVec 32 := Scalar.remsi v1175 c8_i32_1512
  let c4_i32_1824 : BitVec 32 := 4#32
  let v1453 : BitVec 32 := Scalar.muli v1176 c4_i32_1824
  let v1454 : BitVec 32 := Scalar.addi v1453 c0_i32_1825
  let c2_i32_1827 : BitVec 32 := 2#32
  let v1456 : BitVec 32 := Scalar.addi v1454 c2_i32_1827
  let c0_i32_1829 : BitVec 32 := 0#32
  let v1458 : BitVec 1 := Scalar.cmpi .sgt v1456 c0_i32_1829
  let v1459 : BitVec 32 := Scalar.extui v1458
  let c0_i32_1830 : BitVec 32 := 0#32
  let v1460 : BitVec 1 := Scalar.cmpi .slt v1456 c0_i32_1830
  let v1461 : BitVec 32 := Scalar.extui v1460
  let v1462 : BitVec 32 := Scalar.subi v1459 v1461
  let c3_i32_1828 : BitVec 32 := 3#32
  let c0_i32_1831 : BitVec 32 := 0#32
  let v1463 : BitVec 1 := Scalar.cmpi .sgt c3_i32_1828 c0_i32_1831
  let v1464 : BitVec 32 := Scalar.extui v1463
  let c0_i32_1832 : BitVec 32 := 0#32
  let v1465 : BitVec 1 := Scalar.cmpi .slt c3_i32_1828 c0_i32_1832
  let v1466 : BitVec 32 := Scalar.extui v1465
  let v1467 : BitVec 32 := Scalar.subi v1464 v1466
  let v1468 : BitVec 1 := Scalar.cmpi .ne v1462 v1467
  let v1469 : BitVec 32 := Scalar.remsi v1456 c3_i32_1828
  let c0_i32_1833 : BitVec 32 := 0#32
  let v1470 : BitVec 1 := Scalar.cmpi .ne v1469 c0_i32_1833
  let v1471 : BitVec 1 := Scalar.andi v1468 v1470
  let v1457 : BitVec 32 := Scalar.divsi v1456 c3_i32_1828
  let c1_i32_1834 : BitVec 32 := 1#32
  let v1472 : BitVec 32 := Scalar.subi v1457 c1_i32_1834
  let v1473 : BitVec 32 := Scalar.select v1471 v1472 v1457
  let v1474 : BitVec 32 := Scalar.muli c3_i32_1835 v1473
  let v1475 : BitVec 32 := Scalar.subi v1474 v1454
  let v1498 : Index := Scalar.indexCast v1475
  let c0_1846 : Index := 0#32
  let c0_1847 : Index := 0#32
  ![v1497.toNat, v1498.toNat, 0, 0]
def k0_off364 (k0_t5 : Fin k0_t5_loop.trips) : Fin 4 → Nat :=
  let c0_i32_1526 : BitVec 32 := 0#32
  let c1_i32_1528 : BitVec 32 := 1#32
  let arg21 : BitVec 32 := Scf.iv c0_i32_1526 c1_i32_1528 k0_t5
  let v1505 : Index := Scalar.indexCast arg21
  let c0_1850 : Index := 0#32
  let c0_1851 : Index := 0#32
  let c0_1852 : Index := 0#32
  ![v1505.toNat, 0, 0, 0]
def k0_off365 (d0 : Dev nD) (k0_t5 : Fin k0_t5_loop.trips) (c0_i32_1825 : BitVec 32) : Fin 4 → Nat :=
  let c0_i32_1526 : BitVec 32 := 0#32
  let c1_i32_1528 : BitVec 32 := 1#32
  let arg21 : BitVec 32 := Scf.iv c0_i32_1526 c1_i32_1528 k0_t5
  let v1508 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v1174 : BitVec 32 := Scalar.subi v2 c4_i32
  let c8_i32_1511 : BitVec 32 := 8#32
  let v1175 : BitVec 32 := Scalar.addi v1174 c8_i32_1511
  let c8_i32_1512 : BitVec 32 := 8#32
  let v1176 : BitVec 32 := Scalar.remsi v1175 c8_i32_1512
  let c4_i32_1824 : BitVec 32 := 4#32
  let v1453 : BitVec 32 := Scalar.muli v1176 c4_i32_1824
  let v1454 : BitVec 32 := Scalar.addi v1453 c0_i32_1825
  let c3_i32_1826 : BitVec 32 := 3#32
  let v1455 : BitVec 32 := Scalar.remsi v1454 c3_i32_1826
  let v1509 : Index := Scalar.indexCast v1455
  let c0_i32_1837 : BitVec 32 := 0#32
  let v1477 : BitVec 1 := Scalar.cmpi .sgt v1454 c0_i32_1837
  let v1478 : BitVec 32 := Scalar.extui v1477
  let c0_i32_1838 : BitVec 32 := 0#32
  let v1479 : BitVec 1 := Scalar.cmpi .slt v1454 c0_i32_1838
  let v1480 : BitVec 32 := Scalar.extui v1479
  let v1481 : BitVec 32 := Scalar.subi v1478 v1480
  let c3_i32_1836 : BitVec 32 := 3#32
  let c0_i32_1839 : BitVec 32 := 0#32
  let v1482 : BitVec 1 := Scalar.cmpi .sgt c3_i32_1836 c0_i32_1839
  let v1483 : BitVec 32 := Scalar.extui v1482
  let c0_i32_1840 : BitVec 32 := 0#32
  let v1484 : BitVec 1 := Scalar.cmpi .slt c3_i32_1836 c0_i32_1840
  let v1485 : BitVec 32 := Scalar.extui v1484
  let v1486 : BitVec 32 := Scalar.subi v1483 v1485
  let v1487 : BitVec 1 := Scalar.cmpi .ne v1481 v1486
  let v1488 : BitVec 32 := Scalar.remsi v1454 c3_i32_1836
  let c0_i32_1841 : BitVec 32 := 0#32
  let v1489 : BitVec 1 := Scalar.cmpi .ne v1488 c0_i32_1841
  let v1490 : BitVec 1 := Scalar.andi v1487 v1489
  let v1476 : BitVec 32 := Scalar.divsi v1454 c3_i32_1836
  let c1_i32_1842 : BitVec 32 := 1#32
  let v1491 : BitVec 32 := Scalar.subi v1476 c1_i32_1842
  let v1492 : BitVec 32 := Scalar.select v1490 v1491 v1476
  let c64_i32_1843 : BitVec 32 := 64#32
  let v1493 : BitVec 32 := Scalar.muli v1492 c64_i32_1843
  let v1510 : Index := Scalar.indexCast v1493
  let c0_1853 : Index := 0#32
  ![v1508.toNat, v1509.toNat, v1510.toNat, 0]
def k0_off366 (k0_t5 : Fin k0_t5_loop.trips) : Fin 2 → Nat :=
  let c64 : Index := 64#32
  let c0_i32_1526 : BitVec 32 := 0#32
  let c1_i32_1528 : BitVec 32 := 1#32
  let arg21 : BitVec 32 := Scf.iv c0_i32_1526 c1_i32_1528 k0_t5
  let c128_i32_1892 : BitVec 32 := 128#32
  let v1592 : BitVec 32 := Scalar.muli arg21 c128_i32_1892
  let v1593 : Index := Scalar.indexCast v1592
  ![64, v1593.toNat]
def k0_off367 (k0_t5 : Fin k0_t5_loop.trips) : Fin 2 → Nat :=
  let c128 : Index := 128#32
  let c0_i32_1526 : BitVec 32 := 0#32
  let c1_i32_1528 : BitVec 32 := 1#32
  let arg21 : BitVec 32 := Scf.iv c0_i32_1526 c1_i32_1528 k0_t5
  let c128_i32_1939 : BitVec 32 := 128#32
  let v1690 : BitVec 32 := Scalar.muli arg21 c128_i32_1939
  let v1691 : Index := Scalar.indexCast v1690
  ![128, v1691.toNat]
def k0_off368 (k0_t5 : Fin k0_t5_loop.trips) : Fin 2 → Nat :=
  let c192 : Index := 192#32
  let c0_i32_1526 : BitVec 32 := 0#32
  let c1_i32_1528 : BitVec 32 := 1#32
  let arg21 : BitVec 32 := Scf.iv c0_i32_1526 c1_i32_1528 k0_t5
  let c128_i32_1986 : BitVec 32 := 128#32
  let v1788 : BitVec 32 := Scalar.muli arg21 c128_i32_1986
  let v1789 : Index := Scalar.indexCast v1788
  ![192, v1789.toNat]
def k0_off369 (k0_t5 : Fin k0_t5_loop.trips) : Fin 2 → Nat :=
  let c0_2014 : Index := 0#32
  let c0_i32_1526 : BitVec 32 := 0#32
  let c1_i32_1528 : BitVec 32 := 1#32
  let arg21 : BitVec 32 := Scf.iv c0_i32_1526 c1_i32_1528 k0_t5
  let c128_i32_2013 : BitVec 32 := 128#32
  let v1847 : BitVec 32 := Scalar.muli arg21 c128_i32_2013
  let v1848 : Index := Scalar.indexCast v1847
  ![0, v1848.toNat]
def k0_dev11 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v1222 : BitVec 32 := Scalar.muli v7 c1_i32_1566
  let v1223 : BitVec 32 := Scalar.addi c0_i32_1567 v1222
  v1223.toNat
def k0_dev12 (d0 : Dev nD) : Nat :=
  let c0_i32_1592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1591 : BitVec 32 := 1#32
  let v1245 : BitVec 32 := Scalar.muli v7 c1_i32_1591
  let v1246 : BitVec 32 := Scalar.addi c0_i32_1592 v1245
  v1246.toNat
@[reducible] def k0_t6_loop : Scf.Loop 32 :=
  let c0_i32_1602 : BitVec 32 := 0#32
  let c8_i32_1603 : BitVec 32 := 8#32
  let v1261 : BitVec 32 := Scalar.addi c0_i32_1602 c8_i32_1603
  let c1_i32_1604 : BitVec 32 := 1#32
  ⟨c0_i32_1602, v1261, c1_i32_1604⟩
def k0_off370 (k0_t6 : Fin k0_t6_loop.trips) : Fin 2 → Nat :=
  let c0_1845 : Index := 0#32
  let c0_i32_1602 : BitVec 32 := 0#32
  let c1_i32_1604 : BitVec 32 := 1#32
  let arg21 : BitVec 32 := Scf.iv c0_i32_1602 c1_i32_1604 k0_t6
  let c128_i32_1844 : BitVec 32 := 128#32
  let v1494 : BitVec 32 := Scalar.muli arg21 c128_i32_1844
  let v1495 : Index := Scalar.indexCast v1494
  ![0, v1495.toNat]
def k0_off371 (d0 : Dev nD) (k0_t6 : Fin k0_t6_loop.trips) (c0_i32_1825 : BitVec 32) : Fin 4 → Nat :=
  let c0_i32_1602 : BitVec 32 := 0#32
  let c1_i32_1604 : BitVec 32 := 1#32
  let arg21 : BitVec 32 := Scf.iv c0_i32_1602 c1_i32_1604 k0_t6
  let v1497 : Index := Scalar.indexCast arg21
  let c3_i32_1835 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v1242 : BitVec 32 := Scalar.subi v2 c5_i32
  let c8_i32_1587 : BitVec 32 := 8#32
  let v1243 : BitVec 32 := Scalar.addi v1242 c8_i32_1587
  let c8_i32_1588 : BitVec 32 := 8#32
  let v1244 : BitVec 32 := Scalar.remsi v1243 c8_i32_1588
  let c4_i32_1824 : BitVec 32 := 4#32
  let v1453 : BitVec 32 := Scalar.muli v1244 c4_i32_1824
  let v1454 : BitVec 32 := Scalar.addi v1453 c0_i32_1825
  let c2_i32_1827 : BitVec 32 := 2#32
  let v1456 : BitVec 32 := Scalar.addi v1454 c2_i32_1827
  let c0_i32_1829 : BitVec 32 := 0#32
  let v1458 : BitVec 1 := Scalar.cmpi .sgt v1456 c0_i32_1829
  let v1459 : BitVec 32 := Scalar.extui v1458
  let c0_i32_1830 : BitVec 32 := 0#32
  let v1460 : BitVec 1 := Scalar.cmpi .slt v1456 c0_i32_1830
  let v1461 : BitVec 32 := Scalar.extui v1460
  let v1462 : BitVec 32 := Scalar.subi v1459 v1461
  let c3_i32_1828 : BitVec 32 := 3#32
  let c0_i32_1831 : BitVec 32 := 0#32
  let v1463 : BitVec 1 := Scalar.cmpi .sgt c3_i32_1828 c0_i32_1831
  let v1464 : BitVec 32 := Scalar.extui v1463
  let c0_i32_1832 : BitVec 32 := 0#32
  let v1465 : BitVec 1 := Scalar.cmpi .slt c3_i32_1828 c0_i32_1832
  let v1466 : BitVec 32 := Scalar.extui v1465
  let v1467 : BitVec 32 := Scalar.subi v1464 v1466
  let v1468 : BitVec 1 := Scalar.cmpi .ne v1462 v1467
  let v1469 : BitVec 32 := Scalar.remsi v1456 c3_i32_1828
  let c0_i32_1833 : BitVec 32 := 0#32
  let v1470 : BitVec 1 := Scalar.cmpi .ne v1469 c0_i32_1833
  let v1471 : BitVec 1 := Scalar.andi v1468 v1470
  let v1457 : BitVec 32 := Scalar.divsi v1456 c3_i32_1828
  let c1_i32_1834 : BitVec 32 := 1#32
  let v1472 : BitVec 32 := Scalar.subi v1457 c1_i32_1834
  let v1473 : BitVec 32 := Scalar.select v1471 v1472 v1457
  let v1474 : BitVec 32 := Scalar.muli c3_i32_1835 v1473
  let v1475 : BitVec 32 := Scalar.subi v1474 v1454
  let v1498 : Index := Scalar.indexCast v1475
  let c0_1846 : Index := 0#32
  let c0_1847 : Index := 0#32
  ![v1497.toNat, v1498.toNat, 0, 0]
def k0_off372 (k0_t6 : Fin k0_t6_loop.trips) : Fin 4 → Nat :=
  let c0_i32_1602 : BitVec 32 := 0#32
  let c1_i32_1604 : BitVec 32 := 1#32
  let arg21 : BitVec 32 := Scf.iv c0_i32_1602 c1_i32_1604 k0_t6
  let v1505 : Index := Scalar.indexCast arg21
  let c0_1850 : Index := 0#32
  let c0_1851 : Index := 0#32
  let c0_1852 : Index := 0#32
  ![v1505.toNat, 0, 0, 0]
def k0_off373 (d0 : Dev nD) (k0_t6 : Fin k0_t6_loop.trips) (c0_i32_1825 : BitVec 32) : Fin 4 → Nat :=
  let c0_i32_1602 : BitVec 32 := 0#32
  let c1_i32_1604 : BitVec 32 := 1#32
  let arg21 : BitVec 32 := Scf.iv c0_i32_1602 c1_i32_1604 k0_t6
  let v1508 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v1242 : BitVec 32 := Scalar.subi v2 c5_i32
  let c8_i32_1587 : BitVec 32 := 8#32
  let v1243 : BitVec 32 := Scalar.addi v1242 c8_i32_1587
  let c8_i32_1588 : BitVec 32 := 8#32
  let v1244 : BitVec 32 := Scalar.remsi v1243 c8_i32_1588
  let c4_i32_1824 : BitVec 32 := 4#32
  let v1453 : BitVec 32 := Scalar.muli v1244 c4_i32_1824
  let v1454 : BitVec 32 := Scalar.addi v1453 c0_i32_1825
  let c3_i32_1826 : BitVec 32 := 3#32
  let v1455 : BitVec 32 := Scalar.remsi v1454 c3_i32_1826
  let v1509 : Index := Scalar.indexCast v1455
  let c0_i32_1837 : BitVec 32 := 0#32
  let v1477 : BitVec 1 := Scalar.cmpi .sgt v1454 c0_i32_1837
  let v1478 : BitVec 32 := Scalar.extui v1477
  let c0_i32_1838 : BitVec 32 := 0#32
  let v1479 : BitVec 1 := Scalar.cmpi .slt v1454 c0_i32_1838
  let v1480 : BitVec 32 := Scalar.extui v1479
  let v1481 : BitVec 32 := Scalar.subi v1478 v1480
  let c3_i32_1836 : BitVec 32 := 3#32
  let c0_i32_1839 : BitVec 32 := 0#32
  let v1482 : BitVec 1 := Scalar.cmpi .sgt c3_i32_1836 c0_i32_1839
  let v1483 : BitVec 32 := Scalar.extui v1482
  let c0_i32_1840 : BitVec 32 := 0#32
  let v1484 : BitVec 1 := Scalar.cmpi .slt c3_i32_1836 c0_i32_1840
  let v1485 : BitVec 32 := Scalar.extui v1484
  let v1486 : BitVec 32 := Scalar.subi v1483 v1485
  let v1487 : BitVec 1 := Scalar.cmpi .ne v1481 v1486
  let v1488 : BitVec 32 := Scalar.remsi v1454 c3_i32_1836
  let c0_i32_1841 : BitVec 32 := 0#32
  let v1489 : BitVec 1 := Scalar.cmpi .ne v1488 c0_i32_1841
  let v1490 : BitVec 1 := Scalar.andi v1487 v1489
  let v1476 : BitVec 32 := Scalar.divsi v1454 c3_i32_1836
  let c1_i32_1842 : BitVec 32 := 1#32
  let v1491 : BitVec 32 := Scalar.subi v1476 c1_i32_1842
  let v1492 : BitVec 32 := Scalar.select v1490 v1491 v1476
  let c64_i32_1843 : BitVec 32 := 64#32
  let v1493 : BitVec 32 := Scalar.muli v1492 c64_i32_1843
  let v1510 : Index := Scalar.indexCast v1493
  let c0_1853 : Index := 0#32
  ![v1508.toNat, v1509.toNat, v1510.toNat, 0]
def k0_off374 (k0_t6 : Fin k0_t6_loop.trips) : Fin 2 → Nat :=
  let c64 : Index := 64#32
  let c0_i32_1602 : BitVec 32 := 0#32
  let c1_i32_1604 : BitVec 32 := 1#32
  let arg21 : BitVec 32 := Scf.iv c0_i32_1602 c1_i32_1604 k0_t6
  let c128_i32_1892 : BitVec 32 := 128#32
  let v1592 : BitVec 32 := Scalar.muli arg21 c128_i32_1892
  let v1593 : Index := Scalar.indexCast v1592
  ![64, v1593.toNat]
def k0_off375 (k0_t6 : Fin k0_t6_loop.trips) : Fin 2 → Nat :=
  let c128 : Index := 128#32
  let c0_i32_1602 : BitVec 32 := 0#32
  let c1_i32_1604 : BitVec 32 := 1#32
  let arg21 : BitVec 32 := Scf.iv c0_i32_1602 c1_i32_1604 k0_t6
  let c128_i32_1939 : BitVec 32 := 128#32
  let v1690 : BitVec 32 := Scalar.muli arg21 c128_i32_1939
  let v1691 : Index := Scalar.indexCast v1690
  ![128, v1691.toNat]
def k0_off376 (k0_t6 : Fin k0_t6_loop.trips) : Fin 2 → Nat :=
  let c192 : Index := 192#32
  let c0_i32_1602 : BitVec 32 := 0#32
  let c1_i32_1604 : BitVec 32 := 1#32
  let arg21 : BitVec 32 := Scf.iv c0_i32_1602 c1_i32_1604 k0_t6
  let c128_i32_1986 : BitVec 32 := 128#32
  let v1788 : BitVec 32 := Scalar.muli arg21 c128_i32_1986
  let v1789 : Index := Scalar.indexCast v1788
  ![192, v1789.toNat]
def k0_off377 (k0_t6 : Fin k0_t6_loop.trips) : Fin 2 → Nat :=
  let c0_2014 : Index := 0#32
  let c0_i32_1602 : BitVec 32 := 0#32
  let c1_i32_1604 : BitVec 32 := 1#32
  let arg21 : BitVec 32 := Scf.iv c0_i32_1602 c1_i32_1604 k0_t6
  let c128_i32_2013 : BitVec 32 := 128#32
  let v1847 : BitVec 32 := Scalar.muli arg21 c128_i32_2013
  let v1848 : Index := Scalar.indexCast v1847
  ![0, v1848.toNat]
def k0_dev13 (d0 : Dev nD) : Nat :=
  let c0_i32_1642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1641 : BitVec 32 := 1#32
  let v1290 : BitVec 32 := Scalar.muli v7 c1_i32_1641
  let v1291 : BitVec 32 := Scalar.addi c0_i32_1642 v1290
  v1291.toNat
def k0_dev14 (d0 : Dev nD) : Nat :=
  let c0_i32_1667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1666 : BitVec 32 := 1#32
  let v1313 : BitVec 32 := Scalar.muli v7 c1_i32_1666
  let v1314 : BitVec 32 := Scalar.addi c0_i32_1667 v1313
  v1314.toNat
@[reducible] def k0_t7_loop : Scf.Loop 32 :=
  let c0_i32_1677 : BitVec 32 := 0#32
  let c8_i32_1678 : BitVec 32 := 8#32
  let v1329 : BitVec 32 := Scalar.addi c0_i32_1677 c8_i32_1678
  let c1_i32_1679 : BitVec 32 := 1#32
  ⟨c0_i32_1677, v1329, c1_i32_1679⟩
def k0_off378 (k0_t7 : Fin k0_t7_loop.trips) : Fin 2 → Nat :=
  let c0_1845 : Index := 0#32
  let c0_i32_1677 : BitVec 32 := 0#32
  let c1_i32_1679 : BitVec 32 := 1#32
  let arg21 : BitVec 32 := Scf.iv c0_i32_1677 c1_i32_1679 k0_t7
  let c128_i32_1844 : BitVec 32 := 128#32
  let v1494 : BitVec 32 := Scalar.muli arg21 c128_i32_1844
  let v1495 : Index := Scalar.indexCast v1494
  ![0, v1495.toNat]
def k0_off379 (d0 : Dev nD) (k0_t7 : Fin k0_t7_loop.trips) (c0_i32_1825 : BitVec 32) : Fin 4 → Nat :=
  let c0_i32_1677 : BitVec 32 := 0#32
  let c1_i32_1679 : BitVec 32 := 1#32
  let arg21 : BitVec 32 := Scf.iv c0_i32_1677 c1_i32_1679 k0_t7
  let v1497 : Index := Scalar.indexCast arg21
  let c3_i32_1835 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v1310 : BitVec 32 := Scalar.subi v2 c6_i32
  let c8_i32_1662 : BitVec 32 := 8#32
  let v1311 : BitVec 32 := Scalar.addi v1310 c8_i32_1662
  let c8_i32_1663 : BitVec 32 := 8#32
  let v1312 : BitVec 32 := Scalar.remsi v1311 c8_i32_1663
  let c4_i32_1824 : BitVec 32 := 4#32
  let v1453 : BitVec 32 := Scalar.muli v1312 c4_i32_1824
  let v1454 : BitVec 32 := Scalar.addi v1453 c0_i32_1825
  let c2_i32_1827 : BitVec 32 := 2#32
  let v1456 : BitVec 32 := Scalar.addi v1454 c2_i32_1827
  let c0_i32_1829 : BitVec 32 := 0#32
  let v1458 : BitVec 1 := Scalar.cmpi .sgt v1456 c0_i32_1829
  let v1459 : BitVec 32 := Scalar.extui v1458
  let c0_i32_1830 : BitVec 32 := 0#32
  let v1460 : BitVec 1 := Scalar.cmpi .slt v1456 c0_i32_1830
  let v1461 : BitVec 32 := Scalar.extui v1460
  let v1462 : BitVec 32 := Scalar.subi v1459 v1461
  let c3_i32_1828 : BitVec 32 := 3#32
  let c0_i32_1831 : BitVec 32 := 0#32
  let v1463 : BitVec 1 := Scalar.cmpi .sgt c3_i32_1828 c0_i32_1831
  let v1464 : BitVec 32 := Scalar.extui v1463
  let c0_i32_1832 : BitVec 32 := 0#32
  let v1465 : BitVec 1 := Scalar.cmpi .slt c3_i32_1828 c0_i32_1832
  let v1466 : BitVec 32 := Scalar.extui v1465
  let v1467 : BitVec 32 := Scalar.subi v1464 v1466
  let v1468 : BitVec 1 := Scalar.cmpi .ne v1462 v1467
  let v1469 : BitVec 32 := Scalar.remsi v1456 c3_i32_1828
  let c0_i32_1833 : BitVec 32 := 0#32
  let v1470 : BitVec 1 := Scalar.cmpi .ne v1469 c0_i32_1833
  let v1471 : BitVec 1 := Scalar.andi v1468 v1470
  let v1457 : BitVec 32 := Scalar.divsi v1456 c3_i32_1828
  let c1_i32_1834 : BitVec 32 := 1#32
  let v1472 : BitVec 32 := Scalar.subi v1457 c1_i32_1834
  let v1473 : BitVec 32 := Scalar.select v1471 v1472 v1457
  let v1474 : BitVec 32 := Scalar.muli c3_i32_1835 v1473
  let v1475 : BitVec 32 := Scalar.subi v1474 v1454
  let v1498 : Index := Scalar.indexCast v1475
  let c0_1846 : Index := 0#32
  let c0_1847 : Index := 0#32
  ![v1497.toNat, v1498.toNat, 0, 0]
def k0_off380 (k0_t7 : Fin k0_t7_loop.trips) : Fin 4 → Nat :=
  let c0_i32_1677 : BitVec 32 := 0#32
  let c1_i32_1679 : BitVec 32 := 1#32
  let arg21 : BitVec 32 := Scf.iv c0_i32_1677 c1_i32_1679 k0_t7
  let v1505 : Index := Scalar.indexCast arg21
  let c0_1850 : Index := 0#32
  let c0_1851 : Index := 0#32
  let c0_1852 : Index := 0#32
  ![v1505.toNat, 0, 0, 0]
def k0_off381 (d0 : Dev nD) (k0_t7 : Fin k0_t7_loop.trips) (c0_i32_1825 : BitVec 32) : Fin 4 → Nat :=
  let c0_i32_1677 : BitVec 32 := 0#32
  let c1_i32_1679 : BitVec 32 := 1#32
  let arg21 : BitVec 32 := Scf.iv c0_i32_1677 c1_i32_1679 k0_t7
  let v1508 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v1310 : BitVec 32 := Scalar.subi v2 c6_i32
  let c8_i32_1662 : BitVec 32 := 8#32
  let v1311 : BitVec 32 := Scalar.addi v1310 c8_i32_1662
  let c8_i32_1663 : BitVec 32 := 8#32
  let v1312 : BitVec 32 := Scalar.remsi v1311 c8_i32_1663
  let c4_i32_1824 : BitVec 32 := 4#32
  let v1453 : BitVec 32 := Scalar.muli v1312 c4_i32_1824
  let v1454 : BitVec 32 := Scalar.addi v1453 c0_i32_1825
  let c3_i32_1826 : BitVec 32 := 3#32
  let v1455 : BitVec 32 := Scalar.remsi v1454 c3_i32_1826
  let v1509 : Index := Scalar.indexCast v1455
  let c0_i32_1837 : BitVec 32 := 0#32
  let v1477 : BitVec 1 := Scalar.cmpi .sgt v1454 c0_i32_1837
  let v1478 : BitVec 32 := Scalar.extui v1477
  let c0_i32_1838 : BitVec 32 := 0#32
  let v1479 : BitVec 1 := Scalar.cmpi .slt v1454 c0_i32_1838
  let v1480 : BitVec 32 := Scalar.extui v1479
  let v1481 : BitVec 32 := Scalar.subi v1478 v1480
  let c3_i32_1836 : BitVec 32 := 3#32
  let c0_i32_1839 : BitVec 32 := 0#32
  let v1482 : BitVec 1 := Scalar.cmpi .sgt c3_i32_1836 c0_i32_1839
  let v1483 : BitVec 32 := Scalar.extui v1482
  let c0_i32_1840 : BitVec 32 := 0#32
  let v1484 : BitVec 1 := Scalar.cmpi .slt c3_i32_1836 c0_i32_1840
  let v1485 : BitVec 32 := Scalar.extui v1484
  let v1486 : BitVec 32 := Scalar.subi v1483 v1485
  let v1487 : BitVec 1 := Scalar.cmpi .ne v1481 v1486
  let v1488 : BitVec 32 := Scalar.remsi v1454 c3_i32_1836
  let c0_i32_1841 : BitVec 32 := 0#32
  let v1489 : BitVec 1 := Scalar.cmpi .ne v1488 c0_i32_1841
  let v1490 : BitVec 1 := Scalar.andi v1487 v1489
  let v1476 : BitVec 32 := Scalar.divsi v1454 c3_i32_1836
  let c1_i32_1842 : BitVec 32 := 1#32
  let v1491 : BitVec 32 := Scalar.subi v1476 c1_i32_1842
  let v1492 : BitVec 32 := Scalar.select v1490 v1491 v1476
  let c64_i32_1843 : BitVec 32 := 64#32
  let v1493 : BitVec 32 := Scalar.muli v1492 c64_i32_1843
  let v1510 : Index := Scalar.indexCast v1493
  let c0_1853 : Index := 0#32
  ![v1508.toNat, v1509.toNat, v1510.toNat, 0]
def k0_off382 (k0_t7 : Fin k0_t7_loop.trips) : Fin 2 → Nat :=
  let c64 : Index := 64#32
  let c0_i32_1677 : BitVec 32 := 0#32
  let c1_i32_1679 : BitVec 32 := 1#32
  let arg21 : BitVec 32 := Scf.iv c0_i32_1677 c1_i32_1679 k0_t7
  let c128_i32_1892 : BitVec 32 := 128#32
  let v1592 : BitVec 32 := Scalar.muli arg21 c128_i32_1892
  let v1593 : Index := Scalar.indexCast v1592
  ![64, v1593.toNat]
def k0_off383 (k0_t7 : Fin k0_t7_loop.trips) : Fin 2 → Nat :=
  let c128 : Index := 128#32
  let c0_i32_1677 : BitVec 32 := 0#32
  let c1_i32_1679 : BitVec 32 := 1#32
  let arg21 : BitVec 32 := Scf.iv c0_i32_1677 c1_i32_1679 k0_t7
  let c128_i32_1939 : BitVec 32 := 128#32
  let v1690 : BitVec 32 := Scalar.muli arg21 c128_i32_1939
  let v1691 : Index := Scalar.indexCast v1690
  ![128, v1691.toNat]
def k0_off384 (k0_t7 : Fin k0_t7_loop.trips) : Fin 2 → Nat :=
  let c192 : Index := 192#32
  let c0_i32_1677 : BitVec 32 := 0#32
  let c1_i32_1679 : BitVec 32 := 1#32
  let arg21 : BitVec 32 := Scf.iv c0_i32_1677 c1_i32_1679 k0_t7
  let c128_i32_1986 : BitVec 32 := 128#32
  let v1788 : BitVec 32 := Scalar.muli arg21 c128_i32_1986
  let v1789 : Index := Scalar.indexCast v1788
  ![192, v1789.toNat]
def k0_off385 (k0_t7 : Fin k0_t7_loop.trips) : Fin 2 → Nat :=
  let c0_2014 : Index := 0#32
  let c0_i32_1677 : BitVec 32 := 0#32
  let c1_i32_1679 : BitVec 32 := 1#32
  let arg21 : BitVec 32 := Scf.iv c0_i32_1677 c1_i32_1679 k0_t7
  let c128_i32_2013 : BitVec 32 := 128#32
  let v1847 : BitVec 32 := Scalar.muli arg21 c128_i32_2013
  let v1848 : Index := Scalar.indexCast v1847
  ![0, v1848.toNat]
def k0_dev15 (d0 : Dev nD) : Nat :=
  let c0_i32_1717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1716 : BitVec 32 := 1#32
  let v1358 : BitVec 32 := Scalar.muli v7 c1_i32_1716
  let v1359 : BitVec 32 := Scalar.addi c0_i32_1717 v1358
  v1359.toNat
@[reducible] def k0_t8_loop : Scf.Loop 32 :=
  let c0_i32_1744 : BitVec 32 := 0#32
  let c8_i32_1745 : BitVec 32 := 8#32
  let v1389 : BitVec 32 := Scalar.addi c0_i32_1744 c8_i32_1745
  let c1_i32_1746 : BitVec 32 := 1#32
  ⟨c0_i32_1744, v1389, c1_i32_1746⟩
def k0_off386 (k0_t8 : Fin k0_t8_loop.trips) : Fin 2 → Nat :=
  let c0_1845 : Index := 0#32
  let c0_i32_1744 : BitVec 32 := 0#32
  let c1_i32_1746 : BitVec 32 := 1#32
  let arg21 : BitVec 32 := Scf.iv c0_i32_1744 c1_i32_1746 k0_t8
  let c128_i32_1844 : BitVec 32 := 128#32
  let v1494 : BitVec 32 := Scalar.muli arg21 c128_i32_1844
  let v1495 : Index := Scalar.indexCast v1494
  ![0, v1495.toNat]
def k0_off387 (d0 : Dev nD) (k0_t8 : Fin k0_t8_loop.trips) (c0_i32_1825 : BitVec 32) : Fin 4 → Nat :=
  let c0_i32_1744 : BitVec 32 := 0#32
  let c1_i32_1746 : BitVec 32 := 1#32
  let arg21 : BitVec 32 := Scf.iv c0_i32_1744 c1_i32_1746 k0_t8
  let v1497 : Index := Scalar.indexCast arg21
  let c3_i32_1835 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v1378 : BitVec 32 := Scalar.subi v2 c7_i32
  let c8_i32_1737 : BitVec 32 := 8#32
  let v1379 : BitVec 32 := Scalar.addi v1378 c8_i32_1737
  let c8_i32_1738 : BitVec 32 := 8#32
  let v1380 : BitVec 32 := Scalar.remsi v1379 c8_i32_1738
  let c4_i32_1824 : BitVec 32 := 4#32
  let v1453 : BitVec 32 := Scalar.muli v1380 c4_i32_1824
  let v1454 : BitVec 32 := Scalar.addi v1453 c0_i32_1825
  let c2_i32_1827 : BitVec 32 := 2#32
  let v1456 : BitVec 32 := Scalar.addi v1454 c2_i32_1827
  let c0_i32_1829 : BitVec 32 := 0#32
  let v1458 : BitVec 1 := Scalar.cmpi .sgt v1456 c0_i32_1829
  let v1459 : BitVec 32 := Scalar.extui v1458
  let c0_i32_1830 : BitVec 32 := 0#32
  let v1460 : BitVec 1 := Scalar.cmpi .slt v1456 c0_i32_1830
  let v1461 : BitVec 32 := Scalar.extui v1460
  let v1462 : BitVec 32 := Scalar.subi v1459 v1461
  let c3_i32_1828 : BitVec 32 := 3#32
  let c0_i32_1831 : BitVec 32 := 0#32
  let v1463 : BitVec 1 := Scalar.cmpi .sgt c3_i32_1828 c0_i32_1831
  let v1464 : BitVec 32 := Scalar.extui v1463
  let c0_i32_1832 : BitVec 32 := 0#32
  let v1465 : BitVec 1 := Scalar.cmpi .slt c3_i32_1828 c0_i32_1832
  let v1466 : BitVec 32 := Scalar.extui v1465
  let v1467 : BitVec 32 := Scalar.subi v1464 v1466
  let v1468 : BitVec 1 := Scalar.cmpi .ne v1462 v1467
  let v1469 : BitVec 32 := Scalar.remsi v1456 c3_i32_1828
  let c0_i32_1833 : BitVec 32 := 0#32
  let v1470 : BitVec 1 := Scalar.cmpi .ne v1469 c0_i32_1833
  let v1471 : BitVec 1 := Scalar.andi v1468 v1470
  let v1457 : BitVec 32 := Scalar.divsi v1456 c3_i32_1828
  let c1_i32_1834 : BitVec 32 := 1#32
  let v1472 : BitVec 32 := Scalar.subi v1457 c1_i32_1834
  let v1473 : BitVec 32 := Scalar.select v1471 v1472 v1457
  let v1474 : BitVec 32 := Scalar.muli c3_i32_1835 v1473
  let v1475 : BitVec 32 := Scalar.subi v1474 v1454
  let v1498 : Index := Scalar.indexCast v1475
  let c0_1846 : Index := 0#32
  let c0_1847 : Index := 0#32
  ![v1497.toNat, v1498.toNat, 0, 0]
def k0_off388 (k0_t8 : Fin k0_t8_loop.trips) : Fin 4 → Nat :=
  let c0_i32_1744 : BitVec 32 := 0#32
  let c1_i32_1746 : BitVec 32 := 1#32
  let arg21 : BitVec 32 := Scf.iv c0_i32_1744 c1_i32_1746 k0_t8
  let v1505 : Index := Scalar.indexCast arg21
  let c0_1850 : Index := 0#32
  let c0_1851 : Index := 0#32
  let c0_1852 : Index := 0#32
  ![v1505.toNat, 0, 0, 0]
def k0_off389 (d0 : Dev nD) (k0_t8 : Fin k0_t8_loop.trips) (c0_i32_1825 : BitVec 32) : Fin 4 → Nat :=
  let c0_i32_1744 : BitVec 32 := 0#32
  let c1_i32_1746 : BitVec 32 := 1#32
  let arg21 : BitVec 32 := Scf.iv c0_i32_1744 c1_i32_1746 k0_t8
  let v1508 : Index := Scalar.indexCast arg21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v1378 : BitVec 32 := Scalar.subi v2 c7_i32
  let c8_i32_1737 : BitVec 32 := 8#32
  let v1379 : BitVec 32 := Scalar.addi v1378 c8_i32_1737
  let c8_i32_1738 : BitVec 32 := 8#32
  let v1380 : BitVec 32 := Scalar.remsi v1379 c8_i32_1738
  let c4_i32_1824 : BitVec 32 := 4#32
  let v1453 : BitVec 32 := Scalar.muli v1380 c4_i32_1824
  let v1454 : BitVec 32 := Scalar.addi v1453 c0_i32_1825
  let c3_i32_1826 : BitVec 32 := 3#32
  let v1455 : BitVec 32 := Scalar.remsi v1454 c3_i32_1826
  let v1509 : Index := Scalar.indexCast v1455
  let c0_i32_1837 : BitVec 32 := 0#32
  let v1477 : BitVec 1 := Scalar.cmpi .sgt v1454 c0_i32_1837
  let v1478 : BitVec 32 := Scalar.extui v1477
  let c0_i32_1838 : BitVec 32 := 0#32
  let v1479 : BitVec 1 := Scalar.cmpi .slt v1454 c0_i32_1838
  let v1480 : BitVec 32 := Scalar.extui v1479
  let v1481 : BitVec 32 := Scalar.subi v1478 v1480
  let c3_i32_1836 : BitVec 32 := 3#32
  let c0_i32_1839 : BitVec 32 := 0#32
  let v1482 : BitVec 1 := Scalar.cmpi .sgt c3_i32_1836 c0_i32_1839
  let v1483 : BitVec 32 := Scalar.extui v1482
  let c0_i32_1840 : BitVec 32 := 0#32
  let v1484 : BitVec 1 := Scalar.cmpi .slt c3_i32_1836 c0_i32_1840
  let v1485 : BitVec 32 := Scalar.extui v1484
  let v1486 : BitVec 32 := Scalar.subi v1483 v1485
  let v1487 : BitVec 1 := Scalar.cmpi .ne v1481 v1486
  let v1488 : BitVec 32 := Scalar.remsi v1454 c3_i32_1836
  let c0_i32_1841 : BitVec 32 := 0#32
  let v1489 : BitVec 1 := Scalar.cmpi .ne v1488 c0_i32_1841
  let v1490 : BitVec 1 := Scalar.andi v1487 v1489
  let v1476 : BitVec 32 := Scalar.divsi v1454 c3_i32_1836
  let c1_i32_1842 : BitVec 32 := 1#32
  let v1491 : BitVec 32 := Scalar.subi v1476 c1_i32_1842
  let v1492 : BitVec 32 := Scalar.select v1490 v1491 v1476
  let c64_i32_1843 : BitVec 32 := 64#32
  let v1493 : BitVec 32 := Scalar.muli v1492 c64_i32_1843
  let v1510 : Index := Scalar.indexCast v1493
  let c0_1853 : Index := 0#32
  ![v1508.toNat, v1509.toNat, v1510.toNat, 0]
def k0_off390 (k0_t8 : Fin k0_t8_loop.trips) : Fin 2 → Nat :=
  let c64 : Index := 64#32
  let c0_i32_1744 : BitVec 32 := 0#32
  let c1_i32_1746 : BitVec 32 := 1#32
  let arg21 : BitVec 32 := Scf.iv c0_i32_1744 c1_i32_1746 k0_t8
  let c128_i32_1892 : BitVec 32 := 128#32
  let v1592 : BitVec 32 := Scalar.muli arg21 c128_i32_1892
  let v1593 : Index := Scalar.indexCast v1592
  ![64, v1593.toNat]
def k0_off391 (k0_t8 : Fin k0_t8_loop.trips) : Fin 2 → Nat :=
  let c128 : Index := 128#32
  let c0_i32_1744 : BitVec 32 := 0#32
  let c1_i32_1746 : BitVec 32 := 1#32
  let arg21 : BitVec 32 := Scf.iv c0_i32_1744 c1_i32_1746 k0_t8
  let c128_i32_1939 : BitVec 32 := 128#32
  let v1690 : BitVec 32 := Scalar.muli arg21 c128_i32_1939
  let v1691 : Index := Scalar.indexCast v1690
  ![128, v1691.toNat]
def k0_off392 (k0_t8 : Fin k0_t8_loop.trips) : Fin 2 → Nat :=
  let c192 : Index := 192#32
  let c0_i32_1744 : BitVec 32 := 0#32
  let c1_i32_1746 : BitVec 32 := 1#32
  let arg21 : BitVec 32 := Scf.iv c0_i32_1744 c1_i32_1746 k0_t8
  let c128_i32_1986 : BitVec 32 := 128#32
  let v1788 : BitVec 32 := Scalar.muli arg21 c128_i32_1986
  let v1789 : Index := Scalar.indexCast v1788
  ![192, v1789.toNat]
def k0_off393 (k0_t8 : Fin k0_t8_loop.trips) : Fin 2 → Nat :=
  let c0_2014 : Index := 0#32
  let c0_i32_1744 : BitVec 32 := 0#32
  let c1_i32_1746 : BitVec 32 := 1#32
  let arg21 : BitVec 32 := Scf.iv c0_i32_1744 c1_i32_1746 k0_t8
  let c128_i32_2013 : BitVec 32 := 128#32
  let v1847 : BitVec 32 := Scalar.muli arg21 c128_i32_2013
  let v1848 : Index := Scalar.indexCast v1847
  ![0, v1848.toNat]
def k0_dev16 (d0 : Dev nD) : Nat :=
  let c0_i32_1784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1783 : BitVec 32 := 1#32
  let v1418 : BitVec 32 := Scalar.muli v7 c1_i32_1783
  let v1419 : BitVec 32 := Scalar.addi c0_i32_1784 v1418
  v1419.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x2048x8192 : Shape := ⟨3, ![1, 2048, 8192]⟩
abbrev S1x2048x64x128 : Shape := ⟨4, ![1, 2048, 64, 128]⟩
abbrev S2048 : Shape := ⟨1, ![2048]⟩
abbrev S_ : Shape := ⟨0, ![]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩
abbrev S1x64x2048x4096 : Shape := ⟨4, ![1, 64, 2048, 4096]⟩
abbrev S1x1x2048x4096 : Shape := ⟨4, ![1, 1, 2048, 4096]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S2048x4096, .i32⟩
  | .hbm, ⟨48, _⟩ => ⟨S2048x4096, .i32⟩
  | .hbm, ⟨49, _⟩ => ⟨S2048x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S2048x4096, .i1⟩
  | .hbm, ⟨54, _⟩ => ⟨S2048x4096, .i1⟩
  | .hbm, ⟨55, _⟩ => ⟨S2048x4096, .i32⟩
  | .hbm, ⟨56, _⟩ => ⟨S2048x4096, .i32⟩
  | .hbm, ⟨57, _⟩ => ⟨S2048x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x4096, .i32⟩
  | .hbm, ⟨65, _⟩ => ⟨S2048x4096, .i32⟩
  | .hbm, ⟨66, _⟩ => ⟨S_, .i32⟩
  | .hbm, ⟨67, _⟩ => ⟨S2048x4096, .i32⟩
  | .hbm, ⟨68, _⟩ => ⟨S2048x4096, .i1⟩
  | .hbm, ⟨69, _⟩ => ⟨S_, .i32⟩
  | .hbm, ⟨70, _⟩ => ⟨S2048x4096, .i32⟩
  | .hbm, ⟨71, _⟩ => ⟨S2048x4096, .i1⟩
  | .hbm, ⟨72, _⟩ => ⟨S_, .i32⟩
  | .hbm, ⟨73, _⟩ => ⟨S_, .i1⟩
  | .hbm, ⟨74, _⟩ => ⟨S2048x4096, .i1⟩
  | .hbm, ⟨75, _⟩ => ⟨S2048x4096, .i1⟩
  | .hbm, ⟨76, _⟩ => ⟨S2048x4096, .i1⟩
  | .hbm, ⟨77, _⟩ => ⟨S2048x4096, .i32⟩
  | .hbm, ⟨78, _⟩ => ⟨S2048x4096, .i32⟩
  | .hbm, ⟨79, _⟩ => ⟨S2048x4096, .i32⟩
  | .hbm, ⟨80, _⟩ => ⟨S_, .i32⟩
  | .hbm, ⟨81, _⟩ => ⟨S2048x4096, .i32⟩
  | .hbm, ⟨82, _⟩ => ⟨S2048x4096, .i1⟩
  | .hbm, ⟨83, _⟩ => ⟨S2048x4096, .i1⟩
  | .hbm, ⟨84, _⟩ => ⟨S1x64x2048x4096, .f32⟩
  | .hbm, ⟨85, _⟩ => ⟨S_, .f32⟩
  | .hbm, ⟨86, _⟩ => ⟨S1x64x2048x4096, .f32⟩
  | .hbm, ⟨87, _⟩ => ⟨S1x64x2048x4096, .f32⟩
  | .hbm, ⟨88, _⟩ => ⟨S1x1x2048x4096, .i1⟩
  | .hbm, ⟨89, _⟩ => ⟨S_, .f32⟩
  | .hbm, ⟨90, _⟩ => ⟨S_, .f32⟩
  | .hbm, ⟨91, _⟩ => ⟨S1x64x2048x4096, .i1⟩
  | .hbm, ⟨92, _⟩ => ⟨S1x64x2048x4096, .f32⟩
  | .hbm, ⟨93, _⟩ => ⟨S1x64x2048x4096, .f32⟩
  | .hbm, ⟨94, _⟩ => ⟨S_, .f32⟩
  | .hbm, ⟨95, _⟩ => ⟨S1x64x2048, .f32⟩
  | .hbm, ⟨96, _⟩ => ⟨S1x64x2048x1, .f32⟩
  | .hbm, ⟨97, _⟩ => ⟨S1x64x2048x4096, .f32⟩
  | .hbm, ⟨98, _⟩ => ⟨S1x64x2048x4096, .f32⟩
  | .hbm, ⟨99, _⟩ => ⟨S1x64x2048x4096, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S1x64x2048, .f32⟩
  | .hbm, ⟨105, _⟩ => ⟨S1x64x2048x1, .f32⟩
  | .hbm, ⟨106, _⟩ => ⟨S_, .f32⟩
  | .hbm, ⟨107, _⟩ => ⟨S_, .f32⟩
  | .hbm, ⟨108, _⟩ => ⟨S1x64x2048x1, .i1⟩
  | .hbm, ⟨109, _⟩ => ⟨S1x64x2048x1, .f32⟩
  | .hbm, ⟨110, _⟩ => ⟨S1x64x2048x1, .f32⟩
  | .hbm, ⟨111, _⟩ => ⟨S1x64x2048x4096, .f32⟩
  | .hbm, ⟨112, _⟩ => ⟨S1x64x2048x4096, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S1x64x2048x4096, .i1⟩
  | .hbm, ⟨117, _⟩ => ⟨S1x64x2048x4096, .f32⟩
  | .hbm, ⟨118, _⟩ => ⟨S1x64x2048x4096, .f32⟩
  | .hbm, ⟨119, _⟩ => ⟨S1x64x128x2048, .f32⟩
  | .hbm, ⟨120, _⟩ => ⟨S1x2048x64x128, .f32⟩
  | .hbm, ⟨121, _⟩ => ⟨S1x2048x8192, .f32⟩
  | .hbm, ⟨122, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KV.lean ====
/-
# The copies of one head's keys and values into a slot

Each head's keys (and values) come from the whole array `[1, 4096, 64, 128]` by 64 local copies of one 64-row block each, all on one
DMA semaphore, into a slot `[3, 1408, 128]` that groups the blocks by their number modulo three. The 64 copies are one batch:
they are started in order, then waited for one by one, and the last wait hands every block back.
-/
module

public import proofs.«01_k».proof.Proof.Gen.KernelIdeal
public import Idealize.ShloMosaic.Lib.Pipeline.Launch
public import Idealize.ShloMosaic.Lib.Pipeline.Kit
public import Idealize.ShloMosaic.Lib.Batch
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's rounds, the ring's rounds, the batches' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-- The variants of the program's loops: it has none. -/
abbrev 𝒱₀ : Variants := Variants.none

/-! ## The blocks -/

/-- The block of keys the `t`-th copy brings, its number modulo three, and its place among the blocks of that class. -/
def kbk (t : ℕ) : ℕ := if t < 22 then 3 * t else if t < 43 then 3 * (t - 22) + 1 else 3 * (t - 43) + 2
def kcls (t : ℕ) : ℕ := if t < 22 then 0 else if t < 43 then 1 else 2
def krow (t : ℕ) : ℕ := if t < 22 then t else if t < 43 then t - 22 else t - 43

def dOff (s t : ℕ) : Fin 4 → ℕ := ![s, kcls t, 64 * krow t, 0]
def sOff (h t : ℕ) : Fin 4 → ℕ := ![0, 64 * kbk t, h, 0]

theorem dOff_inb {s t : ℕ} (hs : s < 2) (ht : t < 64) : ∀ a, dOff s t a + S1x1x64x128.size a ≤ S2x3x1408x128.size a := by
  have h1 : kcls t + 1 ≤ 3 := by unfold kcls; split_ifs <;> omega
  have h2 : 64 * krow t + 64 ≤ 1408 := by unfold krow; split_ifs <;> omega
  intro a; fin_cases a
  · exact hs
  · exact h1
  · exact h2
  · exact Nat.le_refl 128
theorem sOff_inb {h t : ℕ} (hh : h < 64) (ht : t < 64) : ∀ a, sOff h t a + S1x64x1x128.size a ≤ S1x4096x64x128.size a := by
  have h1 : 64 * kbk t + 64 ≤ 4096 := by unfold kbk; split_ifs <;> omega
  intro a; fin_cases a
  · exact Nat.le_refl 1
  · exact h1
  · exact hh
  · exact Nat.le_refl 128

abbrev BufM : Type := Memref sig .tc .vmem S2x3x1408x128 .f32
abbrev ArrM : Type := Memref sig .tc .hbm S1x4096x64x128 .f32

/-- The block of the slot a copy fills, by its offsets, and the block of the array it reads. -/
abbrev dAt (M : BufM) (off : Fin 4 → ℕ) (inb : ∀ a, off a + S1x1x64x128.size a ≤ S2x3x1408x128.size a) : Memref sig .tc .vmem S64x128 .f32 :=
  (M.slice (Rect.unit (s := S2x3x1408x128) off S1x1x64x128.size inb) (fun _ => rfl)).squeeze S64x128 squeezes_S1x1x64x128_S64x128
abbrev sAt (A : ArrM) (off : Fin 4 → ℕ) (inb : ∀ a, off a + S1x64x1x128.size a ≤ S1x4096x64x128.size a) : Memref sig .tc .hbm S64x128 .f32 :=
  (A.slice (Rect.unit (s := S1x4096x64x128) off S1x64x1x128.size inb) (fun _ => rfl)).squeeze S64x128 squeezes_S1x64x1x128_S64x128
abbrev kvSem (off : Fin 2 → ℕ) (inb : ∀ a, off a + S1x1.size a ≤ S2x2.size a) : DmaSem sig :=
  ((cc0_scratch14.slice (Rect.unit (s := S2x2) off S1x1.size inb)).squeeze S_ squeezes_S1x1_S_).sem

variable (M : BufM) (A : ArrM) (c : Dev nD) {s h : ℕ} (hs : s < 2) (hh : h < 64)

abbrev dBlk (t : Fin 64) : Memref sig .tc .vmem S64x128 .f32 := dAt M (dOff s t) (dOff_inb hs t.isLt)
abbrev sBlk (t : Fin 64) : Memref sig .tc .hbm S64x128 .f32 := sAt A (sOff h t) (sOff_inb hh t.isLt)

/-- The credit of one block. -/
def Nkv : ℕ := (dAt M ![0, 0, 0, 0] (by decide)).view.dmaCredit
omit [FloatOps F] in
theorem Nkv_eq (off : Fin 4 → ℕ) (inb : ∀ a, off a + S1x1x64x128.size a ≤ S2x3x1408x128.size a) : (dAt M off inb).view.dmaCredit = Nkv M := rfl
omit [FloatOps F] in
theorem Nkv_pos : 0 < Nkv M := View.dmaCredit_pos _ (by decide)

theorem dBlk_set (t : Fin 64) : (dBlk M hs t).view.set = (Rect.unit (s := S2x3x1408x128) (dOff s t) S1x1x64x128.size (dOff_inb hs t.isLt)).set.map M.view.emb :=
  (View.set_reshape _ _).trans (View.set_slice _ _)
theorem sBlk_set (t : Fin 64) : (sBlk A hh t).view.set = (Rect.unit (s := S1x4096x64x128) (sOff h t) S1x64x1x128.size (sOff_inb hh t.isLt)).set.map A.view.emb :=
  (View.set_reshape _ _).trans (View.set_slice _ _)

theorem dBlk_disj (t t' : Fin 64) (hne : t ≠ t') : Disjoint (dBlk M hs t).view.set (dBlk M hs t').view.set := by
  rw [dBlk_set, dBlk_set, Finset.disjoint_map, Finset.disjoint_left]
  intro i hi hi'
  rw [Rect.mem_set_unit] at hi hi'
  have h1 := hi 1; have h2 := hi 2; have h1' := hi' 1; have h2' := hi' 2
  have hne' : t.val ≠ t'.val := fun e => hne (Fin.ext e)
  have ht := t.isLt; have ht' := t'.isLt
  have e1 : dOff s t 1 = kcls t := rfl
  have e2 : dOff s t 2 = 64 * krow t := rfl
  have e1' : dOff s t' 1 = kcls t' := rfl
  have e2' : dOff s t' 2 = 64 * krow t' := rfl
  have z1 : S1x1x64x128.size 1 = 1 := rfl
  have z2 : S1x1x64x128.size 2 = 64 := rfl
  rw [e1, z1] at h1; rw [e2, z2] at h2; rw [e1', z1] at h1'; rw [e2', z2] at h2'
  generalize (i 1).val = a at *; generalize (i 2).val = b at *
  unfold kcls krow at *
  split_ifs at * <;> omega

theorem sBlk_disj (t t' : Fin 64) (hne : t ≠ t') : Disjoint (sBlk A hh t).view.set (sBlk A hh t').view.set := by
  rw [sBlk_set, sBlk_set, Finset.disjoint_map, Finset.disjoint_left]
  intro i hi hi'
  rw [Rect.mem_set_unit] at hi hi'
  have h1 := hi 1; have h1' := hi' 1
  have hne' : t.val ≠ t'.val := fun e => hne (Fin.ext e)
  have ht := t.isLt; have ht' := t'.isLt
  have e1 : sOff h t 1 = 64 * kbk t := rfl
  have e1' : sOff h t' 1 = 64 * kbk t' := rfl
  have z1 : S1x64x1x128.size 1 = 64 := rfl
  rw [e1, z1] at h1; rw [e1', z1] at h1'
  generalize (i 1).val = a at *
  unfold kbk at *
  split_ifs at * <;> omega

/-! ## One batch: started, waited for -/

variable (KB : Buf (Elt F) (M.view.loc (c : Thread nD τ))) (fs : Buf (Elt F) (A.view.loc (c : Thread nD τ)))

/-- What copy `t` delivers: its block of the slot at the intended contents, its block of the array back. -/
def deliv (t : Fin 64) : sProp 𝕄 :=
  iprop(((dBlk M hs t).view.loc (c : Thread nD τ) ↦[(dBlk M hs t).view.set]{fullShare} KB)
    ∗ ((sBlk A hh t).view.loc (c : Thread nD τ) ↦[(sBlk A hh t).view.set]{fullShare} fs))
instance deliv_storable (t : Fin 64) : Storable (upEmb : UEmb _ 𝕄) (deliv M A c hs hh KB fs t) := by unfold deliv; infer_instance

/-- `j` of the 64 copies started on cell `sm`: the batch, and the blocks of the copies to come. -/
def started (sm : DmaSem sig) (j : ℕ) : sProp 𝕄 :=
  iprop(Transfers.Batch EC (c : Thread nD τ) (.dma sm) () (Nkv M) (deliv M A c hs hh KB fs) j 0
    ∗ bigSep (Transfers.pending (n := 64) j) (fun t => iprop(∃ fd, (dBlk M hs t).view.loc (c : Thread nD τ) ↦[(dBlk M hs t).view.set]{fullShare} fd))
    ∗ bigSep (Transfers.pending (n := 64) j) (fun t => ((sBlk A hh t).view.loc (c : Thread nD τ) ↦[(sBlk A hh t).view.set]{fullShare} fs : sProp 𝕄)))

/-- `j` of the 64 copies waited for, all started. -/
def waited (sm : DmaSem sig) (j : ℕ) : sProp 𝕄 :=
  Transfers.Batch EC (c : Thread nD τ) (.dma sm) () (Nkv M) (deliv M A c hs hh KB fs) 64 (j * Nkv M)

/-- The core's debts, whatever it has waited on so far. -/
def owing (O : CellTallies nD τ sig Unit) : sProp 𝕄 := iprop(∃ W : Waits sig Unit, owes (c : Thread nD τ) O W)

/-- The intended contents of a block are what its source holds. -/
def Feeds : Prop := ∀ (t : Fin 64), (dBlk M hs t).view.read (Elt F) KB = (sBlk A hh t).view.read (Elt F) fs

theorem started_all (sm : DmaSem sig) : started M A c hs hh KB fs sm 64 ⊢ waited M A c hs hh KB fs sm 0 := by
  unfold started waited
  rw [Nat.zero_mul]
  iintro ⟨H, -, -⟩
  iexact H

omit [FloatOps F] in
/-- Writing what a view reads of `g` leaves `g` on the view's indices. -/
theorem block_written {sp : Space} {sh : Shape} {e : EltTy} (v : View sig .tc sp sh e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply]
  simp

theorem wp_start {α : Type} {Q : α → sProp 𝕄} (hF : Feeds M A c hs hh KB fs) {j : ℕ} (hj : j < 64) {sm sm' : DmaSem sig} (hsm : sm' = sm)
    {do' : Fin 4 → ℕ} {di : ∀ a, do' a + S1x1x64x128.size a ≤ S2x3x1408x128.size a} (hd : do' = dOff s j)
    {so : Fin 4 → ℕ} {si : ∀ a, so a + S1x64x1x128.size a ≤ S1x4096x64x128.size a} (hso : so = sOff h j)
    {hx : (sAt A so si).view.WordExact} {hy : (dAt M do' di).view.WordExact}
    {ht : DmaTarget.Typed (nD := nD) (τ := τ) (sig := sig) (p := .tc) .hbm (.dma sm') (.here (dAt M do' di))} {k : PUnit → Prog (TpuEff nD τ sig (Elt F) Λ₀ .tc) α} :
    started M A c hs hh KB fs sm j
      ⊢ iprop((started M A c hs hh KB fs sm (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sAt A so si) (.here (dAt M do' di)) (.dma sm') hx hy ht) k) Q) := by
  subst hsm hd hso
  unfold started
  rw [Transfers.bigSep_pending_step _ j hj, Transfers.bigSep_pending_step _ j hj]
  iintro ⟨HB, ⟨⟨%fd, Hd⟩, Hds⟩, Hs, Hss⟩ Hk
  have hD : iprop(((dBlk M hs ⟨j, hj⟩).view.loc (c : Thread nD τ) ↦[(dBlk M hs ⟨j, hj⟩).view.set]{fullShare}
        ((dBlk M hs ⟨j, hj⟩).view.write (Elt F) fd (ReadAs.same.apply ((sBlk A hh ⟨j, hj⟩).view.read (Elt F) fs)) Finset.univ))
      ∗ ((sBlk A hh ⟨j, hj⟩).view.loc (c : Thread nD τ) ↦[(sBlk A hh ⟨j, hj⟩).view.set]{fullShare} fs)) ⊢ deliv M A c hs hh KB fs ⟨j, hj⟩ := by
    rw [ReadAs.apply_same, ← hF ⟨j, hj⟩]
    unfold deliv
    exact sep_mono_left (Entails.of_eq (pointsTo_congr (block_written (F := F) (dBlk M hs ⟨j, hj⟩).view fd KB)))
  iapply (Transfers.wp_dmaBatch EC 𝒱₀ (c : Thread nD τ) none (src := sBlk A hh ⟨j, hj⟩) (dst := dBlk M hs ⟨j, hj⟩) (hsrc := hx) (hdst := hy) (hsem := ht)
    () (Nkv M) (Nkv_eq M _ _) (Finset.Subset.refl _) hj (Nat.zero_le _) hD) $$ [HB Hd Hs]
  · isplitl [Hs]; · iexact Hs
    isplitl [Hd]; · iexact Hd
    iexact HB
  iintro HB
  iapply Hk
  isplitl [HB]; · iexact HB
  isplitl [Hds]; · iexact Hds
  iexact Hss

theorem wp_waitOne {α : Type} {Q : α → sProp 𝕄} {j : ℕ} (hj : j + 1 < 64) {sm sm' : DmaSem sig} (hsm : sm' = sm) (O : CellTallies nD τ sig Unit)
    {do' : Fin 4 → ℕ} {di : ∀ a, do' a + S1x1x64x128.size a ≤ S2x3x1408x128.size a}
    {so : Fin 4 → ℕ} {si : ∀ a, so a + S1x64x1x128.size a ≤ S1x4096x64x128.size a}
    {hx : (sAt A so si).view.WordExact} {hy : (dAt M do' di).view.WordExact} {k : PUnit → Prog (TpuEff nD τ sig (Elt F) Λ₀ .tc) α} :
    iprop(waited M A c hs hh KB fs sm j ∗ owing c O ∗ MayWait (c : Thread nD τ) (.dma sm) () O)
      ⊢ iprop((iprop(waited M A c hs hh KB fs sm (j + 1) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm' (sAt A so si) (dAt M do' di) hx hy) k) Q) := by
  subst hsm
  unfold waited owing
  iintro ⟨HB, ⟨%W, HO⟩, HM⟩ Hk
  iapply (Transfers.wp_waitBatchO EC 𝒱₀ (c : Thread nD τ) none (hsrc := hx) (hdst := hy) () (N := Nkv M) (Nkv_eq M _ _) (by
    have h0 := Nkv_pos M
    calc j * Nkv M + Nkv M = (j + 1) * Nkv M := (Nat.succ_mul _ _).symm
      _ < 64 * Nkv M := Nat.mul_lt_mul_of_pos_right hj h0
      _ = Nkv M * 64 := Nat.mul_comm _ _) (O := O) (W := W)) $$ [HB HO HM]
  · isplitl [HB]; · iexact HB
    isplitl [HO]; · iexact HO
    iexact HM
  iintro ⟨HB, HO⟩
  iapply Hk
  isplitl [HB]
  · rw [Nat.add_mul, Nat.one_mul]; iexact HB
  · iexists _; iexact HO

omit [FloatOps F] in
theorem hu63 (N : ℕ) : 63 * N + N = N * 64 := by omega

theorem wp_waitLast {α : Type} {Q : α → sProp 𝕄} {sm sm' : DmaSem sig} (hsm : sm' = sm) (O : CellTallies nD τ sig Unit)
    {do' : Fin 4 → ℕ} {di : ∀ a, do' a + S1x1x64x128.size a ≤ S2x3x1408x128.size a}
    {so : Fin 4 → ℕ} {si : ∀ a, so a + S1x64x1x128.size a ≤ S1x4096x64x128.size a}
    {hx : (sAt A so si).view.WordExact} {hy : (dAt M do' di).view.WordExact} {k : PUnit → Prog (TpuEff nD τ sig (Elt F) Λ₀ .tc) α} :
    iprop(waited M A c hs hh KB fs sm 63 ∗ owing c O ∗ MayWait (c : Thread nD τ) (.dma sm) () O)
      ⊢ iprop((iprop(bigSep Finset.univ (deliv M A c hs hh KB fs) ∗ semVal ((c : Thread nD τ), .dma sm) 0 ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm' (sAt A so si) (dAt M do' di) hx hy) k) Q) := by
  subst hsm
  unfold waited owing
  iintro ⟨HB, ⟨%W, HO⟩, HM⟩ Hk
  iapply (Transfers.wp_waitBatchLastO EC 𝒱₀ (c : Thread nD τ) none (hsrc := hx) (hdst := hy) () (N := Nkv M) (Nkv_eq M _ _) (Nkv_pos M) (hu63 (Nkv M)) (O := O) (W := W)) $$ [HB HO HM]
  · isplitl [HB]; · iexact HB
    isplitl [HO]; · iexact HO
    iexact HM
  iintro ⟨HD, Hv, HO⟩
  iapply Hk
  isplitl [HD]; · iexact HD
  isplitl [Hv]; · iexact Hv
  iexists _; iexact HO

end Cert.RingAttn
-- ==== Proof.Slot.lean ====
/-
# A slot between two batches

A slot is idle (its blocks hold anything, its pad rows zero), lent to a batch of copies, or holds one head's keys; the array the
copies read is whole, or without the blocks lent.
-/
module

public import proofs.«01_k».proof.Proof.KV
public import Idealize.ShloMosaic.Lib.Pointwise.Index
public import Idealize.ShloMosaic.Lib.Pointwise.Reshape
public import Idealize.ShloMosaic.Lib.Pipeline.ValueKit.Geometry

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## What a slot holds -/

/-- The zero the pad rows hold. -/
def kz : F .f32 := Scalar.ofBits .f32 0x00000000#32

/-- The block of keys a row of a slot belongs to (none of the array's from 64 on). -/
def kb (x : Shape.Idx S2x3x1408x128) : ℕ := 3 * ((x 2).val / 64) + (x 1).val

/-- One head of an array of keys, as a slot lays it out. -/
def KBv (g : Shape.Idx S1x4096x64x128 → F .f32) (h : ℕ) (hh : h < 64) (x : Shape.Idx S2x3x1408x128) : F .f32 :=
  if hk : kb x < 64 then g (ix4 0 ⟨64 * kb x + (x 2).val % 64, by omega⟩ ⟨h, hh⟩ (x 3)) else kz

/-- The copy that brings a block. -/
def tOf (b : ℕ) : ℕ := if b % 3 = 0 then b / 3 else if b % 3 = 1 then 22 + b / 3 else 43 + b / 3

theorem tOf_lt {b : ℕ} (hb : b < 64) : tOf b < 64 := by unfold tOf; split_ifs <;> omega
theorem kcls_tOf {b : ℕ} (hb : b < 64) : kcls (tOf b) = b % 3 := by unfold kcls tOf; split_ifs <;> omega
theorem krow_tOf {b : ℕ} (hb : b < 64) : krow (tOf b) = b / 3 := by unfold krow tOf; split_ifs <;> omega
theorem kbk_eq {t : ℕ} (ht : t < 64) : 3 * krow t + kcls t = kbk t := by unfold krow kcls kbk; split_ifs <;> omega
theorem kbk_lt {t : ℕ} (ht : t < 64) : kbk t < 64 := by unfold kbk; split_ifs <;> omega

variable (M : BufM) (A : ArrM) (c : Dev nD) {s h : ℕ} (hs : s < 2) (hh : h < 64)

theorem slot_inb {s : ℕ} (hs : s < 2) : ∀ a, (![s, 0, 0, 0] : Fin 4 → ℕ) a + S1x3x1408x128.size a ≤ S2x3x1408x128.size a := by
  intro a; fin_cases a
  · exact hs
  · exact Nat.le_refl 3
  · exact Nat.le_refl 1408
  · exact Nat.le_refl 128
abbrev slotRect {s : ℕ} (hs : s < 2) : Rect S2x3x1408x128 := Rect.unit (s := S2x3x1408x128) ![s, 0, 0, 0] S1x3x1408x128.size (slot_inb hs)
theorem mem_slotRect {x : Shape.Idx S2x3x1408x128} : x ∈ (slotRect hs).set ↔ (x 0).val = s := by
  rw [Rect.mem_set_unit]
  constructor
  · intro hx; have h0 : s ≤ (x 0).val ∧ (x 0).val < s + 1 := hx 0; omega
  · intro hx a; fin_cases a
    · exact ⟨le_of_eq hx.symm, by show (x 0).val < s + 1; omega⟩
    · exact ⟨Nat.zero_le _, by show (x 1).val < 0 + 3; have := (x 1).isLt; change (x 1).val < 3 at this; omega⟩
    · exact ⟨Nat.zero_le _, by show (x 2).val < 0 + 1408; have := (x 2).isLt; change (x 2).val < 1408 at this; omega⟩
    · exact ⟨Nat.zero_le _, by show (x 3).val < 0 + 128; have := (x 3).isLt; change (x 3).val < 128 at this; omega⟩

theorem mem_dRect {t : ℕ} (ht : t < 64) {x : Shape.Idx S2x3x1408x128} :
    x ∈ (Rect.unit (s := S2x3x1408x128) (dOff s t) S1x1x64x128.size (dOff_inb hs ht)).set ↔ (x 0).val = s ∧ kb x = kbk t := by
  rw [Rect.mem_set_unit]
  have hx1 := (x 1).isLt; change (x 1).val < 3 at hx1
  have hk1 : kcls t < 3 := by unfold kcls; split_ifs <;> omega
  rw [← kbk_eq ht]
  unfold kb
  constructor
  · intro hx
    have h0 : s ≤ (x 0).val ∧ (x 0).val < s + 1 := hx 0
    have h1 : kcls t ≤ (x 1).val ∧ (x 1).val < kcls t + 1 := hx 1
    have h2 : 64 * krow t ≤ (x 2).val ∧ (x 2).val < 64 * krow t + 64 := hx 2
    refine ⟨by omega, ?_⟩
    have e2 : (x 2).val / 64 = krow t := by omega
    omega
  · intro ⟨h0, h1⟩
    have e1 : (x 1).val = kcls t := by omega
    have e2 : (x 2).val / 64 = krow t := by omega
    intro a; fin_cases a
    · exact ⟨le_of_eq h0.symm, by show (x 0).val < s + 1; omega⟩
    · exact ⟨le_of_eq e1.symm, by show (x 1).val < kcls t + 1; omega⟩
    · exact ⟨by show 64 * krow t ≤ (x 2).val; omega, by show (x 2).val < 64 * krow t + 64; omega⟩
    · exact ⟨Nat.zero_le _, by show (x 3).val < 0 + 128; have := (x 3).isLt; change (x 3).val < 128 at this; omega⟩

/-- A copy brings what the intended contents hold. -/
theorem feeds_of (KB : Buf (Elt F) (M.view.loc (c : Thread nD τ))) (fs : Buf (Elt F) (A.view.loc (c : Thread nD τ)))
    (hKB : ∀ x, M.view.read (Elt F) KB x = KBv (F := F) (A.view.read (Elt F) fs) h hh x) : Feeds M A c hs hh KB fs := by
  intro t
  funext y
  have ht := t.isLt
  have y0 := (y 0).isLt; change (y 0).val < 64 at y0
  have y1 := (y 1).isLt; change (y 1).val < 128 at y1
  have hk1 : kcls t.val < 3 := by unfold kcls; split_ifs <;> omega
  show M.view.read (Elt F) KB ((Rect.unit (s := S2x3x1408x128) (dOff s t) S1x1x64x128.size (dOff_inb hs ht)).emb (Shape.reshapeEquiv _ y))
    = A.view.read (Elt F) fs ((Rect.unit (s := S1x4096x64x128) (sOff h t) S1x64x1x128.size (sOff_inb hh ht)).emb (Shape.reshapeEquiv _ y))
  have e1 : ∀ (hn : S64x128.numel = S1x1x64x128.numel), Shape.reshapeEquiv hn y = (ix4 0 0 (y 0) (y 1) : Shape.Idx S1x1x64x128) := fun hn =>
    Shape.reshapeEquiv_eq_of_vals (s := S1x1x64x128) (s' := S64x128) hn y _ _ _ (rowMajor_val4 _ 8192 8192 128 rfl rfl rfl) (rowMajor_val2 _ 128 rfl) (by
      show 0 * 8192 + 0 * 8192 + (y 0).val * 128 + (y 1).val = (y 0).val * 128 + (y 1).val; omega)
  have e2 : ∀ (hn : S64x128.numel = S1x64x1x128.numel), Shape.reshapeEquiv hn y = (ix4 0 (y 0) 0 (y 1) : Shape.Idx S1x64x1x128) := fun hn =>
    Shape.reshapeEquiv_eq_of_vals (s := S1x64x1x128) (s' := S64x128) hn y _ _ _ (rowMajor_val4 _ 8192 128 128 rfl rfl rfl) (rowMajor_val2 _ 128 rfl) (by
      show 0 * 8192 + (y 0).val * 128 + 0 * 128 + (y 1).val = (y 0).val * 128 + (y 1).val; omega)
  rw [e1, e2, hKB]
  generalize hx : (Rect.unit (s := S2x3x1408x128) (dOff s t) S1x1x64x128.size (dOff_inb hs ht)).emb (ix4 0 0 (y 0) (y 1) : Shape.Idx S1x1x64x128) = x
  have x1 : (x 1).val = kcls t := by rw [← hx]; exact (ValueKit.rect_emb_unit_val _ _ _ _ 1)
  have x2 : (x 2).val = 64 * krow t + (y 0).val := by rw [← hx]; exact (ValueKit.rect_emb_unit_val _ _ _ _ 2)
  have x3 : (x 3).val = (y 1).val := by rw [← hx]; exact (ValueKit.rect_emb_unit_val _ _ _ _ 3).trans (Nat.zero_add _)
  have hkb : kb x = kbk t := by unfold kb; rw [x1, x2, ← kbk_eq ht]; omega
  unfold KBv
  rw [dif_pos (by rw [hkb]; exact kbk_lt ht)]
  congr 1
  funext a; refine Fin.ext ?_
  refine Eq.trans ?_ (ValueKit.rect_emb_unit_val _ _ _ _ a).symm
  fin_cases a
  · rfl
  · show 64 * kb x + (x 2).val % 64 = 64 * kbk t + (y 0).val; rw [hkb, x2]; omega
  · rfl
  · show (x 3).val = 0 + (y 1).val; rw [x3, Nat.zero_add]

/-! ## Slots and arrays, in pieces -/

abbrev slotSet : Finset (Idx (M.view.loc (c : Thread nD τ))) := (slotRect hs).set.map M.view.emb
abbrev blkSet : Finset (Idx (M.view.loc (c : Thread nD τ))) := (Finset.univ : Finset (Fin 64)).biUnion fun t => (dBlk M hs t).view.set
abbrev arrSet : Finset (Idx (A.view.loc (c : Thread nD τ))) := (Finset.univ : Finset (Fin 64)).biUnion fun t => (sBlk A hh t).view.set

theorem blkSet_sub : blkSet M c hs ⊆ slotSet M c hs := by
  intro i hi
  obtain ⟨t, -, hi⟩ := Finset.mem_biUnion.mp hi
  rw [dBlk_set] at hi
  obtain ⟨x, hx, rfl⟩ := Finset.mem_map.mp hi
  exact Finset.mem_map.mpr ⟨x, (mem_slotRect hs).mpr ((mem_dRect hs t.isLt).mp hx).1, rfl⟩

theorem pad_of_not_mem {x : Shape.Idx S2x3x1408x128} (h0 : (x 0).val = s) (hx : M.view.emb x ∉ blkSet M c hs) : 64 ≤ kb x := by
  by_contra hlt
  have hlt : kb x < 64 := by omega
  refine hx (Finset.mem_biUnion.mpr ⟨⟨tOf (kb x), tOf_lt hlt⟩, Finset.mem_univ _, ?_⟩)
  rw [dBlk_set]
  refine Finset.mem_map.mpr ⟨x, (mem_dRect hs (tOf_lt hlt)).mpr ⟨h0, ?_⟩, rfl⟩
  rw [← kbk_eq (tOf_lt hlt), krow_tOf hlt, kcls_tOf hlt]; omega

/-- The pad rows of a slot, zero. -/
def padZ : sProp 𝕄 :=
  iprop(∃ g : Buf (Elt F) (M.view.loc (c : Thread nD τ)), ⌜∀ x : Shape.Idx S2x3x1408x128, (x 0).val = s → 64 ≤ kb x → M.view.read (Elt F) g x = kz (F := F)⌝
    ∗ (M.view.loc (c : Thread nD τ) ↦[slotSet M c hs \ blkSet M c hs]{fullShare} g))
/-- The blocks of a slot, holding anything. -/
def anyBlks : sProp 𝕄 :=
  bigSep Finset.univ fun t : Fin 64 => iprop(∃ fd, (dBlk M hs t).view.loc (c : Thread nD τ) ↦[(dBlk M hs t).view.set]{fullShare} fd)
/-- A slot no copy is under way to. -/
def idle (sm : DmaSem sig) : sProp 𝕄 := iprop(semVal ((c : Thread nD τ), .dma sm) 0 ∗ anyBlks (F := F) M c hs ∗ padZ (F := F) M c hs)
/-- What stays behind of the array. -/
def arrRest (fs : Buf (Elt F) (A.view.loc (c : Thread nD τ))) : sProp 𝕄 :=
  A.view.loc (c : Thread nD τ) ↦[Finset.univ \ arrSet A c hh]{fullShare} fs

theorem slot_pieces (f : Buf (Elt F) (M.view.loc (c : Thread nD τ))) :
    (M.view.loc (c : Thread nD τ) ↦[slotSet M c hs]{fullShare} f : sProp 𝕄) ⊣⊢
      iprop((bigSep Finset.univ fun t : Fin 64 => ((dBlk M hs t).view.loc (c : Thread nD τ) ↦[(dBlk M hs t).view.set]{fullShare} f))
        ∗ (M.view.loc (c : Thread nD τ) ↦[slotSet M c hs \ blkSet M c hs]{fullShare} f)) := by
  have e : (M.view.loc (c : Thread nD τ) ↦[blkSet M c hs]{fullShare} f : sProp 𝕄)
      = bigSep Finset.univ fun t : Fin 64 => ((dBlk M hs t).view.loc (c : Thread nD τ) ↦[(dBlk M hs t).view.set]{fullShare} f) :=
    pointsTo_biUnion (ℓ := M.view.loc (c : Thread nD τ)) Finset.univ (fun t : Fin 64 => (dBlk M hs t).view.set) (fun t _ t' _ hne => dBlk_disj M hs t t' hne)
  rw [← e]
  exact pointsTo_split_subset (blkSet_sub M c hs)

theorem arr_pieces (fs : Buf (Elt F) (A.view.loc (c : Thread nD τ))) :
    (A.view.loc (c : Thread nD τ) ↦{fullShare} fs : sProp 𝕄) ⊣⊢
      iprop((bigSep Finset.univ fun t : Fin 64 => ((sBlk A hh t).view.loc (c : Thread nD τ) ↦[(sBlk A hh t).view.set]{fullShare} fs)) ∗ arrRest A c hh fs) := by
  have e : (A.view.loc (c : Thread nD τ) ↦[arrSet A c hh]{fullShare} fs : sProp 𝕄)
      = bigSep Finset.univ fun t : Fin 64 => ((sBlk A hh t).view.loc (c : Thread nD τ) ↦[(sBlk A hh t).view.set]{fullShare} fs) :=
    pointsTo_biUnion (ℓ := A.view.loc (c : Thread nD τ)) Finset.univ (fun t : Fin 64 => (sBlk A hh t).view.set) (fun t _ t' _ hne => sBlk_disj A hh t t' hne)
  rw [← e]
  exact pointsTo_split_subset (Finset.subset_univ _)

theorem some_of {ℓ : Loc nD τ sig} {S : Finset (Idx ℓ)} (f : Buf (Elt F) ℓ) : (ℓ ↦[S]{fullShare} f : sProp 𝕄) ⊢ iprop(∃ f, ℓ ↦[S]{fullShare} f) := by
  iintro H; iexists f; iexact H

theorem pads_of {f : Buf (Elt F) (M.view.loc (c : Thread nD τ))} (hf : ∀ x : Shape.Idx S2x3x1408x128, (x 0).val = s → 64 ≤ kb x → M.view.read (Elt F) f x = kz (F := F)) :
    (M.view.loc (c : Thread nD τ) ↦[slotSet M c hs]{fullShare} f : sProp 𝕄) ⊢ iprop(anyBlks M c hs ∗ padZ M c hs) := by
  iintro H
  ihave H := (slot_pieces M c hs f).1 $$ H
  icases H with ⟨Hb, Hp⟩
  isplitl [Hb]
  · unfold anyBlks
    have hm : (bigSep Finset.univ fun t : Fin 64 => ((dBlk M hs t).view.loc (c : Thread nD τ) ↦[(dBlk M hs t).view.set]{fullShare} f : sProp 𝕄))
        ⊢ bigSep Finset.univ fun t : Fin 64 => iprop(∃ fd, (dBlk M hs t).view.loc (c : Thread nD τ) ↦[(dBlk M hs t).view.set]{fullShare} fd) :=
      bigSep_mono fun t _ => some_of f
    iapply hm; iexact Hb
  · unfold padZ
    iexists f
    isplitr; · ipureintro; exact hf
    iexact Hp

theorem begin_batch (KB : Buf (Elt F) (M.view.loc (c : Thread nD τ))) (fs : Buf (Elt F) (A.view.loc (c : Thread nD τ))) (sm : DmaSem sig) :
    iprop(idle M c hs sm ∗ (A.view.loc (c : Thread nD τ) ↦{fullShare} fs : sProp 𝕄))
      ⊢ |={Set.univ}=> iprop(started M A c hs hh KB fs sm 0 ∗ padZ M c hs ∗ arrRest A c hh fs) := by
  unfold idle started anyBlks
  iintro ⟨⟨Hv, Hb, Hp⟩, Ha⟩
  ihave Ha := (arr_pieces A c hh fs).1 $$ Ha
  icases Ha with ⟨Ha, Hr⟩
  imod (Transfers.batch_alloc' EC (c : Thread nD τ) (sm := .dma sm) () (Nkv M) (deliv M A c hs hh KB fs) (E := Set.univ)) $$ Hv with HB
  imodintro
  isplitl [HB Hb Ha]
  · isplitl [HB]; · iexact HB
    rw [Transfers.pending_zero]
    isplitl [Hb]; · iexact Hb
    iexact Ha
  isplitl [Hp]; · iexact Hp
  iexact Hr

theorem read_inj {sp : Space} {sh : Shape} {e : EltTy} (v : View sig .tc sp sh e) {f g : v.ty.Contents (Elt F)} {x : sh.Idx} (h : v.read (Elt F) f x = v.read (Elt F) g x) :
    f (v.emb x) = g (v.emb x) := by
  rw [View.read_apply, View.read_apply] at h
  exact (cast_inj _).mp h

theorem land_batch (KB : Buf (Elt F) (M.view.loc (c : Thread nD τ))) (fs : Buf (Elt F) (A.view.loc (c : Thread nD τ)))
    (hKB : ∀ x, M.view.read (Elt F) KB x = KBv (F := F) (A.view.read (Elt F) fs) h hh x) :
    iprop(bigSep Finset.univ (deliv M A c hs hh KB fs) ∗ padZ M c hs ∗ arrRest A c hh fs)
      ⊢ (iprop((M.view.loc (c : Thread nD τ) ↦[slotSet M c hs]{fullShare} KB) ∗ (A.view.loc (c : Thread nD τ) ↦{fullShare} fs)) : sProp 𝕄) := by
  unfold deliv padZ
  rw [bigSep_sep']
  iintro ⟨⟨Hd, Hs⟩, ⟨%g, %hg, Hp⟩, Hr⟩
  isplitl [Hd Hp]
  · iapply (slot_pieces M c hs KB).2
    isplitl [Hd]; · iexact Hd
    have e : (M.view.loc (c : Thread nD τ) ↦[slotSet M c hs \ blkSet M c hs]{fullShare} g : sProp 𝕄) = M.view.loc (c : Thread nD τ) ↦[slotSet M c hs \ blkSet M c hs]{fullShare} KB :=
      pointsTo_congr fun i hi => by
        obtain ⟨hi, hn⟩ := Finset.mem_sdiff.mp hi
        obtain ⟨x, hx, rfl⟩ := Finset.mem_map.mp hi
        have h0 := (mem_slotRect hs).mp hx
        have hp := pad_of_not_mem M c hs h0 hn
        refine read_inj M.view ((hg x h0 hp).trans ?_)
        rw [hKB x]; unfold KBv; rw [dif_neg (by omega)]
    rw [← e]; iexact Hp
  · iapply (arr_pieces A c hh fs).2
    isplitl [Hs]; · iexact Hs
    iexact Hr

theorem unload (KB : Buf (Elt F) (M.view.loc (c : Thread nD τ))) (sm : DmaSem sig) {g : Shape.Idx S1x4096x64x128 → F .f32}
    (hKB : ∀ x, M.view.read (Elt F) KB x = KBv (F := F) g h hh x) :
    iprop(semVal ((c : Thread nD τ), .dma sm) 0 ∗ (M.view.loc (c : Thread nD τ) ↦[slotSet M c hs]{fullShare} KB : sProp 𝕄)) ⊢ idle M c hs sm := by
  unfold idle
  iintro ⟨Hv, H⟩
  isplitl [Hv]; · iexact Hv
  iapply (pads_of M c hs (f := KB) fun x _ hp => by rw [hKB x]; unfold KBv; rw [dif_neg (by omega)])
  iexact H

theorem slots_disj : Disjoint (slotSet M c (s := 0) Nat.zero_lt_two) (slotSet M c (s := 1) Nat.one_lt_two) := by
  rw [Finset.disjoint_map, Finset.disjoint_left]
  intro x hx hx'
  rw [mem_slotRect] at hx hx'
  omega
theorem slots_univ (hM : M.view.set = Finset.univ) :
    (Finset.univ : Finset (Idx (M.view.loc (c : Thread nD τ)))) = slotSet M c (s := 0) Nat.zero_lt_two ∪ slotSet M c (s := 1) Nat.one_lt_two := by
  refine (Finset.eq_univ_of_forall fun i => ?_).symm
  have hi : i ∈ M.view.set := by rw [hM]; exact Finset.mem_univ _
  obtain ⟨x, -, rfl⟩ := Finset.mem_map.mp hi
  have hx := (x 0).isLt; change (x 0).val < 2 at hx
  rw [Finset.mem_union]
  rcases (show (x 0).val = 0 ∨ (x 0).val = 1 by omega) with h0 | h0
  · exact Or.inl (Finset.mem_map.mpr ⟨x, (mem_slotRect _).mpr h0, rfl⟩)
  · exact Or.inr (Finset.mem_map.mpr ⟨x, (mem_slotRect _).mpr h0, rfl⟩)

/-- A whole buffer, its pad rows zero, is its two slots. -/
theorem split_slots {f : Buf (Elt F) (M.view.loc (c : Thread nD τ))} (hM : M.view.set = Finset.univ)
    (hf : ∀ x : Shape.Idx S2x3x1408x128, 64 ≤ kb x → M.view.read (Elt F) f x = kz (F := F)) :
    (M.view.loc (c : Thread nD τ) ↦{fullShare} f : sProp 𝕄) ⊢
      iprop((anyBlks M c (s := 0) Nat.zero_lt_two ∗ padZ M c (s := 0) Nat.zero_lt_two) ∗ (anyBlks M c (s := 1) Nat.one_lt_two ∗ padZ M c (s := 1) Nat.one_lt_two)) := by
  rw [slots_univ M c hM]
  iintro H
  ihave H := (pointsTo_union (slots_disj M c)).1 $$ H
  icases H with ⟨H0, H1⟩
  isplitl [H0]
  · iapply (pads_of M c (s := 0) Nat.zero_lt_two (f := f) fun x _ hp => hf x hp); iexact H0
  · iapply (pads_of M c (s := 1) Nat.one_lt_two (f := f) fun x _ hp => hf x hp); iexact H1

/-- A slot no copy is under way to, as one region. -/
theorem slot_whole : iprop(anyBlks M c hs ∗ padZ M c hs) ⊢ (iprop(∃ f, M.view.loc (c : Thread nD τ) ↦[slotSet M c hs]{fullShare} f) : sProp 𝕄) := by
  unfold anyBlks padZ
  iintro ⟨Hb, ⟨%g, -, Hp⟩⟩
  ihave Hb := (bigSep_exists_pi Finset.univ fun (t : Fin 64) (fd : Buf (Elt F) (M.view.loc (c : Thread nD τ))) =>
    (M.view.loc (c : Thread nD τ) ↦[(dBlk M hs t).view.set]{fullShare} fd : sProp 𝕄)) $$ Hb
  icases Hb with ⟨%fd, Hb⟩
  ihave Hb := (pointsTo_biUnion_join (ℓ := M.view.loc (c : Thread nD τ)) Finset.univ (fun t : Fin 64 => (dBlk M hs t).view.set) fd g
    (fun t _ t' _ hne => dBlk_disj M hs t t' hne)) $$ Hb
  icases Hb with ⟨%f, -, Hb⟩
  iexists _
  iapply (pointsTo_join_subset (blkSet_sub M c hs))
  isplitl [Hb]; · iexact Hb
  iexact Hp

/-- Both slots, back into a whole buffer. -/
theorem join_slots (hM : M.view.set = Finset.univ) :
    iprop((anyBlks M c (s := 0) Nat.zero_lt_two ∗ padZ M c (s := 0) Nat.zero_lt_two) ∗ (anyBlks M c (s := 1) Nat.one_lt_two ∗ padZ M c (s := 1) Nat.one_lt_two))
      ⊢ (iprop(∃ f, M.view.loc (c : Thread nD τ) ↦{fullShare} f) : sProp 𝕄) := by
  iintro ⟨H0, H1⟩
  ihave H0 := (slot_whole M c (s := 0) Nat.zero_lt_two) $$ H0
  icases H0 with ⟨%f0, H0⟩
  ihave H1 := (slot_whole M c (s := 1) Nat.one_lt_two) $$ H1
  icases H1 with ⟨%f1, H1⟩
  iexists _
  rw [slots_univ M c hM]
  iapply (pointsTo_join (slots_disj M c))
  isplitl [H0]; · iexact H0
  iexact H1

end Cert.RingAttn
-- ==== Proof.Ring.lean ====
/-
# The ring: cells, schedule, levels

Every device `c` has one barrier cell and 28 cells of remote copies, seven each of: `agS s` (its own send of the `s`-th all-gather
step has left), `agR s` (the block sent by its left neighbour in step `s` has landed), and `rsS t`, `rsR t` likewise for the
reduce-scatter. Each is used for one round.

* barrier of `c`: its left neighbour's signal hands nothing; its right neighbour's hands that neighbour's gather slots (all but
  its own) and its seven landing slots of partial sums.
* `agS s`: `c`'s gather slot `c - s` back, the left half of it (the right half stays with `c`, which reads it meanwhile).
* `agR s`: `c`'s gather slot `c - s - 1`, holding that device's block of `x`.
* `rsS t`: `c`'s send slot `t % 2` back.
* `rsR t`: `c`'s landing slot `t`, holding the left neighbour's partial sum of step `t`.
-/
module

public import proofs.«01_k».proof.Proof.KV

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring of devices -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The device `s` places to the left of `c`, whose block `c` works on in stage `s`. -/
def org (c : Dev nD) (s : ℕ) : ℕ := (c.val + 8 - s) % 8

theorem org_lt (c : Dev nD) (s : ℕ) : org c s < 8 := Nat.mod_lt _ (by decide)
theorem org_zero (c : Dev nD) : org c 0 = c.val := by have h := c.isLt; unfold org; change c.val < 8 at h; omega
theorem org_nxt (c : Dev nD) (s : ℕ) (hs : s < 8) : org (nxt c) (s + 1) = org c s := by
  have h := c.isLt; change c.val < 8 at h; unfold org nxt; dsimp only; omega
theorem org_inj (c : Dev nD) {s s' : ℕ} (hs : s < 8) (hs' : s' < 8) (h : org c s = org c s') : s = s' := by
  have hc := c.isLt; change c.val < 8 at hc; unfold org at h; omega

/-! ## The buffers and their slots -/

abbrev xgM : Memref sig .tc .vmem S8x256x1024 .bf16 := Memref.whole cc0_scratch0
abbrev sbM : Memref sig .tc .vmem S2x256x1024 .f32 := Memref.whole cc0_scratch8
abbrev rbM : Memref sig .tc .vmem S7x256x1024 .f32 := Memref.whole cc0_scratch9

abbrev XgC (F : FTy → Type) : Type := (cc0_scratch0 : Ref sig .tc).ty.Contents (Elt F)
abbrev SbC (F : FTy → Type) : Type := (cc0_scratch8 : Ref sig .tc).ty.Contents (Elt F)
abbrev RbC (F : FTy → Type) : Type := (cc0_scratch9 : Ref sig .tc).ty.Contents (Elt F)

/-- The indices of a stack of blocks that lie in block `k`. -/
def lane (n k : ℕ) : Finset (Shape.Idx ⟨3, ![n, 256, 1024]⟩) := Finset.univ.filter fun i => (i 0).val = k

theorem mem_lane {n k : ℕ} {i : Shape.Idx ⟨3, ![n, 256, 1024]⟩} : i ∈ lane n k ↔ (i 0).val = k := by
  unfold lane; rw [Finset.mem_filter]; exact ⟨fun h => h.2, fun h => ⟨Finset.mem_univ _, h⟩⟩

theorem lane_disj {n k k' : ℕ} (h : k ≠ k') : Disjoint (lane n k) (lane n k') :=
  Finset.disjoint_left.mpr fun i hi hi' => h ((mem_lane.mp hi).symm.trans (mem_lane.mp hi'))

theorem lane_rect {n k : ℕ} (inb : ∀ a, (![k, 0, 0] : Fin 3 → ℕ) a + S1x256x1024.size a ≤ (⟨3, ![n, 256, 1024]⟩ : Shape).size a) :
    (Rect.unit (s := ⟨3, ![n, 256, 1024]⟩) ![k, 0, 0] S1x256x1024.size inb).set = lane n k := by
  ext i
  rw [Rect.mem_set_unit, mem_lane]
  constructor
  · intro h; have h0 : k ≤ (i 0).val ∧ (i 0).val < k + 1 := h 0; omega
  · intro h a; fin_cases a
    · exact ⟨le_of_eq h.symm, by show (i 0).val < k + 1; omega⟩
    · exact ⟨Nat.zero_le _, by show (i 1).val < 0 + 256; have := (i 1).isLt; change (i 1).val < 256 at this; omega⟩
    · exact ⟨Nat.zero_le _, by show (i 2).val < 0 + 1024; have := (i 2).isLt; change (i 2).val < 1024 at this; omega⟩

/-- Slot `k` of device `c`'s gather buffer, landing buffer, send buffer. -/
def slotX (c : Dev nD) (k : ℕ) (q : PosShare TreeShare) (f : XgC F) : sProp 𝕄 := ((c : Thread nD τ).loc cc0_scratch0) ↦[lane 8 k]{q} f
def slotR (c : Dev nD) (k : ℕ) (f : RbC F) : sProp 𝕄 := ((c : Thread nD τ).loc cc0_scratch9) ↦[lane 7 k]{fullShare} f
def slotS (c : Dev nD) (k : ℕ) (f : SbC F) : sProp 𝕄 := ((c : Thread nD τ).loc cc0_scratch8) ↦[lane 2 k]{fullShare} f

instance slotX_storable (c : Dev nD) (k : ℕ) (q) (f : XgC F) : BI.Storable (upEmb : UEmb _ 𝕄) (slotX c k q f) := by unfold slotX; infer_instance
instance slotR_storable (c : Dev nD) (k : ℕ) (f : RbC F) : BI.Storable (upEmb : UEmb _ 𝕄) (slotR c k f) := by unfold slotR; infer_instance
instance slotS_storable (c : Dev nD) (k : ℕ) (f : SbC F) : BI.Storable (upEmb : UEmb _ 𝕄) (slotS c k f) := by unfold slotS; infer_instance

/-! ## The cells -/

abbrev barS : Sem sig := (SemArray.scalar (sig.barrier 0 rfl) : Sems sig S_).sem
/-- The `j`-th semaphore of the remote copies: `agS` 0–6, `agR` 7–13, `rsS` 14–20, `rsR` 21–27. -/
def xsem (j : ℕ) : DmaSem sig := ⟨(4 + j) % 36, Nat.mod_lt _ (by decide)⟩
abbrev barCell (c : Dev nD) : GSem nD τ sig := ((c : Thread nD τ), .reg barS)
abbrev xcell (c : Dev nD) (j : ℕ) : GSem nD τ sig := ((c : Thread nD τ), .dma (xsem j))

theorem xsem_val {j : ℕ} (hj : j < 28) : (xsem j).val = 4 + j := Nat.mod_eq_of_lt (by omega)

abbrev csem (k : Fin 29) : SemLoc sig := if k.val = 0 then .reg barS else .dma (xsem (k.val - 1))
abbrev kcell (ck : Dev nD × Fin 29) : GSem nD τ sig := ((ck.1 : Thread nD τ), csem ck.2)
set_option backward.proofsInPublic true in
/-- The number of cell `j` among all of a device's. -/
def kof (j : ℕ) : Fin 29 := ⟨(j + 1) % 29, Nat.mod_lt _ (by decide)⟩
theorem kcell_kof (c : Dev nD) {j : ℕ} (hj : j < 28) : kcell (c, kof j) = xcell c j := by
  have h : (kof j).val = j + 1 := Nat.mod_eq_of_lt (by omega)
  unfold kcell csem; dsimp only; rw [if_neg (by omega), h, Nat.add_sub_cancel]
theorem kcell_zero (c : Dev nD) : kcell (c, 0) = barCell c := rfl

/-- The credits of one gathered block, of one block of partial sums. -/
def NA : ℕ := (xgM.slice (Rect.unit (s := S8x256x1024) ![0, 0, 0] S1x256x1024.size (by decide)) (fun _ => rfl)).view.dmaCredit
def NR : ℕ := ((rbM.slice (Rect.unit (s := S7x256x1024) ![0, 0, 0] S1x256x1024.size (by decide)) (fun _ => rfl)).squeeze S256x1024 squeezes_S1x256x1024_S256x1024).view.dmaCredit
theorem NA_pos : 0 < NA := View.dmaCredit_pos _ (by decide)
theorem NR_pos : 0 < NR := View.dmaCredit_pos _ (by decide)
def Nof (j : ℕ) : ℕ := if j < 14 then NA else NR
theorem Nof_pos (j : ℕ) : 0 < Nof j := by unfold Nof; split; exacts [NA_pos, NR_pos]

/-! ## The schedule -/

variable (XB : XgC F) (RB : Dev nD → RbC F)

def barPay (c : Dev nD) : sProp 𝕄 :=
  iprop((bigSep (Finset.Ico 0 7) fun s => iprop(∃ f : XgC F, slotX (nxt c) (org c s) fullShare f))
    ∗ bigSep (Finset.Ico 0 7) fun t => iprop(∃ f : RbC F, slotR (nxt c) t f))
def pay (c : Dev nD) (j : ℕ) : sProp 𝕄 :=
  if j < 7 then slotX c (org c j) fullShare.left XB
  else if j < 14 then slotX c (org c (j - 6)) fullShare XB
  else if j < 21 then iprop(∃ f : SbC F, slotS c ((j - 14) % 2) f)
  else slotR c (j - 21) (RB c)

instance barPay_storable (c : Dev nD) : BI.Storable (upEmb : UEmb _ 𝕄) (barPay (F := F) c) := by unfold barPay; infer_instance
instance pay_storable (c : Dev nD) (j : ℕ) : BI.Storable (upEmb : UEmb _ 𝕄) (pay XB RB c j) := by
  unfold pay; (repeat' split) <;> infer_instance

def ringRd : Rounds.Schedule (GSem nD τ sig) Bool 𝕄 where
  duties g r := if r = 0 then (match g.2 with | .reg _ => Finset.univ | .dma q => if 4 ≤ q.val ∧ q.val < 32 then {false} else ∅) else ∅
  unitless _ := False
  amount g _ _ := match g.2 with | .reg _ => 1 | .dma q => Nof (q.val - 4)
  payload g _ d := match g.2 with | .reg _ => (if d then barPay g.1.1 else iprop(emp)) | .dma q => pay XB RB g.1.1 (q.val - 4)
  amount_pos g _ _ _ := by
    rcases g with ⟨_, _ | q⟩
    · exact Nat.one_pos
    · exact Nof_pos _

instance ringRd_payload_storable (g : GSem nD τ sig) (r : ℕ) (d : Bool) : BI.Storable (upEmb : UEmb _ 𝕄) ((ringRd XB RB).payload g r d) := by
  rcases g with ⟨_, _ | q⟩
  · show BI.Storable upEmb (if d then barPay _ else iprop(emp)); split <;> infer_instance
  · show BI.Storable upEmb (pay XB RB _ _); infer_instance

theorem duties_bar (c : Dev nD) : (ringRd XB RB).duties (barCell c) 0 = Finset.univ := rfl
theorem duties_x (c : Dev nD) {j : ℕ} (hj : j < 28) : (ringRd XB RB).duties (xcell c j) 0 = {false} := by
  show (if 4 ≤ (xsem j).val ∧ (xsem j).val < 32 then ({false} : Finset Bool) else ∅) = _
  rw [xsem_val hj, if_pos (by omega)]
theorem duties_later (g : GSem nD τ sig) : ∀ r, 1 ≤ r → (ringRd XB RB).duties g r = ∅ := fun r hr => if_neg (by omega)
theorem amount_bar (c : Dev nD) (d : Bool) : (ringRd XB RB).amount (barCell c) 0 d = 1 := rfl
theorem amount_x (c : Dev nD) {j : ℕ} (hj : j < 28) (d : Bool) : (ringRd XB RB).amount (xcell c j) 0 d = Nof j := by
  show Nof ((xsem j).val - 4) = _; rw [xsem_val hj, Nat.add_sub_cancel_left]
theorem payload_x (c : Dev nD) {j : ℕ} (hj : j < 28) (d : Bool) : (ringRd XB RB).payload (xcell c j) 0 d = pay XB RB c j := by
  show pay XB RB _ ((xsem j).val - 4) = _; rw [xsem_val hj, Nat.add_sub_cancel_left]
theorem expect_bar (c : Dev nD) : (ringRd XB RB).expect (barCell c) 0 = 2 := by
  unfold Schedule.expect Schedule.amountOf
  rw [duties_bar, Finset.sum_congr rfl fun d _ => amount_bar XB RB c d, Finset.sum_const, Finset.card_univ, Fintype.card_bool, smul_eq_mul]
theorem expect_x (c : Dev nD) {j : ℕ} (hj : j < 28) : (ringRd XB RB).expect (xcell c j) 0 = Nof j := by
  unfold Schedule.expect Schedule.amountOf; rw [duties_x XB RB c hj, Finset.sum_singleton, amount_x XB RB c hj]
theorem rest_bar (c : Dev nD) : bigSep ((ringRd XB RB).duties (barCell c) 0 \ ∅) (fun d => (ringRd XB RB).payload (barCell c) 0 d) = iprop(emp ∗ barPay c) := by
  rw [Finset.sdiff_empty, duties_bar, bigSep_univ_eq_bigSepL [false, true] (by decide) (by decide), bigSepL_cons_cons, bigSepL_singleton]
  rfl
theorem rest_x (c : Dev nD) {j : ℕ} (hj : j < 28) :
    bigSep ((ringRd XB RB).duties (xcell c j) 0 \ ∅) (fun d => (ringRd XB RB).payload (xcell c j) 0 d) = pay XB RB c j := by
  rw [Finset.sdiff_empty, duties_x XB RB c hj, bigSep_singleton, payload_x XB RB c hj]

/-! ## Debts and levels -/

/-- What device `c` owes once it has sent `a` gathered blocks and `r` partial sums. -/
def owe (c : Dev nD) (a r : ℕ) : CellTallies nD τ sig Unit :=
  (∑ s ∈ Finset.Ico a 7, tallyAt (xcell (nxt c) (7 + s)) () NA) + ∑ t ∈ Finset.Ico r 7, tallyAt (xcell (nxt c) (21 + t)) () NR
def O₁ (c : Dev nD) : CellTallies nD τ sig Unit := owe c 0 0 + tallyAt (barCell (nxt c)) () 1
def O₀ (c : Dev nD) : CellTallies nD τ sig Unit := O₁ c + tallyAt (barCell (prv c)) () 1

theorem Ico_peel {a : ℕ} (ha : a < 7) : Finset.Ico a 7 = insert a (Finset.Ico (a + 1) 7) := by
  ext x; rw [Finset.mem_insert, Finset.mem_Ico, Finset.mem_Ico]; omega
theorem not_mem_Ico (a : ℕ) : a ∉ Finset.Ico (a + 1) 7 := fun h => by have := (Finset.mem_Ico.mp h).1; omega

theorem owe_ag (c : Dev nD) {a r : ℕ} (ha : a < 7) : owe c a r = owe c (a + 1) r + tallyAt (xcell (nxt c) (7 + a)) () NA := by
  unfold owe; rw [Ico_peel ha, Finset.sum_insert (not_mem_Ico a), add_assoc, add_comm (tallyAt _ _ _)]
theorem owe_rs (c : Dev nD) {a r : ℕ} (hr : r < 7) : owe c a r = owe c a (r + 1) + tallyAt (xcell (nxt c) (21 + r)) () NR := by
  unfold owe; rw [Ico_peel hr, Finset.sum_insert (not_mem_Ico r), add_comm (tallyAt (xcell (nxt c) (21 + r)) _ _), add_assoc]
theorem owe_done (c : Dev nD) : owe c 7 7 = 0 := by unfold owe; rw [Finset.Ico_self, Finset.sum_empty, Finset.sum_empty, add_zero]

def L (g : GSem nD τ sig) : Finset Unit := if g.1.2 = .tc then {()} else ∅
/-- Barrier 1; the landing of gather step `s` at `2 + 2 s`, of reduce step `t` at `3 + 2 t`; everything else 0. -/
def lv (g : GSem nD τ sig) (_ : Unit) : ℕ :=
  match g.2 with
  | .reg _ => 1
  | .dma q => if 11 ≤ q.val ∧ q.val < 18 then 2 + 2 * (q.val - 11) else if 25 ≤ q.val ∧ q.val < 32 then 3 + 2 * (q.val - 25) else 0

theorem L_of_ne (g : GSem nD τ sig) (h : g.1.2 ≠ .tc) : L g = ∅ := if_neg h
theorem L_tc (c : Dev nD) (sm : SemLoc sig) : L ((c : Thread nD τ), sm) = {()} := if_pos rfl
theorem lv_agR (c : Dev nD) {s : ℕ} (hs : s < 7) : lv (xcell c (7 + s)) () = 2 + 2 * s := by
  show (if 11 ≤ (xsem (7 + s)).val ∧ (xsem (7 + s)).val < 18 then 2 + 2 * ((xsem (7 + s)).val - 11) else _) = _
  rw [xsem_val (by omega), if_pos (by omega)]; omega
theorem lv_rsR (c : Dev nD) {t : ℕ} (ht : t < 7) : lv (xcell c (21 + t)) () = 3 + 2 * t := by
  show (if 11 ≤ (xsem (21 + t)).val ∧ (xsem (21 + t)).val < 18 then _ else if 25 ≤ (xsem (21 + t)).val ∧ (xsem (21 + t)).val < 32 then 3 + 2 * ((xsem (21 + t)).val - 25) else 0) = _
  rw [xsem_val (by omega), if_neg (by omega), if_pos (by omega)]; omega

theorem owe_pos {c : Dev nD} {a r : ℕ} {g : GSem nD τ sig} {u : Unit} (h : 0 < owe c a r g u) :
    (∃ s, a ≤ s ∧ s < 7 ∧ g = xcell (nxt c) (7 + s)) ∨ ∃ t, r ≤ t ∧ t < 7 ∧ g = xcell (nxt c) (21 + t) := by
  by_contra hn
  rw [not_or] at hn
  have h1 : (∑ s ∈ Finset.Ico a 7, tallyAt (xcell (nxt c) (7 + s)) () NA : CellTallies nD τ sig Unit) g u = 0 := by
    rw [Finset.sum_apply, Finsupp.finset_sum_apply]
    refine Finset.sum_eq_zero fun s hs => ?_
    rw [tallyAt_apply, if_neg]
    rintro ⟨rfl, -⟩
    exact hn.1 ⟨s, (Finset.mem_Ico.mp hs).1, (Finset.mem_Ico.mp hs).2, rfl⟩
  have h2 : (∑ t ∈ Finset.Ico r 7, tallyAt (xcell (nxt c) (21 + t)) () NR : CellTallies nD τ sig Unit) g u = 0 := by
    rw [Finset.sum_apply, Finsupp.finset_sum_apply]
    refine Finset.sum_eq_zero fun s hs => ?_
    rw [tallyAt_apply, if_neg]
    rintro ⟨rfl, -⟩
    exact hn.2 ⟨s, (Finset.mem_Ico.mp hs).1, (Finset.mem_Ico.mp hs).2, rfl⟩
  unfold owe at h
  rw [Pi.add_apply, Finsupp.add_apply, h1, h2] at h
  exact Nat.lt_irrefl 0 h

/-- A wait below everything still owed may be made. -/
theorem mayWait_owe (c : Dev nD) (sm : SemLoc sig) (a r n : ℕ) (hn : lv ((c : Thread nD τ), sm) () ≤ n) (ha : n < 2 + 2 * a) (hr : n < 3 + 2 * r) :
    (levAts L lv : sProp 𝕄) ⊢ MayWait (c : Thread nD τ) sm () (owe c a r) :=
  MayOwe.of_cut (L := L) (lev := lv) n (fun p hp => by rw [Finset.mem_singleton.mp hp, L_tc]; exact Finset.mem_singleton_self _)
    (fun g u hg => by rcases owe_pos hg with ⟨s, _, _, rfl⟩ | ⟨t, _, _, rfl⟩ <;> exact Finset.mem_singleton_self _)
    (fun p hp => by rw [Finset.mem_singleton.mp hp]; exact hn)
    (fun g u hg => by
      rcases owe_pos hg with ⟨s, h1, h2, rfl⟩ | ⟨t, h1, h2, rfl⟩
      · rw [lv_agR _ h2]; omega
      · rw [lv_rsR _ h2]; omega)

/-! ## Waiting on a cell of the ring, sending -/

def records (K : Dev nD × Fin 29 → ℕ) : sProp 𝕄 :=
  iprop((bigSep Finset.univ fun ck : Dev nD × Fin 29 => cellInv ER (ringRd XB RB) (K ck) (kcell ck))
    ∗ bigSep Finset.univ fun ck : Dev nD × Fin 29 => reached ER (kcell ck) 0)
instance records_persistent (K : Dev nD × Fin 29 → ℕ) : BI.Persistent (records XB RB K) := by unfold records; infer_instance

variable (K : Dev nD × Fin 29 → ℕ)

theorem records_inv (ck : Dev nD × Fin 29) : records XB RB K ⊢ cellInv ER (ringRd XB RB) (K ck) (kcell ck) := by
  have h : (bigSep Finset.univ fun ck : Dev nD × Fin 29 => (cellInv ER (ringRd XB RB) (K ck) (kcell ck) : sProp 𝕄))
    ⊢ cellInv ER (ringRd XB RB) (K ck) (kcell ck) := bigSep_elim (Finset.mem_univ ck)
  unfold records
  iintro ⟨H, -⟩
  iapply h; iexact H
theorem records_reached (ck : Dev nD × Fin 29) : records XB RB K ⊢ reached ER (kcell ck) 0 := by
  have h : (bigSep Finset.univ fun ck : Dev nD × Fin 29 => (reached ER (kcell ck) 0 : sProp 𝕄)) ⊢ reached ER (kcell ck) 0 :=
    bigSep_elim (Finset.mem_univ ck)
  unfold records
  iintro ⟨-, H⟩
  iapply h; iexact H
theorem records_invx (c : Dev nD) {j : ℕ} (hj : j < 28) : records XB RB K ⊢ cellInv ER (ringRd XB RB) (K (c, kof j)) (xcell c j) := by
  have h := records_inv XB RB K (c, kof j); rw [kcell_kof c hj] at h; exact h
theorem records_reachedx (c : Dev nD) {j : ℕ} (hj : j < 28) : records XB RB K ⊢ reached ER (xcell c j) 0 := by
  have h := records_reached XB RB K (c, kof j); rw [kcell_kof c hj] at h; exact h

/-- The wait on cell `j`: its payload comes, the cell closes, its counter at zero. -/
theorem wp_waitX {α : Type} {Q : α → sProp 𝕄} (c : Dev nD) {j : ℕ} (hj : j < 28) {q : DmaSem sig} (hq : q = xsem j) (O : CellTallies nD τ sig Unit)
    {sp sp' : Space} {s s' : Shape} {e e' : EltTy} {srcw : Memref sig .tc sp s e} {dstw : Memref sig .tc sp' s' e'} (hN : dstw.view.dmaCredit = Nof j)
    {hx : srcw.view.WordExact} {hy : dstw.view.WordExact} {k : PUnit → Prog (TpuEff nD τ sig (Elt F) Λ₀ .tc) α} :
    iprop(records XB RB K ∗ cred (tallyAt (xcell c j) () (Nof j)) ∗ owing c O ∗ MayWait (c : Thread nD τ) (.dma (xsem j)) () O ∗ atPos ER (xcell c j) 0 ∅ 0)
      ⊢ iprop((iprop(pay XB RB c j ∗ semVal (xcell c j) 0 ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q srcw dstw hx hy) k) Q) := by
  subst hq
  unfold owing
  iintro ⟨#HR, Hc, ⟨%W, HO⟩, HM, Hat⟩ Hk
  iapply (Rounds.wp_wait_rest_token 𝒱₀ ER (ringRd XB RB) (c : Thread nD τ) none (κ := K (c, kof j))
      (wpE_waitDma2_eq 𝒱₀ (c : Thread nD τ) none Set.univ) (Set.mem_univ _) () (O := O) (W := W) (R := 0) (m := 0) (T := ∅)
      (by rw [Nat.zero_add, expect_x XB RB c hj, hN])) $$ [Hc HO HM Hat]
  · isplitr; · iapply (records_invx XB RB K c hj); iexact HR
    isplitl [Hc]; · rw [hN]; iexact Hc
    isplitl [HO]; · iexact HO
    isplitl [HM]; · iexact HM
    iexact Hat
  iintro ⟨HO, Hat, -, Hpay⟩
  ihave Hpay := (Entails.of_eq (rest_x XB RB c hj)) $$ Hpay
  imod (Rounds.cell_close ER (ringRd XB RB) (Set.mem_univ (K (c, kof j))) (fun h => h) (R := 0 + 1) (duties_later XB RB (xcell c j))) $$ [Hat] with Hz
  · isplitr; · iapply (records_invx XB RB K c hj); iexact HR
    iexact Hat
  iapply Hk
  isplitl [Hpay]; · iexact Hpay
  isplitl [Hz]; · iexact Hz
  iexists _; iexact HO

abbrev xgAt (off : Fin 3 → ℕ) (inb : ∀ a, off a + S1x256x1024.size a ≤ S8x256x1024.size a) : Memref sig .tc .vmem S1x256x1024 .bf16 :=
  xgM.slice (Rect.unit (s := S8x256x1024) off S1x256x1024.size inb) (fun _ => rfl)
abbrev sbAt (off : Fin 3 → ℕ) (inb : ∀ a, off a + S1x256x1024.size a ≤ S2x256x1024.size a) : Memref sig .tc .vmem S256x1024 .f32 :=
  (sbM.slice (Rect.unit (s := S2x256x1024) off S1x256x1024.size inb) (fun _ => rfl)).squeeze S256x1024 squeezes_S1x256x1024_S256x1024
abbrev rbAt (off : Fin 3 → ℕ) (inb : ∀ a, off a + S1x256x1024.size a ≤ S7x256x1024.size a) : Memref sig .tc .vmem S256x1024 .f32 :=
  (rbM.slice (Rect.unit (s := S7x256x1024) off S1x256x1024.size inb) (fun _ => rfl)).squeeze S256x1024 squeezes_S1x256x1024_S256x1024

theorem xgAt_set {k : ℕ} (inb : ∀ a, (![k, 0, 0] : Fin 3 → ℕ) a + S1x256x1024.size a ≤ S8x256x1024.size a) : (xgAt ![k, 0, 0] inb).view.set = lane 8 k :=
  (View.set_slice_whole cc0_scratch0 _).trans (lane_rect inb)
theorem sbAt_set {k : ℕ} (inb : ∀ a, (![k, 0, 0] : Fin 3 → ℕ) a + S1x256x1024.size a ≤ S2x256x1024.size a) : (sbAt ![k, 0, 0] inb).view.set = lane 2 k :=
  (View.set_reshape _ _).trans ((View.set_slice_whole cc0_scratch8 _).trans (lane_rect inb))
theorem rbAt_set {k : ℕ} (inb : ∀ a, (![k, 0, 0] : Fin 3 → ℕ) a + S1x256x1024.size a ≤ S7x256x1024.size a) : (rbAt ![k, 0, 0] inb).view.set = lane 7 k :=
  (View.set_reshape _ _).trans ((View.set_slice_whole cc0_scratch9 _).trans (lane_rect inb))

/-- The gather's send of step `s`: the right half of the slot stays. -/
theorem wp_sendX {α : Type} {Q : α → sProp 𝕄} (c n : Dev nD) (hn : n = nxt c) {s r : ℕ} (hs : s < 7)
    {q q' : DmaSem sig} (hq : q = xsem s) (hq' : q' = xsem (7 + s))
    {off : Fin 3 → ℕ} {inb : ∀ a, off a + S1x256x1024.size a ≤ S8x256x1024.size a} (hoff : off = ![org c s, 0, 0])
    {hsc : (xgAt off inb : Memref sig (Dev.tc n : Thread nD τ).2.kind .vmem S1x256x1024 .bf16).view.ref.isScScratch = false}
    {hx : (xgAt off inb).view.WordExact} {hy : (xgAt off inb).view.WordExact}
    {ht : DmaTarget.Typed .vmem (.dma q') (.remote (Dev.tc n : Thread nD τ) (xgAt off inb) (.dma q) hsc)}
    {k : PUnit → Prog (TpuEff nD τ sig (Elt F) Λ₀ .tc) α} :
    iprop(records XB RB K ∗ slotX c (org c s) fullShare XB ∗ (∃ f : XgC F, slotX (nxt c) (org c s) fullShare f) ∗ owing c (owe c s r)
        ∗ dutyTok ER (xcell c s) 0 false ∗ dutyTok ER (xcell (nxt c) (7 + s)) 0 false)
      ⊢ iprop((iprop(slotX c (org c s) fullShare.right XB ∗ cred (tallyAt (xcell c s) () (Nof s)) ∗ owing c (owe c (s + 1) r))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xgAt off inb) (.remote (Dev.tc n : Thread nD τ) (xgAt off inb) (.dma q) hsc) (.dma q') hx hy ht) k) Q) := by
  subst hn hq hq' hoff
  unfold owing
  have hN : Nof s = NA := if_pos (by omega)
  have hN' : Nof (7 + s) = NA := if_pos (by omega)
  rw [hN]
  iintro ⟨#HR, Hx, ⟨%f, Hn⟩, ⟨%W, HO⟩, Ht, Ht'⟩ Hk
  ihave Hx := (show slotX c (org c s) fullShare XB ⊢ iprop(slotX c (org c s) fullShare.left XB ∗ slotX c (org c s) fullShare.right XB) from by
    unfold slotX; exact (pointsTo_share (PosShare.mem_left_op_right _)).1) $$ Hx
  icases Hx with ⟨Hl, Hr⟩
  iapply (Rounds.wp_send_pointsTo 𝒱₀ ER (ringRd XB RB) (c : Thread nD τ) none (c' := (nxt c : Thread nD τ)) (src := xgAt ![org c s, 0, 0] inb) (dst := xgAt ![org c s, 0, 0] inb)
    (hsc := hsc) (hsrc := hx) (hdst := hy) (hsem := ht) (q := fullShare.left) (fs := XB) (fd := f)
    (κ₁ := K (c, kof s)) (κ₂ := K (nxt c, kof (7 + s)))
    (r₁ := 0) (r₂ := 0) (d₁ := false) (d₂ := false)
    (by rw [duties_x XB RB c (by omega)]; exact Finset.mem_singleton_self _) (by rw [duties_x XB RB (nxt c) (by omega)]; exact Finset.mem_singleton_self _)
    () () NA rfl ((amount_x XB RB c (by omega) false).trans hN) ((amount_x XB RB (nxt c) (by omega) false).trans hN') (owe c (s + 1) r) (owe_ag c hs) (W := W)
    (by rw [payload_x XB RB c (by omega)]; unfold pay; rw [if_pos hs]; unfold slotX; rw [xgAt_set])
    (by
      rw [payload_x XB RB (nxt c) (by omega)]; unfold pay
      rw [if_neg (by omega), if_pos (by omega), show 7 + s - 6 = s + 1 by omega, org_nxt c s (by omega)]
      unfold slotX
      rw [← xgAt_set inb]
      exact Entails.of_eq (pointsTo_congr (block_written (F := F) (xgAt ![org c s, 0, 0] inb).view f XB)))) $$ [Hl Hn HO Ht Ht']
  · isplitr; · iapply (records_invx XB RB K c (by omega)); iexact HR
    isplitr; · iapply (records_invx XB RB K (nxt c) (by omega)); iexact HR
    isplitl [Hl]; · rw [xgAt_set]; unfold slotX; iexact Hl
    isplitl [Hn]; · rw [xgAt_set]; unfold slotX; iexact Hn
    isplitl [HO]; · iexact HO
    isplitl [Ht]; · iexact Ht
    isplitr; · iapply (records_reachedx XB RB K c (by omega)); iexact HR
    isplitl [Ht']; · iexact Ht'
    iapply (records_reachedx XB RB K (nxt c) (by omega)); iexact HR
  iintro ⟨Hc, HO⟩
  iapply Hk
  isplitl [Hr]; · iexact Hr
  isplitl [Hc]; · iexact Hc
  iexists W; iexact HO

/-- The reduce-scatter's send of step `t`, of what the send slot reads. -/
theorem wp_sendR {α : Type} {Q : α → sProp 𝕄} (c n : Dev nD) (hn : n = nxt c) {t a : ℕ} (ht7 : t < 7)
    {q q' : DmaSem sig} (hq : q = xsem (14 + t)) (hq' : q' = xsem (21 + t))
    {offs : Fin 3 → ℕ} {inbs : ∀ a, offs a + S1x256x1024.size a ≤ S2x256x1024.size a} (hoffs : offs = ![t % 2, 0, 0])
    {offd : Fin 3 → ℕ} {inbd : ∀ a, offd a + S1x256x1024.size a ≤ S7x256x1024.size a} (hoffd : offd = ![t, 0, 0])
    (fs : SbC F) (hfs : (sbAt offs inbs).view.read (Elt F) fs = (rbAt offd inbd).view.read (Elt F) (RB (nxt c)))
    {hsc : (rbAt offd inbd : Memref sig (Dev.tc n : Thread nD τ).2.kind .vmem S256x1024 .f32).view.ref.isScScratch = false}
    {hx : (sbAt offs inbs).view.WordExact} {hy : (rbAt offd inbd).view.WordExact}
    {ht : DmaTarget.Typed .vmem (.dma q') (.remote (Dev.tc n : Thread nD τ) (rbAt offd inbd) (.dma q) hsc)}
    {k : PUnit → Prog (TpuEff nD τ sig (Elt F) Λ₀ .tc) α} :
    iprop(records XB RB K ∗ slotS c (t % 2) fs ∗ (∃ f : RbC F, slotR (nxt c) t f) ∗ owing c (owe c a t)
        ∗ dutyTok ER (xcell c (14 + t)) 0 false ∗ dutyTok ER (xcell (nxt c) (21 + t)) 0 false)
      ⊢ iprop((iprop(cred (tallyAt (xcell c (14 + t)) () (Nof (14 + t))) ∗ owing c (owe c a (t + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbAt offs inbs) (.remote (Dev.tc n : Thread nD τ) (rbAt offd inbd) (.dma q) hsc) (.dma q') hx hy ht) k) Q) := by
  subst hn hq hq' hoffs hoffd
  unfold owing
  have hN : Nof (14 + t) = NR := if_neg (by omega)
  have hN' : Nof (21 + t) = NR := if_neg (by omega)
  rw [hN]
  iintro ⟨#HR, Hx, ⟨%f, Hn⟩, ⟨%W, HO⟩, Ht, Ht'⟩ Hk
  iapply (Rounds.wp_send_pointsTo 𝒱₀ ER (ringRd XB RB) (c : Thread nD τ) none (c' := (nxt c : Thread nD τ)) (src := sbAt ![t % 2, 0, 0] inbs) (dst := rbAt ![t, 0, 0] inbd)
    (hsc := hsc) (hsrc := hx) (hdst := hy) (hsem := ht) (q := fullShare) (fs := fs) (fd := f)
    (κ₁ := K (c, kof (14 + t))) (κ₂ := K (nxt c, kof (21 + t)))
    (r₁ := 0) (r₂ := 0) (d₁ := false) (d₂ := false)
    (by rw [duties_x XB RB c (by omega)]; exact Finset.mem_singleton_self _) (by rw [duties_x XB RB (nxt c) (by omega)]; exact Finset.mem_singleton_self _)
    () () NR rfl ((amount_x XB RB c (by omega) false).trans hN) ((amount_x XB RB (nxt c) (by omega) false).trans hN') (owe c a (t + 1)) (owe_rs c ht7) (W := W)
    (by
      rw [payload_x XB RB c (by omega)]; unfold pay
      rw [if_neg (by omega), if_neg (by omega), if_pos (by omega), show 14 + t - 14 = t by omega]; unfold slotS; rw [sbAt_set]
      iintro H; iexists fs; iexact H)
    (by
      rw [payload_x XB RB (nxt c) (by omega)]; unfold pay
      rw [if_neg (by omega), if_neg (by omega), if_neg (by omega), show 21 + t - 21 = t by omega, hfs]
      unfold slotR
      rw [← rbAt_set inbd]
      exact Entails.of_eq (pointsTo_congr (block_written (F := F) (rbAt ![t, 0, 0] inbd).view f (RB (nxt c)))))) $$ [Hx Hn HO Ht Ht']
  · isplitr; · iapply (records_invx XB RB K c (by omega)); iexact HR
    isplitr; · iapply (records_invx XB RB K (nxt c) (by omega)); iexact HR
    isplitl [Hx]; · rw [sbAt_set]; unfold slotS; iexact Hx
    isplitl [Hn]; · rw [rbAt_set]; unfold slotR; iexact Hn
    isplitl [HO]; · iexact HO
    isplitl [Ht]; · iexact Ht
    isplitr; · iapply (records_reachedx XB RB K c (by omega)); iexact HR
    isplitl [Ht']; · iexact Ht'
    iapply (records_reachedx XB RB K (nxt c) (by omega)); iexact HR
  iintro ⟨Hc, HO⟩
  iapply Hk
  isplitl [Hc]; · iexact Hc
  iexists W; iexact HO

end Cert.RingAttn
-- ==== Proof.Trip.lean ====
/-
# One head of one stage

What one trip of a stage's loop over the heads writes: for each of the four 64-row blocks of queries, the scores against the keys
of class `-qb` modulo three and against the first block and the diagonal block, exponentiated and applied to the values.
-/
module

public import proofs.«01_k».proof.Proof.Ring
public import proofs.«01_k».proof.Proof.Gen.KernelIdeal.Skeleton
public import Idealize.ShloMosaic.Lib.Exec
public import Idealize.ShloMosaic.Lib.Writes
public import Idealize.ShloMosaic.Lib.Pointwise.Index
public import Idealize.ShloMosaic.Lib.Pipeline.ValueKit.Geometry

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The buffers -/

abbrev krM : Memref sig .tc .vmem S8x3x1408x128 .bf16 := Memref.whole cc0_scratch4
abbrev vrM : Memref sig .tc .vmem S8x3x1408x128 .bf16 := Memref.whole cc0_scratch5
abbrev quM : Memref sig .tc .vmem S256x1024 .bf16 := Memref.whole cc0_scratch6
abbrev ctM : Memref sig .tc .vmem S256x1024 .bf16 := Memref.whole cc0_scratch7
abbrev accM : Memref sig .tc .vmem S8x256x1024 .f32 := Memref.whole cc0_scratch1
abbrev kbM : BufM := Memref.whole cc0_scratch2
abbrev vbM : BufM := Memref.whole cc0_scratch3
abbrev kaM : ArrM := Memref.whole main_arg2
abbrev vaM : ArrM := Memref.whole main_arg3

abbrev HdC (F : FTy → Type) : Type := krM.view.ty.Contents (Elt F)
abbrev QuC (F : FTy → Type) : Type := quM.view.ty.Contents (Elt F)
abbrev AcC (F : FTy → Type) : Type := accM.view.ty.Contents (Elt F)

/-- A program of the whole argument list, at this kernel's buffers. -/
abbrev bodyA {α : Type 1}
    (f : (arg0 : Memref sig .tc .vmem S1x256x1024 .f32) → (harg0 : arg0.IsWhole) → (arg1 : Memref sig .tc .vmem S1024x1024 .f32) → (harg1 : arg1.IsWhole) →
      (arg2 : Memref sig .tc .hbm S1x4096x64x128 .f32) → (harg2 : arg2.IsWhole) → (arg3 : Memref sig .tc .hbm S1x4096x64x128 .f32) → (harg3 : arg3.IsWhole) →
      (arg4 : Memref sig .tc .vmem S1024x1024 .f32) → (harg4 : arg4.IsWhole) → (arg5 : Memref sig .tc .vmem S1x256x1024 .f32) → (harg5 : arg5.IsWhole) →
      (arg6 : Memref sig .tc .vmem S8x256x1024 .bf16) → (harg6 : arg6.IsWhole) → (arg7 : Memref sig .tc .vmem S8x256x1024 .f32) → (harg7 : arg7.IsWhole) →
      (arg8 : Memref sig .tc .vmem S2x3x1408x128 .f32) → (harg8 : arg8.IsWhole) → (arg9 : Memref sig .tc .vmem S2x3x1408x128 .f32) → (harg9 : arg9.IsWhole) →
      (arg10 : Memref sig .tc .vmem S8x3x1408x128 .bf16) → (harg10 : arg10.IsWhole) → (arg11 : Memref sig .tc .vmem S8x3x1408x128 .bf16) → (harg11 : arg11.IsWhole) →
      (arg12 : Memref sig .tc .vmem S256x1024 .bf16) → (harg12 : arg12.IsWhole) → (arg13 : Memref sig .tc .vmem S256x1024 .bf16) → (harg13 : arg13.IsWhole) →
      (arg14 : Memref sig .tc .vmem S2x256x1024 .f32) → (harg14 : arg14.IsWhole) → (arg15 : Memref sig .tc .vmem S7x256x1024 .f32) → (harg15 : arg15.IsWhole) →
      (arg16 : DmaSems sig S7) → (arg17 : DmaSems sig S7) → (arg18 : DmaSems sig S7) → (arg19 : DmaSems sig S7) → (arg20 : DmaSems sig S2x2) → α) : α :=
  f (Memref.whole cc0_stg0_0) (Memref.isWhole_whole _) (Memref.whole cc0_stg1_0) (Memref.isWhole_whole _) kaM (Memref.isWhole_whole _) vaM (Memref.isWhole_whole _)
    (Memref.whole cc0_stg2_0) (Memref.isWhole_whole _) (Memref.whole cc0_stg3_0) (Memref.isWhole_whole _) xgM (Memref.isWhole_whole _) accM (Memref.isWhole_whole _)
    kbM (Memref.isWhole_whole _) vbM (Memref.isWhole_whole _) krM (Memref.isWhole_whole _) vrM (Memref.isWhole_whole _) quM (Memref.isWhole_whole _) ctM (Memref.isWhole_whole _)
    sbM (Memref.isWhole_whole _) rbM (Memref.isWhole_whole _) cc0_scratch10 cc0_scratch11 cc0_scratch12 cc0_scratch13 cc0_scratch14

/-! ## One block of queries -/

/-- The block's number modulo three and its negative's, as the program computes them from the stage's device word. -/
def rW (w l : BitVec 32) : BitVec 32 := Scalar.remsi (Scalar.addi (Scalar.muli w 4#32) l) 3#32
def gW (w l : BitVec 32) : BitVec 32 :=
  let qb := Scalar.addi (Scalar.muli w 4#32) l
  let n := Scalar.addi qb 2#32
  let q := Scalar.divsi n 3#32
  let sg := Scalar.subi (Scalar.extui (Scalar.cmpi .sgt n 0#32)) (Scalar.extui (Scalar.cmpi .slt n 0#32))
  let s3 := Scalar.subi (Scalar.extui (Scalar.cmpi .sgt 3#32 0#32)) (Scalar.extui (Scalar.cmpi .slt 3#32 0#32))
  let m := Scalar.andi (Scalar.cmpi .ne sg s3) (Scalar.cmpi .ne (Scalar.remsi n 3#32) 0#32)
  Scalar.subi (Scalar.muli 3#32 (Scalar.select m (Scalar.subi q 1#32) q)) qb

/-- The context rows of one block of queries. -/
def blkVal (r g : BitVec 32) (q : Vec F S64x128 .bf16) (km : Vec F S1x1x1408x128 .bf16) (k0 kd : Vec F S1x1x64x128 .bf16)
    (vm : Vec F S1x1x1408x128 .bf16) (v0 vd : Vec F S1x1x64x128 .bf16) : FVec F S64x128 .f32 :=
  k0_pay29 (k0_pay26 q km) (k0_pay27 r q k0 kd) (k0_pay28 r g q km k0 kd) vm v0 vd
def catVal (b0 b1 b2 b3 : FVec F S64x128 .f32) : FVec F S256x128 .bf16 :=
  k0_pay154 (truncf .bf16 (concatenate S256x128 0 [⟨S64x128, b0⟩, ⟨S64x128, b1⟩, ⟨S64x128, b2⟩, ⟨S64x128, b3⟩] concatenates_S64x128_S64x128_S64x128_S64x128_S256x128_d0) bitsLt_bf16_f32)

abbrev rdQ (off : Fin 2 → ℕ) (inb : ∀ a, off a + S64x128.size a ≤ S256x1024.size a) (Q : QuC F) : Vec F S64x128 .bf16 :=
  quM.view.readAt (Elt F) (Rect.unit (s := S256x1024) off S64x128.size inb).toLoadRect Q
abbrev rdM (M : Memref sig .tc .vmem S8x3x1408x128 .bf16) (off : Fin 4 → ℕ) (inb : ∀ a, off a + S1x1x1408x128.size a ≤ S8x3x1408x128.size a)
    (X : M.view.ty.Contents (Elt F)) : Vec F S1x1x1408x128 .bf16 :=
  M.view.readAt (Elt F) (Rect.unit (s := S8x3x1408x128) off S1x1x1408x128.size inb).toLoadRect X
abbrev rdB (M : Memref sig .tc .vmem S8x3x1408x128 .bf16) (off : Fin 4 → ℕ) (inb : ∀ a, off a + S1x1x64x128.size a ≤ S8x3x1408x128.size a)
    (X : M.view.ty.Contents (Elt F)) : Vec F S1x1x64x128 .bf16 :=
  M.view.readAt (Elt F) (Rect.unit (s := S8x3x1408x128) off S1x1x64x128.size inb).toLoadRect X

/-- The query block's number in stage `s`, and where it reads: queries, keys of its class, first block, diagonal block. -/
def qbN (c : Dev nD) (s : ℕ) (l : Fin 4) : ℕ := org c s * 4 + l.val
def oQ (t : Fin 8) (l : Fin 4) : Fin 2 → ℕ := ![64 * l.val, 128 * t.val]
def oM (c : Dev nD) (s : ℕ) (t : Fin 8) (l : Fin 4) : Fin 4 → ℕ := ![t.val, (2 * qbN c s l) % 3, 0, 0]
def oB (t : Fin 8) : Fin 4 → ℕ := ![t.val, 0, 0, 0]
def oD (c : Dev nD) (s : ℕ) (t : Fin 8) (l : Fin 4) : Fin 4 → ℕ := ![t.val, qbN c s l % 3, 64 * (qbN c s l / 3), 0]
def oC (t : Fin 8) : Fin 2 → ℕ := ![0, 128 * t.val]

theorem oQ_inb (t : Fin 8) (l : Fin 4) : ∀ a, oQ t l a + S64x128.size a ≤ S256x1024.size a := by revert t l; decide
theorem oC_inb (t : Fin 8) : ∀ a, oC t a + S256x128.size a ≤ S256x1024.size a := by revert t; decide
theorem oB_inb (t : Fin 8) : ∀ a, oB t a + S1x1x64x128.size a ≤ S8x3x1408x128.size a := by revert t; decide
theorem oM_inb (c : Dev nD) (s : ℕ) (t : Fin 8) (l : Fin 4) : ∀ a, oM c s t l a + S1x1x1408x128.size a ≤ S8x3x1408x128.size a := by
  have ht := t.isLt
  intro a; fin_cases a
  · show t.val + 1 ≤ 8; omega
  · show (2 * qbN c s l) % 3 + 1 ≤ 3; omega
  · exact Nat.le_refl 1408
  · exact Nat.le_refl 128
theorem oD_inb (c : Dev nD) (s : ℕ) (t : Fin 8) (l : Fin 4) : ∀ a, oD c s t l a + S1x1x64x128.size a ≤ S8x3x1408x128.size a := by
  have ht := t.isLt; have hl := l.isLt; have ho := org_lt c s
  intro a; fin_cases a
  · show t.val + 1 ≤ 8; omega
  · show qbN c s l % 3 + 1 ≤ 3; omega
  · show 64 * (qbN c s l / 3) + 64 ≤ 1408; unfold qbN; omega
  · exact Nat.le_refl 128

/-- The device whose block stage `s` works on, as the program's word. -/
def wW (c : Dev nD) (s : ℕ) : BitVec 32 := BitVec.ofNat 32 (org c s)

def blkAt (c : Dev nD) (s : ℕ) (Q : QuC F) (KR VR : HdC F) (t : Fin 8) (l : Fin 4) : FVec F S64x128 .f32 :=
  blkVal (rW (wW c s) (BitVec.ofNat 32 l.val)) (gW (wW c s) (BitVec.ofNat 32 l.val)) (rdQ (oQ t l) (oQ_inb t l) Q)
    (rdM krM (oM c s t l) (oM_inb c s t l) KR) (rdB krM (oB t) (oB_inb t) KR) (rdB krM (oD c s t l) (oD_inb c s t l) KR)
    (rdM vrM (oM c s t l) (oM_inb c s t l) VR) (rdB vrM (oB t) (oB_inb t) VR) (rdB vrM (oD c s t l) (oD_inb c s t l) VR)
def tripVal (c : Dev nD) (s : ℕ) (Q : QuC F) (KR VR : HdC F) (t : Fin 8) : FVec F S256x128 .bf16 :=
  catVal (blkAt c s Q KR VR t 0) (blkAt c s Q KR VR t 1) (blkAt c s Q KR VR t 2) (blkAt c s Q KR VR t 3)

/-- What a trip writes, at the program's own offsets and word, is `tripVal`. -/
theorem tripEq (c : Dev nD) (s : ℕ) (Q : QuC F) (KR VR : HdC F) (f : QuC F) (t : Fin 8) {w : BitVec 32} (hw : w = wW c s)
    {q : Fin 4 → Fin 2 → ℕ} {iq : ∀ l a, q l a + S64x128.size a ≤ S256x1024.size a} (hq : ∀ l, q l = oQ t l)
    {m : Fin 4 → Fin 4 → ℕ} {im : ∀ l a, m l a + S1x1x1408x128.size a ≤ S8x3x1408x128.size a} (hm : ∀ l, m l = oM c s t l)
    {b : Fin 4 → ℕ} {ib : ∀ a, b a + S1x1x64x128.size a ≤ S8x3x1408x128.size a} (hb : b = oB t)
    {d : Fin 4 → Fin 4 → ℕ} {id : ∀ l a, d l a + S1x1x64x128.size a ≤ S8x3x1408x128.size a} (hd : ∀ l, d l = oD c s t l)
    {o : Fin 2 → ℕ} {io : ∀ a, o a + S256x128.size a ≤ S256x1024.size a} (ho : o = oC t) :
    ctM.view.writes (Elt F) f [⟨Rect.unit (s := S256x1024) o S256x128.size io,
      catVal
        (blkVal (rW w 0#32) (gW w 0#32) (rdQ (q 0) (iq 0) Q) (rdM krM (m 0) (im 0) KR) (rdB krM b ib KR) (rdB krM (d 0) (id 0) KR) (rdM vrM (m 0) (im 0) VR) (rdB vrM b ib VR) (rdB vrM (d 0) (id 0) VR))
        (blkVal (rW w 1#32) (gW w 1#32) (rdQ (q 1) (iq 1) Q) (rdM krM (m 1) (im 1) KR) (rdB krM b ib KR) (rdB krM (d 1) (id 1) KR) (rdM vrM (m 1) (im 1) VR) (rdB vrM b ib VR) (rdB vrM (d 1) (id 1) VR))
        (blkVal (rW w 2#32) (gW w 2#32) (rdQ (q 2) (iq 2) Q) (rdM krM (m 2) (im 2) KR) (rdB krM b ib KR) (rdB krM (d 2) (id 2) KR) (rdM vrM (m 2) (im 2) VR) (rdB vrM b ib VR) (rdB vrM (d 2) (id 2) VR))
        (blkVal (rW w 3#32) (gW w 3#32) (rdQ (q 3) (iq 3) Q) (rdM krM (m 3) (im 3) KR) (rdB krM b ib KR) (rdB krM (d 3) (id 3) KR) (rdM vrM (m 3) (im 3) VR) (rdB vrM b ib VR) (rdB vrM (d 3) (id 3) VR))⟩]
      = ctM.view.writes (Elt F) f [⟨Rect.unit (s := S256x1024) (oC t) S256x128.size (oC_inb t), tripVal c s Q KR VR t⟩] := by
  obtain rfl : q = oQ t := funext hq
  obtain rfl : m = oM c s t := funext hm
  obtain rfl : d = oD c s t := funext hd
  subst hw hb ho
  rfl

/-! ## The context buffer as the trips fill it -/

/-- The context of one stage: head `t`'s columns are `tripVal`'s. -/
def ctx (c : Dev nD) (s : ℕ) (Q : QuC F) (KR VR : HdC F) : QuC F :=
  fun i => tripVal c s Q KR VR ⟨(i 1).val / 128, by have h := (i 1).isLt; change (i 1).val < 1024 at h; omega⟩
    (ix2 (i 0) ⟨(i 1).val % 128, Nat.mod_lt _ (by decide)⟩)

def heads (c : Dev nD) (Q : QuC F) (KR VR : HdC F) : sProp 𝕄 :=
  iprop((krM.view.loc (c : Thread nD τ) ↦{fullShare} KR) ∗ (vrM.view.loc (c : Thread nD τ) ↦{fullShare} VR) ∗ (quM.view.loc (c : Thread nD τ) ↦{fullShare} Q))

/-- The context buffer once the heads below `k` are written. -/
def ctxPts (c : Dev nD) (s : ℕ) (Q : QuC F) (KR VR : HdC F) (k : ℕ) : sProp 𝕄 :=
  iprop(∃ f : QuC F, ⌜∀ i : Shape.Idx S256x1024, (i 1).val < 128 * k → f i = ctx c s Q KR VR i⌝ ∗ (ctM.view.loc (c : Thread nD τ) ↦{fullShare} f))

theorem ctx_step (c : Dev nD) (s : ℕ) (Q : QuC F) (KR VR : HdC F) (f : QuC F) (t : Fin 8)
    (h : ∀ i : Shape.Idx S256x1024, (i 1).val < 128 * t.val → f i = ctx c s Q KR VR i) :
    ∀ i : Shape.Idx S256x1024, (i 1).val < 128 * (t.val + 1) →
      ctM.view.writes (Elt F) f [⟨Rect.unit (s := S256x1024) (oC t) S256x128.size (oC_inb t), tripVal c s Q KR VR t⟩] i = ctx c s Q KR VR i := by
  intro i hi
  have h0 := (i 0).isLt; change (i 0).val < 256 at h0
  by_cases hlt : (i 1).val < 128 * t.val
  · rw [← h i hlt]
    rw [View.writes_singleton, View.write_of_not_mem]
    intro hm
    have hs : (ctM.view.slice (Rect.unit (s := S256x1024) (oC t) S256x128.size (oC_inb t))).setOn Finset.univ
        = (Rect.unit (s := S256x1024) (oC t) S256x128.size (oC_inb t)).set := View.set_slice_whole cc0_scratch7 _
    have hm : i ∈ (Rect.unit (s := S256x1024) (oC t) S256x128.size (oC_inb t)).set := Eq.mp (congrArg (i ∈ ·) hs) hm
    rw [Rect.mem_set_unit] at hm
    have h1 : 128 * t.val ≤ (i 1).val := (hm 1).1
    omega
  · have e1 : (i 1).val / 128 = t.val := by omega
    have hb : (i 1).val - 128 * t.val < 128 := by omega
    have hx : (ctM.view.slice (Rect.unit (s := S256x1024) (oC t) S256x128.size (oC_inb t))).emb (ix2 (i 0) ⟨(i 1).val - 128 * t.val, hb⟩) = i := by
      funext a; refine Fin.ext ?_
      refine (ValueKit.view_emb_slice_whole_unit_val cc0_scratch7 (oC t) S256x128.size (oC_inb t) _ a).trans ?_
      fin_cases a
      · show 0 + (i 0).val = (i 0).val; omega
      · show 128 * t.val + ((i 1).val - 128 * t.val) = (i 1).val; omega
    rw [View.writes_singleton]
    conv_lhs => rw [← hx]
    rw [View.write_emb_of_mem _ _ (Finset.mem_univ _)]
    unfold ctx
    have e2 : (i 1).val % 128 = (i 1).val - 128 * t.val := by omega
    have et : (⟨(i 1).val / 128, by omega⟩ : Fin 8) = t := Fin.ext e1
    rw [et]
    simp only [e2]
    rfl

theorem ctx_full (c : Dev nD) (s : ℕ) (Q : QuC F) (KR VR : HdC F) : ctxPts c s Q KR VR 8 ⊢ (ctM.view.loc (c : Thread nD τ) ↦{fullShare} ctx c s Q KR VR : sProp 𝕄) := by
  unfold ctxPts
  iintro ⟨%f, %hf, H⟩
  obtain rfl : f = ctx c s Q KR VR := funext fun i => hf i (by have h := (i 1).isLt; change (i 1).val < 1024 at h; omega)
  iexact H

theorem ctx_start (c : Dev nD) (s : ℕ) (Q : QuC F) (KR VR : HdC F) : iprop(∃ f : QuC F, (ctM.view.loc (c : Thread nD τ) ↦{fullShare} f : sProp 𝕄)) ⊢ ctxPts c s Q KR VR 0 := by
  unfold ctxPts
  iintro ⟨%f, H⟩
  iexists f
  isplitr; · ipureintro; intro i hi; omega
  iexact H

/-- A trip's specification: reading the heads, it extends the context buffer by its own columns. -/
def TripSpec (c : Dev nD) (s : ℕ) (Q : QuC F) (KR VR : HdC F) (t : Fin 8) (p : Prog (TpuEff nD τ sig (Elt F) Λ₀ .tc) Unit) : Prop :=
  ∀ f : QuC F, iprop(heads c Q KR VR ∗ (ctM.view.loc (c : Thread nD τ) ↦{fullShare} f))
    ⊢ wp frame (wpE (defs₀ (F := F)) 𝒱₀ (c : Thread nD τ) none) Set.univ p
      (fun _ => iprop(heads c Q KR VR ∗ (ctM.view.loc (c : Thread nD τ) ↦{fullShare}
        ctM.view.writes (Elt F) f [⟨Rect.unit (s := S256x1024) (oC t) S256x128.size (oC_inb t), tripVal c s Q KR VR t⟩])))

/-- The loop over the heads, from its trips. -/
theorem wp_heads {α : Type} {P : α → sProp 𝕄} (c : Dev nD) (s : ℕ) (Q : QuC F) (KR VR : HdC F) (l : Scf.Loop 32) (hok : l.OK) (h8 : l.trips = 8)
    (body : Fin l.trips → Unit → Prog (TpuEff nD τ sig (Elt F) Λ₀ .tc) Unit)
    (ht : ∀ t, TripSpec c s Q KR VR (Fin.cast h8 t) (body t ()))
    (k : Unit → Prog (TpuEff nD τ sig (Elt F) Λ₀ .tc) α) :
    iprop(heads c Q KR VR ∗ ∃ f : QuC F, (ctM.view.loc (c : Thread nD τ) ↦{fullShare} f))
      ⊢ iprop((iprop(heads c Q KR VR ∗ (ctM.view.loc (c : Thread nD τ) ↦{fullShare} ctx c s Q KR VR)) -∗ wp frame (wpE (defs₀ (F := F)) 𝒱₀ (c : Thread nD τ) none) Set.univ (k ()) P)
        -∗ wp frame (wpE (defs₀ (F := F)) 𝒱₀ (c : Thread nD τ) none) Set.univ (l.for hok () body >>= k) P) := by
  have hb : ∀ (t : Fin l.trips) (u : Unit), iprop(heads c Q KR VR ∗ ctxPts c s Q KR VR t.val)
      ⊢ wp frame (wpE (defs₀ (F := F)) 𝒱₀ (c : Thread nD τ) none) Set.univ (body t u) (fun _ => iprop(heads c Q KR VR ∗ ctxPts c s Q KR VR (t.val + 1))) := by
    intro t u
    iintro ⟨HH, Hc⟩
    unfold ctxPts
    icases Hc with ⟨%f, %hf, Hc⟩
    iapply (wp_wand_r frame (wpE (defs₀ (F := F)) 𝒱₀ (c : Thread nD τ) none) Set.univ)
    isplitl [HH Hc]
    · iapply (ht t f); isplitl [HH]; · iexact HH
      iexact Hc
    iintro %u' ⟨HH, Hc⟩
    isplitl [HH]; · iexact HH
    iexists _
    isplitr; · ipureintro; exact ctx_step c s Q KR VR f (Fin.cast h8 t) hf
    iexact Hc
  iintro ⟨HH, Hc⟩ Hk
  ihave Hc := (ctx_start c s Q KR VR) $$ Hc
  iapply (Scf.wp_for_bind frame (wpE (defs₀ (F := F)) 𝒱₀ (c : Thread nD τ) none) Set.univ l.lb l.ub l.st hok () body
    (fun n _ => iprop(heads c Q KR VR ∗ ctxPts c s Q KR VR n)) hb) $$ [HH Hc]
  · isplitl [HH]; · iexact HH
    iexact Hc
  iintro %u ⟨HH, Hc⟩
  iapply Hk
  isplitl [HH]; · iexact HH
  have e : Scf.trips l.lb l.ub l.st = 8 := h8
  rw [e]
  iapply (ctx_full c s Q KR VR); iexact Hc

theorem t2_trips : k0_t2_loop.trips = 8 := by decide
theorem off339_eq : ∀ (d0 : Dev nD) (t : Fin k0_t2_loop.trips) (l : Fin 4), k0_off339 d0 t (BitVec.ofNat 32 l.val) = oM d0 1 (Fin.cast t2_trips t) l := by decide +kernel
theorem off341_eq : ∀ (d0 : Dev nD) (t : Fin k0_t2_loop.trips) (l : Fin 4), k0_off341 d0 t (BitVec.ofNat 32 l.val) = oD d0 1 (Fin.cast t2_trips t) l := by decide +kernel
theorem trip2 (c : Dev nD) (Q : QuC F) (KR VR : HdC F) (v2 v7 : BitVec 32) (v951 v954 : FVec F S1024x1024 .bf16) (w : BitVec 32) (hw : w = wW c 1) (t : Fin k0_t2_loop.trips) :
    TripSpec c 1 Q KR VR (Fin.cast t2_trips t) (bodyA (k0_t2_body (F := F)) c v2 v7 v951 v954 w t ()) := by
  have hk : t.val < 8 := Nat.lt_of_lt_of_le t.isLt k0_t2_abs.2.1
  intro f
  unfold bodyA k0_t2_body heads
  iintro ⟨⟨H1, H2, H3⟩, H4⟩
  sl_exec
  sl_step
  have e := tripEq c 1 Q KR VR f (Fin.cast t2_trips t) hw (q := ![k0_off338 t, k0_off342 t, k0_off343 t, k0_off344 t])
    (iq := fun l => by fin_cases l; exacts [k0_off338_inb t, k0_off342_inb t, k0_off343_inb t, k0_off344_inb t])
    (fun l => by fin_cases l; exacts [k0_off338_eq t, k0_off342_eq t, k0_off343_eq t, k0_off344_eq t])
    (im := k0_off339_inb c t) (off339_eq c t) (ib := k0_off340_inb t) (k0_off340_eq t) (id := k0_off341_inb c t) (off341_eq c t) (io := k0_off345_inb t) (k0_off345_eq t)
  rw [← e]
  isplitl [H1 H2 H3]
  · isplitl [H1]; · iexact H1
    isplitl [H2]; · iexact H2
    iexact H3
  iexact H4

theorem t3_trips : k0_t3_loop.trips = 8 := by decide
theorem off347_eq : ∀ (d0 : Dev nD) (t : Fin k0_t3_loop.trips) (l : Fin 4), k0_off347 d0 t (BitVec.ofNat 32 l.val) = oM d0 2 (Fin.cast t3_trips t) l := by decide +kernel
theorem off349_eq : ∀ (d0 : Dev nD) (t : Fin k0_t3_loop.trips) (l : Fin 4), k0_off349 d0 t (BitVec.ofNat 32 l.val) = oD d0 2 (Fin.cast t3_trips t) l := by decide +kernel
theorem trip3 (c : Dev nD) (Q : QuC F) (KR VR : HdC F) (v2 v7 : BitVec 32) (v951 v954 : FVec F S1024x1024 .bf16) (c2 w : BitVec 32) (hw : w = wW c 2) (t : Fin k0_t3_loop.trips) :
    TripSpec c 2 Q KR VR (Fin.cast t3_trips t) (bodyA (k0_t3_body (F := F)) c v2 v7 v951 v954 c2 w t ()) := by
  have hk : t.val < 8 := Nat.lt_of_lt_of_le t.isLt k0_t3_abs.2.1
  intro f
  unfold bodyA k0_t3_body heads
  iintro ⟨⟨H1, H2, H3⟩, H4⟩
  sl_exec
  sl_step
  have e := tripEq c 2 Q KR VR f (Fin.cast t3_trips t) hw (q := ![k0_off346 t, k0_off350 t, k0_off351 t, k0_off352 t])
    (iq := fun l => by fin_cases l; exacts [k0_off346_inb t, k0_off350_inb t, k0_off351_inb t, k0_off352_inb t])
    (fun l => by fin_cases l; exacts [k0_off346_eq t, k0_off350_eq t, k0_off351_eq t, k0_off352_eq t])
    (im := k0_off347_inb c t) (off347_eq c t) (ib := k0_off348_inb t) (k0_off348_eq t) (id := k0_off349_inb c t) (off349_eq c t) (io := k0_off353_inb t) (k0_off353_eq t)
  rw [← e]
  isplitl [H1 H2 H3]
  · isplitl [H1]; · iexact H1
    isplitl [H2]; · iexact H2
    iexact H3
  iexact H4

theorem t4_trips : k0_t4_loop.trips = 8 := by decide
theorem off355_eq : ∀ (d0 : Dev nD) (t : Fin k0_t4_loop.trips) (l : Fin 4), k0_off355 d0 t (BitVec.ofNat 32 l.val) = oM d0 3 (Fin.cast t4_trips t) l := by decide +kernel
theorem off357_eq : ∀ (d0 : Dev nD) (t : Fin k0_t4_loop.trips) (l : Fin 4), k0_off357 d0 t (BitVec.ofNat 32 l.val) = oD d0 3 (Fin.cast t4_trips t) l := by decide +kernel
theorem trip4 (c : Dev nD) (Q : QuC F) (KR VR : HdC F) (v2 v7 : BitVec 32) (v951 : FVec F S1024x1024 .bf16) (w : BitVec 32) (hw : w = wW c 3) (t : Fin k0_t4_loop.trips) :
    TripSpec c 3 Q KR VR (Fin.cast t4_trips t) (bodyA (k0_t4_body (F := F)) c v2 v7 v951 w t ()) := by
  have hk : t.val < 8 := Nat.lt_of_lt_of_le t.isLt k0_t4_abs.2.1
  intro f
  unfold bodyA k0_t4_body heads
  iintro ⟨⟨H1, H2, H3⟩, H4⟩
  sl_exec
  sl_step
  have e := tripEq c 3 Q KR VR f (Fin.cast t4_trips t) hw (q := ![k0_off354 t, k0_off358 t, k0_off359 t, k0_off360 t])
    (iq := fun l => by fin_cases l; exacts [k0_off354_inb t, k0_off358_inb t, k0_off359_inb t, k0_off360_inb t])
    (fun l => by fin_cases l; exacts [k0_off354_eq t, k0_off358_eq t, k0_off359_eq t, k0_off360_eq t])
    (im := k0_off355_inb c t) (off355_eq c t) (ib := k0_off356_inb t) (k0_off356_eq t) (id := k0_off357_inb c t) (off357_eq c t) (io := k0_off361_inb t) (k0_off361_eq t)
  rw [← e]
  isplitl [H1 H2 H3]
  · isplitl [H1]; · iexact H1
    isplitl [H2]; · iexact H2
    iexact H3
  iexact H4

theorem t5_trips : k0_t5_loop.trips = 8 := by decide
theorem off363_eq : ∀ (d0 : Dev nD) (t : Fin k0_t5_loop.trips) (l : Fin 4), k0_off363 d0 t (BitVec.ofNat 32 l.val) = oM d0 4 (Fin.cast t5_trips t) l := by decide +kernel
theorem off365_eq : ∀ (d0 : Dev nD) (t : Fin k0_t5_loop.trips) (l : Fin 4), k0_off365 d0 t (BitVec.ofNat 32 l.val) = oD d0 4 (Fin.cast t5_trips t) l := by decide +kernel
theorem trip5 (c : Dev nD) (Q : QuC F) (KR VR : HdC F) (v7 : BitVec 32) (v951 v954 : FVec F S1024x1024 .bf16) (w : BitVec 32) (hw : w = wW c 4) (t : Fin k0_t5_loop.trips) :
    TripSpec c 4 Q KR VR (Fin.cast t5_trips t) (bodyA (k0_t5_body (F := F)) c v7 v951 v954 w t ()) := by
  have hk : t.val < 8 := Nat.lt_of_lt_of_le t.isLt k0_t5_abs.2.1
  intro f
  unfold bodyA k0_t5_body heads
  iintro ⟨⟨H1, H2, H3⟩, H4⟩
  sl_exec
  sl_step
  have e := tripEq c 4 Q KR VR f (Fin.cast t5_trips t) hw (q := ![k0_off362 t, k0_off366 t, k0_off367 t, k0_off368 t])
    (iq := fun l => by fin_cases l; exacts [k0_off362_inb t, k0_off366_inb t, k0_off367_inb t, k0_off368_inb t])
    (fun l => by fin_cases l; exacts [k0_off362_eq t, k0_off366_eq t, k0_off367_eq t, k0_off368_eq t])
    (im := k0_off363_inb c t) (off363_eq c t) (ib := k0_off364_inb t) (k0_off364_eq t) (id := k0_off365_inb c t) (off365_eq c t) (io := k0_off369_inb t) (k0_off369_eq t)
  rw [← e]
  isplitl [H1 H2 H3]
  · isplitl [H1]; · iexact H1
    isplitl [H2]; · iexact H2
    iexact H3
  iexact H4

theorem t6_trips : k0_t6_loop.trips = 8 := by decide
theorem off371_eq : ∀ (d0 : Dev nD) (t : Fin k0_t6_loop.trips) (l : Fin 4), k0_off371 d0 t (BitVec.ofNat 32 l.val) = oM d0 5 (Fin.cast t6_trips t) l := by decide +kernel
theorem off373_eq : ∀ (d0 : Dev nD) (t : Fin k0_t6_loop.trips) (l : Fin 4), k0_off373 d0 t (BitVec.ofNat 32 l.val) = oD d0 5 (Fin.cast t6_trips t) l := by decide +kernel
theorem trip6 (c : Dev nD) (Q : QuC F) (KR VR : HdC F) (v7 : BitVec 32) (v954 : FVec F S1024x1024 .bf16) (w : BitVec 32) (v1257 : FVec F S256x1024 .bf16) (hw : w = wW c 5) (t : Fin k0_t6_loop.trips) :
    TripSpec c 5 Q KR VR (Fin.cast t6_trips t) (bodyA (k0_t6_body (F := F)) c v7 v954 w v1257 t ()) := by
  have hk : t.val < 8 := Nat.lt_of_lt_of_le t.isLt k0_t6_abs.2.1
  intro f
  unfold bodyA k0_t6_body heads
  iintro ⟨⟨H1, H2, H3⟩, H4⟩
  sl_exec
  sl_step
  have e := tripEq c 5 Q KR VR f (Fin.cast t6_trips t) hw (q := ![k0_off370 t, k0_off374 t, k0_off375 t, k0_off376 t])
    (iq := fun l => by fin_cases l; exacts [k0_off370_inb t, k0_off374_inb t, k0_off375_inb t, k0_off376_inb t])
    (fun l => by fin_cases l; exacts [k0_off370_eq t, k0_off374_eq t, k0_off375_eq t, k0_off376_eq t])
    (im := k0_off371_inb c t) (off371_eq c t) (ib := k0_off372_inb t) (k0_off372_eq t) (id := k0_off373_inb c t) (off373_eq c t) (io := k0_off377_inb t) (k0_off377_eq t)
  rw [← e]
  isplitl [H1 H2 H3]
  · isplitl [H1]; · iexact H1
    isplitl [H2]; · iexact H2
    iexact H3
  iexact H4

theorem t7_trips : k0_t7_loop.trips = 8 := by decide
theorem off379_eq : ∀ (d0 : Dev nD) (t : Fin k0_t7_loop.trips) (l : Fin 4), k0_off379 d0 t (BitVec.ofNat 32 l.val) = oM d0 6 (Fin.cast t7_trips t) l := by decide +kernel
theorem off381_eq : ∀ (d0 : Dev nD) (t : Fin k0_t7_loop.trips) (l : Fin 4), k0_off381 d0 t (BitVec.ofNat 32 l.val) = oD d0 6 (Fin.cast t7_trips t) l := by decide +kernel
theorem trip7 (c : Dev nD) (Q : QuC F) (KR VR : HdC F) (v2 v7 : BitVec 32) (v951 v954 : FVec F S1024x1024 .bf16) (w : BitVec 32) (hw : w = wW c 6) (t : Fin k0_t7_loop.trips) :
    TripSpec c 6 Q KR VR (Fin.cast t7_trips t) (bodyA (k0_t7_body (F := F)) c v2 v7 v951 v954 w t ()) := by
  have hk : t.val < 8 := Nat.lt_of_lt_of_le t.isLt k0_t7_abs.2.1
  intro f
  unfold bodyA k0_t7_body heads
  iintro ⟨⟨H1, H2, H3⟩, H4⟩
  sl_exec
  sl_step
  have e := tripEq c 6 Q KR VR f (Fin.cast t7_trips t) hw (q := ![k0_off378 t, k0_off382 t, k0_off383 t, k0_off384 t])
    (iq := fun l => by fin_cases l; exacts [k0_off378_inb t, k0_off382_inb t, k0_off383_inb t, k0_off384_inb t])
    (fun l => by fin_cases l; exacts [k0_off378_eq t, k0_off382_eq t, k0_off383_eq t, k0_off384_eq t])
    (im := k0_off379_inb c t) (off379_eq c t) (ib := k0_off380_inb t) (k0_off380_eq t) (id := k0_off381_inb c t) (off381_eq c t) (io := k0_off385_inb t) (k0_off385_eq t)
  rw [← e]
  isplitl [H1 H2 H3]
  · isplitl [H1]; · iexact H1
    isplitl [H2]; · iexact H2
    iexact H3
  iexact H4

theorem t8_trips : k0_t8_loop.trips = 8 := by decide
theorem off387_eq : ∀ (d0 : Dev nD) (t : Fin k0_t8_loop.trips) (l : Fin 4), k0_off387 d0 t (BitVec.ofNat 32 l.val) = oM d0 7 (Fin.cast t8_trips t) l := by decide +kernel
theorem off389_eq : ∀ (d0 : Dev nD) (t : Fin k0_t8_loop.trips) (l : Fin 4), k0_off389 d0 t (BitVec.ofNat 32 l.val) = oD d0 7 (Fin.cast t8_trips t) l := by decide +kernel
theorem trip8 (c : Dev nD) (Q : QuC F) (KR VR : HdC F) (v7 : BitVec 32) (v954 : FVec F S1024x1024 .bf16) (w c0 c8 : BitVec 32) (hw : w = wW c 7) (t : Fin k0_t8_loop.trips) :
    TripSpec c 7 Q KR VR (Fin.cast t8_trips t) (bodyA (k0_t8_body (F := F)) c v7 v954 w c0 c8 t ()) := by
  have hk : t.val < 8 := Nat.lt_of_lt_of_le t.isLt k0_t8_abs.2.1
  intro f
  unfold bodyA k0_t8_body heads
  iintro ⟨⟨H1, H2, H3⟩, H4⟩
  sl_exec
  sl_step
  have e := tripEq c 7 Q KR VR f (Fin.cast t8_trips t) hw (q := ![k0_off386 t, k0_off390 t, k0_off391 t, k0_off392 t])
    (iq := fun l => by fin_cases l; exacts [k0_off386_inb t, k0_off390_inb t, k0_off391_inb t, k0_off392_inb t])
    (fun l => by fin_cases l; exacts [k0_off386_eq t, k0_off390_eq t, k0_off391_eq t, k0_off392_eq t])
    (im := k0_off387_inb c t) (off387_eq c t) (ib := k0_off388_inb t) (k0_off388_eq t) (id := k0_off389_inb c t) (off389_eq c t) (io := k0_off393_inb t) (k0_off393_eq t)
  rw [← e]
  isplitl [H1 H2 H3]
  · isplitl [H1]; · iexact H1
    isplitl [H2]; · iexact H2
    iexact H3
  iexact H4

end Cert.RingAttn
-- ==== Proof.Keep.lean ====
/-
# What the first stage keeps of a slot

A slot's head, read whole, goes rounded to bf16 into the buffer of the heads; the later reads of head `t` see only head `t`.
-/
module

public import proofs.«01_k».proof.Proof.Slot
public import proofs.«01_k».proof.Proof.Trip

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev KaC (F : FTy → Type) := Shape.Idx S1x4096x64x128 → F .f32

/-- One head's keys as a slot is read. -/
def headVec (ks : KaC F) (h : ℕ) (hh : h < 64) : Vec F S1x3x1408x128 .f32 := fun x => KBv ks h hh (ix4 0 (x 1) (x 2) (x 3))

theorem KBv_congr (ks : KaC F) {h : ℕ} (hh : h < 64) {x y : Shape.Idx S2x3x1408x128} (h1 : (x 1).val = (y 1).val) (h2 : (x 2).val = (y 2).val)
    (h3 : (x 3).val = (y 3).val) : KBv ks h hh x = KBv ks h hh y := by
  have e : kb x = kb y := by unfold kb; rw [h1, h2]
  have e3 : x 3 = y 3 := Fin.ext h3
  unfold KBv
  simp only [e, h2, e3]

theorem headVec_congr (ks : KaC F) {h h' : ℕ} (hh : h < 64) (hh' : h' < 64) (e : h = h') : headVec ks h hh = headVec ks h' hh' := by
  subst e; rfl

/-- A slot that holds a head, read whole. -/
theorem wp_loadSlot {α : Type} {P : α → sProp 𝕄} (M : BufM) (c : Dev nD) {s h : ℕ} (hs : s < 2) (hh : h < 64) (ks : KaC F)
    (KB : Buf (Elt F) (M.view.loc (c : Thread nD τ))) (hKB : ∀ x, M.view.read (Elt F) KB x = KBv ks h hh x)
    {off : Fin 4 → ℕ} {inb : ∀ a, off a + S1x3x1408x128.size a ≤ S2x3x1408x128.size a} (ho : off = ![s, 0, 0, 0])
    {hl : M.view.LoadsAt (Rect.unit (s := S2x3x1408x128) off S1x3x1408x128.size inb).toLoadRect}
    {K : (Vec F S1x3x1408x128 .f32) → Prog (TpuEff nD τ sig (Elt F) Λ₀ .tc) α} :
    (M.view.loc (c : Thread nD τ) ↦[slotSet M c hs]{fullShare} KB)
      ⊢ iprop(((M.view.loc (c : Thread nD τ) ↦[slotSet M c hs]{fullShare} KB) -∗ wp frame (wpE (defs₀ (F := F)) 𝒱₀ (c : Thread nD τ) none) Set.univ (K (headVec ks h hh)) P)
          -∗ wp frame (wpE (defs₀ (F := F)) 𝒱₀ (c : Thread nD τ) none) Set.univ
              (.op (.load M (Rect.unit (s := S2x3x1408x128) off S1x3x1408x128.size inb).toLoadRect hl) K) P) := by
  subst ho
  have e : M.view.readAt (Elt F) (slotRect hs).toLoadRect KB = headVec ks h hh := by
    funext x
    refine (hKB _).trans (KBv_congr ks hh ?_ ?_ ?_)
    · exact (ValueKit.rect_emb_unit_val _ _ _ x 1).trans (Nat.zero_add _)
    · exact (ValueKit.rect_emb_unit_val _ _ _ x 2).trans (Nat.zero_add _)
    · exact (ValueKit.rect_emb_unit_val _ _ _ x 3).trans (Nat.zero_add _)
  rw [← e]
  exact wp_load 𝒱₀ (c : Thread nD τ) none Set.univ (m := M) (r := (slotRect hs).toLoadRect) (hl := hl) (k := K) (S := slotSet M c hs) (Finset.Subset.refl _)

/-! ## The heads as they come in -/

/-- Every head kept, by what rounds one. -/
def resF (pay : Vec F S1x3x1408x128 .f32 → FVec F S1x3x1408x128 .bf16) (c : Dev nD) (ks : KaC F) : HdC F :=
  fun i => pay (headVec ks (8 * c.val + (i 0).val) (by have h := c.isLt; have h' := (i 0).isLt; change c.val < 8 at h; change (i 0).val < 8 at h'; omega)) (ix4 0 (i 1) (i 2) (i 3))

def oR (t : Fin 8) : Fin 4 → ℕ := ![t.val, 0, 0, 0]
theorem oR_inb (t : Fin 8) : ∀ a, oR t a + S1x3x1408x128.size a ≤ S8x3x1408x128.size a := by revert t; decide

theorem res_step (pay : Vec F S1x3x1408x128 .f32 → FVec F S1x3x1408x128 .bf16) (c : Dev nD) (ks : KaC F) (f W : HdC F) (t : Fin 8)
    (hh : 8 * c.val + t.val < 64) (h : ∀ i : Shape.Idx S8x3x1408x128, (i 0).val < t.val → f i = resF pay c ks i)
    (hout : ∀ i : Shape.Idx S8x3x1408x128, (i 0).val < t.val → W i = f i)
    (hin : ∀ i : Shape.Idx S8x3x1408x128, (i 0).val = t.val → W i = pay (headVec ks (8 * c.val + t.val) hh) (ix4 0 (i 1) (i 2) (i 3))) :
    ∀ i : Shape.Idx S8x3x1408x128, (i 0).val < t.val + 1 → W i = resF pay c ks i := by
  intro i hi
  by_cases hlt : (i 0).val < t.val
  · rw [← h i hlt]; exact hout i hlt
  · have e1 : (i 0).val = t.val := by omega
    rw [hin i e1]
    unfold resF
    rw [headVec_congr ks hh (h' := 8 * c.val + (i 0).val) (by rw [e1]; exact hh) (by rw [e1])]

theorem not_mem_head (t : Fin 8) (i : Shape.Idx S8x3x1408x128) (hlt : (i 0).val < t.val) :
    i ∉ (Rect.unit (s := S8x3x1408x128) (oR t) S1x3x1408x128.size (oR_inb t)).set := by
  intro hm
  rw [Rect.mem_set_unit] at hm
  have h1 : t.val ≤ (i 0).val := (hm 0).1
  omega

theorem emb_head (t : Fin 8) (i : Shape.Idx S8x3x1408x128) (e1 : (i 0).val = t.val) :
    (Rect.unit (s := S8x3x1408x128) (oR t) S1x3x1408x128.size (oR_inb t)).emb (ix4 0 (i 1) (i 2) (i 3)) = i := by
  funext a; refine Fin.ext ?_
  refine (ValueKit.rect_emb_unit_val (s := S8x3x1408x128) (oR t) S1x3x1408x128.size (oR_inb t) _ a).trans ?_
  fin_cases a
  · exact e1.symm
  · exact Nat.zero_add _
  · exact Nat.zero_add _
  · exact Nat.zero_add _

theorem kr_step (pay : Vec F S1x3x1408x128 .f32 → FVec F S1x3x1408x128 .bf16) (c : Dev nD) (ks : KaC F) (f : HdC F) (t : Fin 8)
    (hh : 8 * c.val + t.val < 64) {off : Fin 4 → ℕ} {inb : ∀ a, off a + S1x3x1408x128.size a ≤ S8x3x1408x128.size a} (ho : off = oR t)
    (h : ∀ i : Shape.Idx S8x3x1408x128, (i 0).val < t.val → f i = resF pay c ks i) :
    ∀ i : Shape.Idx S8x3x1408x128, (i 0).val < t.val + 1 →
      krM.view.writes (Elt F) f [⟨Rect.unit (s := S8x3x1408x128) off S1x3x1408x128.size inb, pay (headVec ks (8 * c.val + t.val) hh)⟩] i = resF pay c ks i := by
  subst ho
  refine res_step pay c ks f _ t hh h (fun i hlt => ?_) (fun i e1 => ?_) <;> rw [View.writes_singleton]
  · refine View.write_of_not_mem _ _ _ fun hm => not_mem_head t i hlt ?_
    exact Eq.mp (congrArg (i ∈ ·) (View.set_slice_whole cc0_scratch4 _)) hm
  · have hx : (krM.view.slice (Rect.unit (s := S8x3x1408x128) (oR t) S1x3x1408x128.size inb)).emb (ix4 0 (i 1) (i 2) (i 3)) = i := emb_head t i e1
    conv_lhs => rw [← hx]
    rw [View.write_emb_of_mem _ _ (Finset.mem_univ _)]
    rfl

theorem vr_step (pay : Vec F S1x3x1408x128 .f32 → FVec F S1x3x1408x128 .bf16) (c : Dev nD) (ks : KaC F) (f : HdC F) (t : Fin 8)
    (hh : 8 * c.val + t.val < 64) {off : Fin 4 → ℕ} {inb : ∀ a, off a + S1x3x1408x128.size a ≤ S8x3x1408x128.size a} (ho : off = oR t)
    (h : ∀ i : Shape.Idx S8x3x1408x128, (i 0).val < t.val → f i = resF pay c ks i) :
    ∀ i : Shape.Idx S8x3x1408x128, (i 0).val < t.val + 1 →
      vrM.view.writes (Elt F) f [⟨Rect.unit (s := S8x3x1408x128) off S1x3x1408x128.size inb, pay (headVec ks (8 * c.val + t.val) hh)⟩] i = resF pay c ks i := by
  subst ho
  refine res_step pay c ks f _ t hh h (fun i hlt => ?_) (fun i e1 => ?_) <;> rw [View.writes_singleton]
  · refine View.write_of_not_mem _ _ _ fun hm => not_mem_head t i hlt ?_
    exact Eq.mp (congrArg (i ∈ ·) (View.set_slice_whole cc0_scratch5 _)) hm
  · have hx : (vrM.view.slice (Rect.unit (s := S8x3x1408x128) (oR t) S1x3x1408x128.size inb)).emb (ix4 0 (i 1) (i 2) (i 3)) = i := emb_head t i e1
    conv_lhs => rw [← hx]
    rw [View.write_emb_of_mem _ _ (Finset.mem_univ _)]
    rfl

/-- A trip reads its own head only. -/
theorem tripVal_congr (c : Dev nD) (s : ℕ) (Q : QuC F) {KR KR' VR VR' : HdC F} (t : Fin 8)
    (hK : ∀ i : Shape.Idx S8x3x1408x128, (i 0).val < t.val + 1 → KR i = KR' i) (hV : ∀ i : Shape.Idx S8x3x1408x128, (i 0).val < t.val + 1 → VR i = VR' i) :
    tripVal c s Q KR VR t = tripVal c s Q KR' VR' t := by
  have hM : ∀ l (X X' : HdC F), (∀ i : Shape.Idx S8x3x1408x128, (i 0).val < t.val + 1 → X i = X' i) →
      rdM krM (oM c s t l) (oM_inb c s t l) X = rdM krM (oM c s t l) (oM_inb c s t l) X' := fun l X X' h => by
    funext x; refine h _ ?_
    have h0 := (x 0).isLt; change (x 0).val < 1 at h0
    show t.val + 1 * (x 0).val < _; omega
  have hB : ∀ (X X' : HdC F), (∀ i : Shape.Idx S8x3x1408x128, (i 0).val < t.val + 1 → X i = X' i) →
      rdB krM (oB t) (oB_inb t) X = rdB krM (oB t) (oB_inb t) X' := fun X X' h => by
    funext x; refine h _ ?_
    have h0 := (x 0).isLt; change (x 0).val < 1 at h0
    show t.val + 1 * (x 0).val < _; omega
  have hD : ∀ l (X X' : HdC F), (∀ i : Shape.Idx S8x3x1408x128, (i 0).val < t.val + 1 → X i = X' i) →
      rdB krM (oD c s t l) (oD_inb c s t l) X = rdB krM (oD c s t l) (oD_inb c s t l) X' := fun l X X' h => by
    funext x; refine h _ ?_
    have h0 := (x 0).isLt; change (x 0).val < 1 at h0
    show t.val + 1 * (x 0).val < _; omega
  have hb : ∀ l, blkAt c s Q KR VR t l = blkAt c s Q KR' VR' t l := fun l => by
    unfold blkAt
    rw [hM l KR KR' hK, hB KR KR' hK, hD l KR KR' hK, show rdM vrM (oM c s t l) (oM_inb c s t l) VR = rdM vrM (oM c s t l) (oM_inb c s t l) VR' from hM l VR VR' hV,
      show rdB vrM (oB t) (oB_inb t) VR = rdB vrM (oB t) (oB_inb t) VR' from hB VR VR' hV,
      show rdB vrM (oD c s t l) (oD_inb c s t l) VR = rdB vrM (oD c s t l) (oD_inb c s t l) VR' from hD l VR VR' hV]
  unfold tripVal
  rw [hb, hb, hb, hb]

/-- The heads kept so far. -/
def keptK (c : Dev nD) (ks : KaC F) (n : ℕ) : sProp 𝕄 :=
  iprop(∃ f : HdC F, ⌜∀ i : Shape.Idx S8x3x1408x128, (i 0).val < n → f i = resF k0_pay2 c ks i⌝ ∗ (krM.view.loc (c : Thread nD τ) ↦{fullShare} f))
def keptV (c : Dev nD) (vs : KaC F) (n : ℕ) : sProp 𝕄 :=
  iprop(∃ f : HdC F, ⌜∀ i : Shape.Idx S8x3x1408x128, (i 0).val < n → f i = resF k0_pay3 c vs i⌝ ∗ (vrM.view.loc (c : Thread nD τ) ↦{fullShare} f))

theorem kept_full (c : Dev nD) (ks vs : KaC F) : iprop(keptK c ks 8 ∗ keptV c vs 8)
    ⊢ (iprop((krM.view.loc (c : Thread nD τ) ↦{fullShare} resF k0_pay2 c ks) ∗ (vrM.view.loc (c : Thread nD τ) ↦{fullShare} resF k0_pay3 c vs)) : sProp 𝕄) := by
  unfold keptK keptV
  iintro ⟨⟨%f, %hf, H⟩, ⟨%g, %hg, H'⟩⟩
  obtain rfl : f = resF k0_pay2 c ks := funext fun i => hf i (by have h := (i 0).isLt; exact h)
  obtain rfl : g = resF k0_pay3 c vs := funext fun i => hg i (by have h := (i 0).isLt; exact h)
  isplitl [H]; · iexact H
  iexact H'

theorem kept_start (c : Dev nD) (ks vs : KaC F) : (iprop((∃ f : HdC F, (krM.view.loc (c : Thread nD τ) ↦{fullShare} f)) ∗ (∃ f : HdC F, (vrM.view.loc (c : Thread nD τ) ↦{fullShare} f))) : sProp 𝕄)
    ⊢ iprop(keptK c ks 0 ∗ keptV c vs 0) := by
  unfold keptK keptV
  iintro ⟨⟨%f, H⟩, ⟨%g, H'⟩⟩
  isplitl [H]
  · iexists f
    isplitr; · ipureintro; intro i hi; omega
    iexact H
  · iexists g
    isplitr; · ipureintro; intro i hi; omega
    iexact H'

end Cert.RingAttn

end

end
-- ==== Proof.First.lean ====
/-
# The first stage's loop: the heads' keys and values come in

Trip `t` waits for head `t`'s batch (slot `t % 2`), starts head `t + 1`'s in the other slot, keeps a bf16 copy of what came, and
computes as the later stages' trips do.
-/
module

public import proofs.«01_k».proof.Proof.Keep

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The semaphore of slot `s`'s keys (`k = 0`), values (`k = 1`). -/
def kvSm (s k : ℕ) : DmaSem sig := ⟨(32 + 2 * s + k) % 36, Nat.mod_lt _ (by decide)⟩

theorem hd_lt (c : Dev nD) {t : ℕ} (ht : t < 8) : 8 * c.val + t < 64 := by have h := c.isLt; change c.val < 8 at h; omega
theorem par_lt (t : ℕ) : t % 2 < 2 := Nat.mod_lt _ (by decide)

section
variable (M : BufM) (A : ArrM) (c : Dev nD) {s h : ℕ} (hs : s < 2) (hh : h < 64)
variable (KB : Buf (Elt F) (M.view.loc (c : Thread nD τ))) (fs : Buf (Elt F) (A.view.loc (c : Thread nD τ)))

/-- A batch under way: what it will fill, and what it was not lent. -/
def flight (sm : DmaSem sig) : sProp 𝕄 := iprop(waited M A c hs hh KB fs sm 0 ∗ padZ (F := F) M c hs ∗ arrRest A c hh fs)

end

/-- A conditional of which one arm does something first, and both then go on alike. -/
theorem wp_arms {p : Prop} {dp : Decidable p} (c : Dev nD) {α : Type} {Q : α → sProp 𝕄} {A : p → Prog (TpuEff nD τ sig (Elt F) Λ₀ .tc) α}
    {J : Prog (TpuEff nD τ sig (Elt F) Λ₀ .tc) α} (R R' : sProp 𝕄) :
    iprop(R ∗ ⌜∀ h, iprop(R ∗ (R' -∗ wp frame (wpE (defs₀ (F := F)) 𝒱₀ (c : Thread nD τ) none) Set.univ J Q))
          ⊢ wp frame (wpE (defs₀ (F := F)) 𝒱₀ (c : Thread nD τ) none) Set.univ (A h) Q⌝ ∗ ⌜¬ p → R ⊢ R'⌝)
      ⊢ iprop((R' -∗ wp frame (wpE (defs₀ (F := F)) 𝒱₀ (c : Thread nD τ) none) Set.univ J Q)
          -∗ wp frame (wpE (defs₀ (F := F)) 𝒱₀ (c : Thread nD τ) none) Set.univ (dite p A (fun _ => J)) Q) := by
  iintro ⟨HR, %hA, %hB⟩ Hk
  by_cases hp : p
  · rw [dif_pos hp]
    iapply (hA hp) $$ [HR Hk]
    isplitl [HR]; · iexact HR
    iexact Hk
  · rw [dif_neg hp]
    iapply Hk
    iapply (hB hp) $$ HR

def kNext (c : Dev nD) (ks : KaC F) (t : ℕ) : sProp 𝕄 :=
  if ht : t < 8 then flight kbM kaM c (par_lt t) (hd_lt c ht) (KBv ks _ (hd_lt c ht)) ks (kvSm (t % 2) 0)
      else iprop(idle (F := F) kbM c (par_lt t) (kvSm (t % 2) 0) ∗ (kaM.view.loc (c : Thread nD τ) ↦{fullShare} ks))
def vNext (c : Dev nD) (vs : KaC F) (t : ℕ) : sProp 𝕄 :=
  if ht : t < 8 then flight vbM vaM c (par_lt t) (hd_lt c ht) (KBv vs _ (hd_lt c ht)) vs (kvSm (t % 2) 1)
      else iprop(idle (F := F) vbM c (par_lt t) (kvSm (t % 2) 1) ∗ (vaM.view.loc (c : Thread nD τ) ↦{fullShare} vs))
def kSide (c : Dev nD) (ks : KaC F) (t : ℕ) : sProp 𝕄 :=
  iprop(kNext c ks t ∗ idle (F := F) kbM c (par_lt (t + 1)) (kvSm ((t + 1) % 2) 0))
def vSide (c : Dev nD) (vs : KaC F) (t : ℕ) : sProp 𝕄 :=
  iprop(vNext c vs t ∗ idle (F := F) vbM c (par_lt (t + 1)) (kvSm ((t + 1) % 2) 1))

theorem sem_wait : ∀ (t : Fin k0_t1_loop.trips), kvSem (k0_off68 t) (k0_off68_inb t) = kvSm (t.val % 2) 0 ∧ kvSem (k0_off71 t) (k0_off71_inb t) = kvSm (t.val % 2) 1 := by
  decide
theorem sem_start : ∀ (t : Fin k0_t1_loop.trips) (h : k0_cond1 t = 1#1), kvSem (k0_off198 t) (k0_off198_inb t h) = kvSm ((t.val + 1) % 2) 0 ∧ kvSem (k0_off201 t) (k0_off201_inb t h) = kvSm ((t.val + 1) % 2) 1 := by
  decide
theorem cond1_iff : ∀ (t : Fin k0_t1_loop.trips), k0_cond1 t = 1#1 ↔ t.val < 7 := by decide
theorem t1_trips : k0_t1_loop.trips = 8 := by decide

theorem may_kv (c : Dev nD) (s k : ℕ) (hk : k < 2) (hs : s < 2) (a r : ℕ) : (levAts L lv : sProp 𝕄) ⊢ MayWait (c : Thread nD τ) (.dma (kvSm s k)) () (owe c a r) :=
  mayWait_owe c _ a r 0 (by
    have e : (kvSm s k).val = 32 + 2 * s + k := Nat.mod_eq_of_lt (by omega)
    show (if 11 ≤ (kvSm s k).val ∧ (kvSm s k).val < 18 then _ else if 25 ≤ (kvSm s k).val ∧ (kvSm s k).val < 32 then _ else 0) ≤ 0
    rw [e, if_neg (by omega), if_neg (by omega)]) (by omega) (by omega)

section
variable (M : BufM) (A : ArrM) (c : Dev nD) {s h : ℕ} (hs : s < 2) (hh : h < 64)
variable (KB : Buf (Elt F) (M.view.loc (c : Thread nD τ))) (fs : Buf (Elt F) (A.view.loc (c : Thread nD τ)))

/-- One wait of a batch, not the last. -/
theorem wp_kvWait {α : Type} {P : α → sProp 𝕄} (k : ℕ) (hk : k < 2) (a r : ℕ) {j : ℕ} {sm' : DmaSem sig} (hsm : sm' = kvSm s k)
    {do' : Fin 4 → ℕ} {di : ∀ a, do' a + S1x1x64x128.size a ≤ S2x3x1408x128.size a}
    {so : Fin 4 → ℕ} {si : ∀ a, so a + S1x64x1x128.size a ≤ S1x4096x64x128.size a}
    {hx : (sAt A so si).view.WordExact} {hy : (dAt M do' di).view.WordExact} {K : PUnit → Prog (TpuEff nD τ sig (Elt F) Λ₀ .tc) α} :
    iprop(waited M A c hs hh KB fs (kvSm s k) j ∗ ⌜j + 1 < 64⌝ ∗ owing c (owe c a r) ∗ levAts L lv)
      ⊢ iprop((iprop(waited M A c hs hh KB fs (kvSm s k) (j + 1) ∗ owing c (owe c a r)) -∗ wp frame (wpE (defs₀ (F := F)) 𝒱₀ (c : Thread nD τ) none) Set.univ (K ⟨⟩) P)
          -∗ wp frame (wpE (defs₀ (F := F)) 𝒱₀ (c : Thread nD τ) none) Set.univ
              (.op (.waitDma2 sm' (sAt A so si) (dAt M do' di) hx hy) K) P) := by
  iintro ⟨HK, %hj, HO, #HL⟩ Hk
  iapply (wp_waitOne M A c hs hh KB fs hj hsm (owe c a r)) $$ [HK HO]
  · isplitl [HK]; · iexact HK
    isplitl [HO]; · iexact HO
    iapply (may_kv c s k hk hs a r); iexact HL
  iexact Hk

/-- One copy of a batch started. -/
theorem wp_kvStart {α : Type} {P : α → sProp 𝕄} (k : ℕ) (hF : Feeds M A c hs hh KB fs) {j : ℕ} {sm' : DmaSem sig} (hsm : sm' = kvSm s k)
    {do' : Fin 4 → ℕ} {di : ∀ a, do' a + S1x1x64x128.size a ≤ S2x3x1408x128.size a}
    {so : Fin 4 → ℕ} {si : ∀ a, so a + S1x64x1x128.size a ≤ S1x4096x64x128.size a}
    {hx : (sAt A so si).view.WordExact} {hy : (dAt M do' di).view.WordExact}
    {ht : DmaTarget.Typed (nD := nD) (τ := τ) (sig := sig) (p := .tc) .hbm (.dma sm') (.here (dAt M do' di))} {K : PUnit → Prog (TpuEff nD τ sig (Elt F) Λ₀ .tc) α} :
    iprop(started M A c hs hh KB fs (kvSm s k) j ∗ ⌜j < 64 ∧ do' = dOff s j ∧ so = sOff h j⌝)
      ⊢ iprop((started M A c hs hh KB fs (kvSm s k) (j + 1) -∗ wp frame (wpE (defs₀ (F := F)) 𝒱₀ (c : Thread nD τ) none) Set.univ (K ⟨⟩) P)
          -∗ wp frame (wpE (defs₀ (F := F)) 𝒱₀ (c : Thread nD τ) none) Set.univ
              (.op (.enqueueDma (sAt A so si) (.here (dAt M do' di)) (.dma sm') hx hy ht) K) P) := by
  iintro ⟨HK, %hp⟩ Hk
  obtain ⟨hj, hd, hso⟩ := hp
  iapply (wp_start M A c hs hh KB fs hF hj hsm hd hso) $$ HK
  iexact Hk

end

theorem dOff_of {s s' t : ℕ} (e : s' = s) : dOff s t = ![s', kcls t, 64 * krow t, 0] := by subst e; rfl
theorem sOff_of {h h' t : ℕ} (e : h' = h) : sOff h t = ![0, 64 * kbk t, h', 0] := by subst e; rfl
theorem other (t : ℕ) : 1 - t % 2 = (t + 1) % 2 := by omega

theorem off331_eq : ∀ (d0 : Dev nD) (t : Fin k0_t1_loop.trips) (l : Fin 4), k0_off331 d0 t (BitVec.ofNat 32 l.val) = oM d0 0 (Fin.cast t1_trips t) l := by decide +kernel
theorem off333_eq : ∀ (d0 : Dev nD) (t : Fin k0_t1_loop.trips) (l : Fin 4), k0_off333 d0 t (BitVec.ofNat 32 l.val) = oD d0 0 (Fin.cast t1_trips t) l := by decide +kernel

theorem idle_congr (M : BufM) (c : Dev nD) {s s' : ℕ} (hs : s < 2) (hs' : s' < 2) (k : ℕ) (e : s = s') :
    idle (F := F) M c hs (kvSm s k) ⊢ idle M c hs' (kvSm s' k) := by subst e; exact .rfl
theorem two_on (t : ℕ) : t % 2 = (t + 1 + 1) % 2 := by omega

/-- What the first stage's loop holds before trip `t`. -/
def stage0 (c : Dev nD) (Q : QuC F) (ks vs : KaC F) (t : ℕ) : sProp 𝕄 :=
  iprop(kSide c ks t ∗ vSide c vs t ∗ owing c (owe c 1 0) ∗ keptK c ks t ∗ keptV c vs t
    ∗ (quM.view.loc (c : Thread nD τ) ↦{fullShare} Q) ∗ ctxPts c 0 Q (resF k0_pay2 c ks) (resF k0_pay3 c vs) t)

theorem kept_at {B : Loc nD τ sig} (x : Buf (Elt F) B) (P : Buf (Elt F) B → Prop) (h : P x) :
    (B ↦{fullShare} x : sProp 𝕄) ⊢ iprop(∃ f, ⌜P f⌝ ∗ (B ↦{fullShare} f)) := by
  iintro H
  iexists x
  isplitr; · ipureintro; exact h
  iexact H

theorem kept_vr (c : Dev nD) (R : Rect S8x3x1408x128) (x : HdC F) (P : HdC F → Prop) (h : P x) :
    ((vrM.access R).loc (c : Thread nD τ) ↦{fullShare} x : sProp 𝕄) ⊢ iprop(∃ f : HdC F, ⌜P f⌝ ∗ (vrM.view.loc (c : Thread nD τ) ↦{fullShare} f)) :=
  kept_at (B := vrM.view.loc (c : Thread nD τ)) x P h

theorem trip1 (c : Dev nD) (Q : QuC F) (ks vs : KaC F) (v7 v8 w : BitVec 32) (v951 v954 : FVec F S1024x1024 .bf16) (hw : w = wW c 0) (t : Fin k0_t1_loop.trips) :
    iprop(levAts L lv ∗ stage0 c Q ks vs t.val) ⊢ wp frame (wpE (defs₀ (F := F)) 𝒱₀ (c : Thread nD τ) none) Set.univ (bodyA (k0_t1_body (F := F)) c v7 v8 v951 v954 w t ())
      (fun _ => stage0 c Q ks vs (t.val + 1)) := by
  have ht : t.val < 8 := Nat.lt_of_lt_of_le t.isLt k0_t1_abs.2.1
  unfold stage0 keptK keptV ctxPts bodyA k0_t1_body kSide vSide
  rw [show kNext c ks t.val = _ from dif_pos ht, show vNext c vs t.val = _ from dif_pos ht]
  unfold flight
  iintro ⟨#HL, ⟨⟨HK, HKp, HKr⟩, HKi⟩, ⟨⟨HV, HVp, HVr⟩, HVi⟩, HO, ⟨%KR, %hKR, H1⟩, ⟨%VR, %hVR, H2⟩, H3, ⟨%f, %hf, H4⟩⟩
  iterate 63
    sl_exec
    iapply (wp_kvWait kbM kaM c (par_lt t.val) (hd_lt c ht) (KBv ks _ (hd_lt c ht)) ks 0 (by decide) 1 0 (sem_wait t).1) $$ [HK HO]
    · isplitl [HK]; · iexact HK
      isplitr; · ipureintro; decide
      isplitl [HO]; · iexact HO
      iexact HL
    iintro ⟨HK, HO⟩
    sl_exec
    iapply (wp_kvWait vbM vaM c (par_lt t.val) (hd_lt c ht) (KBv vs _ (hd_lt c ht)) vs 1 (by decide) 1 0 (sem_wait t).2) $$ [HV HO]
    · isplitl [HV]; · iexact HV
      isplitr; · ipureintro; decide
      isplitl [HO]; · iexact HO
      iexact HL
    iintro ⟨HV, HO⟩
  sl_exec
  iapply (wp_waitLast kbM kaM c (par_lt t.val) (hd_lt c ht) (KBv ks _ (hd_lt c ht)) ks (sem_wait t).1 (owe c 1 0)) $$ [HK HO]
  · isplitl [HK]; · iexact HK
    isplitl [HO]; · iexact HO
    iapply (may_kv c _ 0 (by decide) (par_lt _) 1 0); iexact HL
  iintro ⟨HK, Hkv, HO⟩
  sl_exec
  iapply (wp_waitLast vbM vaM c (par_lt t.val) (hd_lt c ht) (KBv vs _ (hd_lt c ht)) vs (sem_wait t).2 (owe c 1 0)) $$ [HV HO]
  · isplitl [HV]; · iexact HV
    isplitl [HO]; · iexact HO
    iapply (may_kv c _ 1 (by decide) (par_lt _) 1 0); iexact HL
  iintro ⟨HV, Hvv, HO⟩
  ihave HK := (land_batch kbM kaM c (par_lt t.val) (hd_lt c ht) (KBv ks _ (hd_lt c ht)) ks (fun _ => rfl)) $$ [HK HKp HKr]
  · isplitl [HK]; · iexact HK
    isplitl [HKp]; · iexact HKp
    iexact HKr
  icases HK with ⟨HK, Hka⟩
  ihave HV := (land_batch vbM vaM c (par_lt t.val) (hd_lt c ht) (KBv vs _ (hd_lt c ht)) vs (fun _ => rfl)) $$ [HV HVp HVr]
  · isplitl [HV]; · iexact HV
    isplitl [HVp]; · iexact HVp
    iexact HVr
  icases HV with ⟨HV, Hva⟩
  sl_exec
  iapply (wp_arms (p := k0_cond1 t = 1#1) c (iprop((idle (F := F) kbM c (par_lt (t.val + 1)) (kvSm ((t.val + 1) % 2) 0) ∗ (kaM.view.loc (c : Thread nD τ) ↦{fullShare} ks)) ∗ idle (F := F) vbM c (par_lt (t.val + 1)) (kvSm ((t.val + 1) % 2) 1) ∗ (vaM.view.loc (c : Thread nD τ) ↦{fullShare} vs)))
    (iprop(kNext c ks (t.val + 1) ∗ vNext c vs (t.val + 1)))) $$ [HKi HVi Hka Hva]
  · isplitl [HKi HVi Hka Hva]
    · isplitl [HKi Hka]
      · isplitl [HKi]; · iexact HKi
        iexact Hka
      isplitl [HVi]; · iexact HVi
      iexact Hva
    isplitr
    · ipureintro
      intro h1
      have h8 : t.val + 1 < 8 := Nat.succ_lt_succ ((cond1_iff t).mp h1)
      iintro ⟨⟨⟨HK, Hka⟩, HV, Hva⟩, Hk⟩
      ihave HK := (begin_batch kbM kaM c (par_lt (t.val + 1)) (hd_lt c h8) (KBv ks _ (hd_lt c h8)) ks (kvSm ((t.val + 1) % 2) 0)) $$ [HK Hka]
      · isplitl [HK]; · iexact HK
        iexact Hka
      imod HK with ⟨HK, HKp, HKr⟩
      ihave HV := (begin_batch vbM vaM c (par_lt (t.val + 1)) (hd_lt c h8) (KBv vs _ (hd_lt c h8)) vs (kvSm ((t.val + 1) % 2) 1)) $$ [HV Hva]
      · isplitl [HV]; · iexact HV
        iexact Hva
      imod HV with ⟨HV, HVp, HVr⟩
      have hFk := feeds_of kbM kaM c (par_lt (t.val + 1)) (hd_lt c h8) (KBv ks _ (hd_lt c h8)) ks (fun _ => rfl)
      have hFv := feeds_of vbM vaM c (par_lt (t.val + 1)) (hd_lt c h8) (KBv vs _ (hd_lt c h8)) vs (fun _ => rfl)
      iterate 64
        sl_exec
        iapply (wp_kvStart kbM kaM c (par_lt (t.val + 1)) (hd_lt c h8) (KBv ks _ (hd_lt c h8)) ks 0 hFk (sem_start t h1).1) $$ [HK]
        · isplitl [HK]; · iexact HK
          ipureintro
          exact ⟨by decide, ClosedOff.eq.trans (Eq.symm (dOff_of (other t.val))), ClosedOff.eq.trans (Eq.symm (sOff_of rfl))⟩
        iintro HK
        sl_exec
        iapply (wp_kvStart vbM vaM c (par_lt (t.val + 1)) (hd_lt c h8) (KBv vs _ (hd_lt c h8)) vs 1 hFv (sem_start t h1).2) $$ [HV]
        · isplitl [HV]; · iexact HV
          ipureintro
          exact ⟨by decide, ClosedOff.eq.trans (Eq.symm (dOff_of (other t.val))), ClosedOff.eq.trans (Eq.symm (sOff_of rfl))⟩
        iintro HV
      iapply Hk
      unfold kNext vNext flight
      rw [dif_pos h8, dif_pos h8]
      ihave HK := (started_all kbM kaM c (par_lt (t.val + 1)) (hd_lt c h8) (KBv ks _ (hd_lt c h8)) ks (kvSm ((t.val + 1) % 2) 0)) $$ HK
      ihave HV := (started_all vbM vaM c (par_lt (t.val + 1)) (hd_lt c h8) (KBv vs _ (hd_lt c h8)) vs (kvSm ((t.val + 1) % 2) 1)) $$ HV
      isplitl [HK HKp HKr]
      · isplitl [HK]; · iexact HK
        isplitl [HKp]; · iexact HKp
        iexact HKr
      isplitl [HV]; · iexact HV
      isplitl [HVp]; · iexact HVp
      iexact HVr
    · ipureintro
      intro h1
      have h8 : ¬ t.val + 1 < 8 := fun h => h1 ((cond1_iff t).mpr (Nat.lt_of_succ_lt_succ h))
      iintro ⟨⟨HK, Hka⟩, HV, Hva⟩
      unfold kNext vNext
      rw [dif_neg h8, dif_neg h8]
      isplitl [HK Hka]
      · isplitl [HK]; · iexact HK
        iexact Hka
      isplitl [HV]; · iexact HV
      iexact Hva
  iintro ⟨HKn, HVn⟩
  iapply (wp_loadSlot kbM c (par_lt t.val) (hd_lt c ht) ks (KBv ks _ (hd_lt c ht)) (fun _ => rfl) (k0_off328_eq t)) $$ HK
  iintro HK
  rw [show ∀ (x : Vec F S1x3x1408x128 .f32) {β : Type} (k : Vec F S1x3x1408x128 .f32 → Prog (TpuEff nD τ sig (Elt F) Λ₀ .tc) β), (Prog.ret x).bind k = k x from fun _ _ _ => rfl]
  sl_exec
  have hsKR : ∀ i : Shape.Idx S8x3x1408x128, (i 0).val < t.val + 1 → krM.view.writes (Elt F) KR [⟨Rect.unit (s := S8x3x1408x128) (k0_off329 t) S1x3x1408x128.size (k0_off329_inb t), k0_pay2 (headVec ks (8 * c.val + t.val) (hd_lt c ht))⟩] i = resF k0_pay2 c ks i :=
    kr_step k0_pay2 c ks KR (Fin.cast t1_trips t) (hd_lt c ht) (k0_off329_eq t) hKR
  ihave H1 := (kept_at (B := krM.view.loc (c : Thread nD τ)) _ (fun f => ∀ i : Shape.Idx S8x3x1408x128, (i 0).val < t.val + 1 → f i = resF k0_pay2 c ks i) hsKR) $$ H1
  icases H1 with ⟨%KR', %hKR', H1⟩
  iapply (wp_loadSlot vbM c (par_lt t.val) (hd_lt c ht) vs (KBv vs _ (hd_lt c ht)) (fun _ => rfl) (k0_off328_eq t)) $$ HV
  iintro HV
  rw [Prog.bind_lift]
  sl_step
  rw [Prog.bind_lift]
  sl_step
  have hsVR : ∀ i : Shape.Idx S8x3x1408x128, (i 0).val < t.val + 1 → (vrM.access (Rect.unit (s := S8x3x1408x128) (k0_off329 t) S1x3x1408x128.size (k0_off329_inb t))).write (Elt F) VR (k0_pay3 (headVec vs (8 * c.val + t.val) (hd_lt c ht))) Finset.univ i = resF k0_pay3 c vs i :=
    vr_step k0_pay3 c vs VR (Fin.cast t1_trips t) (hd_lt c ht) (inb := k0_off329_inb t) (k0_off329_eq t) hVR
  ihave H2 := (kept_vr c _ _ (fun f => ∀ i : Shape.Idx S8x3x1408x128, (i 0).val < t.val + 1 → f i = resF k0_pay3 c vs i) hsVR) $$ H2
  icases H2 with ⟨%VR', %hVR', H2⟩
  sl_exec
  sl_step
  have e := tripEq c 0 Q KR' VR' f (Fin.cast t1_trips t) hw (q := ![k0_off330 t, k0_off334 t, k0_off335 t, k0_off336 t])
    (iq := fun l => by fin_cases l; exacts [k0_off330_inb t, k0_off334_inb t, k0_off335_inb t, k0_off336_inb t])
    (fun l => by fin_cases l; exacts [k0_off330_eq t, k0_off334_eq t, k0_off335_eq t, k0_off336_eq t])
    (im := k0_off331_inb c t) (off331_eq c t) (ib := k0_off332_inb t) (k0_off332_eq t) (id := k0_off333_inb c t) (off333_eq c t) (io := k0_off337_inb t) (k0_off337_eq t)
  have h4 := ctx_step c 0 Q (resF k0_pay2 c ks) (resF k0_pay3 c vs) f (Fin.cast t1_trips t) hf
  rw [← tripVal_congr c 0 Q (Fin.cast t1_trips t) hKR' hVR', ← e] at h4
  ihave HK := (unload kbM c (par_lt t.val) (hh := hd_lt c ht) (KBv ks _ (hd_lt c ht)) (kvSm (t.val % 2) 0) (fun _ => rfl)) $$ [Hkv HK]
  · isplitl [Hkv]; · iexact Hkv
    iexact HK
  ihave HK := (idle_congr kbM c (par_lt t.val) (par_lt (t.val + 1 + 1)) 0 (two_on t.val)) $$ HK
  ihave HV := (unload vbM c (par_lt t.val) (hh := hd_lt c ht) (KBv vs _ (hd_lt c ht)) (kvSm (t.val % 2) 1) (fun _ => rfl)) $$ [Hvv HV]
  · isplitl [Hvv]; · iexact Hvv
    iexact HV
  ihave HV := (idle_congr vbM c (par_lt t.val) (par_lt (t.val + 1 + 1)) 1 (two_on t.val)) $$ HV
  isplitl [HKn HK]
  · isplitl [HKn]; · iexact HKn
    iexact HK
  isplitl [HVn HV]
  · isplitl [HVn]; · iexact HVn
    iexact HV
  isplitl [HO]; · iexact HO
  isplitl [H1]
  · iexists KR'
    isplitr; · ipureintro; exact hKR'
    iexact H1
  isplitl [H2]
  · iexists VR'
    isplitr; · ipureintro; exact hVR'
    iexact H2
  isplitl [H3]; · iexact H3
  iexists _
  isplitr; · ipureintro; exact h4
  iexact H4

end Cert.RingAttn

end

end
-- ==== Proof.Stage0.lean ====
/-
# The first stage's loop, from its trips
-/
module

public import proofs.«01_k».proof.Proof.First

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A loop, by what holds before each trip. -/
theorem wp_forInv {α : Type} {P : α → sProp 𝕄} (c : Dev nD) (l : Scf.Loop 32) (hok : l.OK) {n : ℕ} (hn : l.trips = n)
    (body : Fin l.trips → Unit → Prog (TpuEff nD τ sig (Elt F) Λ₀ .tc) Unit) (I : ℕ → sProp 𝕄)
    (hb : ∀ (t : Fin l.trips) (u : Unit), I t.val ⊢ wp frame (wpE (defs₀ (F := F)) 𝒱₀ (c : Thread nD τ) none) Set.univ (body t u) (fun _ => I (t.val + 1)))
    (k : Unit → Prog (TpuEff nD τ sig (Elt F) Λ₀ .tc) α) :
    I 0 ⊢ iprop((I n -∗ wp frame (wpE (defs₀ (F := F)) 𝒱₀ (c : Thread nD τ) none) Set.univ (k ()) P)
        -∗ wp frame (wpE (defs₀ (F := F)) 𝒱₀ (c : Thread nD τ) none) Set.univ (l.for hok () body >>= k) P) := by
  subst hn
  iintro H Hk
  iapply (Scf.wp_for_bind frame (wpE (defs₀ (F := F)) 𝒱₀ (c : Thread nD τ) none) Set.univ l.lb l.ub l.st hok () body (fun n _ => I n) hb) $$ H
  iintro %u H
  iapply Hk
  iexact H

def inv0 (c : Dev nD) (Q : QuC F) (ks vs : KaC F) (t : ℕ) : sProp 𝕄 := iprop(levAts L lv ∗ stage0 c Q ks vs t)

theorem trip1' (c : Dev nD) (Q : QuC F) (ks vs : KaC F) (v7 v8 w : BitVec 32) (v951 v954 : FVec F S1024x1024 .bf16) (hw : w = wW c 0) (t : Fin k0_t1_loop.trips) (u : Unit) :
    inv0 c Q ks vs t.val ⊢ wp frame (wpE (defs₀ (F := F)) 𝒱₀ (c : Thread nD τ) none) Set.univ (bodyA (k0_t1_body (F := F)) c v7 v8 v951 v954 w t u) (fun _ => inv0 c Q ks vs (t.val + 1)) := by
  unfold inv0
  iintro ⟨#HL, HS⟩
  iapply (wp_wand_r frame (wpE (defs₀ (F := F)) 𝒱₀ (c : Thread nD τ) none) Set.univ)
  isplitl [HS]
  · iapply (trip1 c Q ks vs v7 v8 w v951 v954 hw t)
    isplitr; · iexact HL
    iexact HS
  iintro %u' HS
  isplitr; · iexact HL
  iexact HS

/-- The first stage's loop. -/
theorem wp_stage0 {α : Type} {P : α → sProp 𝕄} (c : Dev nD) (Q : QuC F) (ks vs : KaC F) (v7 v8 w : BitVec 32) (v951 v954 : FVec F S1024x1024 .bf16) (hw : w = wW c 0)
    (k : Unit → Prog (TpuEff nD τ sig (Elt F) Λ₀ .tc) α) :
    iprop(levAts L lv ∗ stage0 c Q ks vs 0)
      ⊢ iprop((stage0 c Q ks vs 8 -∗ wp frame (wpE (defs₀ (F := F)) 𝒱₀ (c : Thread nD τ) none) Set.univ (k ()) P)
        -∗ wp frame (wpE (defs₀ (F := F)) 𝒱₀ (c : Thread nD τ) none) Set.univ (k0_t1_loop.for k0_t1_ok () (bodyA (k0_t1_body (F := F)) c v7 v8 v951 v954 w) >>= k) P) := by
  have hb := trip1' c Q ks vs v7 v8 w v951 v954 hw
  have h := wp_forInv (P := P) c k0_t1_loop k0_t1_ok t1_trips (bodyA (k0_t1_body (F := F)) c v7 v8 v951 v954 w) (inv0 c Q ks vs) hb k
  unfold inv0 at h
  iintro H Hk
  iapply h $$ H
  iintro ⟨-, HS⟩
  iapply Hk
  iexact HS

end Cert.RingAttn

end

end
-- ==== Proof.Ops.lean ====
/-
# The steps of the ring, as the kernel takes them

What every stage sends and keeps, and the steps of the body on the stacked buffers: the gather's and the reduce-scatter's sends and
waits, the loads and stores of one block of a stack.
-/
module

public import proofs.«01_k».proof.Proof.Stage0

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Stacks of blocks -/

/-- The stack whose block `k` is `g k`. -/
def stack {E : Type} {n : ℕ} (g : ℕ → Shape.Idx S1x256x1024 → E) : Shape.Idx ⟨3, ![n, 256, 1024]⟩ → E :=
  fun i => g (i 0).val (ix3 0 (i 1) (i 2))

theorem emb_lane {n k : ℕ} (inb : ∀ a, (![k, 0, 0] : Fin 3 → ℕ) a + S1x256x1024.size a ≤ (⟨3, ![n, 256, 1024]⟩ : Shape).size a) (x : Shape.Idx S1x256x1024) :
    ((Rect.unit (s := ⟨3, ![n, 256, 1024]⟩) ![k, 0, 0] S1x256x1024.size inb).emb x 0).val = k := by
  have h0 := ValueKit.rect_emb_unit_val (s := ⟨3, ![n, 256, 1024]⟩) ![k, 0, 0] S1x256x1024.size inb x 0
  have hx : (x 0).val = 0 := by have h := (x 0).isLt; change (x 0).val < 1 at h; omega
  exact h0.trans (by rw [hx]; rfl)

theorem stack_emb {E : Type} {n k : ℕ} (g : ℕ → Shape.Idx S1x256x1024 → E)
    (inb : ∀ a, (![k, 0, 0] : Fin 3 → ℕ) a + S1x256x1024.size a ≤ (⟨3, ![n, 256, 1024]⟩ : Shape).size a) (x : Shape.Idx S1x256x1024) :
    stack (n := n) g ((Rect.unit (s := ⟨3, ![n, 256, 1024]⟩) ![k, 0, 0] S1x256x1024.size inb).emb x) = g k x := by
  have h1 := ValueKit.rect_emb_unit_val (s := ⟨3, ![n, 256, 1024]⟩) ![k, 0, 0] S1x256x1024.size inb x 1
  have h2 := ValueKit.rect_emb_unit_val (s := ⟨3, ![n, 256, 1024]⟩) ![k, 0, 0] S1x256x1024.size inb x 2
  have hx : (x 0).val = 0 := by have h := (x 0).isLt; change (x 0).val < 1 at h; omega
  unfold stack
  rw [emb_lane inb x]
  congr 1
  funext a
  fin_cases a
  · exact Fin.ext hx.symm
  · exact Fin.ext (h1.trans (Nat.zero_add _))
  · exact Fin.ext (h2.trans (Nat.zero_add _))

/-! ## What the stages send and keep -/

def orgD (c : Dev nD) (s : ℕ) : Dev nD := ⟨org c s, org_lt c s⟩

variable (xs : Dev nD → Vec F S1x256x1024 .f32) (wqs wos : Dev nD → Vec F S1024x1024 .f32) (kss vss : Dev nD → KaC F)

/-- The block of `x` device `o` gathers from, rounded. -/
def xRnd (o : ℕ) : Vec F S1x256x1024 .bf16 := k0_pay147 (xs ⟨o % 8, Nat.mod_lt _ (by decide)⟩)
def XBf : XgC F := stack (n := 8) (xRnd xs)
/-- The queries of stage `s`. -/
def Qof (c : Dev nD) (s : ℕ) : QuC F := k0_pay150 (k0_pay148 (wqs c)) (xRnd xs (org c s))
def KRf (c : Dev nD) : HdC F := resF k0_pay2 c (kss c)
def VRf (c : Dev nD) : HdC F := resF k0_pay3 c (vss c)
/-- What device `c` works out in stage `s`. -/
def Aof (c : Dev nD) (s : ℕ) : Vec F S1x256x1024 .f32 := k0_pay152 (k0_pay149 (wos c)) (ctx c s (Qof xs wqs c s) (KRf kss c) (VRf vss c))
/-- The partial sum device `c` sends in step `t`. -/
def SBof : ℕ → Dev nD → Vec F S1x256x1024 .f32
  | 0, c => k0_pay156 (Aof xs wqs wos kss vss c 1)
  | t + 1, c => k0_pay160 (Aof xs wqs wos kss vss c (t + 2)) (SBof t (prv c))
def RBf (c : Dev nD) : RbC F := stack (n := 7) fun t => SBof xs wqs wos kss vss t (prv c)
def outOf (c : Dev nD) : Vec F S1x256x1024 .f32 := k0_pay1 (Aof xs wqs wos kss vss c 0) (SBof xs wqs wos kss vss 6 (prv c))

/-! ## Loads and stores of a block -/

theorem wp_loadX {α : Type} {P : α → sProp 𝕄} (c : Dev nD) (k : ℕ) (q : PosShare TreeShare) (g : ℕ → Vec F S1x256x1024 .bf16)
    {off : Fin 3 → ℕ} {inb : ∀ a, off a + S1x256x1024.size a ≤ S8x256x1024.size a} (ho : off = ![k, 0, 0])
    {hl : xgM.view.LoadsAt (Rect.unit (s := S8x256x1024) off S1x256x1024.size inb).toLoadRect}
    {K : Vec F S1x256x1024 .bf16 → Prog (TpuEff nD τ sig (Elt F) Λ₀ .tc) α} :
    slotX c k q (stack (n := 8) g)
      ⊢ iprop((slotX c k q (stack (n := 8) g) -∗ wp frame (wpE (defs₀ (F := F)) 𝒱₀ (c : Thread nD τ) none) Set.univ (K (g k)) P)
          -∗ wp frame (wpE (defs₀ (F := F)) 𝒱₀ (c : Thread nD τ) none) Set.univ
              (.op (.load xgM (Rect.unit (s := S8x256x1024) off S1x256x1024.size inb).toLoadRect hl) K) P) := by
  subst ho
  have e : xgM.view.readAt (Elt F) (Rect.unit (s := S8x256x1024) ![k, 0, 0] S1x256x1024.size inb).toLoadRect (stack (n := 8) g) = g k := funext fun x => stack_emb g inb x
  rw [← e]
  exact wp_load 𝒱₀ (c : Thread nD τ) none Set.univ (m := xgM) (hl := hl) (k := K) (S := lane 8 k) (by
    have h := (View.set_slice xgM.view (Rect.unit (s := S8x256x1024) ![k, 0, 0] S1x256x1024.size inb)).symm.trans (xgAt_set inb)
    exact h.subset)

theorem wp_loadR {α : Type} {P : α → sProp 𝕄} (c : Dev nD) (k : ℕ) (g : ℕ → Vec F S1x256x1024 .f32)
    {off : Fin 3 → ℕ} {inb : ∀ a, off a + S1x256x1024.size a ≤ S7x256x1024.size a} (ho : off = ![k, 0, 0])
    {hl : rbM.view.LoadsAt (Rect.unit (s := S7x256x1024) off S1x256x1024.size inb).toLoadRect}
    {K : Vec F S1x256x1024 .f32 → Prog (TpuEff nD τ sig (Elt F) Λ₀ .tc) α} :
    slotR c k (stack (n := 7) g)
      ⊢ iprop((slotR c k (stack (n := 7) g) -∗ wp frame (wpE (defs₀ (F := F)) 𝒱₀ (c : Thread nD τ) none) Set.univ (K (g k)) P)
          -∗ wp frame (wpE (defs₀ (F := F)) 𝒱₀ (c : Thread nD τ) none) Set.univ
              (.op (.load rbM (Rect.unit (s := S7x256x1024) off S1x256x1024.size inb).toLoadRect hl) K) P) := by
  subst ho
  have e : rbM.view.readAt (Elt F) (Rect.unit (s := S7x256x1024) ![k, 0, 0] S1x256x1024.size inb).toLoadRect (stack (n := 7) g) = g k := funext fun x => stack_emb g inb x
  rw [← e]
  exact wp_load 𝒱₀ (c : Thread nD τ) none Set.univ (m := rbM) (hl := hl) (k := K) (S := lane 7 k) (by
    have h := (View.set_slice rbM.view (Rect.unit (s := S7x256x1024) ![k, 0, 0] S1x256x1024.size inb)).symm.trans ((View.set_slice_whole cc0_scratch9 _).trans (lane_rect inb))
    exact h.subset)

/-- The load of a send slot before it is overwritten, and the store. -/
theorem wp_putS {α : Type} {P : α → sProp 𝕄} (c : Dev nD) (k : ℕ) (w : Vec F S1x256x1024 .f32)
    {off : Fin 3 → ℕ} {inb : ∀ a, off a + S1x256x1024.size a ≤ S2x256x1024.size a} (ho : off = ![k, 0, 0])
    {hl : sbM.view.LoadsAt (Rect.unit (s := S2x256x1024) off S1x256x1024.size inb).toLoadRect}
    {hx : (sbM.access (Rect.unit (s := S2x256x1024) off S1x256x1024.size inb)).Stores Finset.univ} {hm}
    {K : PUnit → Prog (TpuEff nD τ sig (Elt F) Λ₀ .tc) α} :
    iprop(∃ f : SbC F, slotS c k f)
      ⊢ iprop((slotS c k (stack (n := 2) fun _ => w) -∗ wp frame (wpE (defs₀ (F := F)) 𝒱₀ (c : Thread nD τ) none) Set.univ (K ⟨⟩) P)
          -∗ wp frame (wpE (defs₀ (F := F)) 𝒱₀ (c : Thread nD τ) none) Set.univ
              (.op (.load sbM (Rect.unit (s := S2x256x1024) off S1x256x1024.size inb).toLoadRect hl) fun _ =>
                .op (.store sbM (Rect.unit (s := S2x256x1024) off S1x256x1024.size inb) w Finset.univ hx hm) K) P) := by
  subst ho
  have hs : (sbM.access (Rect.unit (s := S2x256x1024) ![k, 0, 0] S1x256x1024.size inb)).set = lane 2 k := (View.set_slice_whole cc0_scratch8 _).trans (lane_rect inb)
  have hs' := (View.set_slice sbM.view (Rect.unit (s := S2x256x1024) ![k, 0, 0] S1x256x1024.size inb)).symm.trans hs
  unfold slotS
  iintro ⟨%f, H⟩ Hk
  iapply (wp_load 𝒱₀ (c : Thread nD τ) none Set.univ (m := sbM) (S := lane 2 k) hs'.subset) $$ H
  iintro H
  iapply (wp_store 𝒱₀ (c : Thread nD τ) none Set.univ (m := sbM) (r := Rect.unit (s := S2x256x1024) ![k, 0, 0] S1x256x1024.size inb) (hx := hx) (hm := hm) (S := lane 2 k) (f := f) hs.subset) $$ [H]
  · iexact H
  iintro H
  iapply Hk
  have hw : (sbM.access (Rect.unit (s := S2x256x1024) ![k, 0, 0] S1x256x1024.size inb)).read (Elt F) (stack (n := 2) fun _ => w) = w :=
    funext fun x => stack_emb (fun _ => w) inb x
  have hc := block_written (F := F) (sbM.access (Rect.unit (s := S2x256x1024) ![k, 0, 0] S1x256x1024.size inb)) f (stack (n := 2) fun _ => w)
  rw [hw, hs] at hc
  have h : ((c : Thread nD τ).loc cc0_scratch8 ↦[lane 2 k]{fullShare} ((sbM.access (Rect.unit (s := S2x256x1024) ![k, 0, 0] S1x256x1024.size inb)).write (Elt F) f w Finset.univ) : sProp 𝕄)
      ⊢ ((c : Thread nD τ).loc cc0_scratch8 ↦[lane 2 k]{fullShare} (stack (n := 2) fun _ => w)) := Entails.of_eq (pointsTo_congr hc)
  iapply h
  iexact H

/-- The stage results kept so far. -/
def accP (c : Dev nD) (A : ℕ → Vec F S1x256x1024 .f32) (n : ℕ) : sProp 𝕄 :=
  iprop(∃ f : AcC F, ⌜∀ s < n, ∀ i : Shape.Idx S8x256x1024, (i 0).val = org c s → f i = A s (ix3 0 (i 1) (i 2))⌝ ∗ (accM.view.loc (c : Thread nD τ) ↦{fullShare} f))

theorem wp_loadAcc {α : Type} {P : α → sProp 𝕄} (c : Dev nD) (A : ℕ → Vec F S1x256x1024 .f32) (n s : ℕ) (hs : s < n)
    {off : Fin 3 → ℕ} {inb : ∀ a, off a + S1x256x1024.size a ≤ S8x256x1024.size a} (ho : off = ![org c s, 0, 0])
    {hl : accM.view.LoadsAt (Rect.unit (s := S8x256x1024) off S1x256x1024.size inb).toLoadRect}
    {K : Vec F S1x256x1024 .f32 → Prog (TpuEff nD τ sig (Elt F) Λ₀ .tc) α} :
    accP c A n
      ⊢ iprop((accP c A n -∗ wp frame (wpE (defs₀ (F := F)) 𝒱₀ (c : Thread nD τ) none) Set.univ (K (A s)) P)
          -∗ wp frame (wpE (defs₀ (F := F)) 𝒱₀ (c : Thread nD τ) none) Set.univ
              (.op (.load accM (Rect.unit (s := S8x256x1024) off S1x256x1024.size inb).toLoadRect hl) K) P) := by
  subst ho
  unfold accP
  iintro ⟨%f, %hf, H⟩ Hk
  have e : accM.view.readAt (Elt F) (Rect.unit (s := S8x256x1024) ![org c s, 0, 0] S1x256x1024.size inb).toLoadRect f = A s := by
    funext x
    have h := stack_emb (n := 8) (fun _ => A s) inb x
    unfold stack at h
    have h' := hf s hs ((Rect.unit (s := S8x256x1024) ![org c s, 0, 0] S1x256x1024.size inb).emb x) (emb_lane (n := 8) inb x)
    exact h'.trans h
  iapply (wp_load 𝒱₀ (c : Thread nD τ) none Set.univ (m := accM) (S := Finset.univ) (Finset.subset_univ _)) $$ H
  iintro H
  rw [e]
  iapply Hk
  iexists f
  isplitr; · ipureintro; exact hf
  iexact H

theorem acc_step (c : Dev nD) (A : ℕ → Vec F S1x256x1024 .f32) (s : ℕ) (hs : s < 8) (f : AcC F)
    {inb : ∀ a, (![org c s, 0, 0] : Fin 3 → ℕ) a + S1x256x1024.size a ≤ S8x256x1024.size a}
    (hf : ∀ s' < s, ∀ i : Shape.Idx S8x256x1024, (i 0).val = org c s' → f i = A s' (ix3 0 (i 1) (i 2))) :
    ∀ s' < s + 1, ∀ i : Shape.Idx S8x256x1024, (i 0).val = org c s' →
      (accM.access (Rect.unit (s := S8x256x1024) ![org c s, 0, 0] S1x256x1024.size inb)).write (Elt F) f (A s) Finset.univ i = A s' (ix3 0 (i 1) (i 2)) := by
  intro s' hs' i hi
  have hset : (accM.access (Rect.unit (s := S8x256x1024) ![org c s, 0, 0] S1x256x1024.size inb)).set = lane 8 (org c s) := (View.set_slice_whole cc0_scratch1 _).trans (lane_rect inb)
  by_cases e : s' = s
  · subst e
    have hw : (accM.access (Rect.unit (s := S8x256x1024) ![org c s', 0, 0] S1x256x1024.size inb)).read (Elt F) (stack (n := 8) fun _ => A s') = A s' :=
      funext fun x => stack_emb (fun _ => A s') inb x
    have hc := block_written (F := F) (accM.access (Rect.unit (s := S8x256x1024) ![org c s', 0, 0] S1x256x1024.size inb)) f (stack (n := 8) fun _ => A s')
    rw [hw, hset] at hc
    exact hc i (mem_lane.mpr hi)
  · refine (View.write_of_not_mem _ _ _ fun hm => ?_).trans (hf s' (by omega) i hi)
    have hm' := hset.subset hm
    exact e (org_inj c (by omega) hs (hi.symm.trans (mem_lane.mp hm')))

/-- The load of a result's place before it is overwritten, and the store. -/
theorem wp_putAcc {α : Type} {P : α → sProp 𝕄} (c : Dev nD) (A : ℕ → Vec F S1x256x1024 .f32) (s s' : ℕ) (hs : s < 8) (hs' : s' = s + 1) (w : Vec F S1x256x1024 .f32) (hw : w = A s)
    {off : Fin 3 → ℕ} {inb : ∀ a, off a + S1x256x1024.size a ≤ S8x256x1024.size a} (ho : off = ![org c s, 0, 0])
    {hl : accM.view.LoadsAt (Rect.unit (s := S8x256x1024) off S1x256x1024.size inb).toLoadRect}
    {hx : (accM.access (Rect.unit (s := S8x256x1024) off S1x256x1024.size inb)).Stores Finset.univ} {hm}
    {K : PUnit → Prog (TpuEff nD τ sig (Elt F) Λ₀ .tc) α} :
    accP c A s
      ⊢ iprop((accP c A s' -∗ wp frame (wpE (defs₀ (F := F)) 𝒱₀ (c : Thread nD τ) none) Set.univ (K ⟨⟩) P)
          -∗ wp frame (wpE (defs₀ (F := F)) 𝒱₀ (c : Thread nD τ) none) Set.univ
              (.op (.load accM (Rect.unit (s := S8x256x1024) off S1x256x1024.size inb).toLoadRect hl) fun _ =>
                .op (.store accM (Rect.unit (s := S8x256x1024) off S1x256x1024.size inb) w Finset.univ hx hm) K) P) := by
  subst ho hs' hw
  unfold accP
  iintro ⟨%f, %hf, H⟩ Hk
  iapply (wp_load 𝒱₀ (c : Thread nD τ) none Set.univ (m := accM) (S := Finset.univ) (Finset.subset_univ _)) $$ H
  iintro H
  iapply (wp_store 𝒱₀ (c : Thread nD τ) none Set.univ (m := accM) (r := Rect.unit (s := S8x256x1024) ![org c s, 0, 0] S1x256x1024.size inb) (hx := hx) (hm := hm) (S := Finset.univ) (f := f) (Finset.subset_univ _)) $$ [H]
  · iexact H
  iintro H
  iapply Hk
  iexists ((accM.access (Rect.unit (s := S8x256x1024) ![org c s, 0, 0] S1x256x1024.size inb)).write (Elt F) f (A s) Finset.univ)
  isplitr; · ipureintro; exact acc_step c A s hs f hf
  iexact H

/-- The load of the query buffer before it is overwritten, and the store. -/
theorem wp_putQ {α : Type} {P : α → sProp 𝕄} (c : Dev nD) (w : QuC F)
    {inb : ∀ a, (![0, 0] : Fin 2 → ℕ) a + S256x1024.size a ≤ S256x1024.size a}
    {hl : quM.view.LoadsAt (Rect.unit (s := S256x1024) ![0, 0] S256x1024.size inb).toLoadRect}
    {hx : (quM.access (Rect.unit (s := S256x1024) ![0, 0] S256x1024.size inb)).Stores Finset.univ} {hm}
    {K : PUnit → Prog (TpuEff nD τ sig (Elt F) Λ₀ .tc) α} :
    iprop(∃ f : QuC F, (quM.view.loc (c : Thread nD τ) ↦{fullShare} f))
      ⊢ iprop(((quM.view.loc (c : Thread nD τ) ↦{fullShare} w) -∗ wp frame (wpE (defs₀ (F := F)) 𝒱₀ (c : Thread nD τ) none) Set.univ (K ⟨⟩) P)
          -∗ wp frame (wpE (defs₀ (F := F)) 𝒱₀ (c : Thread nD τ) none) Set.univ
              (.op (.load quM (Rect.unit (s := S256x1024) ![0, 0] S256x1024.size inb).toLoadRect hl) fun _ =>
                .op (.store quM (Rect.unit (s := S256x1024) ![0, 0] S256x1024.size inb) w Finset.univ hx hm) K) P) := by
  iintro ⟨%f, H⟩ Hk
  iapply (wp_load 𝒱₀ (c : Thread nD τ) none Set.univ (m := quM) (S := Finset.univ) (Finset.subset_univ _)) $$ H
  iintro H
  iapply (wp_store 𝒱₀ (c : Thread nD τ) none Set.univ (m := quM) (r := Rect.unit (s := S256x1024) ![0, 0] S256x1024.size inb) (hx := hx) (hm := hm) (S := Finset.univ) (f := f) (Finset.subset_univ _)) $$ [H]
  · iexact H
  iintro H
  rw [show (quM.access (Rect.unit (s := S256x1024) ![0, 0] S256x1024.size inb)).write (Elt F) f w Finset.univ = w from
    Memref.write_access_unit_zero_univ (Elt F) cc0_scratch6 (by decide) _ f w]
  iapply Hk
  iexact H

theorem wp_loadCt {α : Type} {P : α → sProp 𝕄} (c : Dev nD) (f : QuC F)
    {inb : ∀ a, (![0, 0] : Fin 2 → ℕ) a + S256x1024.size a ≤ S256x1024.size a}
    {hl : ctM.view.LoadsAt (Rect.unit (s := S256x1024) ![0, 0] S256x1024.size inb).toLoadRect}
    {K : Vec F S256x1024 .bf16 → Prog (TpuEff nD τ sig (Elt F) Λ₀ .tc) α} :
    (ctM.view.loc (c : Thread nD τ) ↦{fullShare} f)
      ⊢ iprop(((ctM.view.loc (c : Thread nD τ) ↦{fullShare} f) -∗ wp frame (wpE (defs₀ (F := F)) 𝒱₀ (c : Thread nD τ) none) Set.univ (K f) P)
          -∗ wp frame (wpE (defs₀ (F := F)) 𝒱₀ (c : Thread nD τ) none) Set.univ
              (.op (.load ctM (Rect.unit (s := S256x1024) ![0, 0] S256x1024.size inb).toLoadRect hl) K) P) := by
  iintro H Hk
  iapply (wp_load 𝒱₀ (c : Thread nD τ) none Set.univ (m := ctM) (S := Finset.univ) (Finset.subset_univ _)) $$ H
  iintro H
  rw [show ctM.view.readAt (Elt F) (Rect.unit (s := S256x1024) ![0, 0] S256x1024.size inb).toLoadRect f = f from
    Memref.readAt_unit_zero (Elt F) cc0_scratch7 (by decide) _ f]
  iapply Hk
  iexact H

/-! ## The ring's steps -/

theorem peel {Φ : ℕ → sProp 𝕄} (a b : ℕ) (ha : a < 7) (hb : b = a + 1) : bigSep (Finset.Ico a 7) Φ ⊢ iprop(Φ a ∗ bigSep (Finset.Ico b 7) Φ) := by
  subst hb; rw [Ico_peel ha, bigSep_insert (not_mem_Ico a)]
  exact .rfl
theorem push {Φ : ℕ → sProp 𝕄} (a b : ℕ) (hb : b = a + 1) : iprop(Φ a ∗ bigSep (Finset.Ico 0 a) Φ) ⊢ bigSep (Finset.Ico 0 b) Φ := by
  subst hb
  rw [show Finset.Ico 0 (a + 1) = insert a (Finset.Ico 0 a) by ext x; rw [Finset.mem_insert, Finset.mem_Ico, Finset.mem_Ico]; omega,
    bigSep_insert (fun h => by have := (Finset.mem_Ico.mp h).2; omega)]
  exact .rfl

/-- What device `c` needs for step `s` of the gather, for step `t` of the reduce-scatter, before the barrier. -/
def kitX (c : Dev nD) (s : ℕ) : sProp 𝕄 :=
  iprop(dutyTok ER (xcell c s) 0 false ∗ dutyTok ER (xcell (nxt c) (7 + s)) 0 false ∗ atPos ER (xcell c s) 0 ∅ 0 ∗ atPos ER (xcell c (7 + s)) 0 ∅ 0
    ∗ cred (tallyAt (xcell c (7 + s)) () (Nof (7 + s))))
def kitR (c : Dev nD) (t : ℕ) : sProp 𝕄 :=
  iprop(dutyTok ER (xcell c (14 + t)) 0 false ∗ dutyTok ER (xcell (nxt c) (21 + t)) 0 false ∗ atPos ER (xcell c (14 + t)) 0 ∅ 0 ∗ atPos ER (xcell c (21 + t)) 0 ∅ 0
    ∗ cred (tallyAt (xcell c (21 + t)) () (Nof (21 + t))))
def gkX (c : Dev nD) (s : ℕ) : sProp 𝕄 := iprop(kitX (F := F) c s ∗ ∃ f : XgC F, slotX (nxt c) (org c s) fullShare f)
def gkR (c : Dev nD) (t : ℕ) : sProp 𝕄 := iprop(kitR (F := F) c t ∗ ∃ f : RbC F, slotR (nxt c) t f)
/-- A cell of device `c` with the credit to wait on it. -/
def due (c : Dev nD) (j : ℕ) : sProp 𝕄 := iprop(atPos ER (xcell c j) 0 ∅ 0 ∗ cred (tallyAt (xcell c j) () (Nof j)))

variable (XB : XgC F) (RB : Dev nD → RbC F) (K : Dev nD × Fin 29 → ℕ)

def doneX (c : Dev nD) (n : ℕ) : sProp 𝕄 :=
  bigSep (Finset.Ico 0 n) fun s => iprop(slotX c (org c s) fullShare XB ∗ semVal (xcell c s) 0 ∗ semVal (xcell c (7 + s)) 0)
def doneS (c : Dev nD) (n : ℕ) : sProp 𝕄 := bigSep (Finset.Ico 0 n) fun t => (semVal (xcell c (14 + t)) 0 : sProp 𝕄)
def doneR (c : Dev nD) (n : ℕ) : sProp 𝕄 := bigSep (Finset.Ico 0 n) fun t => iprop(slotR c t (RB c) ∗ semVal (xcell c (21 + t)) 0)

theorem lv_low (c : Dev nD) {j : ℕ} (hj : j < 7 ∨ 14 ≤ j ∧ j < 21) : lv (xcell c j) () = 0 := by
  show (if 11 ≤ (xsem j).val ∧ (xsem j).val < 18 then _ else if 25 ≤ (xsem j).val ∧ (xsem j).val < 32 then _ else 0) = _
  rw [xsem_val (by omega), if_neg (by omega), if_neg (by omega)]

theorem wp_gSend {α : Type} {Q : α → sProp 𝕄} (c n : Dev nD) (hn : n = nxt c) (s s' r : ℕ) (hs : s < 7) (hs' : s' = s + 1)
    {q q' : DmaSem sig} (hq : q = xsem s) (hq' : q' = xsem (7 + s))
    {off : Fin 3 → ℕ} {inb : ∀ a, off a + S1x256x1024.size a ≤ S8x256x1024.size a} (hoff : off = ![org c s, 0, 0])
    {hsc : (xgAt off inb : Memref sig (Dev.tc n : Thread nD τ).2.kind .vmem S1x256x1024 .bf16).view.ref.isScScratch = false}
    {hx : (xgAt off inb).view.WordExact} {hy : (xgAt off inb).view.WordExact}
    {ht : DmaTarget.Typed .vmem (.dma q') (.remote (Dev.tc n : Thread nD τ) (xgAt off inb) (.dma q) hsc)}
    {k : PUnit → Prog (TpuEff nD τ sig (Elt F) Λ₀ .tc) α} :
    iprop(records XB RB K ∗ slotX c (org c s) fullShare XB ∗ bigSep (Finset.Ico s 7) (gkX (F := F) c) ∗ owing c (owe c s r))
      ⊢ iprop((iprop(slotX c (org c s) fullShare.right XB ∗ (due c s ∗ due c (7 + s)) ∗ bigSep (Finset.Ico s' 7) (gkX (F := F) c) ∗ owing c (owe c s' r))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xgAt off inb) (.remote (Dev.tc n : Thread nD τ) (xgAt off inb) (.dma q) hsc) (.dma q') hx hy ht) k) Q) := by
  iintro ⟨#HR, Hx, HG, HO⟩ Hk
  ihave HG := (peel s s' hs hs') $$ HG
  subst hs'
  icases HG with ⟨Hg, HG⟩
  unfold gkX kitX
  icases Hg with ⟨⟨Ht, Ht', Ha, Ha', Hc'⟩, Hl⟩
  iapply (wp_sendX XB RB K c n hn hs hq hq' hoff) $$ [Hx Hl HO Ht Ht']
  · isplitr; · iexact HR
    isplitl [Hx]; · iexact Hx
    isplitl [Hl]; · iexact Hl
    isplitl [HO]; · iexact HO
    isplitl [Ht]; · iexact Ht
    iexact Ht'
  iintro ⟨Hx, Hc, HO⟩
  iapply Hk
  unfold due
  isplitl [Hx]; · iexact Hx
  isplitl [Hc Hc' Ha Ha']
  · isplitl [Hc Ha]
    · isplitl [Ha]; · iexact Ha
      iexact Hc
    isplitl [Ha']; · iexact Ha'
    iexact Hc'
  isplitl [HG]; · iexact HG
  iexact HO

theorem wp_gWaitS {α : Type} {Q : α → sProp 𝕄} (c : Dev nD) (s a r : ℕ) (hs : s < 7) {q : DmaSem sig} (hq : q = xsem s)
    {sp sp' : Space} {s₁ s₂ : Shape} {e e' : EltTy} {srcw : Memref sig .tc sp s₁ e} {dstw : Memref sig .tc sp' s₂ e'} (hN : dstw.view.dmaCredit = Nof s)
    {hx : srcw.view.WordExact} {hy : dstw.view.WordExact} {k : PUnit → Prog (TpuEff nD τ sig (Elt F) Λ₀ .tc) α} :
    iprop(records XB RB K ∗ levAts L lv ∗ slotX c (org c s) fullShare.right XB ∗ due c s ∗ owing c (owe c a r))
      ⊢ iprop((iprop((slotX c (org c s) fullShare XB ∗ semVal (xcell c s) 0) ∗ owing c (owe c a r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hx hy) k) Q) := by
  unfold due
  iintro ⟨#HR, #HL, Hx, ⟨Ha, Hc⟩, HO⟩ Hk
  iapply (wp_waitX XB RB K c (j := s) (by omega) hq (owe c a r) hN) $$ [Ha Hc HO]
  · isplitr; · iexact HR
    isplitl [Hc]; · iexact Hc
    isplitl [HO]; · iexact HO
    isplitr
    · iapply (mayWait_owe c (.dma (xsem s)) a r 0 (le_of_eq (lv_low c (Or.inl hs))) (by omega) (by omega)); iexact HL
    iexact Ha
  iintro ⟨Hp, Hz, HO⟩
  iapply Hk
  isplitl [Hp Hz Hx]
  · isplitl [Hp Hx]
    · ihave Hp := (show pay XB RB c s ⊢ slotX c (org c s) fullShare.left XB from by unfold pay; rw [if_pos hs]) $$ Hp
      iapply (show iprop(slotX c (org c s) fullShare.left XB ∗ slotX c (org c s) fullShare.right XB) ⊢ slotX c (org c s) fullShare XB from by
        unfold slotX; exact (pointsTo_share (PosShare.mem_left_op_right _)).2)
      isplitl [Hp]; · iexact Hp
      iexact Hx
    iexact Hz
  iexact HO

theorem wp_gWaitR {α : Type} {Q : α → sProp 𝕄} (c : Dev nD) (s s' r : ℕ) (hs : s < 7) (hs' : s' = s + 1) (hr : s ≤ r) {q : DmaSem sig} (hq : q = xsem (7 + s))
    {sp sp' : Space} {s₁ s₂ : Shape} {e e' : EltTy} {srcw : Memref sig .tc sp s₁ e} {dstw : Memref sig .tc sp' s₂ e'} (hN : dstw.view.dmaCredit = Nof (7 + s))
    {hx : srcw.view.WordExact} {hy : dstw.view.WordExact} {k : PUnit → Prog (TpuEff nD τ sig (Elt F) Λ₀ .tc) α} :
    iprop(records XB RB K ∗ levAts L lv ∗ (slotX c (org c s) fullShare XB ∗ semVal (xcell c s) 0) ∗ due c (7 + s) ∗ doneX XB c s ∗ owing c (owe c s' r))
      ⊢ iprop((iprop(slotX c (org c s') fullShare XB ∗ doneX XB c s' ∗ owing c (owe c s' r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hx hy) k) Q) := by
  unfold due
  iintro ⟨#HR, #HL, ⟨Hx, Hz⟩, ⟨Ha, Hc⟩, HD, HO⟩ Hk
  iapply (wp_waitX XB RB K c (j := 7 + s) (by omega) hq (owe c s' r) hN) $$ [Ha Hc HO]
  · isplitr; · iexact HR
    isplitl [Hc]; · iexact Hc
    isplitl [HO]; · iexact HO
    isplitr
    · iapply (mayWait_owe c (.dma (xsem (7 + s))) s' r (2 + 2 * s) (le_of_eq (lv_agR c hs)) (by omega) (by omega)); iexact HL
    iexact Ha
  iintro ⟨Hp, Hz', HO⟩
  iapply Hk
  isplitl [Hp]
  · subst hs'
    iapply (show pay XB RB c (7 + s) ⊢ slotX c (org c (s + 1)) fullShare XB from by
      unfold pay; rw [if_neg (by omega), if_pos (by omega), show 7 + s - 6 = s + 1 by omega])
    iexact Hp
  isplitl [HD Hx Hz Hz']
  · unfold doneX
    iapply (push s s' hs')
    isplitl [Hx Hz Hz']
    · isplitl [Hx]; · iexact Hx
      isplitl [Hz]; · iexact Hz
      iexact Hz'
    iexact HD
  iexact HO

theorem wp_rSend {α : Type} {Q : α → sProp 𝕄} (c n : Dev nD) (hn : n = nxt c) (t t' k2 a : ℕ) (ht7 : t < 7) (ht' : t' = t + 1) (hk2 : k2 = t % 2)
    {q q' : DmaSem sig} (hq : q = xsem (14 + t)) (hq' : q' = xsem (21 + t))
    {offs : Fin 3 → ℕ} {inbs : ∀ a, offs a + S1x256x1024.size a ≤ S2x256x1024.size a} (hoffs : offs = ![k2, 0, 0])
    {offd : Fin 3 → ℕ} {inbd : ∀ a, offd a + S1x256x1024.size a ≤ S7x256x1024.size a} (hoffd : offd = ![t, 0, 0])
    (g : ℕ → Vec F S1x256x1024 .f32) (hRB : RB (nxt c) = stack (n := 7) g)
    {hsc : (rbAt offd inbd : Memref sig (Dev.tc n : Thread nD τ).2.kind .vmem S256x1024 .f32).view.ref.isScScratch = false}
    {hx : (sbAt offs inbs).view.WordExact} {hy : (rbAt offd inbd).view.WordExact}
    {ht : DmaTarget.Typed .vmem (.dma q') (.remote (Dev.tc n : Thread nD τ) (rbAt offd inbd) (.dma q) hsc)}
    {k : PUnit → Prog (TpuEff nD τ sig (Elt F) Λ₀ .tc) α} :
    iprop(records XB RB K ∗ slotS c k2 (stack (n := 2) fun _ => g t) ∗ bigSep (Finset.Ico t 7) (gkR (F := F) c) ∗ owing c (owe c a t))
      ⊢ iprop((iprop((due c (14 + t) ∗ due c (21 + t)) ∗ bigSep (Finset.Ico t' 7) (gkR (F := F) c) ∗ owing c (owe c a t'))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbAt offs inbs) (.remote (Dev.tc n : Thread nD τ) (rbAt offd inbd) (.dma q) hsc) (.dma q') hx hy ht) k) Q) := by
  subst hk2
  iintro ⟨#HR, Hx, HG, HO⟩ Hk
  ihave HG := (peel t t' ht7 ht') $$ HG
  subst ht'
  icases HG with ⟨Hg, HG⟩
  unfold gkR kitR
  icases Hg with ⟨⟨Ht, Ht', Ha, Ha', Hc'⟩, Hl⟩
  have hfs : (sbAt offs inbs).view.read (Elt F) (stack (n := 2) fun _ => g t) = (rbAt offd inbd).view.read (Elt F) (RB (nxt c)) := by
    subst hoffs hoffd
    rw [hRB]
    funext x
    exact (stack_emb (n := 2) (fun _ => g t) inbs _).trans (stack_emb (n := 7) g inbd _).symm
  iapply (wp_sendR XB RB K c n hn ht7 hq hq' hoffs hoffd (stack (n := 2) fun _ => g t) hfs) $$ [Hx Hl HO Ht Ht']
  · isplitr; · iexact HR
    isplitl [Hx]; · iexact Hx
    isplitl [Hl]; · iexact Hl
    isplitl [HO]; · iexact HO
    isplitl [Ht]; · iexact Ht
    iexact Ht'
  iintro ⟨Hc, HO⟩
  iapply Hk
  unfold due
  isplitl [Hc Hc' Ha Ha']
  · isplitl [Hc Ha]
    · isplitl [Ha]; · iexact Ha
      iexact Hc
    isplitl [Ha']; · iexact Ha'
    iexact Hc'
  isplitl [HG]; · iexact HG
  iexact HO

theorem wp_rWaitS {α : Type} {Q : α → sProp 𝕄} (c : Dev nD) (t t' k2 a r : ℕ) (ht7 : t < 7) (ht' : t' = t + 1) (hk2 : k2 = t % 2) {q : DmaSem sig} (hq : q = xsem (14 + t))
    {sp sp' : Space} {s₁ s₂ : Shape} {e e' : EltTy} {srcw : Memref sig .tc sp s₁ e} {dstw : Memref sig .tc sp' s₂ e'} (hN : dstw.view.dmaCredit = Nof (14 + t))
    {hx : srcw.view.WordExact} {hy : dstw.view.WordExact} {k : PUnit → Prog (TpuEff nD τ sig (Elt F) Λ₀ .tc) α} :
    iprop(records XB RB K ∗ levAts L lv ∗ due c (14 + t) ∗ doneS (F := F) c t ∗ owing c (owe c a r))
      ⊢ iprop((iprop((∃ f : SbC F, slotS c k2 f) ∗ doneS (F := F) c t' ∗ owing c (owe c a r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hx hy) k) Q) := by
  unfold due
  iintro ⟨#HR, #HL, ⟨Ha, Hc⟩, HD, HO⟩ Hk
  iapply (wp_waitX XB RB K c (j := 14 + t) (by omega) hq (owe c a r) hN) $$ [Ha Hc HO]
  · isplitr; · iexact HR
    isplitl [Hc]; · iexact Hc
    isplitl [HO]; · iexact HO
    isplitr
    · iapply (mayWait_owe c (.dma (xsem (14 + t))) a r 0 (le_of_eq (lv_low c (Or.inr (by omega)))) (by omega) (by omega)); iexact HL
    iexact Ha
  iintro ⟨Hp, Hz, HO⟩
  iapply Hk
  isplitl [Hp]
  · subst hk2
    iapply (show pay XB RB c (14 + t) ⊢ (iprop(∃ f : SbC F, slotS c (t % 2) f) : sProp 𝕄) from by
      unfold pay; rw [if_neg (by omega), if_neg (by omega), if_pos (by omega), show 14 + t - 14 = t by omega])
    iexact Hp
  isplitl [HD Hz]
  · unfold doneS
    iapply (push t t' ht')
    isplitl [Hz]; · iexact Hz
    iexact HD
  iexact HO

theorem wp_rWaitR {α : Type} {Q : α → sProp 𝕄} (c : Dev nD) (t a r : ℕ) (ht7 : t < 7) (ha : t < a) (hr : t < r) {q : DmaSem sig} (hq : q = xsem (21 + t))
    {sp sp' : Space} {s₁ s₂ : Shape} {e e' : EltTy} {srcw : Memref sig .tc sp s₁ e} {dstw : Memref sig .tc sp' s₂ e'} (hN : dstw.view.dmaCredit = Nof (21 + t))
    (ha' : t + 1 < a ∨ a = 7 ∧ r = 7)
    {hx : srcw.view.WordExact} {hy : dstw.view.WordExact} {k : PUnit → Prog (TpuEff nD τ sig (Elt F) Λ₀ .tc) α} :
    iprop(records XB RB K ∗ levAts L lv ∗ due c (21 + t) ∗ owing c (owe c a r))
      ⊢ iprop((iprop((slotR c t (RB c) ∗ semVal (xcell c (21 + t)) 0) ∗ owing c (owe c a r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hx hy) k) Q) := by
  unfold due
  iintro ⟨#HR, #HL, ⟨Ha, Hc⟩, HO⟩ Hk
  iapply (wp_waitX XB RB K c (j := 21 + t) (by omega) hq (owe c a r) hN) $$ [Ha Hc HO]
  · isplitr; · iexact HR
    isplitl [Hc]; · iexact Hc
    isplitl [HO]; · iexact HO
    isplitr
    · iapply (mayWait_owe c (.dma (xsem (21 + t))) a r (3 + 2 * t) (le_of_eq (lv_rsR c ht7)) (by omega) (by omega)); iexact HL
    iexact Ha
  iintro ⟨Hp, Hz, HO⟩
  iapply Hk
  isplitl [Hp Hz]
  · isplitl [Hp]
    · iapply (show pay XB RB c (21 + t) ⊢ slotR c t (RB c) from by
        unfold pay; rw [if_neg (by omega), if_neg (by omega), if_neg (by omega), show 21 + t - 21 = t by omega])
      iexact Hp
    iexact Hz
  iexact HO

/-- The load of a landed block of partial sums. -/
theorem wp_takeR {α : Type} {P : α → sProp 𝕄} (c : Dev nD) (t t' : ℕ) (ht' : t' = t + 1) (g : ℕ → Vec F S1x256x1024 .f32) (hRB : RB c = stack (n := 7) g)
    {off : Fin 3 → ℕ} {inb : ∀ a, off a + S1x256x1024.size a ≤ S7x256x1024.size a} (ho : off = ![t, 0, 0])
    {hl : rbM.view.LoadsAt (Rect.unit (s := S7x256x1024) off S1x256x1024.size inb).toLoadRect}
    {K : Vec F S1x256x1024 .f32 → Prog (TpuEff nD τ sig (Elt F) Λ₀ .tc) α} :
    iprop((slotR c t (RB c) ∗ semVal (xcell c (21 + t)) 0) ∗ doneR RB c t)
      ⊢ iprop((doneR RB c t' -∗ wp frame (wpE (defs₀ (F := F)) 𝒱₀ (c : Thread nD τ) none) Set.univ (K (g t)) P)
          -∗ wp frame (wpE (defs₀ (F := F)) 𝒱₀ (c : Thread nD τ) none) Set.univ
              (.op (.load rbM (Rect.unit (s := S7x256x1024) off S1x256x1024.size inb).toLoadRect hl) K) P) := by
  unfold doneR
  iintro ⟨⟨Hx, Hz⟩, HD⟩ Hk
  have h := hRB.symm
  ihave Hx := (show slotR c t (RB c) ⊢ slotR c t (stack (n := 7) g) from by rw [hRB]) $$ Hx
  iapply (wp_loadR c t g ho) $$ Hx
  iintro Hx
  iapply Hk
  iapply (push t t' ht')
  isplitl [Hx Hz]
  · isplitl [Hx]
    · iapply (show slotR c t (stack (n := 7) g) ⊢ slotR c t (RB c) from by rw [hRB])
      iexact Hx
    iexact Hz
  iexact HD

end Cert.RingAttn

end

end
-- ==== Proof.Start.lean ====
/-
# The body's beginning

The zero blocks of the two slots, the stacks cut into their blocks, and the handshake with the two neighbours.
-/
module

public import proofs.«01_k».proof.Proof.Ops

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer in parts -/

theorem in_parts {B : Loc nD τ sig} (L₀ : Finset (Idx B)) (K : ℕ → Finset (Idx B)) (m : ℕ) (h0 : ∀ s < m, Disjoint L₀ (K s))
    (hd : ∀ s < m, ∀ s' < m, s ≠ s' → Disjoint (K s) (K s')) (hu : ∀ i, i ∈ L₀ ∨ ∃ s < m, i ∈ K s) (f : Buf (Elt F) B) :
    (B ↦{fullShare} f : sProp 𝕄) ⊣⊢ iprop((B ↦[L₀]{fullShare} f) ∗ bigSep (Finset.Ico 0 m) fun s => (B ↦[K s]{fullShare} f)) := by
  have e : (Finset.univ : Finset (Idx B)) = L₀ ∪ (Finset.Ico 0 m).biUnion K := by
    symm; rw [Finset.eq_univ_iff_forall]
    intro i
    rcases hu i with h | ⟨s, hs, h⟩
    · exact Finset.mem_union_left _ h
    · exact Finset.mem_union_right _ (Finset.mem_biUnion.mpr ⟨s, Finset.mem_Ico.mpr ⟨Nat.zero_le _, hs⟩, h⟩)
  have hdis : Disjoint L₀ ((Finset.Ico 0 m).biUnion K) := by
    rw [Finset.disjoint_left]
    intro i hi hi'
    obtain ⟨s, hs, h⟩ := Finset.mem_biUnion.mp hi'
    exact Finset.disjoint_left.mp (h0 s (Finset.mem_Ico.mp hs).2) hi h
  have e2 : (B ↦[(Finset.Ico 0 m).biUnion K]{fullShare} f : sProp 𝕄) = bigSep (Finset.Ico 0 m) fun s => (B ↦[K s]{fullShare} f) :=
    pointsTo_biUnion (Finset.Ico 0 m) K fun s hs s' hs' hne => hd s (Finset.mem_Ico.mp hs).2 s' (Finset.mem_Ico.mp hs').2 hne
  rw [← e2, e]
  exact pointsTo_union hdis

theorem xg_start (c : Dev nD) (f : XgC F) :
    (((c : Thread nD τ).loc cc0_scratch0) ↦{fullShare} f : sProp 𝕄)
      ⊢ iprop(slotX c (org c 0) fullShare f ∗ bigSep (Finset.Ico 0 7) fun s => slotX c (org c (s + 1)) fullShare f) := by
  unfold slotX
  exact (in_parts (B := (c : Thread nD τ).loc cc0_scratch0) (lane 8 (org c 0)) (fun s => lane 8 (org c (s + 1))) 7
    (fun s hs => lane_disj fun h => by have := org_inj c (by omega) (by omega) h; omega)
    (fun s hs s' hs' hne => lane_disj fun h => by have := org_inj c (by omega) (by omega) h; omega)
    (fun i => by
      have hc := c.isLt; change c.val < 8 at hc
      have hi : ((i : Shape.Idx S8x256x1024) 0).val < 8 := ((i : Shape.Idx S8x256x1024) 0).isLt
      by_cases h : ((i : Shape.Idx S8x256x1024) 0).val = org c 0
      · exact Or.inl (mem_lane.mpr h)
      · refine Or.inr ⟨(c.val + 7 - ((i : Shape.Idx S8x256x1024) 0).val) % 8, ?_, mem_lane.mpr ?_⟩ <;> unfold org at * <;> omega) f).1

theorem xg_end (c : Dev nD) (f : XgC F) :
    iprop(slotX c (org c 7) fullShare f ∗ bigSep (Finset.Ico 0 7) fun s => slotX c (org c s) fullShare f)
      ⊢ (((c : Thread nD τ).loc cc0_scratch0) ↦{fullShare} f : sProp 𝕄) := by
  unfold slotX
  exact (in_parts (B := (c : Thread nD τ).loc cc0_scratch0) (lane 8 (org c 7)) (fun s => lane 8 (org c s)) 7
    (fun s hs => lane_disj fun h => by have := org_inj c (by omega) (by omega) h; omega)
    (fun s hs s' hs' hne => lane_disj fun h => by have := org_inj c (by omega) (by omega) h; omega)
    (fun i => by
      have hc := c.isLt; change c.val < 8 at hc
      have hi : ((i : Shape.Idx S8x256x1024) 0).val < 8 := ((i : Shape.Idx S8x256x1024) 0).isLt
      by_cases h : ((i : Shape.Idx S8x256x1024) 0).val = org c 7
      · exact Or.inl (mem_lane.mpr h)
      · refine Or.inr ⟨(c.val + 8 - ((i : Shape.Idx S8x256x1024) 0).val) % 8, ?_, mem_lane.mpr ?_⟩ <;> unfold org at * <;> omega) f).2

theorem rb_parts (c : Dev nD) (f : RbC F) :
    (((c : Thread nD τ).loc cc0_scratch9) ↦{fullShare} f : sProp 𝕄) ⊣⊢ bigSep (Finset.Ico 0 7) fun t => slotR c t f := by
  have h := in_parts (F := F) (B := (c : Thread nD τ).loc cc0_scratch9) ∅ (fun t => lane 7 t) 7
    (fun s hs => Finset.disjoint_empty_left _) (fun s hs s' hs' hne => lane_disj hne)
    (fun i => Or.inr ⟨((i : Shape.Idx S7x256x1024) 0).val, ((i : Shape.Idx S7x256x1024) 0).isLt, mem_lane.mpr rfl⟩) f
  rw [pointsTo_empty] at h
  unfold slotR
  constructor
  · iintro H
    ihave H := h.1 $$ H
    icases H with ⟨-, H⟩
    iexact H
  · iintro H
    iapply h.2
    isplitr; · iempintro
    iexact H

theorem sb_disj : Disjoint (lane 2 0) (lane 2 1) := lane_disj (by decide)
theorem sb_univ : (Finset.univ : Finset (Shape.Idx ⟨3, ![2, 256, 1024]⟩)) = lane 2 0 ∪ lane 2 1 := by
  symm; rw [Finset.eq_univ_iff_forall]
  intro i
  have hi : (i 0).val < 2 := (i 0).isLt
  rcases Nat.lt_or_ge (i 0).val 1 with h | h
  · exact Finset.mem_union_left _ (mem_lane.mpr (by omega))
  · exact Finset.mem_union_right _ (mem_lane.mpr (by omega))
theorem sb_start (c : Dev nD) : (iprop(∃ f : SbC F, (((c : Thread nD τ).loc cc0_scratch8) ↦{fullShare} f)) : sProp 𝕄)
    ⊢ iprop((∃ f : SbC F, slotS c 0 f) ∗ ∃ f : SbC F, slotS c 1 f) := by
  unfold slotS
  iintro ⟨%f, H⟩
  have h : (((c : Thread nD τ).loc cc0_scratch8) ↦{fullShare} f : sProp 𝕄)
      ⊢ iprop((((c : Thread nD τ).loc cc0_scratch8) ↦[lane 2 0]{fullShare} f) ∗ (((c : Thread nD τ).loc cc0_scratch8) ↦[lane 2 1]{fullShare} f)) := by
    have e : (Finset.univ : Finset (Idx ((c : Thread nD τ).loc cc0_scratch8))) = lane 2 0 ∪ lane 2 1 := sb_univ
    rw [e]; exact (pointsTo_union sb_disj).1
  ihave H := h $$ H
  icases H with ⟨H0, H1⟩
  isplitl [H0]
  · iexists f; iexact H0
  iexists f; iexact H1
theorem sb_end (c : Dev nD) : iprop((∃ f : SbC F, slotS c 0 f) ∗ ∃ f : SbC F, slotS c 1 f)
    ⊢ (iprop(∃ f : SbC F, (((c : Thread nD τ).loc cc0_scratch8) ↦{fullShare} f)) : sProp 𝕄) := by
  unfold slotS
  iintro ⟨⟨%f, H0⟩, ⟨%g, H1⟩⟩
  have e : (Finset.univ : Finset (Idx ((c : Thread nD τ).loc cc0_scratch8))) = lane 2 0 ∪ lane 2 1 := sb_univ
  rw [e]
  iexists _
  iapply (pointsTo_join sb_disj)
  isplitl [H0]; · iexact H0
  iexact H1

/-! ## The zero blocks -/

section
variable (M : BufM) (c : Dev nD)

/-- The first `n` of the four zero blocks written. -/
def padded (n : ℕ) : sProp 𝕄 :=
  iprop(∃ f : Buf (Elt F) (M.view.loc (c : Thread nD τ)), ⌜∀ x : Shape.Idx S2x3x1408x128, 64 ≤ kb x → 2 * (x 0).val + (x 1).val - 1 < n → M.view.read (Elt F) f x = kz (F := F)⌝
    ∗ (M.view.loc (c : Thread nD τ) ↦{fullShare} f))

theorem padded_zero (f : Buf (Elt F) (M.view.loc (c : Thread nD τ))) : (M.view.loc (c : Thread nD τ) ↦{fullShare} f : sProp 𝕄) ⊢ padded M c 0 := by
  unfold padded
  iintro H
  iexists f
  isplitr; · ipureintro; intro x _ h; exact absurd h (Nat.not_lt_zero _)
  iexact H

theorem pad_step (s k : ℕ) (hk : k = 1 ∨ k = 2) (f : Buf (Elt F) (M.view.loc (c : Thread nD τ)))
    {inb : ∀ a, (![s, k, 1344, 0] : Fin 4 → ℕ) a + S1x1x64x128.size a ≤ S2x3x1408x128.size a} (w : Vec F S1x1x64x128 .f32) (hw : ∀ y, w y = kz)
    (hf : ∀ x : Shape.Idx S2x3x1408x128, 64 ≤ kb x → 2 * (x 0).val + (x 1).val - 1 < 2 * s + k - 1 → M.view.read (Elt F) f x = kz (F := F)) :
    ∀ x : Shape.Idx S2x3x1408x128, 64 ≤ kb x → 2 * (x 0).val + (x 1).val - 1 < 2 * s + k →
      M.view.read (Elt F) ((M.access (Rect.unit (s := S2x3x1408x128) ![s, k, 1344, 0] S1x1x64x128.size inb)).write (Elt F) f w Finset.univ) x = kz (F := F) := by
  intro x hx hn
  have hx1 : (x 1).val < 3 := (x 1).isLt
  have hx2 : (x 2).val < 1408 := (x 2).isLt
  have hx3 : (x 3).val < 128 := (x 3).isLt
  unfold kb at hx
  have h2 : 1344 ≤ (x 2).val := by omega
  have h1 : 1 ≤ (x 1).val := by omega
  by_cases hm : x ∈ (Rect.unit (s := S2x3x1408x128) ![s, k, 1344, 0] S1x1x64x128.size inb).set
  · have hm' := Rect.mem_set_unit.mp hm
    have b0 : s ≤ (x 0).val ∧ (x 0).val < s + 1 := hm' 0
    have b1 : k ≤ (x 1).val ∧ (x 1).val < k + 1 := hm' 1
    have hy : (Rect.unit (s := S2x3x1408x128) ![s, k, 1344, 0] S1x1x64x128.size inb).emb (ix4 0 0 ⟨(x 2).val - 1344, by omega⟩ (x 3)) = x := by
      funext a; refine Fin.ext ?_
      refine (ValueKit.rect_emb_unit_val (s := S2x3x1408x128) ![s, k, 1344, 0] S1x1x64x128.size inb _ a).trans ?_
      fin_cases a
      · show s + 0 = (x 0).val; omega
      · show k + 0 = (x 1).val; omega
      · show 1344 + ((x 2).val - 1344) = (x 2).val; omega
      · show 0 + (x 3).val = (x 3).val; omega
    have h := View.read_write_of_mem (Val := Elt F) (v := M.access (Rect.unit (s := S2x3x1408x128) ![s, k, 1344, 0] S1x1x64x128.size inb)) f w
      (Finset.mem_univ (ix4 0 0 ⟨(x 2).val - 1344, by omega⟩ (x 3)))
    rw [← hy]
    exact h.trans (hw _)
  · have hne : 2 * (x 0).val + (x 1).val - 1 < 2 * s + k - 1 := by
      by_contra hge
      refine hm (Rect.mem_set_unit.mpr fun a => ?_)
      have e1 : (x 1).val = k := by omega
      have e0 : (x 0).val = s := by omega
      fin_cases a
      · show s ≤ (x 0).val ∧ (x 0).val < s + 1; omega
      · show k ≤ (x 1).val ∧ (x 1).val < k + 1; omega
      · show 1344 ≤ (x 2).val ∧ (x 2).val < 1344 + 64; omega
      · show 0 ≤ (x 3).val ∧ (x 3).val < 0 + 128; omega
    refine Eq.trans (View.read_congr_at x (View.write_of_not_mem _ _ _ fun hmem => hm ?_)) (hf x (by unfold kb; omega) hne)
    have hset : (M.access (Rect.unit (s := S2x3x1408x128) ![s, k, 1344, 0] S1x1x64x128.size inb)).set = _ := View.set_slice M.view _
    exact (View.mem_setOn M.view).mp (hset.subset hmem)

theorem wp_putPad {α : Type} {P : α → sProp 𝕄} (s k n n' : ℕ) (hk : k = 1 ∨ k = 2) (hn : n = 2 * s + k - 1) (hn' : n' = 2 * s + k) (w : Vec F S1x1x64x128 .f32) (hw : ∀ y, w y = kz)
    {off : Fin 4 → ℕ} {inb : ∀ a, off a + S1x1x64x128.size a ≤ S2x3x1408x128.size a} (ho : off = ![s, k, 1344, 0])
    {hl : M.view.LoadsAt (Rect.unit (s := S2x3x1408x128) off S1x1x64x128.size inb).toLoadRect}
    {hx : (M.access (Rect.unit (s := S2x3x1408x128) off S1x1x64x128.size inb)).Stores Finset.univ} {hm}
    {K : PUnit → Prog (TpuEff nD τ sig (Elt F) Λ₀ .tc) α} :
    padded M c n
      ⊢ iprop((padded M c n' -∗ wp frame (wpE (defs₀ (F := F)) 𝒱₀ (c : Thread nD τ) none) Set.univ (K ⟨⟩) P)
          -∗ wp frame (wpE (defs₀ (F := F)) 𝒱₀ (c : Thread nD τ) none) Set.univ
              (.op (.load M (Rect.unit (s := S2x3x1408x128) off S1x1x64x128.size inb).toLoadRect hl) fun _ =>
                .op (.store M (Rect.unit (s := S2x3x1408x128) off S1x1x64x128.size inb) w Finset.univ hx hm) K) P) := by
  subst ho hn hn'
  unfold padded
  iintro ⟨%f, %hf, H⟩ Hk
  iapply (wp_load 𝒱₀ (c : Thread nD τ) none Set.univ (m := M) (S := Finset.univ) (Finset.subset_univ _)) $$ H
  iintro H
  iapply (wp_store 𝒱₀ (c : Thread nD τ) none Set.univ (m := M) (r := Rect.unit (s := S2x3x1408x128) ![s, k, 1344, 0] S1x1x64x128.size inb) (hx := hx) (hm := hm) (S := Finset.univ) (f := f) (Finset.subset_univ _)) $$ [H]
  · iexact H
  iintro H
  iapply Hk
  iexists ((M.access (Rect.unit (s := S2x3x1408x128) ![s, k, 1344, 0] S1x1x64x128.size inb)).write (Elt F) f w Finset.univ)
  isplitr; · ipureintro; exact pad_step M c s k hk f w hw hf
  iexact H

/-- With all four written, the two slots stand idle. -/
theorem padded_slots (hM : M.view.set = Finset.univ) : padded (F := F) M c 4 ⊢
    iprop((anyBlks M c (s := 0) Nat.zero_lt_two ∗ padZ M c (s := 0) Nat.zero_lt_two) ∗ (anyBlks M c (s := 1) Nat.one_lt_two ∗ padZ M c (s := 1) Nat.one_lt_two)) := by
  unfold padded
  iintro ⟨%f, %hf, H⟩
  iapply (split_slots M c (f := f) hM fun x hx => hf x hx (by
    have h0 : (x 0).val < 2 := (x 0).isLt
    have h1 : (x 1).val < 3 := (x 1).isLt
    omega))
  iexact H

end

/-! ## The handshake -/

variable (XB : XgC F) (RB : Dev nD → RbC F) (K : Dev nD × Fin 29 → ℕ)

theorem payload_true (c : Dev nD) : (ringRd XB RB).payload (barCell c) 0 true = barPay c := rfl
theorem payload_false (c : Dev nD) : (ringRd XB RB).payload (barCell c) 0 false = iprop(emp) := rfl

/-- The signal to the left neighbour, with the slots it will fill. -/
theorem wp_sigL {α : Type} {Q : α → sProp 𝕄} (c n : Dev nD) (hn : n = prv c) {k : PUnit → Prog (TpuEff nD τ sig (Elt F) Λ₀ .tc) α} :
    iprop(records XB RB K ∗ owing c (O₀ c) ∗ dutyTok ER (barCell (prv c)) 0 true
        ∗ (bigSep (Finset.Ico 0 7) fun s => iprop(∃ f : XgC F, slotX c (org c (s + 1)) fullShare f)) ∗ bigSep (Finset.Ico 0 7) fun t => iprop(∃ f : RbC F, slotR c t f))
      ⊢ iprop((owing c (O₁ c) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (BitVec.toInt 1#32)) k) Q) := by
  subst hn
  unfold owing
  iintro ⟨#HR, ⟨%W, HO⟩, Ht, HX, HRb⟩ Hk
  iapply (Rounds.wp_signal 𝒱₀ ER (ringRd XB RB) (c : Thread nD τ) none (dst := (prv c : Thread nD τ)) (κ := K (prv c, 0))
      (d := true) (by rw [duties_bar]; exact Finset.mem_univ _) ((amount_bar XB RB (prv c) true).trans (by decide)) () (O₁ c) rfl)
    $$ [HO Ht HX HRb]
  · isplitr; · iapply (records_inv XB RB K (prv c, 0)); iexact HR
    isplitl [HO]; · iexact HO
    isplitl [Ht]; · iexact Ht
    isplitl [HX HRb]
    · rw [payload_true]; unfold barPay; rw [nxt_prv]
      isplitl [HX]
      · have e : (bigSep (Finset.Ico 0 7) fun s => (iprop(∃ f : XgC F, slotX c (org c (s + 1)) fullShare f) : sProp 𝕄))
            = bigSep (Finset.Ico 0 7) fun s => iprop(∃ f : XgC F, slotX c (org (prv c) s) fullShare f) :=
          bigSep_congr fun s hs => by
            have h := org_nxt (prv c) s (by have := (Finset.mem_Ico.mp hs).2; omega)
            rw [nxt_prv] at h
            rw [h]
        iapply (Entails.of_eq e); iexact HX
      iexact HRb
    · iapply (records_reached XB RB K (prv c, 0)); iexact HR
  iintro HO
  iapply Hk
  iexists W; iexact HO

/-- The signal to the right neighbour. -/
theorem wp_sigR {α : Type} {Q : α → sProp 𝕄} (c n : Dev nD) (hn : n = nxt c) {k : PUnit → Prog (TpuEff nD τ sig (Elt F) Λ₀ .tc) α} :
    iprop(records XB RB K ∗ owing c (O₁ c) ∗ dutyTok ER (barCell (nxt c)) 0 false)
      ⊢ iprop((owing c (owe c 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (BitVec.toInt 1#32)) k) Q) := by
  subst hn
  unfold owing
  iintro ⟨#HR, ⟨%W, HO⟩, Ht⟩ Hk
  iapply (Rounds.wp_signal 𝒱₀ ER (ringRd XB RB) (c : Thread nD τ) none (dst := (nxt c : Thread nD τ)) (κ := K (nxt c, 0))
      (d := false) (by rw [duties_bar]; exact Finset.mem_univ _) ((amount_bar XB RB (nxt c) false).trans (by decide)) () (owe c 0 0) rfl)
    $$ [HO Ht]
  · isplitr; · iapply (records_inv XB RB K (nxt c, 0)); iexact HR
    isplitl [HO]; · iexact HO
    isplitl [Ht]; · iexact Ht
    isplitr; · rw [payload_false]; iempintro
    iapply (records_reached XB RB K (nxt c, 0)); iexact HR
  iintro HO
  iapply Hk
  iexists W; iexact HO

/-- The wait for both neighbours: the right one's slots come. -/
theorem wp_sigWait {α : Type} {Q : α → sProp 𝕄} (c : Dev nD) {k : PUnit → Prog (TpuEff nD τ sig (Elt F) Λ₀ .tc) α} :
    iprop(records XB RB K ∗ levAts L lv ∗ cred (tallyAt (barCell c) () 2) ∗ owing c (owe c 0 0) ∗ atPos ER (barCell c) 0 ∅ 0
        ∗ bigSep (Finset.Ico 0 7) (kitX (F := F) c) ∗ bigSep (Finset.Ico 0 7) (kitR (F := F) c))
      ⊢ iprop((iprop(bigSep (Finset.Ico 0 7) (gkX (F := F) c) ∗ bigSep (Finset.Ico 0 7) (gkR (F := F) c) ∗ semVal (barCell c) 0 ∗ owing c (owe c 0 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (BitVec.toInt 2#32)) k) Q) := by
  unfold owing
  iintro ⟨#HR, #HL, Hc, ⟨%W, HO⟩, Hat, HX, HRs⟩ Hk
  iapply (Rounds.wp_wait_rest_token 𝒱₀ ER (ringRd XB RB) (c : Thread nD τ) none (κ := K (c, 0))
      (wpE_semWait_eq 𝒱₀ (c : Thread nD τ) none Set.univ) (Set.mem_univ _) () (O := owe c 0 0) (W := W) (R := 0) (m := 0) (T := ∅)
      (by rw [expect_bar]; decide)) $$ [Hc HO Hat]
  · isplitr; · iapply (records_inv XB RB K (c, 0)); iexact HR
    isplitl [Hc]; · iexact Hc
    isplitl [HO]; · iexact HO
    isplitr; · iapply (mayWait_owe c (.reg barS) 0 0 1 (le_of_eq rfl) (by omega) (by omega)); iexact HL
    iexact Hat
  iintro ⟨HO, Hat, -, Hpay⟩
  ihave Hpay := (Entails.of_eq (rest_bar XB RB c)) $$ Hpay
  imod (Rounds.cell_close ER (ringRd XB RB) (Set.mem_univ (K (c, 0))) (fun h => h) (R := 0 + 1) (duties_later XB RB (barCell c))) $$ [Hat] with Hz
  · isplitr; · iapply (records_inv XB RB K (c, 0)); iexact HR
    iexact Hat
  unfold barPay
  icases Hpay with ⟨-, Hpx, Hpr⟩
  iapply Hk
  unfold gkX gkR
  isplitl [HX Hpx]
  · rw [bigSep_sep']
    isplitl [HX]; · iexact HX
    iexact Hpx
  isplitl [HRs Hpr]
  · rw [bigSep_sep']
    isplitl [HRs]; · iexact HRs
    iexact Hpr
  isplitl [Hz]; · iexact Hz
  iexists _; iexact HO

end Cert.RingAttn

end

end
-- ==== Proof.Mid.lean ====
/-
# Between the first copies and the stages

The device's own block of rows put into its slot of the gather's buffer, the handshake with both neighbours, and the two weight blocks read.
-/
module

public import proofs.«01_k».proof.Proof.Start

@[expose] public section

set_option maxRecDepth 8192
set_option maxHeartbeats 40000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1x256x1024 .f32) (wqs wos : Dev nD → Vec F S1024x1024 .f32) (kss vss : Dev nD → KaC F) (K : Dev nD × Fin 29 → ℕ)

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x256x1024 .f32 := Memref.whole cc0_stg3_0

theorem wp_loadW {α : Type} {P : α → sProp 𝕄} (c : Dev nD) {s : Shape} {e : EltTy} (M : Memref sig .tc .vmem s e) (r : LoadRect s)
    (f : Buf (Elt F) (M.view.loc (c : Thread nD τ))) (v : r.shape.Idx → Elt F e) (hv : M.view.readAt (Elt F) r f = v) {hl : M.view.LoadsAt r}
    {K : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ wp frame (wpE (defs₀ (F := F)) 𝒱₀ (c : Thread nD τ) none) Set.univ (K v) P)
          -∗ wp frame (wpE (defs₀ (F := F)) 𝒱₀ (c : Thread nD τ) none) Set.univ (.op (.load M r hl) K) P) := by
  subst hv
  iintro H Hk
  iapply (wp_load 𝒱₀ (c : Thread nD τ) none Set.univ (m := M) (S := Finset.univ) (Finset.subset_univ _)) $$ H
  iintro H
  iapply Hk
  iexact H

/-- A device puts its own block of rows into its slot. -/
theorem wp_putX {α : Type} {P : α → sProp 𝕄} (c : Dev nD) (k : ℕ) (w : Vec F S1x256x1024 .bf16) (g : ℕ → Vec F S1x256x1024 .bf16) (hg : w = g k)
    {off : Fin 3 → ℕ} {inb : ∀ a, off a + S1x256x1024.size a ≤ S8x256x1024.size a} (ho : off = ![k, 0, 0])
    {hl : xgM.view.LoadsAt (Rect.unit (s := S8x256x1024) off S1x256x1024.size inb).toLoadRect}
    {hx : (xgM.access (Rect.unit (s := S8x256x1024) off S1x256x1024.size inb)).Stores Finset.univ} {hm}
    {K : PUnit → Prog (TpuEff nD τ sig (Elt F) Λ₀ .tc) α} (f : XgC F) :
    slotX c k fullShare f
      ⊢ iprop((slotX c k fullShare (stack (n := 8) g) -∗ wp frame (wpE (defs₀ (F := F)) 𝒱₀ (c : Thread nD τ) none) Set.univ (K ⟨⟩) P)
          -∗ wp frame (wpE (defs₀ (F := F)) 𝒱₀ (c : Thread nD τ) none) Set.univ
              (.op (.load xgM (Rect.unit (s := S8x256x1024) off S1x256x1024.size inb).toLoadRect hl) fun _ =>
                .op (.store xgM (Rect.unit (s := S8x256x1024) off S1x256x1024.size inb) w Finset.univ hx hm) K) P) := by
  subst ho
  have hs : (xgM.access (Rect.unit (s := S8x256x1024) ![k, 0, 0] S1x256x1024.size inb)).set = lane 8 k := (View.set_slice_whole cc0_scratch0 _).trans (lane_rect inb)
  have hs' := (View.set_slice xgM.view (Rect.unit (s := S8x256x1024) ![k, 0, 0] S1x256x1024.size inb)).symm.trans hs
  unfold slotX
  iintro H Hk
  iapply (wp_load 𝒱₀ (c : Thread nD τ) none Set.univ (m := xgM) (S := lane 8 k) hs'.subset) $$ H
  iintro H
  iapply (wp_store 𝒱₀ (c : Thread nD τ) none Set.univ (m := xgM) (r := Rect.unit (s := S8x256x1024) ![k, 0, 0] S1x256x1024.size inb) (hx := hx) (hm := hm) (S := lane 8 k) (f := f) hs.subset) $$ [H]
  · iexact H
  iintro H
  iapply Hk
  have hw : (xgM.access (Rect.unit (s := S8x256x1024) ![k, 0, 0] S1x256x1024.size inb)).read (Elt F) (stack (n := 8) g) = w :=
    funext fun x => (stack_emb g inb x).trans (congrFun hg.symm x)
  have hc := block_written (F := F) (xgM.access (Rect.unit (s := S8x256x1024) ![k, 0, 0] S1x256x1024.size inb)) f (stack (n := 8) g)
  rw [hw, hs] at hc
  have h : ((c : Thread nD τ).loc cc0_scratch0 ↦[lane 8 k]{fullShare} ((xgM.access (Rect.unit (s := S8x256x1024) ![k, 0, 0] S1x256x1024.size inb)).write (Elt F) f w Finset.univ) : sProp 𝕄)
      ⊢ ((c : Thread nD τ).loc cc0_scratch0 ↦[lane 8 k]{fullShare} (stack (n := 8) g)) := Entails.of_eq (pointsTo_congr hc)
  iapply h
  iexact H

theorem wp_putOut {α : Type} {P : α → sProp 𝕄} (c : Dev nD) (f w : Vec F S1x256x1024 .f32)
    {inb : ∀ a, (![0, 0, 0] : Fin 3 → ℕ) a + S1x256x1024.size a ≤ S1x256x1024.size a}
    {hl : outM.view.LoadsAt (Rect.unit (s := S1x256x1024) ![0, 0, 0] S1x256x1024.size inb).toLoadRect}
    {hx : (outM.access (Rect.unit (s := S1x256x1024) ![0, 0, 0] S1x256x1024.size inb)).Stores Finset.univ} {hm}
    {K : PUnit → Prog (TpuEff nD τ sig (Elt F) Λ₀ .tc) α} :
    (outM.view.loc (c : Thread nD τ) ↦{fullShare} f)
      ⊢ iprop(((outM.view.loc (c : Thread nD τ) ↦{fullShare} w) -∗ wp frame (wpE (defs₀ (F := F)) 𝒱₀ (c : Thread nD τ) none) Set.univ (K ⟨⟩) P)
          -∗ wp frame (wpE (defs₀ (F := F)) 𝒱₀ (c : Thread nD τ) none) Set.univ
              (.op (.load outM (Rect.unit (s := S1x256x1024) ![0, 0, 0] S1x256x1024.size inb).toLoadRect hl) fun _ =>
                .op (.store outM (Rect.unit (s := S1x256x1024) ![0, 0, 0] S1x256x1024.size inb) w Finset.univ hx hm) K) P) := by
  iintro H Hk
  iapply (wp_load 𝒱₀ (c : Thread nD τ) none Set.univ (m := outM) (S := Finset.univ) (Finset.subset_univ _)) $$ H
  iintro H
  iapply (wp_store 𝒱₀ (c : Thread nD τ) none Set.univ (m := outM) (r := Rect.unit (s := S1x256x1024) ![0, 0, 0] S1x256x1024.size inb) (hx := hx) (hm := hm) (S := Finset.univ) (f := f) (Finset.subset_univ _)) $$ [H]
  · iexact H
  iintro H
  rw [show (outM.access (Rect.unit (s := S1x256x1024) ![0, 0, 0] S1x256x1024.size inb)).write (Elt F) f w Finset.univ = w from
    Memref.write_access_unit_zero_univ (Elt F) cc0_stg3_0 (by decide) _ f w]
  iapply Hk
  iexact H

theorem off65_own (c : Dev nD) : k0_off65 c = ![org c 0, 0, 0] := (k0_off65_eq c).trans (by rw [org_zero])
theorem own_round : ∀ c : Dev nD, (⟨org c 0 % 8, Nat.mod_lt _ (by decide)⟩ : Dev nD) = c := by decide
theorem dev1_prv (c : Dev nD) : (⟨k0_dev1 c, k0_dev1_lt c⟩ : Dev nD) = prv c := Fin.ext (k0_dev1_eq c)
theorem dev2_nxt (c : Dev nD) : (⟨k0_dev2 c, k0_dev2_lt c⟩ : Dev nD) = nxt c := Fin.ext (k0_dev2_eq c)

/-- From the device's own rows to the weights read. -/
def midA (c : Dev nD) (v2 : BitVec 32) : Prog (TpuEff nD τ sig (Elt F) Λ₀ .tc) (Σ' (v951 : FVec F S1024x1024 .bf16) (v954 : FVec F S1024x1024 .bf16), BitVec 32) := do
  let v937 : Vec F S1x256x1024 .f32 ← Prog.lift (.load xM (Rect.unit (s := S1x256x1024) ![0, 0, 0] S1x256x1024.size inb_S1x256x1024_S1x256x1024_0_0_0).toLoadRect (View.loadsAt_vmem h_S1x256x1024))
  let v941 : Vec F S1x256x1024 .bf16 ← Prog.lift (.load xgM (Rect.unit (s := S8x256x1024) (k0_off65 c) S1x256x1024.size (k0_off65_inb c)).toLoadRect (View.loadsAt_vmem h_S1x256x1024))
  Prog.lift (.store xgM (Rect.unit (s := S8x256x1024) (k0_off65 c) S1x256x1024.size (k0_off65_inb c)) (k0_pay147 v937) Finset.univ
    (View.stores_vmem h_S1x256x1024 ((Memref.isWhole_whole cc0_scratch0).storeExact_slice rfl _ (k0_off65_packedbf16 c)) (fun _ => rfl)) (.inl rfl))
  let v944 : Sems sig S_ := SemArray.scalar (sig.barrier 0 rfl)
  semSignalWord (⟨k0_dev1 c, k0_dev1_lt c⟩ : Dev nD) v944.sem 1#32
  semSignalWord (⟨k0_dev2 c, k0_dev2_lt c⟩ : Dev nD) v944.sem 1#32
  semWaitWord v944.sem 2#32
  let v949 : Vec F S1024x1024 .f32 ← Prog.lift (.load wqM (Rect.unit (s := S1024x1024) ![0, 0] S1024x1024.size inb_S1024x1024_S1024x1024_0_0).toLoadRect (View.loadsAt_vmem h_S1024x1024))
  let v952 : Vec F S1024x1024 .f32 ← Prog.lift (.load woM (Rect.unit (s := S1024x1024) ![0, 0] S1024x1024.size inb_S1024x1024_S1024x1024_0_0).toLoadRect (View.loadsAt_vmem h_S1024x1024))
  let v955 : BitVec 32 := Scalar.subi v2 0#32
  let v956 : BitVec 32 := Scalar.addi v955 8#32
  let v957 : BitVec 32 := Scalar.remsi v956 8#32
  pure ⟨k0_pay148 v949, k0_pay149 v952, v957⟩

/-- What the handshake needs. -/
def handOf (c : Dev nD) : sProp 𝕄 :=
  iprop(dutyTok ER (barCell (prv c)) 0 true ∗ dutyTok ER (barCell (nxt c)) 0 false ∗ atPos ER (barCell c) 0 ∅ 0 ∗ cred (tallyAt (barCell c) () 2)
    ∗ bigSep (Finset.Ico 0 7) (kitX (F := F) c) ∗ bigSep (Finset.Ico 0 7) (kitR (F := F) c))

theorem sound_mid (RB : Dev nD → RbC F) (c : Dev nD) (v2 : BitVec 32) {Q} (xg : XgC F) (rb : RbC F) :
    iprop((records (XBf xs) RB K ∗ levAts L lv) ∗ handOf (F := F) c ∗ owing c (O₀ c)
        ∗ (xgM.view.loc (c : Thread nD τ) ↦{fullShare} xg) ∗ (((c : Thread nD τ).loc cc0_scratch9) ↦{fullShare} rb)
        ∗ (xM.view.loc (c : Thread nD τ) ↦{fullShare} xs c) ∗ (wqM.view.loc (c : Thread nD τ) ↦{fullShare} wqs c) ∗ (woM.view.loc (c : Thread nD τ) ↦{fullShare} wos c))
      ⊢ iprop((iprop(bigSep (Finset.Ico 0 7) (gkX (F := F) c) ∗ bigSep (Finset.Ico 0 7) (gkR (F := F) c) ∗ semVal (barCell c) 0 ∗ owing c (owe c 0 0)
            ∗ slotX c (org c 0) fullShare (XBf xs)
            ∗ (xM.view.loc (c : Thread nD τ) ↦{fullShare} xs c) ∗ (wqM.view.loc (c : Thread nD τ) ↦{fullShare} wqs c) ∗ (woM.view.loc (c : Thread nD τ) ↦{fullShare} wos c))
          -∗ Q ⟨k0_pay148 (wqs c), k0_pay149 (wos c), Scalar.remsi (Scalar.addi (Scalar.subi v2 0#32) 8#32) 8#32⟩)
        -∗ wp frame (wpE (defs₀ (F := F)) 𝒱₀ (c : Thread nD τ) none) Set.univ (midA (F := F) c v2) Q) := by
  unfold midA handOf
  simp only [semSignalWord, semWaitWord, Prog.lift, Prog.bind_op, Prog.bind_ret, Prog.pure_eq_ret]
  iintro ⟨⟨#HR, #HL⟩, ⟨HtL, HtR, Hat, Hc, HX, HRs⟩, HO, Hxg, Hrb, Hx, Hwq, Hwo⟩ Hend
  iapply (wp_loadW c xM _ (xs c) (xs c) (Memref.readAt_unit_zero (Elt F) cc0_stg0_0 (by decide) _ _)) $$ Hx
  iintro Hx
  ihave HS := (xg_start c xg) $$ Hxg
  icases HS with ⟨H0, HXs⟩
  iapply (wp_putX c (org c 0) (k0_pay147 (xs c)) (xRnd xs) (by unfold xRnd; rw [own_round]) (off65_own c) xg) $$ H0
  iintro H0
  ihave HRb := (rb_parts c rb).1 $$ Hrb
  have h1 : ∀ s : ℕ, (slotX c (org c (s + 1)) fullShare xg : sProp 𝕄) ⊢ iprop(∃ f : XgC F, slotX c (org c (s + 1)) fullShare f) := fun s => by
    iintro H; iexists xg; iexact H
  have h2 : ∀ t : ℕ, (slotR c t rb : sProp 𝕄) ⊢ iprop(∃ f : RbC F, slotR c t f) := fun t => by
    iintro H; iexists rb; iexact H
  have hX : (bigSep (Finset.Ico 0 7) fun s => (slotX c (org c (s + 1)) fullShare xg : sProp 𝕄))
      ⊢ bigSep (Finset.Ico 0 7) fun s => iprop(∃ f : XgC F, slotX c (org c (s + 1)) fullShare f) := bigSep_mono fun s _ => h1 s
  have hR : (bigSep (Finset.Ico 0 7) fun t => (slotR c t rb : sProp 𝕄)) ⊢ bigSep (Finset.Ico 0 7) fun t => iprop(∃ f : RbC F, slotR c t f) :=
    bigSep_mono fun t _ => h2 t
  ihave HXs := hX $$ HXs
  ihave HRb := hR $$ HRb
  iapply (wp_sigL (XBf xs) RB K c _ (dev1_prv c)) $$ [HO HtL HXs HRb]
  · iframe HR HO HtL HXs HRb
  iintro HO
  iapply (wp_sigR (XBf xs) RB K c _ (dev2_nxt c)) $$ [HO HtR]
  · iframe HR HO HtR
  iintro HO
  iapply (wp_sigWait (XBf xs) RB K c) $$ [Hc HO Hat HX HRs]
  · iframe HR HL Hc HO Hat HX HRs
  iintro ⟨HX, HRs, Hbar, HO⟩
  iapply (wp_loadW c wqM _ (wqs c) (wqs c) (Memref.readAt_unit_zero (Elt F) cc0_stg1_0 (by decide) _ _)) $$ Hwq
  iintro Hwq
  iapply (wp_loadW c woM _ (wos c) (wos c) (Memref.readAt_unit_zero (Elt F) cc0_stg2_0 (by decide) _ _)) $$ Hwo
  iintro Hwo
  sl_step
  iapply Hend
  iframe HX HRs Hbar HO H0 Hx Hwq Hwo

end Cert.RingAttn

end

end
-- ==== Proof.Stages.lean ====
/-
# The stages

What the body does once the handshake is over, to the last wait of the reduce-scatter's sends: the eight stages, the gather and the
reduce-scatter going round beside them.
-/
module

public import proofs.«01_k».proof.Proof.Start

@[expose] public section

set_option maxRecDepth 8192
set_option maxHeartbeats 40000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1x256x1024 .f32) (wqs wos : Dev nD → Vec F S1024x1024 .f32) (kss vss : Dev nD → KaC F) (K : Dev nD × Fin 29 → ℕ)

abbrev XBs : XgC F := XBf xs
abbrev RBs : Dev nD → RbC F := RBf xs wqs wos kss vss

/-! ## The buffers of a stage -/

def quAny (c : Dev nD) : sProp 𝕄 := iprop(∃ f : QuC F, (quM.view.loc (c : Thread nD τ) ↦{fullShare} f))
def quIs (c : Dev nD) (Q : QuC F) : sProp 𝕄 := (quM.view.loc (c : Thread nD τ) ↦{fullShare} Q)
def ctAny (c : Dev nD) : sProp 𝕄 := iprop(∃ f : QuC F, (ctM.view.loc (c : Thread nD τ) ↦{fullShare} f))
def ctIs (c : Dev nD) (f : QuC F) : sProp 𝕄 := (ctM.view.loc (c : Thread nD τ) ↦{fullShare} f)
/-- The heads, as the first stage leaves them. -/
def hdsIs (c : Dev nD) : sProp 𝕄 :=
  iprop((krM.view.loc (c : Thread nD τ) ↦{fullShare} KRf kss c) ∗ (vrM.view.loc (c : Thread nD τ) ↦{fullShare} VRf vss c))
def hdsAny (c : Dev nD) : sProp 𝕄 :=
  iprop((∃ f : HdC F, (krM.view.loc (c : Thread nD τ) ↦{fullShare} f)) ∗ (∃ f : HdC F, (vrM.view.loc (c : Thread nD τ) ↦{fullShare} f)))
def slotAny (c : Dev nD) (k : ℕ) : sProp 𝕄 := iprop(∃ f : SbC F, slotS c k f)

theorem qu_put {α : Type} {P : α → sProp 𝕄} (c : Dev nD) (Q w : QuC F) (hw : w = Q)
    {inb : ∀ a, (![0, 0] : Fin 2 → ℕ) a + S256x1024.size a ≤ S256x1024.size a}
    {hl : quM.view.LoadsAt (Rect.unit (s := S256x1024) ![0, 0] S256x1024.size inb).toLoadRect}
    {hx : (quM.access (Rect.unit (s := S256x1024) ![0, 0] S256x1024.size inb)).Stores Finset.univ} {hm}
    {K : PUnit → Prog (TpuEff nD τ sig (Elt F) Λ₀ .tc) α} :
    quAny c
      ⊢ iprop((quIs c Q -∗ wp frame (wpE (defs₀ (F := F)) 𝒱₀ (c : Thread nD τ) none) Set.univ (K ⟨⟩) P)
          -∗ wp frame (wpE (defs₀ (F := F)) 𝒱₀ (c : Thread nD τ) none) Set.univ
              (.op (.load quM (Rect.unit (s := S256x1024) ![0, 0] S256x1024.size inb).toLoadRect hl) fun _ =>
                .op (.store quM (Rect.unit (s := S256x1024) ![0, 0] S256x1024.size inb) w Finset.univ hx hm) K) P) := by
  subst hw
  exact wp_putQ c w

theorem ct_load {α : Type} {P : α → sProp 𝕄} (c : Dev nD) (f : QuC F)
    {inb : ∀ a, (![0, 0] : Fin 2 → ℕ) a + S256x1024.size a ≤ S256x1024.size a}
    {hl : ctM.view.LoadsAt (Rect.unit (s := S256x1024) ![0, 0] S256x1024.size inb).toLoadRect}
    {K : Vec F S256x1024 .bf16 → Prog (TpuEff nD τ sig (Elt F) Λ₀ .tc) α} :
    ctIs c f
      ⊢ iprop((ctAny c -∗ wp frame (wpE (defs₀ (F := F)) 𝒱₀ (c : Thread nD τ) none) Set.univ (K f) P)
          -∗ wp frame (wpE (defs₀ (F := F)) 𝒱₀ (c : Thread nD τ) none) Set.univ
              (.op (.load ctM (Rect.unit (s := S256x1024) ![0, 0] S256x1024.size inb).toLoadRect hl) K) P) := by
  unfold ctIs ctAny
  iintro H Hk
  iapply (wp_loadCt c f) $$ H
  iintro H
  iapply Hk
  iexists f; iexact H

theorem sb_put {α : Type} {P : α → sProp 𝕄} (c : Dev nD) (k : ℕ) (w w' : Vec F S1x256x1024 .f32) (hw : w = w')
    {off : Fin 3 → ℕ} {inb : ∀ a, off a + S1x256x1024.size a ≤ S2x256x1024.size a} (ho : off = ![k, 0, 0])
    {hl : sbM.view.LoadsAt (Rect.unit (s := S2x256x1024) off S1x256x1024.size inb).toLoadRect}
    {hx : (sbM.access (Rect.unit (s := S2x256x1024) off S1x256x1024.size inb)).Stores Finset.univ} {hm}
    {K : PUnit → Prog (TpuEff nD τ sig (Elt F) Λ₀ .tc) α} :
    slotAny c k
      ⊢ iprop((slotS c k (stack (n := 2) fun _ => w') -∗ wp frame (wpE (defs₀ (F := F)) 𝒱₀ (c : Thread nD τ) none) Set.univ (K ⟨⟩) P)
          -∗ wp frame (wpE (defs₀ (F := F)) 𝒱₀ (c : Thread nD τ) none) Set.univ
              (.op (.load sbM (Rect.unit (s := S2x256x1024) off S1x256x1024.size inb).toLoadRect hl) fun _ =>
                .op (.store sbM (Rect.unit (s := S2x256x1024) off S1x256x1024.size inb) w Finset.univ hx hm) K) P) := by
  subst hw
  exact wp_putS c k w ho

/-- A later stage's loop. -/
theorem wp_stage {α : Type} {P : α → sProp 𝕄} (c : Dev nD) (s : ℕ) (Q : QuC F) (l : Scf.Loop 32) (hok : l.OK) (h8 : l.trips = 8)
    (body : Fin l.trips → Unit → Prog (TpuEff nD τ sig (Elt F) Λ₀ .tc) Unit)
    (ht : ∀ t, TripSpec c s Q (KRf kss c) (VRf vss c) (Fin.cast h8 t) (body t ()))
    (k : Unit → Prog (TpuEff nD τ sig (Elt F) Λ₀ .tc) α) :
    iprop(hdsIs kss vss c ∗ quIs c Q ∗ ctAny (F := F) c)
      ⊢ iprop((iprop(hdsIs kss vss c ∗ quAny (F := F) c ∗ ctIs c (ctx c s Q (KRf kss c) (VRf vss c))) -∗ wp frame (wpE (defs₀ (F := F)) 𝒱₀ (c : Thread nD τ) none) Set.univ (k ()) P)
        -∗ wp frame (wpE (defs₀ (F := F)) 𝒱₀ (c : Thread nD τ) none) Set.univ (l.for hok () body >>= k) P) := by
  unfold hdsIs quIs quAny ctAny ctIs
  iintro ⟨⟨H1, H2⟩, H3, H4⟩ Hk
  iapply (wp_heads c s Q (KRf kss c) (VRf vss c) l hok h8 body ht k) $$ [H1 H2 H3 H4]
  · unfold heads
    iframe H1 H2 H3 H4
  unfold heads
  iintro ⟨⟨H1, H2, H3⟩, H4⟩
  iapply Hk
  isplitl [H1 H2]; · iframe H1 H2
  isplitl [H3]; · iexists Q; iexact H3
  iexact H4

/-- The first stage's loop. -/
theorem wp_first {α : Type} {P : α → sProp 𝕄} (c : Dev nD) (Q : QuC F) (v7 v8 w : BitVec 32) (v951 v954 : FVec F S1024x1024 .bf16) (hw : w = wW c 0)
    (k : Unit → Prog (TpuEff nD τ sig (Elt F) Λ₀ .tc) α) :
    iprop(levAts L lv ∗ (kSide c (kss c) 0 ∗ vSide c (vss c) 0) ∗ hdsAny (F := F) c ∗ quIs c Q ∗ ctAny (F := F) c ∗ owing c (owe c 1 0))
      ⊢ iprop((iprop((kSide c (kss c) 8 ∗ vSide c (vss c) 8) ∗ hdsIs kss vss c ∗ quAny (F := F) c ∗ ctIs c (ctx c 0 Q (KRf kss c) (VRf vss c)) ∗ owing c (owe c 1 0))
            -∗ wp frame (wpE (defs₀ (F := F)) 𝒱₀ (c : Thread nD τ) none) Set.univ (k ()) P)
        -∗ wp frame (wpE (defs₀ (F := F)) 𝒱₀ (c : Thread nD τ) none) Set.univ (k0_t1_loop.for k0_t1_ok () (bodyA (k0_t1_body (F := F)) c v7 v8 v951 v954 w) >>= k) P) := by
  iintro ⟨#HL, ⟨HK, HV⟩, HH, HQ, HC, HO⟩ Hk
  unfold hdsAny
  ihave HH := (kept_start c (kss c) (vss c)) $$ HH
  icases HH with ⟨HH1, HH2⟩
  unfold ctAny
  ihave HC := (ctx_start c 0 Q (resF k0_pay2 c (kss c)) (resF k0_pay3 c (vss c))) $$ HC
  iapply (wp_stage0 c Q (kss c) (vss c) v7 v8 w v951 v954 hw k) $$ [HK HV HH1 HH2 HQ HC HO]
  · unfold stage0 quIs
    iframe HL HK HV HH1 HH2 HQ HC HO
  unfold stage0
  iintro ⟨HK, HV, HO, HH1, HH2, HQ, HC⟩
  ihave HC := (ctx_full c 0 Q (resF k0_pay2 c (kss c)) (resF k0_pay3 c (vss c))) $$ HC
  ihave HH := (kept_full c (kss c) (vss c)) $$ [HH1 HH2]
  · iframe HH1 HH2
  icases HH with ⟨HH1, HH2⟩
  iapply Hk
  isplitl [HK HV]; · iframe HK HV
  isplitl [HH1 HH2]
  · unfold hdsIs
    isplitl [HH1]; · iexact HH1
    iexact HH2
  isplitl [HQ]; · unfold quAny; iexists Q; iexact HQ
  isplitl [HC]; · unfold ctIs; iexact HC
  iexact HO

/-! ## The waits, at the copies' own buffers -/

section
variable (XB : XgC F) (RB : Dev nD → RbC F)

theorem NA_eq (off : Fin 3 → ℕ) (inb : ∀ a, off a + S1x256x1024.size a ≤ S8x256x1024.size a) : (xgAt off inb).view.dmaCredit = NA := rfl
theorem NRs_eq (off : Fin 3 → ℕ) (inb : ∀ a, off a + S1x256x1024.size a ≤ S2x256x1024.size a) : (sbAt off inb).view.dmaCredit = NR := rfl
theorem NRr_eq (off : Fin 3 → ℕ) (inb : ∀ a, off a + S1x256x1024.size a ≤ S7x256x1024.size a) : (rbAt off inb).view.dmaCredit = NR := rfl

theorem g_waitS {α : Type} {Q : α → sProp 𝕄} (c : Dev nD) (s a r : ℕ) (hs : s < 7) {q : DmaSem sig} (hq : q = xsem s)
    {off off' : Fin 3 → ℕ} {inb : ∀ a, off a + S1x256x1024.size a ≤ S8x256x1024.size a} {inb' : ∀ a, off' a + S1x256x1024.size a ≤ S8x256x1024.size a}
    {hx : (xgAt off inb).view.WordExact} {hy : (xgAt off' inb').view.WordExact} {k : PUnit → Prog (TpuEff nD τ sig (Elt F) Λ₀ .tc) α} :
    iprop(records XB RB K ∗ levAts L lv ∗ slotX c (org c s) fullShare.right XB ∗ due c s ∗ owing c (owe c a r))
      ⊢ iprop((iprop((slotX c (org c s) fullShare XB ∗ semVal (xcell c s) 0) ∗ owing c (owe c a r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (xgAt off inb) (xgAt off' inb') hx hy) k) Q) :=
  wp_gWaitS XB RB K c s a r hs hq ((NA_eq off' inb').trans (if_pos (by omega)).symm)

theorem g_waitR {α : Type} {Q : α → sProp 𝕄} (c : Dev nD) (s s' r : ℕ) (hs : s < 7) (hs' : s' = s + 1) (hr : s ≤ r) {q : DmaSem sig} (hq : q = xsem (7 + s))
    {off off' : Fin 3 → ℕ} {inb : ∀ a, off a + S1x256x1024.size a ≤ S8x256x1024.size a} {inb' : ∀ a, off' a + S1x256x1024.size a ≤ S8x256x1024.size a}
    {hx : (xgAt off inb).view.WordExact} {hy : (xgAt off' inb').view.WordExact} {k : PUnit → Prog (TpuEff nD τ sig (Elt F) Λ₀ .tc) α} :
    iprop(records XB RB K ∗ levAts L lv ∗ (slotX c (org c s) fullShare XB ∗ semVal (xcell c s) 0) ∗ due c (7 + s) ∗ doneX XB c s ∗ owing c (owe c s' r))
      ⊢ iprop((iprop(slotX c (org c s') fullShare XB ∗ doneX XB c s' ∗ owing c (owe c s' r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (xgAt off inb) (xgAt off' inb') hx hy) k) Q) :=
  wp_gWaitR XB RB K c s s' r hs hs' hr hq ((NA_eq off' inb').trans (if_pos (by omega)).symm)

theorem r_waitS {α : Type} {Q : α → sProp 𝕄} (c : Dev nD) (t t' k2 a r : ℕ) (ht7 : t < 7) (ht' : t' = t + 1) (hk2 : k2 = t % 2) {q : DmaSem sig} (hq : q = xsem (14 + t))
    {off off' : Fin 3 → ℕ} {inb : ∀ a, off a + S1x256x1024.size a ≤ S7x256x1024.size a} {inb' : ∀ a, off' a + S1x256x1024.size a ≤ S2x256x1024.size a}
    {hx : (rbAt off inb).view.WordExact} {hy : (sbAt off' inb').view.WordExact} {k : PUnit → Prog (TpuEff nD τ sig (Elt F) Λ₀ .tc) α} :
    iprop(records XB RB K ∗ levAts L lv ∗ due c (14 + t) ∗ doneS (F := F) c t ∗ owing c (owe c a r))
      ⊢ iprop((iprop(slotAny (F := F) c k2 ∗ doneS (F := F) c t' ∗ owing c (owe c a r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (rbAt off inb) (sbAt off' inb') hx hy) k) Q) :=
  wp_rWaitS XB RB K c t t' k2 a r ht7 ht' hk2 hq ((NRs_eq off' inb').trans (if_neg (by omega)).symm)

theorem r_waitR {α : Type} {Q : α → sProp 𝕄} (c : Dev nD) (t a r : ℕ) (ht7 : t < 7) (ha : t < a) (hr : t < r) {q : DmaSem sig} (hq : q = xsem (21 + t))
    {off off' : Fin 3 → ℕ} {inb : ∀ a, off a + S1x256x1024.size a ≤ S2x256x1024.size a} {inb' : ∀ a, off' a + S1x256x1024.size a ≤ S7x256x1024.size a}
    (ha' : t + 1 < a ∨ a = 7 ∧ r = 7)
    {hx : (sbAt off inb).view.WordExact} {hy : (rbAt off' inb').view.WordExact} {k : PUnit → Prog (TpuEff nD τ sig (Elt F) Λ₀ .tc) α} :
    iprop(records XB RB K ∗ levAts L lv ∗ due c (21 + t) ∗ owing c (owe c a r))
      ⊢ iprop((iprop((slotR c t (RB c) ∗ semVal (xcell c (21 + t)) 0) ∗ owing c (owe c a r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (sbAt off inb) (rbAt off' inb') hx hy) k) Q) :=
  wp_rWaitR XB RB K c t a r ht7 ha hr hq ((NRr_eq off' inb').trans (if_neg (by omega)).symm) ha'

end

theorem off66_at (c : Dev nD) (s : Fin 7) : k0_off66 c (BitVec.ofNat 32 s.val) = ![org c s.val, 0, 0] := k0_off66_eq c s
theorem off67_at (c : Dev nD) (s : Fin 8) : k0_off67 c (BitVec.ofNat 32 s.val) = ![org c s.val, 0, 0] := k0_off67_eq c s
theorem off65_at (c : Dev nD) : k0_off65 c = ![org c 0, 0, 0] := (k0_off65_eq c).trans (by rw [org_zero])

/-- The body from the first stage on. -/
def tailA (c : Dev nD) (v2 v7 v8 : BitVec 32) (v951 v954 : FVec F S1024x1024 .bf16) (v957 : BitVec 32) :
    Prog (TpuEff nD τ sig (Elt F) Λ₀ .tc) (Σ' (d0 : Dev nD) (v2 : BitVec 32), BitVec 32) := do
  bodyA (k0_part187 (F := F)) c v7 v8 v951 v954 v957
  let v994 : BitVec 32 ← bodyA (k0_part188 (F := F)) c v2 v7 v951 v954
  let c2 : BitVec 32 ← bodyA (k0_part189 (F := F)) c v7 v994
  let ⟨v1046, c1⟩ : Σ' (v1046 : BitVec 32), BitVec 32 ← bodyA (k0_part190 (F := F)) c v2 v7 v951 v954 c2
  bodyA (k0_part191 (F := F)) c v7 v1046 c1
  let v1108 : BitVec 32 ← bodyA (k0_part192 (F := F)) c v2 v7 v951
  let v1150 : FVec F S1x256x1024 .f32 ← bodyA (k0_part193 (F := F)) c v7 v954 v1108
  let v1176 : BitVec 32 ← bodyA (k0_part194 (F := F)) c v2 v7 v1150
  bodyA (k0_part195 (F := F)) c v7 v951 v954 v1176
  bodyA (k0_part196 (F := F)) c v7 v1176
  let ⟨v1244, v1257⟩ : Σ' (v1244 : BitVec 32), FVec F S256x1024 .bf16 ← bodyA (k0_part197 (F := F)) c v2 v7 v951
  bodyA (k0_part198 (F := F)) c v7 v954 v1244 v1257
  bodyA (k0_part199 (F := F)) c v7
  let v1312 : BitVec 32 ← bodyA (k0_part200 (F := F)) c v2 v7 v951 v954
  bodyA (k0_part201 (F := F)) c v7 v1312
  let ⟨v1380, c0, c8⟩ : Σ' (v1380 : BitVec 32) (c0_i32_1744 : BitVec 32), BitVec 32 ← bodyA (k0_part202 (F := F)) c v2 v7 v951
  let ⟨v1412, v1413⟩ : Σ' (v1412 : Vec F S1x256x1024 .f32), Vec F S1x256x1024 .f32 ← bodyA (k0_part203 (F := F)) c v7 v954 v1380 c0 c8
  bodyA (k0_part204 (F := F)) c v7 v1412 v1413
  Prog.lift (.waitDma2 ((cc0_scratch12.slice (Rect.unit (s := S7) ![6] S1.size inb_S7_S1_6)).squeeze S_ squeezes_S1_S_).sem
    (rbAt ![6, 0, 0] inb_S7x256x1024_S1x256x1024_6_0_0) (sbAt ![0, 0, 0] inb_S2x256x1024_S1x256x1024_0_0_0)
    ((View.wordExact_bits rfl).reshape _ _) ((View.wordExact_bits rfl).reshape _ _))
  pure ⟨c, v2, v7⟩

abbrev As (c : Dev nD) : ℕ → Vec F S1x256x1024 .f32 := Aof xs wqs wos kss vss c

theorem RBs_nxt (c : Dev nD) : RBs xs wqs wos kss vss (nxt c) = stack (n := 7) fun t => SBof xs wqs wos kss vss t c := by
  show RBf xs wqs wos kss vss (nxt c) = _
  unfold RBf; rw [prv_nxt]

/-! The same functions, as the later stages spell them. -/

theorem pay165_eq (a b : Vec F S1x256x1024 .f32) : k0_pay165 (k0_pay164 a b) = k0_pay160 a b := rfl
theorem pay169_eq (a b : Vec F S1x256x1024 .f32) : k0_pay169 a b = k0_pay160 a b := rfl
theorem pay174_eq (a b : Vec F S1x256x1024 .f32) : k0_pay174 a b = k0_pay160 a b := rfl
theorem pay178_eq (a b : Vec F S1x256x1024 .f32) : k0_pay178 a b = k0_pay160 a b := rfl
theorem pay182_eq (a b : Vec F S1x256x1024 .f32) : k0_pay182 a b = k0_pay160 a b := rfl
theorem pay171_eq (a : FVec F S1024x1024 .bf16) (b : Vec F S1x256x1024 .bf16) : k0_pay171 (k0_pay170 a b) = k0_pay150 a b := rfl
theorem SB_succ (t : ℕ) (c : Dev nD) : k0_pay160 (Aof xs wqs wos kss vss c (t + 2)) (SBof xs wqs wos kss vss t (prv c)) = SBof xs wqs wos kss vss (t + 1) c := rfl

theorem word_at : ∀ (c : Dev nD) (s : Fin 8), Scalar.remsi (Scalar.addi (Scalar.subi (BitVec.ofNat 32 c.val) (BitVec.ofNat 32 s.val)) 8#32) 8#32 = wW c s.val := by decide

theorem doneX_zero (XB : XgC F) (c : Dev nD) : (iprop(emp) : sProp 𝕄) ⊢ doneX XB c 0 := by
  unfold doneX; rw [Finset.Ico_self, bigSep_empty]; exact .rfl
theorem doneS_zero (c : Dev nD) : (iprop(emp) : sProp 𝕄) ⊢ doneS c 0 := by
  unfold doneS; rw [Finset.Ico_self, bigSep_empty]; exact .rfl
theorem doneR_zero (RB : Dev nD → RbC F) (c : Dev nD) : (iprop(emp) : sProp 𝕄) ⊢ doneR RB c 0 := by
  unfold doneR; rw [Finset.Ico_self, bigSep_empty]; exact .rfl

set_option maxRecDepth 65536 in
theorem sound_tail (c : Dev nD) (v2 v7 v8 w : BitVec 32) (h2 : v2 = BitVec.ofNat 32 c.val) (hw : w = wW c 0) (Q : (Σ' (d0 : Dev nD) (v2 : BitVec 32), BitVec 32) → sProp 𝕄) :
    iprop((records (XBs xs) (RBs xs wqs wos kss vss) K ∗ levAts L lv)
        ∗ bigSep (Finset.Ico 0 7) (gkX (F := F) c) ∗ bigSep (Finset.Ico 0 7) (gkR (F := F) c) ∗ owing c (owe c 0 0)
        ∗ slotX c (org c 0) fullShare (XBs xs) ∗ slotAny (F := F) c 0 ∗ slotAny (F := F) c 1 ∗ accP c (As xs wqs wos kss vss c) 0 ∗ quAny (F := F) c ∗ ctAny (F := F) c ∗ hdsAny (F := F) c
        ∗ (kSide c (kss c) 0 ∗ vSide c (vss c) 0))
      ⊢ iprop((iprop(doneX (XBs xs) c 7 ∗ doneS (F := F) c 7 ∗ doneR (RBs xs wqs wos kss vss) c 6 ∗ due (F := F) c (21 + 6) ∗ owing c (owe c 7 7)
            ∗ slotX c (org c 7) fullShare (XBs xs) ∗ slotAny (F := F) c 0 ∗ slotAny (F := F) c 1 ∗ accP c (As xs wqs wos kss vss c) 8 ∗ quAny (F := F) c ∗ ctAny (F := F) c ∗ hdsIs kss vss c
            ∗ (kSide c (kss c) 8 ∗ vSide c (vss c) 8)) -∗ Q ⟨c, v2, v7⟩)
        -∗ wp frame (wpE (defs₀ (F := F)) 𝒱₀ (c : Thread nD τ) none) Set.univ (tailA c v2 v7 v8 (k0_pay148 (wqs c)) (k0_pay149 (wos c)) w) Q) := by
  iintro ⟨⟨#HR, #HL⟩, HX, HRs, HO, Hx, HS0, HS1, HA, HQ, HC, HH, HKV⟩ Hend
  subst h2
  unfold tailA bodyA
  ihave HDX := (doneX_zero (XBs xs) c) $$ []
  · iempintro
  ihave HDS := (doneS_zero c) $$ []
  · iempintro
  ihave HDR := (doneR_zero (RBs xs wqs wos kss vss) c) $$ []
  · iempintro
  sl_exec
  simp only [Prog.lift, Prog.bind_op, Prog.bind_ret, Prog.pure_eq_ret]
  iapply (wp_gSend _ _ K c _ (Fin.ext (k0_dev3_eq c)) 0 1 0 (by decide) rfl rfl rfl (off66_at c 0)) $$ [Hx HX HO]
  · iframe HR Hx HX HO
  iintro ⟨Hx, ⟨Hg0, Hh0⟩, HX, HO⟩
  iapply (wp_loadX c (org c 0) fullShare.right (xRnd xs) (off67_at c 0)) $$ [Hx]
  · iexact Hx
  iintro Hx
  iapply (qu_put c (Qof xs wqs c 0) _ rfl) $$ HQ
  iintro HQ
  iapply (wp_first kss vss c (Qof xs wqs c 0) v7 v8 w (k0_pay148 (wqs c)) (k0_pay149 (wos c)) hw) $$ [HKV HH HQ HC HO]
  · iframe HL HKV HH HQ HC HO
  iintro ⟨HKV, HH, HQ, HC, HO⟩
  simp only [Prog.lift, Prog.bind_op, Prog.bind_ret, Prog.pure_eq_ret]
  iapply (ct_load c _) $$ HC
  iintro HC
  iapply (wp_putAcc c (As xs wqs wos kss vss c) 0 1 (by decide) rfl _ rfl (off67_at c 0)) $$ HA
  iintro HA
  iapply (g_waitS K _ _ c 0 1 0 (by decide) rfl) $$ [Hx Hg0 HO]
  · iframe HR HL Hx Hg0 HO
  iintro ⟨Hx, HO⟩
  sl_exec
  simp only [Prog.lift, Prog.bind_op, Prog.bind_ret, Prog.pure_eq_ret]
  iapply (g_waitR K _ _ c 0 1 0 (by decide) rfl (by decide) rfl) $$ [Hx Hh0 HDX HO]
  · iframe HR HL Hx Hh0 HDX HO
  iintro ⟨Hx, HDX, HO⟩
  iapply (wp_gSend _ _ K c _ (Fin.ext (k0_dev4_eq c)) 1 2 0 (by decide) rfl rfl rfl (off66_at c 1)) $$ [Hx HX HO]
  · iframe HR Hx HX HO
  iintro ⟨Hx, ⟨Hg1, Hh1⟩, HX, HO⟩
  iapply (wp_loadX c (org c 1) fullShare.right (xRnd xs) (off67_at c 1)) $$ [Hx]
  · iexact Hx
  iintro Hx
  iapply (qu_put c (Qof xs wqs c 1) _ rfl) $$ HQ
  iintro HQ
  iapply (wp_stage kss vss c 1 (Qof xs wqs c 1) k0_t2_loop k0_t2_ok t2_trips _ (trip2 c (Qof xs wqs c 1) (KRf kss c) (VRf vss c) _ v7 _ _ _ (word_at c 1))) $$ [HH HQ HC]
  · iframe HH HQ HC
  iintro ⟨HH, HQ, HC⟩
  simp only [Prog.lift, Prog.bind_op, Prog.bind_ret, Prog.pure_eq_ret]
  iapply (ct_load c _) $$ HC
  iintro HC
  iapply (wp_putAcc c (As xs wqs wos kss vss c) 1 2 (by decide) rfl _ rfl (off67_at c 1)) $$ HA
  iintro HA
  sl_exec
  simp only [Prog.lift, Prog.bind_op, Prog.bind_ret, Prog.pure_eq_ret]
  iapply (wp_loadAcc c (As xs wqs wos kss vss c) 2 1 (by decide) (off67_at c 1)) $$ HA
  iintro HA
  iapply (sb_put c 0 _ (SBof xs wqs wos kss vss 0 c) rfl rfl) $$ HS0
  iintro HS0
  iapply (wp_rSend _ _ K c _ (Fin.ext (k0_dev5_eq c)) 0 1 0 2 (by decide) rfl rfl rfl rfl rfl rfl (fun t => SBof xs wqs wos kss vss t c) (RBs_nxt xs wqs wos kss vss c)) $$ [HS0 HRs HO]
  · iframe HR HS0 HRs HO
  iintro ⟨⟨Hs0, Hr0⟩, HRs, HO⟩
  iapply (g_waitS K _ _ c 1 2 1 (by decide) rfl) $$ [Hx Hg1 HO]
  · iframe HR HL Hx Hg1 HO
  iintro ⟨Hx, HO⟩
  iapply (g_waitR K _ _ c 1 2 1 (by decide) rfl (by decide) rfl) $$ [Hx Hh1 HDX HO]
  · iframe HR HL Hx Hh1 HDX HO
  iintro ⟨Hx, HDX, HO⟩
  sl_exec
  simp only [Prog.lift, Prog.bind_op, Prog.bind_ret, Prog.pure_eq_ret]
  iapply (wp_gSend _ _ K c _ (Fin.ext (k0_dev6_eq c)) 2 3 1 (by decide) rfl rfl rfl (off66_at c 2)) $$ [Hx HX HO]
  · iframe HR Hx HX HO
  iintro ⟨Hx, ⟨Hg2, Hh2⟩, HX, HO⟩
  iapply (wp_loadX c (org c 2) fullShare.right (xRnd xs) (off67_at c 2)) $$ [Hx]
  · iexact Hx
  iintro Hx
  iapply (qu_put c (Qof xs wqs c 2) _ rfl) $$ HQ
  iintro HQ
  iapply (wp_stage kss vss c 2 (Qof xs wqs c 2) k0_t3_loop k0_t3_ok t3_trips _ (trip3 c (Qof xs wqs c 2) (KRf kss c) (VRf vss c) _ v7 _ _ _ _ (word_at c 2))) $$ [HH HQ HC]
  · iframe HH HQ HC
  iintro ⟨HH, HQ, HC⟩
  simp only [Prog.lift, Prog.bind_op, Prog.bind_ret, Prog.pure_eq_ret]
  iapply (ct_load c _) $$ HC
  iintro HC
  iapply (wp_putAcc c (As xs wqs wos kss vss c) 2 3 (by decide) rfl _ rfl (off67_at c 2)) $$ HA
  iintro HA
  sl_exec
  simp only [Prog.lift, Prog.bind_op, Prog.bind_ret, Prog.pure_eq_ret]
  iapply (r_waitR K _ _ c 0 3 1 (by decide) (by decide) (by decide) rfl (by decide)) $$ [Hr0 HO]
  · iframe HR HL Hr0 HO
  iintro ⟨HR0, HO⟩
  iapply (wp_loadAcc c (As xs wqs wos kss vss c) 3 2 (by decide) (off67_at c 2)) $$ HA
  iintro HA
  iapply (wp_takeR (RBs xs wqs wos kss vss) c 0 1 rfl (fun t => SBof xs wqs wos kss vss t (prv c)) rfl rfl) $$ [HR0 HDR]
  · iframe HR0 HDR
  iintro HDR
  iapply (sb_put c 1 _ (SBof xs wqs wos kss vss 1 c) (SB_succ xs wqs wos kss vss 0 c) rfl) $$ HS1
  iintro HS1
  iapply (wp_rSend _ _ K c _ (Fin.ext (k0_dev7_eq c)) 1 2 1 3 (by decide) rfl rfl rfl rfl rfl rfl (fun t => SBof xs wqs wos kss vss t c) (RBs_nxt xs wqs wos kss vss c)) $$ [HS1 HRs HO]
  · iframe HR HS1 HRs HO
  iintro ⟨⟨Hs1, Hr1⟩, HRs, HO⟩
  sl_exec
  simp only [Prog.lift, Prog.bind_op, Prog.bind_ret, Prog.pure_eq_ret]
  iapply (g_waitS K _ _ c 2 3 2 (by decide) rfl) $$ [Hx Hg2 HO]
  · iframe HR HL Hx Hg2 HO
  iintro ⟨Hx, HO⟩
  iapply (g_waitR K _ _ c 2 3 2 (by decide) rfl (by decide) rfl) $$ [Hx Hh2 HDX HO]
  · iframe HR HL Hx Hh2 HDX HO
  iintro ⟨Hx, HDX, HO⟩
  iapply (wp_gSend _ _ K c _ (Fin.ext (k0_dev8_eq c)) 3 4 2 (by decide) rfl rfl rfl (off66_at c 3)) $$ [Hx HX HO]
  · iframe HR Hx HX HO
  iintro ⟨Hx, ⟨Hg3, Hh3⟩, HX, HO⟩
  iapply (wp_loadX c (org c 3) fullShare.right (xRnd xs) (off67_at c 3)) $$ [Hx]
  · iexact Hx
  iintro Hx
  iapply (qu_put c (Qof xs wqs c 3) _ rfl) $$ HQ
  iintro HQ
  iapply (wp_stage kss vss c 3 (Qof xs wqs c 3) k0_t4_loop k0_t4_ok t4_trips _ (trip4 c (Qof xs wqs c 3) (KRf kss c) (VRf vss c) _ v7 _ _ (word_at c 3))) $$ [HH HQ HC]
  · iframe HH HQ HC
  iintro ⟨HH, HQ, HC⟩
  sl_exec
  simp only [Prog.lift, Prog.bind_op, Prog.bind_ret, Prog.pure_eq_ret]
  iapply (ct_load c _) $$ HC
  iintro HC
  iapply (wp_putAcc c (As xs wqs wos kss vss c) 3 4 (by decide) rfl _ rfl (off67_at c 3)) $$ HA
  iintro HA
  iapply (r_waitR K _ _ c 1 4 2 (by decide) (by decide) (by decide) rfl (by decide)) $$ [Hr1 HO]
  · iframe HR HL Hr1 HO
  iintro ⟨HR0, HO⟩
  iapply (r_waitS K _ _ c 0 1 0 4 2 (by decide) rfl rfl rfl) $$ [Hs0 HDS HO]
  · iframe HR HL Hs0 HDS HO
  iintro ⟨HS0, HDS, HO⟩
  iapply (wp_loadAcc c (As xs wqs wos kss vss c) 4 3 (by decide) (off67_at c 3)) $$ HA
  iintro HA
  iapply (wp_takeR (RBs xs wqs wos kss vss) c 1 2 rfl (fun t => SBof xs wqs wos kss vss t (prv c)) rfl rfl) $$ [HR0 HDR]
  · iframe HR0 HDR
  iintro HDR
  sl_exec
  simp only [Prog.lift, Prog.bind_op, Prog.bind_ret, Prog.pure_eq_ret]
  iapply (sb_put c 0 _ (SBof xs wqs wos kss vss 2 c) (SB_succ xs wqs wos kss vss 1 c) rfl) $$ HS0
  iintro HS0
  iapply (wp_rSend _ _ K c _ (Fin.ext (k0_dev9_eq c)) 2 3 0 4 (by decide) rfl rfl rfl rfl rfl rfl (fun t => SBof xs wqs wos kss vss t c) (RBs_nxt xs wqs wos kss vss c)) $$ [HS0 HRs HO]
  · iframe HR HS0 HRs HO
  iintro ⟨⟨Hs2, Hr2⟩, HRs, HO⟩
  iapply (g_waitS K _ _ c 3 4 3 (by decide) rfl) $$ [Hx Hg3 HO]
  · iframe HR HL Hx Hg3 HO
  iintro ⟨Hx, HO⟩
  iapply (g_waitR K _ _ c 3 4 3 (by decide) rfl (by decide) rfl) $$ [Hx Hh3 HDX HO]
  · iframe HR HL Hx Hh3 HDX HO
  iintro ⟨Hx, HDX, HO⟩
  sl_exec
  simp only [Prog.lift, Prog.bind_op, Prog.bind_ret, Prog.pure_eq_ret]
  iapply (wp_gSend _ _ K c _ (Fin.ext (k0_dev10_eq c)) 4 5 3 (by decide) rfl rfl rfl (off66_at c 4)) $$ [Hx HX HO]
  · iframe HR Hx HX HO
  iintro ⟨Hx, ⟨Hg4, Hh4⟩, HX, HO⟩
  iapply (wp_loadX c (org c 4) fullShare.right (xRnd xs) (off67_at c 4)) $$ [Hx]
  · iexact Hx
  iintro Hx
  iapply (qu_put c (Qof xs wqs c 4) _ rfl) $$ HQ
  iintro HQ
  iapply (wp_stage kss vss c 4 (Qof xs wqs c 4) k0_t5_loop k0_t5_ok t5_trips _ (trip5 c (Qof xs wqs c 4) (KRf kss c) (VRf vss c) v7 _ _ _ (word_at c 4))) $$ [HH HQ HC]
  · iframe HH HQ HC
  iintro ⟨HH, HQ, HC⟩
  simp only [Prog.lift, Prog.bind_op, Prog.bind_ret, Prog.pure_eq_ret]
  iapply (ct_load c _) $$ HC
  iintro HC
  iapply (wp_putAcc c (As xs wqs wos kss vss c) 4 5 (by decide) rfl _ rfl (off67_at c 4)) $$ HA
  iintro HA
  sl_exec
  simp only [Prog.lift, Prog.bind_op, Prog.bind_ret, Prog.pure_eq_ret]
  iapply (r_waitR K _ _ c 2 5 3 (by decide) (by decide) (by decide) rfl (by decide)) $$ [Hr2 HO]
  · iframe HR HL Hr2 HO
  iintro ⟨HR0, HO⟩
  iapply (r_waitS K _ _ c 1 2 1 5 3 (by decide) rfl rfl rfl) $$ [Hs1 HDS HO]
  · iframe HR HL Hs1 HDS HO
  iintro ⟨HS1, HDS, HO⟩
  iapply (wp_loadAcc c (As xs wqs wos kss vss c) 5 4 (by decide) (off67_at c 4)) $$ HA
  iintro HA
  iapply (wp_takeR (RBs xs wqs wos kss vss) c 2 3 rfl (fun t => SBof xs wqs wos kss vss t (prv c)) rfl rfl) $$ [HR0 HDR]
  · iframe HR0 HDR
  iintro HDR
  iapply (sb_put c 1 _ (SBof xs wqs wos kss vss 3 c) (SB_succ xs wqs wos kss vss 2 c) rfl) $$ HS1
  iintro HS1
  sl_exec
  simp only [Prog.lift, Prog.bind_op, Prog.bind_ret, Prog.pure_eq_ret]
  iapply (wp_rSend _ _ K c _ (Fin.ext (k0_dev11_eq c)) 3 4 1 5 (by decide) rfl rfl rfl rfl rfl rfl (fun t => SBof xs wqs wos kss vss t c) (RBs_nxt xs wqs wos kss vss c)) $$ [HS1 HRs HO]
  · iframe HR HS1 HRs HO
  iintro ⟨⟨Hs3, Hr3⟩, HRs, HO⟩
  iapply (g_waitS K _ _ c 4 5 4 (by decide) rfl) $$ [Hx Hg4 HO]
  · iframe HR HL Hx Hg4 HO
  iintro ⟨Hx, HO⟩
  iapply (g_waitR K _ _ c 4 5 4 (by decide) rfl (by decide) rfl) $$ [Hx Hh4 HDX HO]
  · iframe HR HL Hx Hh4 HDX HO
  iintro ⟨Hx, HDX, HO⟩
  iapply (wp_gSend _ _ K c _ (Fin.ext (k0_dev12_eq c)) 5 6 4 (by decide) rfl rfl rfl (off66_at c 5)) $$ [Hx HX HO]
  · iframe HR Hx HX HO
  iintro ⟨Hx, ⟨Hg5, Hh5⟩, HX, HO⟩
  iapply (wp_loadX c (org c 5) fullShare.right (xRnd xs) (off67_at c 5)) $$ [Hx]
  · iexact Hx
  iintro Hx
  sl_exec
  simp only [Prog.lift, Prog.bind_op, Prog.bind_ret, Prog.pure_eq_ret]
  iapply (qu_put c (Qof xs wqs c 5) _ (pay171_eq _ _)) $$ HQ
  iintro HQ
  iapply (wp_stage kss vss c 5 (Qof xs wqs c 5) k0_t6_loop k0_t6_ok t6_trips _ (trip6 c (Qof xs wqs c 5) (KRf kss c) (VRf vss c) v7 _ _ _ (word_at c 5))) $$ [HH HQ HC]
  · iframe HH HQ HC
  iintro ⟨HH, HQ, HC⟩
  simp only [Prog.lift, Prog.bind_op, Prog.bind_ret, Prog.pure_eq_ret]
  iapply (ct_load c _) $$ HC
  iintro HC
  iapply (wp_putAcc c (As xs wqs wos kss vss c) 5 6 (by decide) rfl _ rfl (off67_at c 5)) $$ HA
  iintro HA
  iapply (r_waitR K _ _ c 3 6 4 (by decide) (by decide) (by decide) rfl (by decide)) $$ [Hr3 HO]
  · iframe HR HL Hr3 HO
  iintro ⟨HR0, HO⟩
  iapply (r_waitS K _ _ c 2 3 0 6 4 (by decide) rfl rfl rfl) $$ [Hs2 HDS HO]
  · iframe HR HL Hs2 HDS HO
  iintro ⟨HS0, HDS, HO⟩
  sl_exec
  simp only [Prog.lift, Prog.bind_op, Prog.bind_ret, Prog.pure_eq_ret]
  iapply (wp_loadAcc c (As xs wqs wos kss vss c) 6 5 (by decide) (off67_at c 5)) $$ HA
  iintro HA
  iapply (wp_takeR (RBs xs wqs wos kss vss) c 3 4 rfl (fun t => SBof xs wqs wos kss vss t (prv c)) rfl rfl) $$ [HR0 HDR]
  · iframe HR0 HDR
  iintro HDR
  iapply (sb_put c 0 _ (SBof xs wqs wos kss vss 4 c) (SB_succ xs wqs wos kss vss 3 c) rfl) $$ HS0
  iintro HS0
  iapply (wp_rSend _ _ K c _ (Fin.ext (k0_dev13_eq c)) 4 5 0 6 (by decide) rfl rfl rfl rfl rfl rfl (fun t => SBof xs wqs wos kss vss t c) (RBs_nxt xs wqs wos kss vss c)) $$ [HS0 HRs HO]
  · iframe HR HS0 HRs HO
  iintro ⟨⟨Hs4, Hr4⟩, HRs, HO⟩
  iapply (g_waitS K _ _ c 5 6 5 (by decide) rfl) $$ [Hx Hg5 HO]
  · iframe HR HL Hx Hg5 HO
  iintro ⟨Hx, HO⟩
  sl_exec
  simp only [Prog.lift, Prog.bind_op, Prog.bind_ret, Prog.pure_eq_ret]
  iapply (g_waitR K _ _ c 5 6 5 (by decide) rfl (by decide) rfl) $$ [Hx Hh5 HDX HO]
  · iframe HR HL Hx Hh5 HDX HO
  iintro ⟨Hx, HDX, HO⟩
  iapply (wp_gSend _ _ K c _ (Fin.ext (k0_dev14_eq c)) 6 7 5 (by decide) rfl rfl rfl (off66_at c 6)) $$ [Hx HX HO]
  · iframe HR Hx HX HO
  iintro ⟨Hx, ⟨Hg6, Hh6⟩, HX, HO⟩
  iapply (wp_loadX c (org c 6) fullShare.right (xRnd xs) (off67_at c 6)) $$ [Hx]
  · iexact Hx
  iintro Hx
  iapply (qu_put c (Qof xs wqs c 6) _ rfl) $$ HQ
  iintro HQ
  iapply (wp_stage kss vss c 6 (Qof xs wqs c 6) k0_t7_loop k0_t7_ok t7_trips _ (trip7 c (Qof xs wqs c 6) (KRf kss c) (VRf vss c) _ v7 _ _ _ (word_at c 6))) $$ [HH HQ HC]
  · iframe HH HQ HC
  iintro ⟨HH, HQ, HC⟩
  simp only [Prog.lift, Prog.bind_op, Prog.bind_ret, Prog.pure_eq_ret]
  iapply (ct_load c _) $$ HC
  iintro HC
  iapply (wp_putAcc c (As xs wqs wos kss vss c) 6 7 (by decide) rfl _ rfl (off67_at c 6)) $$ HA
  iintro HA
  sl_exec
  simp only [Prog.lift, Prog.bind_op, Prog.bind_ret, Prog.pure_eq_ret]
  iapply (r_waitR K _ _ c 4 7 5 (by decide) (by decide) (by decide) rfl (by decide)) $$ [Hr4 HO]
  · iframe HR HL Hr4 HO
  iintro ⟨HR0, HO⟩
  iapply (r_waitS K _ _ c 3 4 1 7 5 (by decide) rfl rfl rfl) $$ [Hs3 HDS HO]
  · iframe HR HL Hs3 HDS HO
  iintro ⟨HS1, HDS, HO⟩
  iapply (wp_loadAcc c (As xs wqs wos kss vss c) 7 6 (by decide) (off67_at c 6)) $$ HA
  iintro HA
  iapply (wp_takeR (RBs xs wqs wos kss vss) c 4 5 rfl (fun t => SBof xs wqs wos kss vss t (prv c)) rfl rfl) $$ [HR0 HDR]
  · iframe HR0 HDR
  iintro HDR
  iapply (sb_put c 1 _ (SBof xs wqs wos kss vss 5 c) (SB_succ xs wqs wos kss vss 4 c) rfl) $$ HS1
  iintro HS1
  sl_exec
  simp only [Prog.lift, Prog.bind_op, Prog.bind_ret, Prog.pure_eq_ret]
  iapply (wp_rSend _ _ K c _ (Fin.ext (k0_dev15_eq c)) 5 6 1 7 (by decide) rfl rfl rfl rfl rfl rfl (fun t => SBof xs wqs wos kss vss t c) (RBs_nxt xs wqs wos kss vss c)) $$ [HS1 HRs HO]
  · iframe HR HS1 HRs HO
  iintro ⟨⟨Hs5, Hr5⟩, HRs, HO⟩
  iapply (g_waitS K _ _ c 6 7 6 (by decide) rfl) $$ [Hx Hg6 HO]
  · iframe HR HL Hx Hg6 HO
  iintro ⟨Hx, HO⟩
  iapply (g_waitR K _ _ c 6 7 6 (by decide) rfl (by decide) rfl) $$ [Hx Hh6 HDX HO]
  · iframe HR HL Hx Hh6 HDX HO
  iintro ⟨Hx, HDX, HO⟩
  iapply (wp_loadX c (org c 7) fullShare (xRnd xs) (off67_at c 7)) $$ [Hx]
  · iexact Hx
  iintro Hx
  iapply (qu_put c (Qof xs wqs c 7) _ rfl) $$ HQ
  iintro HQ
  sl_exec
  simp only [Prog.lift, Prog.bind_op, Prog.bind_ret, Prog.pure_eq_ret]
  iapply (wp_stage kss vss c 7 (Qof xs wqs c 7) k0_t8_loop k0_t8_ok t8_trips _ (trip8 c (Qof xs wqs c 7) (KRf kss c) (VRf vss c) v7 _ _ _ _ (word_at c 7))) $$ [HH HQ HC]
  · iframe HH HQ HC
  iintro ⟨HH, HQ, HC⟩
  simp only [Prog.lift, Prog.bind_op, Prog.bind_ret, Prog.pure_eq_ret]
  iapply (ct_load c _) $$ HC
  iintro HC
  iapply (wp_putAcc c (As xs wqs wos kss vss c) 7 8 (by decide) rfl _ rfl (off67_at c 7)) $$ HA
  iintro HA
  iapply (r_waitR K _ _ c 5 7 6 (by decide) (by decide) (by decide) rfl (by decide)) $$ [Hr5 HO]
  · iframe HR HL Hr5 HO
  iintro ⟨HR0, HO⟩
  iapply (r_waitS K _ _ c 4 5 0 7 6 (by decide) rfl rfl rfl) $$ [Hs4 HDS HO]
  · iframe HR HL Hs4 HDS HO
  iintro ⟨HS0, HDS, HO⟩
  iapply (wp_loadAcc c (As xs wqs wos kss vss c) 8 7 (by decide) (off67_at c 7)) $$ HA
  iintro HA
  iapply (wp_takeR (RBs xs wqs wos kss vss) c 5 6 rfl (fun t => SBof xs wqs wos kss vss t (prv c)) rfl rfl) $$ [HR0 HDR]
  · iframe HR0 HDR
  iintro HDR
  sl_exec
  simp only [Prog.lift, Prog.bind_op, Prog.bind_ret, Prog.pure_eq_ret]
  iapply (sb_put c 0 _ (SBof xs wqs wos kss vss 6 c) (SB_succ xs wqs wos kss vss 5 c) rfl) $$ HS0
  iintro HS0
  iapply (wp_rSend _ _ K c _ (Fin.ext (k0_dev16_eq c)) 6 7 0 7 (by decide) rfl rfl rfl rfl rfl rfl (fun t => SBof xs wqs wos kss vss t c) (RBs_nxt xs wqs wos kss vss c)) $$ [HS0 HRs HO]
  · iframe HR HS0 HRs HO
  iintro ⟨⟨Hs6, Hr6⟩, HRs, HO⟩
  iapply (r_waitS K _ _ c 5 6 1 7 7 (by decide) rfl rfl rfl) $$ [Hs5 HDS HO]
  · iframe HR HL Hs5 HDS HO
  iintro ⟨HS1, HDS, HO⟩
  sl_exec
  iapply (r_waitS K _ _ c 6 7 0 7 7 (by decide) rfl rfl rfl) $$ [Hs6 HDS HO]
  · iframe HR HL Hs6 HDS HO
  iintro ⟨HS0, HDS, HO⟩
  sl_step
  iapply Hend
  iframe HDX HDS HDR Hr6 HO Hx HS0 HS1 HA HQ HC HH HKV

end Cert.RingAttn

end

end
-- ==== Proof.Fin.lean ====
/-
# The last partial sum, and what the body gives back

The last partial sum landed and added to the device's own share; every buffer whole again and every counter back at zero.
-/
module

public import proofs.«01_k».proof.Proof.Mid
public import proofs.«01_k».proof.Proof.Stages

@[expose] public section

set_option maxRecDepth 8192
set_option maxHeartbeats 40000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1x256x1024 .f32) (wqs wos : Dev nD → Vec F S1024x1024 .f32) (kss vss : Dev nD → KaC F) (K : Dev nD × Fin 29 → ℕ)

/-- The counters of the copies of a head's keys and values. -/
def kvSems (c : Dev nD) : sProp 𝕄 :=
  iprop((semVal ((c : Thread nD τ), .dma (kvSm 0 0)) 0 ∗ semVal ((c : Thread nD τ), .dma (kvSm 1 0)) 0)
    ∗ semVal ((c : Thread nD τ), .dma (kvSm 0 1)) 0 ∗ semVal ((c : Thread nD τ), .dma (kvSm 1 1)) 0)
/-- The kernel's buffers, holding anything. -/
def scratchOf (c : Dev nD) : sProp 𝕄 :=
  iprop((∃ f : XgC F, (xgM.view.loc (c : Thread nD τ) ↦{fullShare} f)) ∗ (∃ f : AcC F, (accM.view.loc (c : Thread nD τ) ↦{fullShare} f))
    ∗ (∃ f : Buf (Elt F) (kbM.view.loc (c : Thread nD τ)), (kbM.view.loc (c : Thread nD τ) ↦{fullShare} f)) ∗ (∃ f : Buf (Elt F) (vbM.view.loc (c : Thread nD τ)), (vbM.view.loc (c : Thread nD τ) ↦{fullShare} f))
    ∗ (∃ f : HdC F, (krM.view.loc (c : Thread nD τ) ↦{fullShare} f)) ∗ (∃ f : HdC F, (vrM.view.loc (c : Thread nD τ) ↦{fullShare} f))
    ∗ (∃ f : QuC F, (quM.view.loc (c : Thread nD τ) ↦{fullShare} f)) ∗ (∃ f : QuC F, (ctM.view.loc (c : Thread nD τ) ↦{fullShare} f))
    ∗ (∃ f : SbC F, (((c : Thread nD τ).loc cc0_scratch8) ↦{fullShare} f)) ∗ (∃ f : RbC F, (((c : Thread nD τ).loc cc0_scratch9) ↦{fullShare} f)))
/-- The inputs staged on the device, and the arrays read in place. -/
def inputsOf (c : Dev nD) : sProp 𝕄 :=
  iprop((xM.view.loc (c : Thread nD τ) ↦{fullShare} xs c) ∗ (wqM.view.loc (c : Thread nD τ) ↦{fullShare} wqs c) ∗ (woM.view.loc (c : Thread nD τ) ↦{fullShare} wos c)
    ∗ (kaM.view.loc (c : Thread nD τ) ↦{fullShare} kss c) ∗ (vaM.view.loc (c : Thread nD τ) ↦{fullShare} vss c))
/-- Every counter of the ring back at zero. -/
def semsOf (c : Dev nD) : sProp 𝕄 :=
  iprop(semVal (barCell c) 0 ∗ bigSep (Finset.Ico 0 7) fun s => iprop((semVal (xcell c s) 0 ∗ semVal (xcell c (7 + s)) 0) ∗ semVal (xcell c (14 + s)) 0 ∗ semVal (xcell c (21 + s)) 0))

/-- What the stages leave. -/
def leftOf (c : Dev nD) : sProp 𝕄 :=
  iprop(doneX (XBs xs) c 7 ∗ doneS (F := F) c 7 ∗ slotX c (org c 7) fullShare (XBs xs)
    ∗ slotAny (F := F) c 0 ∗ slotAny (F := F) c 1 ∗ quAny (F := F) c ∗ ctAny (F := F) c ∗ hdsIs kss vss c ∗ (kSide c (kss c) 8 ∗ vSide c (vss c) 8))

/-- What a device's result is made from at the end. -/
def finA (c : Dev nD) : Prog (TpuEff nD τ sig (Elt F) Λ₀ .tc) PUnit := do
  Prog.lift (.waitDma2 ((cc0_scratch13.slice (Rect.unit (s := S7) ![6] S1.size inb_S7_S1_6)).squeeze S_ squeezes_S1_S_).sem
    (sbAt ![0, 0, 0] inb_S2x256x1024_S1x256x1024_0_0_0) (rbAt ![6, 0, 0] inb_S7x256x1024_S1x256x1024_6_0_0)
    ((View.wordExact_bits rfl).reshape _ _) ((View.wordExact_bits rfl).reshape _ _))
  let v1449 : Vec F S1x256x1024 .f32 ← Prog.lift (.load accM (Rect.unit (s := S8x256x1024) (k0_off65 c) S1x256x1024.size (k0_off65_inb c)).toLoadRect (View.loadsAt_vmem h_S1x256x1024))
  let v1450 : Vec F S1x256x1024 .f32 ← Prog.lift (.load rbM (Rect.unit (s := S7x256x1024) ![6, 0, 0] S1x256x1024.size inb_S7x256x1024_S1x256x1024_6_0_0).toLoadRect (View.loadsAt_vmem h_S1x256x1024))
  let v1452 : Vec F S1x256x1024 .f32 ← Prog.lift (.load outM (Rect.unit (s := S1x256x1024) ![0, 0, 0] S1x256x1024.size inb_S1x256x1024_S1x256x1024_0_0_0).toLoadRect (View.loadsAt_vmem h_S1x256x1024))
  Prog.lift (.store outM (Rect.unit (s := S1x256x1024) ![0, 0, 0] S1x256x1024.size inb_S1x256x1024_S1x256x1024_0_0_0) (k0_pay1 v1449 v1450) Finset.univ (View.stores_vmem_bits_univ h_S1x256x1024 rfl) (.inl rfl))
  pure ⟨⟩

theorem hd_zero (c : Dev nD) : 8 * c.val + 0 < 64 := by have h := c.isLt; change c.val < 8 at h; omega
theorem kSide_zero (c : Dev nD) (ks : KaC F) : (iprop((waited kbM kaM c Nat.zero_lt_two (hd_zero c) (KBv ks _ (hd_zero c)) ks (kvSm 0 0) 0
      ∗ padZ (F := F) kbM c Nat.zero_lt_two ∗ arrRest kaM c (hd_zero c) ks) ∗ idle (F := F) kbM c Nat.one_lt_two (kvSm 1 0)) : sProp 𝕄) ⊢ kSide c ks 0 := by
  unfold kSide kNext flight
  rw [dif_pos (by decide)]
theorem vSide_zero (c : Dev nD) (vs : KaC F) : (iprop((waited vbM vaM c Nat.zero_lt_two (hd_zero c) (KBv vs _ (hd_zero c)) vs (kvSm 0 1) 0
      ∗ padZ (F := F) vbM c Nat.zero_lt_two ∗ arrRest vaM c (hd_zero c) vs) ∗ idle (F := F) vbM c Nat.one_lt_two (kvSm 1 1)) : sProp 𝕄) ⊢ vSide c vs 0 := by
  unfold vSide vNext flight
  rw [dif_pos (by decide)]

theorem kSide_end (c : Dev nD) (ks : KaC F) : kSide c ks 8 ⊢ (iprop((kaM.view.loc (c : Thread nD τ) ↦{fullShare} ks)
    ∗ (semVal ((c : Thread nD τ), .dma (kvSm 0 0)) 0 ∗ semVal ((c : Thread nD τ), .dma (kvSm 1 0)) 0) ∗ ∃ f, (kbM.view.loc (c : Thread nD τ) ↦{fullShare} f)) : sProp 𝕄) := by
  unfold kSide kNext idle
  rw [dif_neg (by omega)]
  iintro ⟨⟨⟨Hs0, H0⟩, Hka⟩, Hs1, H1⟩
  isplitl [Hka]; · iexact Hka
  isplitl [Hs0 Hs1]
  · isplitl [Hs0]; · iexact Hs0
    iexact Hs1
  iapply (join_slots kbM c (View.set_whole _))
  isplitl [H0]; · iexact H0
  iexact H1
theorem vSide_end (c : Dev nD) (vs : KaC F) : vSide c vs 8 ⊢ (iprop((vaM.view.loc (c : Thread nD τ) ↦{fullShare} vs)
    ∗ (semVal ((c : Thread nD τ), .dma (kvSm 0 1)) 0 ∗ semVal ((c : Thread nD τ), .dma (kvSm 1 1)) 0) ∗ ∃ f, (vbM.view.loc (c : Thread nD τ) ↦{fullShare} f)) : sProp 𝕄) := by
  unfold vSide vNext idle
  rw [dif_neg (by omega)]
  iintro ⟨⟨⟨Hs0, H0⟩, Hka⟩, Hs1, H1⟩
  isplitl [Hka]; · iexact Hka
  isplitl [Hs0 Hs1]
  · isplitl [Hs0]; · iexact Hs0
    iexact Hs1
  iapply (join_slots vbM c (View.set_whole _))
  isplitl [H0]; · iexact H0
  iexact H1

theorem doneX_end (XB : XgC F) (c : Dev nD) : iprop(doneX XB c 7 ∗ slotX c (org c 7) fullShare XB)
    ⊢ (iprop((((c : Thread nD τ).loc cc0_scratch0) ↦{fullShare} XB) ∗ bigSep (Finset.Ico 0 7) fun s => iprop(semVal (xcell c s) 0 ∗ semVal (xcell c (7 + s)) 0)) : sProp 𝕄) := by
  unfold doneX
  rw [bigSep_sep']
  iintro ⟨⟨HX, HS⟩, H7⟩
  isplitr [HS]
  · iapply (xg_end c XB)
    isplitl [H7]; · iexact H7
    iexact HX
  iexact HS
theorem doneR_end (RB : Dev nD → RbC F) (c : Dev nD) : doneR RB c 7
    ⊢ (iprop((((c : Thread nD τ).loc cc0_scratch9) ↦{fullShare} RB c) ∗ bigSep (Finset.Ico 0 7) fun s => (semVal (xcell c (21 + s)) 0 : sProp 𝕄)) : sProp 𝕄) := by
  unfold doneR
  rw [bigSep_sep']
  iintro ⟨HX, HS⟩
  isplitr [HS]
  · iapply (rb_parts c (RB c)).2
    iexact HX
  iexact HS

theorem sems_end (c : Dev nD) : (iprop(semVal (barCell c) 0 ∗ (bigSep (Finset.Ico 0 7) fun s => iprop(semVal (xcell c s) 0 ∗ semVal (xcell c (7 + s)) 0))
      ∗ doneS (F := F) c 7 ∗ bigSep (Finset.Ico 0 7) fun s => (semVal (xcell c (21 + s)) 0 : sProp 𝕄)) : sProp 𝕄) ⊢ semsOf (F := F) c := by
  unfold semsOf doneS
  rw [bigSep_sep' (Finset.Ico 0 7) (fun s => (iprop(semVal (xcell c s) 0 ∗ semVal (xcell c (7 + s)) 0) : sProp 𝕄)) (fun s => iprop(semVal (xcell c (14 + s)) 0 ∗ semVal (xcell c (21 + s)) 0)),
    bigSep_sep' (Finset.Ico 0 7) (fun s => (semVal (xcell c (14 + s)) 0 : sProp 𝕄)) (fun s => semVal (xcell c (21 + s)) 0)]

theorem sound_fin (c : Dev nD) (Kt : PUnit → sProp 𝕄) (ou : Vec F S1x256x1024 .f32) :
    iprop((records (XBs xs) (RBs xs wqs wos kss vss) K ∗ levAts L lv) ∗ leftOf xs kss vss c ∗ doneR (RBs xs wqs wos kss vss) c 6 ∗ due (F := F) c (21 + 6) ∗ owing c (owe c 7 7)
        ∗ accP c (As xs wqs wos kss vss c) 8 ∗ semVal (barCell c) 0
        ∗ (xM.view.loc (c : Thread nD τ) ↦{fullShare} xs c) ∗ (wqM.view.loc (c : Thread nD τ) ↦{fullShare} wqs c) ∗ (woM.view.loc (c : Thread nD τ) ↦{fullShare} wos c)
        ∗ (outM.view.loc (c : Thread nD τ) ↦{fullShare} ou))
      ⊢ iprop((iprop(semsOf (F := F) c ∗ kvSems (F := F) c ∗ scratchOf c ∗ inputsOf xs wqs wos kss vss c ∗ owing c 0
          ∗ (outM.view.loc (c : Thread nD τ) ↦{fullShare} outOf xs wqs wos kss vss c)) -∗ Kt ⟨⟩)
        -∗ wp frame (wpE (defs₀ (F := F)) 𝒱₀ (c : Thread nD τ) none) Set.univ (finA (F := F) c) Kt) := by
  unfold finA leftOf
  simp only [Prog.lift, Prog.bind_op, Prog.bind_ret, Prog.pure_eq_ret]
  iintro ⟨⟨#HR, #HL⟩, ⟨HDX, HDS, Hx7, HS0, HS1, HQ, HC, HH, ⟨HK, HV⟩⟩, HDR, Hr6, HO, HA, Hbar, Hx, Hwq, Hwo, Hou⟩ Hend
  iapply (r_waitR K (XBs xs) (RBs xs wqs wos kss vss) c 6 7 7 (by decide) (by decide) (by decide) rfl (Or.inr ⟨rfl, rfl⟩)) $$ [Hr6 HO]
  · iframe HR HL Hr6 HO
  iintro ⟨Hr, HO⟩
  iapply (wp_loadAcc c (As xs wqs wos kss vss c) 8 0 (by decide) (off65_at c)) $$ HA
  iintro HA
  iapply (wp_takeR (RBs xs wqs wos kss vss) c 6 7 rfl (fun t => SBof xs wqs wos kss vss t (prv c)) rfl rfl) $$ [Hr HDR]
  · iframe Hr HDR
  iintro HDR
  iapply (wp_putOut c ou (outOf xs wqs wos kss vss c)) $$ Hou
  iintro Hou
  sl_step
  ihave HK := (kSide_end c (kss c)) $$ HK
  icases HK with ⟨Hka, Hks, Hkb⟩
  ihave HV := (vSide_end c (vss c)) $$ HV
  icases HV with ⟨Hva, Hvs, Hvb⟩
  ihave HDX := (doneX_end (XBs xs) c) $$ [HDX Hx7]
  · iframe HDX Hx7
  icases HDX with ⟨Hxg, HXS⟩
  ihave HDR := (doneR_end (RBs xs wqs wos kss vss) c) $$ HDR
  icases HDR with ⟨Hrb, HRS⟩
  ihave Hsb := (sb_end c) $$ [HS0 HS1]
  · unfold slotAny; iframe HS0 HS1
  rw [owe_done]
  iapply Hend
  unfold kvSems scratchOf inputsOf accP quAny ctAny hdsIs
  icases HA with ⟨%ac, -, HA⟩
  icases HH with ⟨Hkr, Hvr⟩
  isplitl [Hbar HXS HDS HRS]
  · iapply (sems_end c); iframe Hbar HXS HDS HRS
  isplitl [Hks Hvs]
  · iframe Hks Hvs
  isplitr [Hx Hwq Hwo Hka Hva HO Hou]
  · isplitl [Hxg]; · iexists _; iexact Hxg
    isplitl [HA]; · iexists _; iexact HA
    isplitl [Hkb]; · iexact Hkb
    isplitl [Hvb]; · iexact Hvb
    isplitl [Hkr]; · iexists _; iexact Hkr
    isplitl [Hvr]; · iexists _; iexact Hvr
    isplitl [HQ]; · iexact HQ
    isplitl [HC]; · iexact HC
    isplitl [Hsb]; · iexact Hsb
    iexists _; iexact Hrb
  iframe Hx Hwq Hwo Hka Hva HO Hou

end Cert.RingAttn

end

end
-- ==== Proof.Body.lean ====
/-
# The body

The body on one device, from its own buffers and the ring's records to its block of the result: the zero blocks, the first copies in,
the handshake, the eight stages with the gather and the reduce-scatter going round beside them, and the sum.
-/
module

public import proofs.«01_k».proof.Proof.Fin

@[expose] public section

set_option maxRecDepth 8192
set_option maxHeartbeats 40000000

noncomputable section

namespace Cert.RingAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1x256x1024 .f32) (wqs wos : Dev nD → Vec F S1024x1024 .f32) (kss vss : Dev nD → KaC F) (K : Dev nD × Fin 29 → ℕ)

/-- The device's word is its place on the ring. -/
theorem place_word : ∀ c : Dev nD, Scalar.remsi (Scalar.divsi (BitVec.ofNat 32 c.val) 1#32) 8#32 = BitVec.ofNat 32 c.val := by decide

/-- The body: from the hand it is dealt, its buffers and its inputs, to its block of the result with every counter at zero. -/
theorem sound_body (c : Dev nD) (Kt : PUnit → sProp 𝕄) :
    iprop(((records (XBs xs) (RBs xs wqs wos kss vss) K ∗ levAts L lv) ∗ handOf (F := F) c ∗ kvSems (F := F) c ∗ scratchOf c ∗ inputsOf xs wqs wos kss vss c ∗ owing c (O₀ c)
          ∗ (∃ f : Vec F S1x256x1024 .f32, (outM.view.loc (c : Thread nD τ) ↦{fullShare} f)))
        ∗ (iprop(semsOf (F := F) c ∗ kvSems (F := F) c ∗ scratchOf c ∗ inputsOf xs wqs wos kss vss c ∗ owing c 0
          ∗ (outM.view.loc (c : Thread nD τ) ↦{fullShare} outOf xs wqs wos kss vss c)) -∗ Kt ⟨⟩))
      ⊢ wp frame (wpE (defs₀ (F := F)) 𝒱₀ (c : Thread nD τ) none) Set.univ
          (cc0_body xM (Memref.isWhole_whole _) wqM (Memref.isWhole_whole _) kaM (Memref.isWhole_whole _) vaM (Memref.isWhole_whole _)
            woM (Memref.isWhole_whole _) outM (Memref.isWhole_whole _) xgM (Memref.isWhole_whole _) accM (Memref.isWhole_whole _)
            kbM (Memref.isWhole_whole _) vbM (Memref.isWhole_whole _) krM (Memref.isWhole_whole _) vrM (Memref.isWhole_whole _) quM (Memref.isWhole_whole _) ctM (Memref.isWhole_whole _)
            sbM (Memref.isWhole_whole _) rbM (Memref.isWhole_whole _) cc0_scratch10 cc0_scratch11 cc0_scratch12 cc0_scratch13 cc0_scratch14) Kt := by
  simp only [cc0_body_eq_skeleton]
  unfold cc0_body_skel
  unfold handOf kvSems scratchOf inputsOf
  iintro ⟨⟨⟨#HR, #HL⟩, ⟨HtL, HtR, HatB, HcB, HX, HRs⟩, ⟨⟨Hk0, Hk1⟩, Hv0, Hv1⟩, ⟨⟨%xg, Hxg⟩, ⟨%ac, Hac⟩, ⟨%kb, Hkb⟩, ⟨%vb, Hvb⟩, Hkr, Hvr, Hqu, Hct, Hsb, ⟨%rb, Hrb⟩⟩, ⟨Hx, Hwq, Hwo, Hka, Hva⟩, HO, ⟨%ou, Hout⟩⟩, Hend⟩
  ihave HD := (padded_zero kbM c kb) $$ Hkb
  ihave HE := (padded_zero vbM c vb) $$ Hvb
  sl_exec
  simp only [Prog.lift, Prog.bind_op, Prog.bind_ret, Prog.pure_eq_ret]
  iapply (wp_putPad kbM c 0 1 0 1 (Or.inl rfl) rfl rfl _ (fun _ => rfl) rfl) $$ HD
  iintro HD
  iapply (wp_putPad vbM c 0 1 0 1 (Or.inl rfl) rfl rfl _ (fun _ => rfl) rfl) $$ HE
  iintro HE
  iapply (wp_putPad kbM c 0 2 1 2 (Or.inr rfl) rfl rfl _ (fun _ => rfl) rfl) $$ HD
  iintro HD
  iapply (wp_putPad vbM c 0 2 1 2 (Or.inr rfl) rfl rfl _ (fun _ => rfl) rfl) $$ HE
  iintro HE
  sl_exec
  simp only [Prog.lift, Prog.bind_op, Prog.bind_ret, Prog.pure_eq_ret]
  iapply (wp_putPad kbM c 1 1 2 3 (Or.inl rfl) rfl rfl _ (fun _ => rfl) rfl) $$ HD
  iintro HD
  iapply (wp_putPad vbM c 1 1 2 3 (Or.inl rfl) rfl rfl _ (fun _ => rfl) rfl) $$ HE
  iintro HE
  iapply (wp_putPad kbM c 1 2 3 4 (Or.inr rfl) rfl rfl _ (fun _ => rfl) rfl) $$ HD
  iintro HD
  iapply (wp_putPad vbM c 1 2 3 4 (Or.inr rfl) rfl rfl _ (fun _ => rfl) rfl) $$ HE
  iintro HE
  ihave HD := (padded_slots kbM c (View.set_whole _)) $$ HD
  icases HD with ⟨HD0, HD1⟩
  ihave HE := (padded_slots vbM c (View.set_whole _)) $$ HE
  icases HE with ⟨HE0, HE1⟩
  ihave HK := (begin_batch kbM kaM c Nat.zero_lt_two (hd_zero c) (KBv (kss c) _ (hd_zero c)) (kss c) (kvSm 0 0)) $$ [HD0 Hk0 Hka]
  · isplitl [HD0 Hk0]
    · unfold idle; isplitl [Hk0]; · iexact Hk0
      iexact HD0
    iexact Hka
  imod HK with ⟨HK, HKp, HKr⟩
  ihave HV := (begin_batch vbM vaM c Nat.zero_lt_two (hd_zero c) (KBv (vss c) _ (hd_zero c)) (vss c) (kvSm 0 1)) $$ [HE0 Hv0 Hva]
  · isplitl [HE0 Hv0]
    · unfold idle; isplitl [Hv0]; · iexact Hv0
      iexact HE0
    iexact Hva
  imod HV with ⟨HV, HVp, HVr⟩
  have hFk := feeds_of kbM kaM c Nat.zero_lt_two (hd_zero c) (KBv (kss c) _ (hd_zero c)) (kss c) (fun _ => rfl)
  have hFv := feeds_of vbM vaM c Nat.zero_lt_two (hd_zero c) (KBv (vss c) _ (hd_zero c)) (vss c) (fun _ => rfl)
  iterate 64
    sl_exec
    iapply (wp_kvStart kbM kaM c Nat.zero_lt_two (hd_zero c) (KBv (kss c) _ (hd_zero c)) (kss c) 0 hFk rfl) $$ [HK]
    · isplitl [HK]; · iexact HK
      ipureintro
      exact ⟨by decide, rfl, ClosedOff.eq.trans (Eq.symm (sOff_of rfl))⟩
    iintro HK
    sl_exec
    iapply (wp_kvStart vbM vaM c Nat.zero_lt_two (hd_zero c) (KBv (vss c) _ (hd_zero c)) (vss c) 1 hFv rfl) $$ [HV]
    · isplitl [HV]; · iexact HV
      ipureintro
      exact ⟨by decide, rfl, ClosedOff.eq.trans (Eq.symm (sOff_of rfl))⟩
    iintro HV
  ihave HK := (started_all kbM kaM c Nat.zero_lt_two (hd_zero c) (KBv (kss c) _ (hd_zero c)) (kss c) (kvSm 0 0)) $$ HK
  ihave HV := (started_all vbM vaM c Nat.zero_lt_two (hd_zero c) (KBv (vss c) _ (hd_zero c)) (vss c) (kvSm 0 1)) $$ HV
  simp only [Prog.lift, Prog.bind_op, Prog.bind_ret, Prog.pure_eq_ret]
  iapply (sound_mid xs wqs wos K (RBs xs wqs wos kss vss) c _ xg rb) $$ [HtL HtR HatB HcB HX HRs HO Hxg Hrb Hx Hwq Hwo]
  · unfold handOf
    iframe HR HL HtL HtR HatB HcB HX HRs HO Hxg Hrb Hx Hwq Hwo
  iintro ⟨HX, HRs, Hbar, HO, Hx0, Hx, Hwq, Hwo⟩
  ihave HSb := (sb_start c) $$ Hsb
  icases HSb with ⟨HS0, HS1⟩
  ihave HKS := (kSide_zero c (kss c)) $$ [HK HKp HKr Hk1 HD1]
  · unfold idle; iframe HK HKp HKr Hk1 HD1
  ihave HVS := (vSide_zero c (vss c)) $$ [HV HVp HVr Hv1 HE1]
  · unfold idle; iframe HV HVp HVr Hv1 HE1
  have hacc : (accM.view.loc (c : Thread nD τ) ↦{fullShare} ac : sProp 𝕄) ⊢ accP c (As xs wqs wos kss vss c) 0 := by
    unfold accP; iintro H; iexists ac; isplitr [H]
    · ipureintro; intro s hs; omega
    iexact H
  ihave HA := hacc $$ Hac
  have hv2 : sound_body.sl.v2 c = BitVec.ofNat 32 c.val := place_word c
  have htail := sound_tail xs wqs wos kss vss K c (sound_body.sl.v2 c) (sound_body.sl.v7 c) (sound_body.sl.v8 c)
    (Scalar.remsi (Scalar.addi (Scalar.subi (sound_body.sl.v2 c) 0#32) 8#32) 8#32) hv2 (by rw [hv2]; exact word_at c 0)
    (fun r => wp frame (wpE (defs₀ (F := F)) 𝒱₀ (c : Thread nD τ) none) Set.univ (finA (F := F) r.1) Kt)
  dsimp only
  iapply htail $$ [HX HRs HO Hx0 HS0 HS1 HA Hqu Hct Hkr Hvr HKS HVS]
  · unfold slotAny quAny ctAny hdsAny
    iframe HR HL HX HRs HO Hx0 HS0 HS1 HA Hqu Hct Hkr Hvr HKS HVS
  iintro ⟨HDX, HDS, HDR, Hr6, HO, Hx7, HS0, HS1, HA, HQ, HC, HH, HKS, HVS⟩
  iapply (sound_fin xs wqs wos kss vss K c Kt ou) $$ [HDX HDS HDR Hr6 HO Hx7 HS0 HS1 HA HQ HC HH HKS HVS Hbar Hx Hwq Hwo Hout]
  · unfold leftOf
    iframe HR HL HDX HDS HDR Hr6 HO Hx7 HS0 HS1 HA HQ HC HH HKS HVS Hbar Hx Hwq Hwo Hout
  iexact Hend

end Cert.RingAttn

end

end
-- ==== Proof.Fund.lean ====
/-
# What a device starts with

The ring's cells opened for all devices at once, the duty tokens dealt to the devices that pay them, the credit each device waits with,
and the counters of every semaphore accounted for.
-/
module

public import proofs.«01_k».proof.Proof.Fin
public import proofs.«01_k».proof.Proof.Gen.KernelIdeal.Launch
public import Idealize.ShloMosaic.Lib.Pipeline.Launch

@[expose] public section

set_option maxRecDepth 8192

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

theorem xsem_inj {j j' : ℕ} (hj : j < 28) (hj' : j' < 28) (h : xsem j = xsem j') : j = j' := by
  have h2 : (xsem j).val = (xsem j').val := congrArg (fun q : DmaSem sig => q.val) h
  rw [xsem_val hj, xsem_val hj'] at h2; omega
theorem dma_inj {q q' : DmaSem sig} (h : (SemLoc.dma q : SemLoc sig) = .dma q') : q = q' := by injection h
theorem reg_ne_dma {q : Sem sig} {q' : DmaSem sig} : (SemLoc.reg q : SemLoc sig) ≠ .dma q' := fun h => by cases h

theorem csem_inj {k k' : Fin 29} (h : csem k = csem k') : k = k' := by
  have hk := k.isLt; have hk' := k'.isLt
  by_cases h0 : k.val = 0 <;> by_cases h0' : k'.val = 0
  · exact Fin.ext (h0.trans h0'.symm)
  · rw [csem, csem, if_pos h0, if_neg h0'] at h; exact absurd h reg_ne_dma
  · rw [csem, csem, if_neg h0, if_pos h0'] at h; exact absurd h.symm reg_ne_dma
  · rw [csem, csem, if_neg h0, if_neg h0'] at h
    have h1 := xsem_inj (by omega) (by omega) (dma_inj h)
    exact Fin.ext (by omega)

theorem kcell_injective : Function.Injective (kcell : Dev nD × Fin 29 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]
theorem xcell_eq {a b : Dev nD} {j j' : ℕ} (hj : j < 28) (hj' : j' < 28) (h : xcell a j = xcell b j') : a = b ∧ j = j' :=
  ⟨by have := congrArg (fun g : GSem nD τ sig => g.1.1) h; exact this, xsem_inj hj hj' (dma_inj (congrArg Prod.snd h))⟩
theorem bar_eq {a b : Dev nD} (h : barCell a = barCell b) : a = b := by have := congrArg (fun g : GSem nD τ sig => g.1.1) h; exact this
theorem bar_ne_x {a b : Dev nD} {j : ℕ} : barCell a ≠ xcell b j := fun h => reg_ne_dma (congrArg Prod.snd h)

def ringCells : Finset (GSem nD τ sig) := Finset.univ.map ⟨kcell, kcell_injective⟩

def tokF : Dev nD × Fin 29 ↪ GSem nD τ sig × ℕ × Bool := ⟨fun ck => (kcell ck, 0, false), fun a b h => kcell_injective (congrArg Prod.fst h)⟩
def tokT : Dev nD ↪ GSem nD τ sig × ℕ × Bool := ⟨fun c => (barCell c, 0, true), fun a b h => bar_eq (congrArg Prod.fst h)⟩
def ringToks : Finset (GSem nD τ sig × ℕ × Bool) := Finset.univ.map tokF ∪ Finset.univ.map tokT
theorem toks_disj : Disjoint ((Finset.univ : Finset (Dev nD × Fin 29)).map tokF) (Finset.univ.map tokT) := by
  rw [Finset.disjoint_left]
  intro x hx hx'
  obtain ⟨a, -, rfl⟩ := Finset.mem_map.mp hx
  obtain ⟨b, -, hb⟩ := Finset.mem_map.mp hx'
  exact Bool.noConfusion (congrArg (fun y : GSem nD τ sig × ℕ × Bool => y.2.2) hb)

def u₀ : UU :=
  (initOf (Pipeline.cells cfgs cellOf_inj) (Pipeline.launchToks cfgs cellOf_inj), (initOf ringCells ringToks, 1))

theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## A device's cells, seven by seven -/

theorem kof_injOn (n : ℕ) (hn : n ≤ 21) : Set.InjOn (fun s => kof (n + s)) (Finset.Ico 0 7 : Finset ℕ) := by
  intro a ha b hb h
  have h1 := (Finset.mem_Ico.mp ha).2; have h2 := (Finset.mem_Ico.mp hb).2
  have h3 : (n + a + 1) % 29 = (n + b + 1) % 29 := congrArg Fin.val h
  omega
theorem kof_injOn0 : Set.InjOn (fun s => kof s) (Finset.Ico 0 7 : Finset ℕ) := by
  intro a ha b hb h
  have h1 := (Finset.mem_Ico.mp ha).2; have h2 := (Finset.mem_Ico.mp hb).2
  have h3 : (a + 1) % 29 = (b + 1) % 29 := congrArg Fin.val h
  omega
theorem kofs : (Finset.univ : Finset (Fin 29)) = insert 0 ((Finset.Ico 0 7).image (fun s => kof s) ∪ ((Finset.Ico 0 7).image (fun s => kof (7 + s))
    ∪ ((Finset.Ico 0 7).image (fun s => kof (14 + s)) ∪ (Finset.Ico 0 7).image (fun s => kof (21 + s))))) := by decide

theorem groups (c : Dev nD) (Ψ : GSem nD τ sig → sProp 𝕄) : bigSep Finset.univ (fun k : Fin 29 => Ψ (kcell (c, k)))
    = iprop(Ψ (barCell c) ∗ (bigSep (Finset.Ico 0 7) fun s => Ψ (xcell c s)) ∗ (bigSep (Finset.Ico 0 7) fun s => Ψ (xcell c (7 + s)))
        ∗ (bigSep (Finset.Ico 0 7) fun s => Ψ (xcell c (14 + s))) ∗ (bigSep (Finset.Ico 0 7) fun s => Ψ (xcell c (21 + s)))) := by
  have h (n : ℕ) (hn : n ≤ 21) : (bigSep (Finset.Ico 0 7) fun s => Ψ (kcell (c, kof (n + s)))) = bigSep (Finset.Ico 0 7) fun s => Ψ (xcell c (n + s)) :=
    bigSep_congr fun s hs => by rw [kcell_kof c (by have := (Finset.mem_Ico.mp hs).2; omega)]
  have h0 : (bigSep (Finset.Ico 0 7) fun s => Ψ (kcell (c, kof s))) = bigSep (Finset.Ico 0 7) fun s => Ψ (xcell c s) :=
    bigSep_congr fun s hs => by rw [kcell_kof c (by have := (Finset.mem_Ico.mp hs).2; omega)]
  rw [kofs, bigSep_insert (by decide), bigSep_union (by decide), bigSep_union (by decide), bigSep_union (by decide),
    bigSep_image_of_injOn kof_injOn0, bigSep_image_of_injOn (kof_injOn 7 (by omega)), bigSep_image_of_injOn (kof_injOn 14 (by omega)),
    bigSep_image_of_injOn (kof_injOn 21 (by omega)), h0, h 7 (by omega), h 14 (by omega), h 21 (by omega)]
  rfl

/-! ## The kernel's own semaphores -/

abbrev osem : Fin 32 → SemLoc sig := fun k => .dma ⟨4 + k.val, Nat.add_lt_add_left k.isLt 4⟩
theorem ownSemFacts : Pipeline.OwnSemFacts spec0 osem := by decide

def of32 (j : ℕ) : Fin 32 := ⟨j % 32, Nat.mod_lt _ (by decide)⟩
theorem osem_of {j : ℕ} (hj : j < 28) : osem (of32 j) = .dma (xsem j) := by
  have h1 : (of32 j).val = j := Nat.mod_eq_of_lt (by omega)
  have h2 := xsem_val hj
  exact congrArg SemLoc.dma (Fin.ext (by rw [h2]; show 4 + (of32 j).val = _; rw [h1]))
theorem of32_injOn (n : ℕ) (hn : n ≤ 21) : Set.InjOn (fun s => of32 (n + s)) (Finset.Ico 0 7 : Finset ℕ) := by
  intro a ha b hb h
  have h1 := (Finset.mem_Ico.mp ha).2; have h2 := (Finset.mem_Ico.mp hb).2
  have h3 : (n + a) % 32 = (n + b) % 32 := congrArg Fin.val h
  omega
theorem of32_injOn0 : Set.InjOn (fun s => of32 s) (Finset.Ico 0 7 : Finset ℕ) := by
  intro a ha b hb h
  have h1 := (Finset.mem_Ico.mp ha).2; have h2 := (Finset.mem_Ico.mp hb).2
  have h3 : a % 32 = b % 32 := congrArg Fin.val h
  omega
theorem of32s : (Finset.univ : Finset (Fin 32)) = insert 28 (insert 30 (insert 29 (insert 31 ((Finset.Ico 0 7).image (fun s => of32 s) ∪ ((Finset.Ico 0 7).image (fun s => of32 (7 + s))
    ∪ ((Finset.Ico 0 7).image (fun s => of32 (14 + s)) ∪ (Finset.Ico 0 7).image (fun s => of32 (21 + s)))))))) := by decide

theorem ownSems_eq (c : Dev nD) : (Pipeline.ownSems0 (Ix := Unit) (Name := ℕ) (U := UU) (Lvl := ℕ) (Val := Elt F) (τ := τ) osem c : sProp 𝕄)
    = iprop(semVal ((c : Thread nD τ), .dma (kvSm 0 0)) 0 ∗ semVal ((c : Thread nD τ), .dma (kvSm 1 0)) 0
        ∗ semVal ((c : Thread nD τ), .dma (kvSm 0 1)) 0 ∗ semVal ((c : Thread nD τ), .dma (kvSm 1 1)) 0
        ∗ (bigSep (Finset.Ico 0 7) fun s => semVal (xcell c s) 0) ∗ (bigSep (Finset.Ico 0 7) fun s => semVal (xcell c (7 + s)) 0)
        ∗ (bigSep (Finset.Ico 0 7) fun s => semVal (xcell c (14 + s)) 0) ∗ (bigSep (Finset.Ico 0 7) fun s => semVal (xcell c (21 + s)) 0)) := by
  have h (n : ℕ) (hn : n ≤ 21) : (bigSep (Finset.Ico 0 7) fun s => (semVal ((c : Thread nD τ), osem (of32 (n + s))) 0 : sProp 𝕄)) = bigSep (Finset.Ico 0 7) fun s => semVal (xcell c (n + s)) 0 :=
    bigSep_congr fun s hs => by rw [osem_of (by have := (Finset.mem_Ico.mp hs).2; omega)]
  have h0 : (bigSep (Finset.Ico 0 7) fun s => (semVal ((c : Thread nD τ), osem (of32 s)) 0 : sProp 𝕄)) = bigSep (Finset.Ico 0 7) fun s => semVal (xcell c s) 0 :=
    bigSep_congr fun s hs => by rw [osem_of (by have := (Finset.mem_Ico.mp hs).2; omega)]
  unfold Pipeline.ownSems0
  rw [of32s, bigSep_insert (by decide), bigSep_insert (by decide), bigSep_insert (by decide), bigSep_insert (by decide), bigSep_union (by decide), bigSep_union (by decide), bigSep_union (by decide),
    bigSep_image_of_injOn of32_injOn0, bigSep_image_of_injOn (of32_injOn 7 (by omega)), bigSep_image_of_injOn (of32_injOn 14 (by omega)),
    bigSep_image_of_injOn (of32_injOn 21 (by omega)), h0, h 7 (by omega), h 14 (by omega), h 21 (by omega)]
  rfl
theorem unscoped_eq (c : Dev nD) : (unscopedSems0 c : sProp 𝕄) = semVal (barCell c) 0 := by
  unfold unscopedSems0; rw [bigSep_eq_bigSepL_of_eq [SemLoc.reg barS] (by decide) (by decide)]; rfl

theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 29 => semVal (kcell (c, k)) 0) ∗ kvSems (F := F) c) : sProp 𝕄) := by
  rw [ownSems_eq, unscoped_eq, groups c (fun g => (semVal g 0 : sProp 𝕄))]
  unfold kvSems
  iintro ⟨⟨H1, H2, H3, H4, H5, H6, H7, H8⟩, HB⟩
  iframe H1 H2 H3 H4 H5 H6 H7 H8 HB
theorem sems_out (c : Dev nD) : (iprop(semsOf (F := F) c ∗ kvSems (F := F) c) : sProp 𝕄)
    ⊢ iprop(Pipeline.ownSems0 (Ix := Unit) (Name := ℕ) (U := UU) (Lvl := ℕ) (Val := Elt F) (τ := τ) osem c ∗ unscopedSems0 c) := by
  rw [ownSems_eq, unscoped_eq]
  unfold kvSems semsOf
  rw [bigSep_sep' (Finset.Ico 0 7) (fun s => (iprop(semVal (xcell c s) 0 ∗ semVal (xcell c (7 + s)) 0) : sProp 𝕄)) (fun s => iprop(semVal (xcell c (14 + s)) 0 ∗ semVal (xcell c (21 + s)) 0)),
    bigSep_sep' (Finset.Ico 0 7) (fun s => (semVal (xcell c (14 + s)) 0 : sProp 𝕄)) (fun s => semVal (xcell c (21 + s)) 0),
    bigSep_sep' (Finset.Ico 0 7) (fun s => (semVal (xcell c s) 0 : sProp 𝕄)) (fun s => semVal (xcell c (7 + s)) 0)]
  iintro ⟨⟨HB, ⟨H5, H6⟩, H7, H8⟩, ⟨H1, H2⟩, H3, H4⟩
  iframe H1 H2 H3 H4 H5 H6 H7 H8 HB

/-! ## The ring's ghost state -/

variable (XB : XgC F) (RB : Dev nD → RbC F)

def toks (c : Dev nD) : sProp 𝕄 := iprop((bigSep Finset.univ fun k : Fin 29 => dutyTok ER (kcell (c, k)) 0 false) ∗ dutyTok ER (barCell c) 0 true)
def G (c : Dev nD) : sProp 𝕄 :=
  iprop((bigSep Finset.univ fun k : Fin 29 => roundState ER (ringRd XB RB) (kcell (c, k)) 0)
    ∗ (bigSep Finset.univ fun k : Fin 29 => iprop(atPos ER (kcell (c, k)) 0 ∅ 0 ∗ reached ER (kcell (c, k)) 0)) ∗ toks c)

theorem fund_ring : BI.own (ER (initOf ringCells ringToks)) ⊢ (|==> bigSep Finset.univ (G XB RB) : sProp 𝕄) := by
  have hX (Φ : GSem nD τ sig → sProp 𝕄) : bigSep ringCells Φ = bigSep Finset.univ fun c : Dev nD => bigSep Finset.univ fun k : Fin 29 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_union toks_disj, bigSep_map, bigSep_map, bigSep_univ_prod, bigSep_sep']; rfl
  iintro HX
  imod (Rounds.fund ER (ringRd XB RB) ringCells ringToks) $$ HX with ⟨Hst, Hr, Hat, Htok⟩
  imodintro
  ihave Hst' := (Entails.of_eq (hX fun g => roundState ER (ringRd XB RB) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G XB RB c)
      ⊢ |={Set.univ}=> iprop((bigSep Finset.univ fun k => iprop(∃ κ : ℕ, cellInv ER (ringRd XB RB) κ (kcell (c, k))))
          ∗ (bigSep Finset.univ fun k => iprop(atPos ER (kcell (c, k)) 0 ∅ 0 ∗ reached ER (kcell (c, k)) 0)) ∗ toks c ∗ kvSems (F := F) c) := by
  unfold G
  iintro ⟨Hos, Hus, Hst, Hat, Htok⟩
  ihave Hv := (sems_in (F := F) c) $$ [Hos Hus]
  · isplitl [Hos] <;> iassumption
  icases Hv with ⟨Hv, Hkv⟩
  imod (show iprop((bigSep Finset.univ fun k : Fin 29 => semVal (kcell (c, k)) 0) ∗ bigSep Finset.univ fun k : Fin 29 => roundState ER (ringRd XB RB) (kcell (c, k)) 0)
      ⊢ (|={Set.univ}=> bigSep Finset.univ fun k => iprop(∃ κ : ℕ, cellInv ER (ringRd XB RB) κ (kcell (c, k))) : sProp 𝕄) from by
        rw [← bigSep_sep']
        exact (bigSep_mono fun k _ => (Rounds.body_intro ER (ringRd XB RB) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hkv

/-- The tokens of the duties a device pays. -/
def payToks (c : Dev nD) : sProp 𝕄 :=
  iprop(dutyTok ER (barCell (nxt c)) 0 false ∗ (bigSep (Finset.Ico 0 7) fun s => dutyTok ER (xcell c s) 0 false) ∗ (bigSep (Finset.Ico 0 7) fun s => dutyTok ER (xcell (nxt c) (7 + s)) 0 false)
    ∗ (bigSep (Finset.Ico 0 7) fun s => dutyTok ER (xcell c (14 + s)) 0 false) ∗ (bigSep (Finset.Ico 0 7) fun s => dutyTok ER (xcell (nxt c) (21 + s)) 0 false) ∗ dutyTok ER (barCell (prv c)) 0 true)
def linear (c : Dev nD) : sProp 𝕄 :=
  iprop((bigSep Finset.univ fun k : Fin 29 => atPos ER (kcell (c, k)) 0 ∅ 0) ∗ payToks c ∗ kvSems (F := F) c)
def G' (c : Dev nD) : sProp 𝕄 := iprop(∃ K, records XB RB K ∗ linear c)

theorem toks_around : (bigSep Finset.univ fun c : Dev nD => (toks c : sProp 𝕄)) ⊢ bigSep Finset.univ fun c : Dev nD => payToks c := by
  have h : ∀ c : Dev nD, (toks c : sProp 𝕄) ⊢ iprop(dutyTok ER (barCell c) 0 false ∗ (bigSep (Finset.Ico 0 7) fun s => dutyTok ER (xcell c s) 0 false) ∗ (bigSep (Finset.Ico 0 7) fun s => dutyTok ER (xcell c (7 + s)) 0 false)
    ∗ (bigSep (Finset.Ico 0 7) fun s => dutyTok ER (xcell c (14 + s)) 0 false) ∗ (bigSep (Finset.Ico 0 7) fun s => dutyTok ER (xcell c (21 + s)) 0 false) ∗ dutyTok ER (barCell c) 0 true) := fun c => by
    unfold toks; rw [groups c (fun g => (dutyTok ER g 0 false : sProp 𝕄))]
    iintro ⟨⟨H1, H2, H3, H4, H5⟩, H6⟩
    iframe H1 H2 H3 H4 H5 H6
  have h2 : (bigSep Finset.univ fun c : Dev nD => (iprop(dutyTok ER (barCell c) 0 false ∗ (bigSep (Finset.Ico 0 7) fun s => dutyTok ER (xcell c s) 0 false) ∗ (bigSep (Finset.Ico 0 7) fun s => dutyTok ER (xcell c (7 + s)) 0 false)
    ∗ (bigSep (Finset.Ico 0 7) fun s => dutyTok ER (xcell c (14 + s)) 0 false) ∗ (bigSep (Finset.Ico 0 7) fun s => dutyTok ER (xcell c (21 + s)) 0 false) ∗ dutyTok ER (barCell c) 0 true) : sProp 𝕄))
      ⊢ bigSep Finset.univ fun c : Dev nD => (payToks c : sProp 𝕄) := by
    unfold payToks
    rw [bigSep_sep', bigSep_sep', bigSep_sep', bigSep_sep', bigSep_sep', bigSep_sep', bigSep_sep', bigSep_sep', bigSep_sep', bigSep_sep',
      bigSep_univ_equiv ring (fun c : Dev nD => (dutyTok ER (barCell c) 0 false : sProp 𝕄)),
      bigSep_univ_equiv ring.symm (fun c : Dev nD => (dutyTok ER (barCell c) 0 true : sProp 𝕄)),
      bigSep_univ_equiv ring (fun c : Dev nD => (bigSep (Finset.Ico 0 7) fun s => dutyTok ER (xcell c (7 + s)) 0 false : sProp 𝕄)),
      bigSep_univ_equiv ring (fun c : Dev nD => (bigSep (Finset.Ico 0 7) fun s => dutyTok ER (xcell c (21 + s)) 0 false : sProp 𝕄))]
    iintro ⟨H1, H2, H3, H4, H5, H6⟩
    isplitl [H1]; · iexact H1
    isplitl [H2]; · iexact H2
    isplitl [H3]; · iexact H3
    isplitl [H4]; · iexact H4
    isplitl [H5]; · iexact H5
    iexact H6
  exact (bigSep_mono fun c _ => h c).trans h2

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 29 → ℕ) (c : Dev nD) : iprop(records XB RB K ∗ linear c) ⊢ G' XB RB c := by
  unfold G'
  iintro H
  iexists K; iexact H

theorem regroup :
    (bigSep Finset.univ fun c : Dev nD => iprop((bigSep Finset.univ fun k => iprop(∃ κ : ℕ, cellInv ER (ringRd XB RB) κ (kcell (c, k))))
          ∗ (bigSep Finset.univ fun k => iprop(atPos ER (kcell (c, k)) 0 ∅ 0 ∗ reached ER (kcell (c, k)) 0)) ∗ toks c ∗ kvSems (F := F) c) : sProp 𝕄)
      ⊢ bigSep Finset.univ (G' XB RB) := by
  rw [bigSep_sep', bigSep_sep', bigSep_sep', ← bigSep_univ_prod (fun ck : Dev nD × Fin 29 => iprop(∃ κ : ℕ, cellInv ER (ringRd XB RB) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok, Hkv⟩
  ihave HK := (BI.bigSep_exists_pi Finset.univ (fun (ck : Dev nD × Fin 29) (κ : ℕ) => (cellInv ER (ringRd XB RB) κ (kcell ck) : sProp 𝕄))) $$ HI
  icases HK with ⟨%K, #HI⟩
  ihave Htk := (toks_around (F := F)) $$ Htok
  iapply (bigSep_with (R := records XB RB K) fun c _ => ghost_intro XB RB K c)
  isplitr
  · unfold records; isplitl; · iexact HI
    iexact HR
  · unfold linear
    rw [bigSep_sep', bigSep_sep']
    isplitl [Hat]; · iexact Hat
    isplitl [Htk]; · iexact Htk
    iexact Hkv

/-- Every device's cells opened at once. -/
theorem glob : (bigSep Finset.univ fun c => iprop(Pipeline.ownSems0 (Ix := Unit) (Name := ℕ) (U := UU) (Lvl := ℕ) (Val := Elt F) (τ := τ) osem c ∗ unscopedSems0 c ∗ G XB RB c) : sProp 𝕄)
    ⊢ |={Set.univ}=> bigSep Finset.univ (G' XB RB) :=
  ((bigSep_mono fun c _ => core_alloc XB RB c).trans (bigSep_fupd _ _)).trans (BI.fupd_mono (regroup XB RB))

/-! ## The credit at the start -/

theorem sum_at (d c : Dev nD) (b j N : ℕ) (hb : b ≤ 21) (hj : j < 28) :
    (∑ s ∈ Finset.Ico 0 7, tallyAt (xcell (nxt d) (b + s)) () N : CellTallies nD τ sig Unit) (xcell c j) () = if d = prv c ∧ b ≤ j ∧ j < b + 7 then N else 0 := by
  rw [Finset.sum_apply, Finsupp.finset_sum_apply]
  by_cases h : d = prv c ∧ b ≤ j ∧ j < b + 7
  · obtain ⟨hd, h1, h2⟩ := h
    rw [if_pos ⟨hd, h1, h2⟩, Finset.sum_eq_single (j - b)]
    · rw [tallyAt_apply, if_pos ⟨by rw [hd, nxt_prv, Nat.add_sub_of_le h1], rfl⟩]
    · intro s hs hne
      rw [tallyAt_apply, if_neg]
      rintro ⟨he, -⟩
      have hs' := (Finset.mem_Ico.mp hs).2
      have := (xcell_eq hj (by omega) he).2
      omega
    · intro hn; exact absurd (Finset.mem_Ico.mpr ⟨Nat.zero_le _, by omega⟩) hn
  · rw [if_neg h]
    refine Finset.sum_eq_zero fun s hs => ?_
    rw [tallyAt_apply, if_neg]
    rintro ⟨he, -⟩
    have hs' := (Finset.mem_Ico.mp hs).2
    obtain ⟨hc, hj'⟩ := xcell_eq hj (by omega) he
    exact h ⟨by rw [hc, prv_nxt], by omega, by omega⟩

theorem owed_x (d c : Dev nD) {j : ℕ} (hj : (7 ≤ j ∧ j < 14) ∨ (21 ≤ j ∧ j < 28)) : O₀ d (xcell c j) () = if d = prv c then Nof j else 0 := by
  unfold O₀ O₁ owe
  rw [Pi.add_apply, Finsupp.add_apply, Pi.add_apply, Finsupp.add_apply, Pi.add_apply, Finsupp.add_apply, sum_at d c 7 j NA (by omega) (by omega), sum_at d c 21 j NR (by omega) (by omega),
    tallyAt_ne_cell bar_ne_x.symm, tallyAt_ne_cell bar_ne_x.symm, Finsupp.zero_apply, Nat.add_zero, Nat.add_zero]
  unfold Nof
  by_cases hd : d = prv c
  · rcases hj with ⟨h1, h2⟩ | ⟨h1, h2⟩
    · rw [if_pos ⟨hd, h1, by omega⟩, if_neg (by omega), if_pos hd, if_pos h2, Nat.add_zero]
    · rw [if_neg (by omega), if_pos ⟨hd, h1, by omega⟩, if_pos hd, if_neg (by omega), Nat.zero_add]
  · rw [if_neg (fun h => hd h.1), if_neg (fun h => hd h.1), if_neg hd]

theorem owe_bar (d c : Dev nD) : owe d 0 0 (barCell c) () = 0 := by
  refine Nat.eq_zero_of_not_pos fun h => ?_
  rcases owe_pos h with ⟨s, -, -, h⟩ | ⟨t, -, -, h⟩ <;> exact bar_ne_x h
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owe_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq h1).symm)), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_x (c : Dev nD) {j : ℕ} (hj : (7 ≤ j ∧ j < 14) ∨ (21 ≤ j ∧ j < 28)) :
    tallyOn (xcell c j) (launchCredit (Pipeline.owing O₀) 0 (xcell c j)) = (tallyAt (xcell c j) () (Nof j) : CellTallies nD τ sig Unit) := by
  unfold tallyAt; refine congrArg _ (Finsupp.ext fun u => ?_); cases u
  rw [Pipeline.launchCredit_owing, Finsupp.single_eq_same, Finset.sum_congr rfl fun d _ => owed_x d c hj, Finset.sum_ite_eq' Finset.univ (prv c) fun _ => Nof j,
    if_pos (Finset.mem_univ _)]

theorem xsem_injOn (n : ℕ) (hn : n ≤ 21) : Set.InjOn (fun s => (SemLoc.dma (xsem (n + s)) : SemLoc sig)) (Finset.Ico 0 7 : Finset ℕ) := by
  intro a ha b hb h
  have h1 := (Finset.mem_Ico.mp ha).2; have h2 := (Finset.mem_Ico.mp hb).2
  have := xsem_inj (by omega) (by omega) (dma_inj h); omega

theorem creds (c : Dev nD) :
    (Pipeline.launchCred O₀ c : sProp 𝕄) ⊢ iprop(cred (tallyAt (barCell c) () 2) ∗ (bigSep (Finset.Ico 0 7) fun s => cred (tallyAt (xcell c (7 + s)) () (Nof (7 + s))))
      ∗ (bigSep (Finset.Ico 0 7) fun s => cred (tallyAt (xcell c (21 + s)) () (Nof (21 + s))))) := by
  have h (n : ℕ) (hn : n = 7 ∨ n = 21) : (bigSep (Finset.Ico 0 7) fun s => (cred (tallyOn (xcell c (n + s)) (launchCredit (Pipeline.owing O₀) 0 (xcell c (n + s)))) : sProp 𝕄))
      = bigSep (Finset.Ico 0 7) fun s => cred (tallyAt (xcell c (n + s)) () (Nof (n + s))) :=
    bigSep_congr fun s hs => by rw [launch_x c (by have := (Finset.mem_Ico.mp hs).2; omega)]
  have hd : Disjoint ((Finset.Ico 0 7).image fun s => (SemLoc.dma (xsem (7 + s)) : SemLoc sig)) ((Finset.Ico 0 7).image fun s => (SemLoc.dma (xsem (21 + s)) : SemLoc sig)) := by
    rw [Finset.disjoint_left]
    intro x hx hx'
    obtain ⟨a, ha, rfl⟩ := Finset.mem_image.mp hx
    obtain ⟨b, hb, hab⟩ := Finset.mem_image.mp hx'
    have h1 := (Finset.mem_Ico.mp ha).2; have h2 := (Finset.mem_Ico.mp hb).2
    have := xsem_inj (by omega) (by omega) (dma_inj hab); omega
  unfold Pipeline.launchCred
  rw [bigSep_univ_at _ (SemLoc.reg barS), launch_bar, ← h 7 (.inl rfl), ← h 21 (.inr rfl),
    ← bigSep_image_of_injOn (xsem_injOn 7 (by omega)) (fun sm => (cred (tallyOn ((c : Thread nD τ), sm) (launchCredit (Pipeline.owing O₀) 0 ((c : Thread nD τ), sm))) : sProp 𝕄)),
    ← bigSep_image_of_injOn (xsem_injOn 21 (by omega)) (fun sm => (cred (tallyOn ((c : Thread nD τ), sm) (launchCredit (Pipeline.owing O₀) 0 ((c : Thread nD τ), sm))) : sProp 𝕄))]
  refine sep_mono_right ((bigSep_subset (t := ((Finset.Ico 0 7).image fun s => (SemLoc.dma (xsem (7 + s)) : SemLoc sig)) ∪ ((Finset.Ico 0 7).image fun s => (SemLoc.dma (xsem (21 + s)) : SemLoc sig))) fun x hx => ?_).trans
    (Entails.of_eq (bigSep_union hd)))
  refine Finset.mem_erase.mpr ⟨?_, Finset.mem_univ _⟩
  rcases Finset.mem_union.mp hx with hx | hx <;> obtain ⟨a, -, rfl⟩ := Finset.mem_image.mp hx <;> exact reg_ne_dma.symm

theorem hand_intro (c : Dev nD) : (iprop(linear c ∗ Pipeline.launchCred O₀ c) : sProp 𝕄) ⊢ iprop(handOf (F := F) c ∗ kvSems (F := F) c) := by
  have hc := creds (F := F) c
  unfold linear payToks handOf kitX kitR
  rw [groups c (fun g => (atPos ER g 0 ∅ 0 : sProp 𝕄))]
  simp only [bigSep_sep']
  iintro ⟨⟨⟨A, A0, A7, A14, A21⟩, ⟨TB, T0, T7, T14, T21, TP⟩, Hkv⟩, Hcr⟩
  ihave Hcr := hc $$ Hcr
  icases Hcr with ⟨CB, C7, C21⟩
  iframe A A0 A7 A14 A21 TB T0 T7 T14 T21 TP CB C7 C21 Hkv

/-! ## The staging waits -/

theorem O₀_pos {c : Dev nD} {g : GSem nD τ sig} {u : Unit} (h : 0 < O₀ c g u) :
    (∃ s, s < 7 ∧ g = xcell (nxt c) (7 + s)) ∨ (∃ t, t < 7 ∧ g = xcell (nxt c) (21 + t)) ∨ g = barCell (nxt c) ∨ g = barCell (prv c) := by
  by_cases h1 : 0 < owe c 0 0 g u
  · rcases owe_pos h1 with ⟨s, -, hs, hg⟩ | ⟨t, -, ht, hg⟩
    · exact .inl ⟨s, hs, hg⟩
    · exact .inr (.inl ⟨t, ht, hg⟩)
  · by_contra hn
    rw [not_or, not_or, not_or] at hn
    unfold O₀ O₁ at h
    rw [Pi.add_apply, Finsupp.add_apply, Pi.add_apply, Finsupp.add_apply, tallyAt_apply, tallyAt_apply, if_neg (fun h' => hn.2.2.1 h'.1), if_neg (fun h' => hn.2.2.2 h'.1)] at h
    exact h1 h

theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, _, rfl⟩ | ⟨s, _, rfl⟩ | rfl | rfl <;> exact Finset.mem_singleton_self _)
      (fun p hp => by
        rw [Finset.mem_singleton.mp hp]
        show (if 11 ≤ q.val ∧ q.val < 18 then 2 + 2 * (q.val - 11) else if 25 ≤ q.val ∧ q.val < 32 then 3 + 2 * (q.val - 25) else 0) ≤ 0
        rw [if_neg (by omega), if_neg (by omega)])
      (fun g u hg => by
        rcases O₀_pos hg with ⟨s, hs, rfl⟩ | ⟨s, hs, rfl⟩ | rfl | rfl
        · rw [lv_agR _ hs]; omega
        · rw [lv_rsR _ hs]; omega
        · exact Nat.one_pos
        · exact Nat.one_pos)
  · rw [MayWait_zero]; iintro -; iempintro

end Cert.RingAttn
-- ==== Proof.Run.lean ====
/-
# The run of all devices

From any memory with every counter at zero: every execution ends, each device's result is `outOf` of the devices' arrays, the arguments
hold what they held, and every counter is at zero again.
-/
module

public import proofs.«01_k».proof.Proof.Body
public import proofs.«01_k».proof.Proof.Fund
public import proofs.«01_k».proof.Proof.Gen.KernelIdeal.Launch
public import Idealize.ShloMosaic.Lib.Pipeline.Launch
public import Idealize.ShloMosaic.Lib.Pipeline.CollectiveSegs
public import Idealize.ShloMosaic.Lib.Pipeline.Kit

@[expose] public section

set_option maxRecDepth 8192

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device holds -/

def xsOf (c : Dev nD) : Vec F S1x256x1024 .f32 := (win0_0.blk (0 : Fin 1)).view.read (Elt F) (m ((c : Thread nD τ).loc main_arg0))
def wqsOf (c : Dev nD) : Vec F S1024x1024 .f32 := (win0_1.blk (0 : Fin 1)).view.read (Elt F) (m ((c : Thread nD τ).loc main_arg1))
def wosOf (c : Dev nD) : Vec F S1024x1024 .f32 := (win0_2.blk (0 : Fin 1)).view.read (Elt F) (m ((c : Thread nD τ).loc main_arg4))
def kssOf (c : Dev nD) : KaC F := m ((c : Thread nD τ).loc main_arg2)
def vssOf (c : Dev nD) : KaC F := m ((c : Thread nD τ).loc main_arg3)
/-- A device's result. -/
def resOf (c : Dev nD) : Vec F S1x256x1024 .f32 := outOf (xsOf m) (wqsOf m) (wosOf m) (kssOf m) (vssOf m) c

abbrev XBm : XgC F := XBs (xsOf m)
abbrev RBm : Dev nD → RbC F := RBs (xsOf m) (wqsOf m) (wosOf m) (kssOf m) (vssOf m)

/-- The two arrays read in place. -/
def kvArrs (c : Dev nD) : sProp 𝕄 := iprop((kaM.view.loc (c : Thread nD τ) ↦{fullShare} kssOf m c) ∗ (vaM.view.loc (c : Thread nD τ) ↦{fullShare} vssOf m c))
def start (c : Dev nD) : sProp 𝕄 :=
  iprop((∃ K, records (XBm m) (RBm m) K) ∗ levAts L lv ∗ handOf (F := F) c ∗ kvSems (F := F) c ∗ kvArrs m c)
def Φ₀ (c : Dev nD) : sProp 𝕄 := iprop(start m c ∗ scratchOf (F := F) c)
def Φ₁ (c : Dev nD) : sProp 𝕄 := iprop((semsOf (F := F) c ∗ kvSems (F := F) c) ∗ scratchOf (F := F) c ∗ kvArrs m c)

def dats (_ : Fin 1) (c : Dev nD) : Dat τ (Elt F) Unit ℕ UU ℕ cfg0 c where
  A w := m ((cfg0.win w).arr.view.loc (c : Thread nD τ))
  after w _ := match w with
    | ⟨0, _⟩ => xsOf m c
    | ⟨1, _⟩ => wqsOf m c
    | ⟨2, _⟩ => wosOf m c
    | ⟨3, _⟩ => resOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

def t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body, as the launch asks for it -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d)) ∗ (∃ d, stg c cc0_stg1_0 ((dats m 0 c).before (1 : Fin 4) t₀ d))
    ∗ (∃ d, stg c cc0_stg2_0 ((dats m 0 c).before (2 : Fin 4) t₀ d)) ∗ (∃ d, stg c cc0_stg3_0 ((dats m 0 c).before (3 : Fin 4) t₀ d)))
def bodyPost (c : Dev nD) : sProp 𝕄 :=
  iprop(Φ₁ m c ∗ (dats m 0 c).owesAt () t₀.succ ∗ stg c cc0_stg0_0 (xsOf m c) ∗ stg c cc0_stg1_0 (wqsOf m c) ∗ stg c cc0_stg2_0 (wosOf m c) ∗ stg c cc0_stg3_0 (resOf m c))

theorem fetch_in (w : Fin 4) (hw : w.val < 3) : (cfg0.win w).fetch t₀ = true := by fin_cases w <;> first | rfl | exact absurd hw (by decide)
theorem before_0 (c : Dev nD) (d) : (dats m 0 c).before (0 : Fin 4) t₀ d = xsOf m c := by
  unfold Dat.before; rw [if_pos (fetch_in 0 (by decide))]; rfl
theorem before_1 (c : Dev nD) (d) : (dats m 0 c).before (1 : Fin 4) t₀ d = wqsOf m c := by
  unfold Dat.before; rw [if_pos (fetch_in 1 (by decide))]; rfl
theorem before_2 (c : Dev nD) (d) : (dats m 0 c).before (2 : Fin 4) t₀ d = wosOf m c := by
  unfold Dat.before; rw [if_pos (fetch_in 2 (by decide))]; rfl

theorem body_run (c : Dev nD) : bodyPre m c
    ⊢ wp frame (wpE (defs₀ (F := F)) 𝒱₀ (c : Thread nD τ) none) Set.univ
          (cc0_body xM (Memref.isWhole_whole _) wqM (Memref.isWhole_whole _) kaM (Memref.isWhole_whole _) vaM (Memref.isWhole_whole _)
            woM (Memref.isWhole_whole _) outM (Memref.isWhole_whole _) xgM (Memref.isWhole_whole _) accM (Memref.isWhole_whole _)
            kbM (Memref.isWhole_whole _) vbM (Memref.isWhole_whole _) krM (Memref.isWhole_whole _) vrM (Memref.isWhole_whole _) quM (Memref.isWhole_whole _) ctM (Memref.isWhole_whole _)
            sbM (Memref.isWhole_whole _) rbM (Memref.isWhole_whole _) cc0_scratch10 cc0_scratch11 cc0_scratch12 cc0_scratch13 cc0_scratch14) (fun _ => bodyPost m c) := by
  unfold bodyPre Φ₀ start kvArrs Dat.owesAt Pipeline.owesWithin
  simp only [before_0, before_1, before_2]
  rw [show (dats m 0 c).owed t₀.castSucc = O₀ c from rfl]
  iintro ⟨⟨⟨⟨%K, #HR⟩, #HL, Hhand, Hkv, Hka, Hva⟩, Hscr⟩, ⟨%W, -, HO⟩, ⟨%d0, %f0, %h0, Hx⟩, ⟨%d1, %f1, %h1, Hwq⟩, ⟨%d2, %f2, %h2, Hwo⟩, ⟨%d3, %f3, -, Hout⟩⟩
  subst h0; subst h1; subst h2
  iapply (sound_body (xsOf m) (wqsOf m) (wosOf m) (kssOf m) (vssOf m) K c fun _ => bodyPost m c)
  isplitl [Hhand Hkv Hka Hva Hscr HO Hx Hwq Hwo Hout]
  · isplitr
    · isplitr; · iexact HR
      iexact HL
    isplitl [Hhand]; · iexact Hhand
    isplitl [Hkv]; · iexact Hkv
    isplitl [Hscr]; · iexact Hscr
    isplitl [Hx Hwq Hwo Hka Hva]
    · unfold inputsOf
      isplitl [Hx]; · iexact Hx
      isplitl [Hwq]; · iexact Hwq
      isplitl [Hwo]; · iexact Hwo
      isplitl [Hka]; · iexact Hka
      iexact Hva
    isplitl [HO]; · unfold owing; iexists W; iexact HO
    iexists f3; iexact Hout
  unfold inputsOf owing
  iintro ⟨Hs, Hkv, Hscr, ⟨Hx, Hwq, Hwo, Hka, Hva⟩, ⟨%W', HO⟩, Hout⟩
  unfold bodyPost Φ₁ kvArrs Dat.owesAt Pipeline.owesWithin
  rw [show (dats m 0 c).owed t₀.succ = 0 from rfl]
  isplitl [Hs Hkv Hscr Hka Hva]
  · isplitl [Hs Hkv]
    · isplitl [Hs]; · iexact Hs
      iexact Hkv
    isplitl [Hscr]; · iexact Hscr
    isplitl [Hka]; · iexact Hka
    iexact Hva
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

theorem body_obligation (c : Dev nD) : BodyObligation (dats (F := F) m 0 c) (defs₀ (F := F)) 𝒱₀ () Set.univ := fun t => by
  rw [show t = t₀ from fin_N0 t]
  rw [bigSep_W0, bigSep_W0]
  simp only [owns_whole_eq]
  exact body_run m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (XBm m) (RBm m) c)
      ⊢ |={Set.univ}=> iprop(start m c ∗ emp) := by
  have hh := hand_intro (F := F) c
  rw [Pipeline.unscopedRestP_none, unscopedRest0_eq]
  unfold G'
  iintro ⟨⟨Hka, Hva⟩, Hlev, Hcr, -, ⟨%K, #HR, Hlin⟩⟩
  ihave Hh := hh $$ [Hlin Hcr]
  · isplitl [Hlin] <;> iassumption
  icases Hh with ⟨Hh, Hkv⟩
  imodintro
  unfold start kvArrs
  isplitl
  · isplitr; · iexists K; iexact HR
    isplitl [Hlev]; · iexact Hlev
    isplitl [Hh]; · iexact Hh
    isplitl [Hkv]; · iexact Hkv
    isplitl [Hka]; · iexact Hka
    iexact Hva
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchOf
  iintro ⟨Hs, -, Hr⟩
  isplitl [Hs]; · iexact Hs
  iexact Hr

/-- What is left beside the staged arrays: the counters no launch resets, and the arrays read in place. -/
def leftY (c : Dev nD) : sProp 𝕄 := iprop(unscopedSems0 c ∗ kvArrs m c)

theorem phi1_exit (c : Dev nD) :
    (dats m 0 c).Φ (Fin.last cfg0.N) ⊢ iprop(leftY m c ∗ Pipeline.ownSems0 osem c ∗ Pipeline.scopedRest cfg0.spec c) := by
  have hs := sems_out (F := F) c
  rw [show (dats m 0 c).Φ (Fin.last cfg0.N) = Φ₁ m c from rfl, scopedRest0_eq]
  unfold Φ₁ leftY scratchOf
  iintro ⟨Hs, Hr, Hkv⟩
  ihave Hs := hs $$ Hs
  icases Hs with ⟨Ho, Hu⟩
  isplitl [Hu Hkv]
  · isplitl [Hu] <;> iassumption
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem read_left (c : Dev nD) (s' : Phys nD τ sig (Elt F)) : iprop(leftY m c ∗ emp ∗ SI s')
    ⊢ (|={Set.univ}=> iprop(⌜(∀ sm : SemLoc sig, sm.isScoped .tc = false → s'.mem.sem ((c.tc : Thread nD τ), sm) = 0)
        ∧ s'.mem.mem ((c : Thread nD τ).loc main_arg2) = m ((c : Thread nD τ).loc main_arg2) ∧ s'.mem.mem ((c : Thread nD τ).loc main_arg3) = m ((c : Thread nD τ).loc main_arg3)⌝ ∗ SI s') : sProp 𝕄) := by
  have hk := pointsTo_read_all (Ix := Unit) (Name := ℕ) (U := UU) (Lvl := ℕ) (Finset.univ : Finset (Fin 2))
    (fun i => (c : Thread nD τ).loc (if i = 0 then main_arg2 else main_arg3)) (fun i => m ((c : Thread nD τ).loc (if i = 0 then main_arg2 else main_arg3))) s'
  rw [bigSep_univ_eq_bigSepL [0, 1] (by decide) (by decide), bigSepL_cons_cons, bigSepL_singleton] at hk
  have hk' : iprop((((c : Thread nD τ).loc main_arg2 ↦{fullShare} m ((c : Thread nD τ).loc main_arg2)) ∗ ((c : Thread nD τ).loc main_arg3 ↦{fullShare} m ((c : Thread nD τ).loc main_arg3))) ∗ SI s') ⊢ _ := hk
  have hu := Pipeline.unscopedSems0_read (X := (unscopedSems0 c : sProp 𝕄)) (c := c) fupd_intro s'
  unfold leftY kvArrs
  iintro ⟨⟨Hu, Hka, Hva⟩, -, HSI⟩
  ihave H := hk' $$ [Hka Hva HSI]
  · isplitr [HSI]
    · isplitl [Hka]; · iexact Hka
      iexact Hva
    iexact HSI
  icases H with ⟨%h, HSI⟩
  imod hu $$ [Hu HSI] with ⟨%h', HSI⟩
  · isplitl [Hu] <;> iassumption
  imodintro
  isplitr
  · ipureintro
    exact ⟨h', h 0 (Finset.mem_univ _), h 1 (Finset.mem_univ _)⟩
  iexact HSI

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3)

theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (XBm m) (RBm m)) (G' := G' (XBm m) (RBm m)) (u₀ := u₀)
    (hu₀ := by
      unfold u₀
      iintro Hu
      ihave H := (ownU_split _ _) $$ Hu
      icases H with ⟨HP, HX⟩
      imod (fund_ring (XBm m) (RBm m)) $$ HX with HG
      imodintro
      isplitl [HP] <;> iassumption)
    (hglob := glob (XBm m) (RBm m))
    (hA := fun _ _ => rfl) (hpf := fun _ k => k.elim0)
    (X := start m) (Y := leftY m) (Z := fun _ => iprop(emp))
    (hX := start_intro m ρ) (hin := phi0_intro m) (hout := phi1_exit m)
    (QY := fun c s => (∀ sm : SemLoc sig, sm.isScoped .tc = false → s.sem ((c.tc : Thread nD τ), sm) = 0)
        ∧ s.mem ((c : Thread nD τ).loc main_arg2) = m ((c : Thread nD τ).loc main_arg2) ∧ s.mem ((c : Thread nD τ).loc main_arg3) = m ((c : Thread nD τ).loc main_arg3))
    (hY := read_left m)
    (hQ := fun _ h hs => ⟨fun c => ⟨(h c).1, (h c).2.2.2⟩, sem_eq_zero hs fun c => (h c).2.2.1⟩)

/-- An array a window brings in holds what it held. -/
theorem finalA_in (c : Dev nD) (w : Fin cfg0.W) (hw : (cfg0.win w).isOut = false) : finalA m c w = m ((cfg0.win w).arr.view.loc (c : Thread nD τ)) :=
  (dats (F := F) m 0 c).arrAt_in w hw _

theorem QC_args {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).1 (0 : Fin 4)).trans (finalA_in m c (0 : Fin 4) rfl), ((h c).1 (1 : Fin 4)).trans (finalA_in m c (1 : Fin 4) rfl), (h c).2.1, (h c).2.2,
    ((h c).1 (2 : Fin 4)).trans (finalA_in m c (2 : Fin 4) rfl)⟩

end Cert.RingAttn

end

end
-- ==== Proof.Pre.lean ====
/-
# What the precondition says

`jnp.all(jnp.abs(x) < jnp.inf)` is one exactly when every element is a real.
-/
module

public import proofs.«01_k».proof.Defs
public import Idealize.ShloMosaic.Lib.ReduceAll
public import Idealize.ShloMosaic.Lib.Pointwise

@[expose] public section

noncomputable section

namespace Cert.RingAttn

open Idealize.ShloMosaic Idealize.ShloMosaic.Tactic

theorem preK_facts : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x64x128 := by decide
  reducesTo_S1x4096x64x128_S_d0_1_2_3 := by decide

theorem preR_facts : Cert.Pre_finite_ReferenceIdeal.Facts where
  bcast_S_S1x2048x1024 := by decide
  reducesTo_S1x2048x1024_S_d0_1_2 := by decide
  h_S_ := by decide
  bcast_S_S1024x8192 := by decide
  reducesTo_S1024x8192_S_d0_1 := by decide
  bcast_S_S1x4096x64x128 := by decide
  reducesTo_S1x4096x64x128_S_d0_1_2_3 := by decide

/-- An extended real of magnitude below the infinite one is a real. -/
theorem real_of_abs_lt (x : EReal) (h : max x (-x) < ⊤) : ∃ r : ℝ, x = (r : EReal) := by
  induction x with
  | bot => exact absurd h (by simp)
  | coe r => exact ⟨r, rfl⟩
  | top => exact absurd h (by simp)

theorem ofBits_inf : Ideal.ofBits .f32 0x7F800000#32 = ⊤ := by simp [Ideal.ofBits, Ideal.ieee]

/-- One argument's part of the precondition. -/
theorem real_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (⟨0, ![]⟩ : Shape) .f32 0x7F800000#32))) (constantI (⟨0, ![]⟩ : Shape) 1 1#1) hr hu j = 1#1)
    (i : s.Idx) : ∃ r : ℝ, x i = (r : EReal) := by
  have h1 := Host.reduce_andi_all _ _ _ _ j h i
  refine real_of_abs_lt _ ?_
  have h2 : Ideal.cmp .olt (max (x i) (-(x i))) (Ideal.ofBits .f32 0x7F800000#32) = 1#1 := h1
  rw [ofBits_inf] at h2
  by_contra hn
  simp [Ideal.cmp, hn] at h2

theorem andi_ones (a b : IVec (⟨0, ![]⟩ : Shape) 1) (j) (h : andi a b j = 1#1) : a j = 1#1 ∧ b j = 1#1 := IntOp.andi_eq_one.1 h

open Cert.Pre_finite_KernelIdeal in
/-- The precondition on a device: its parts of the tokens, of the query weights and of the keys are reals. -/
theorem reals_of_pre [Cert.Pre_finite_KernelIdeal.Facts] (x : FVec Ideal S1x256x1024 .f32) (wq : FVec Ideal S1024x1024 .f32)
    (k v : FVec Ideal S1x4096x64x128 .f32) (wo : FVec Ideal S1024x1024 .f32) (h : fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have h0 := congrFun h (fun a => a.elim0)
  unfold fn at h0
  obtain ⟨h12, h3⟩ := andi_ones _ _ _ h0
  obtain ⟨h1, h2⟩ := andi_ones _ _ _ h12
  exact ⟨fun i => real_of_all x _ _ _ _ h1 i, fun i => real_of_all wq _ _ _ _ h2 i, fun i => real_of_all k _ _ _ _ h3 i⟩

end Cert.RingAttn

end

end
-- ==== Proof.Result.lean ====
/-
# The run's result

The result's one block is the whole array, so the array ends holding what the body leaves in its stage; and the blocks brought
in are the whole arrays.
-/
module

public import proofs.«01_k».proof.Proof.Run

@[expose] public section

set_option maxRecDepth 8192
set_option maxHeartbeats 1000000

noncomputable section

namespace Cert.RingAttn

open Cert.KernelIdeal Cert.KernelIdeal.Gen

open Idealize.ShloMosaic Idealize.ShloMosaic.TcCoe
open Idealize.ShloMosaic.Pipeline (Dat Cfg Window BodyObligation cellOf)

variable {F : FTy → Type} [FloatOps F]
variable (m : (ℓ : Loc nD τ sig) → Buf (Elt F) ℓ)

theorem xsOf_eq (c : Dev nD) : xsOf m c = m ((c : Thread nD τ).loc main_arg0) :=
  have hz : (fun a => win0_0.index t0_0 a * main_arg0.ty.shape.size a) = fun _ => 0 := funext fun a => by fin_cases a <;> decide
  Memref.read_access_unit_zero (Elt F) main_arg0 hz (fun a => by rw [congrFun hz a]; simp) _
theorem wqsOf_eq (c : Dev nD) : wqsOf m c = m ((c : Thread nD τ).loc main_arg1) :=
  have hz : (fun a => win0_1.index t0_0 a * main_arg1.ty.shape.size a) = fun _ => 0 := funext fun a => by fin_cases a <;> decide
  Memref.read_access_unit_zero (Elt F) main_arg1 hz (fun a => by rw [congrFun hz a]; simp) _
theorem wosOf_eq (c : Dev nD) : wosOf m c = m ((c : Thread nD τ).loc main_arg4) :=
  have hz : (fun a => win0_2.index t0_0 a * main_arg4.ty.shape.size a) = fun _ => 0 := funext fun a => by fin_cases a <;> decide
  Memref.read_access_unit_zero (Elt F) main_arg4 hz (fun a => by rw [congrFun hz a]; simp) _

theorem flushed_eq (c : Dev nD) (t : Fin cfg0.N) (hf : (cfg0.win 3).flush t = true) :
    (dats m 0 c).flushed 3 t = ((cfg0.win 3).blk t).view.read (Elt F) (resOf m c) := by
  obtain rfl := fin_N0 t
  have hz : (fun a => win0_3.index t0_0 a * main_v1.ty.shape.size a) = fun _ => 0 := funext fun a => by fin_cases a <;> decide
  show (cfg0.win 3).cut (grid0.coords t0_0) ((dats m 0 c).after 3 t0_0) = _
  exact (Memref.read_access_unit_zero (Elt F) main_v1 hz (fun a => by rw [congrFun hz a]; simp) (resOf m c)).symm

theorem mem_out (i : S1x256x1024.Idx) : i ∈ ((cfg0.win 3).blk t0_0).view.set := by
  show i ∈ ((View.whole main_v1).slice (win0_3.rect t0_0)).set
  rw [View.set_slice_whole, Rect.mem_set_unit]
  intro a
  have h0 : (i 0 : Nat) < 1 := (i 0).isLt
  have h1 : (i 1 : Nat) < 256 := (i 1).isLt
  have h2 : (i 2 : Nat) < 1024 := (i 2).isLt
  match a with
  | ⟨0, _⟩ => show win0_3.index t0_0 0 * win0_3.size 0 ≤ (i 0 : Nat) ∧ (i 0 : Nat) < win0_3.index t0_0 0 * win0_3.size 0 + win0_3.xsize (grid0.coords t0_0) 0
              rw [show win0_3.index t0_0 0 * win0_3.size 0 = 0 from by decide +kernel, show win0_3.xsize (grid0.coords t0_0) 0 = 1 from by decide +kernel]; omega
  | ⟨1, _⟩ => show win0_3.index t0_0 1 * win0_3.size 1 ≤ (i 1 : Nat) ∧ (i 1 : Nat) < win0_3.index t0_0 1 * win0_3.size 1 + win0_3.xsize (grid0.coords t0_0) 1
              rw [show win0_3.index t0_0 1 * win0_3.size 1 = 0 from by decide +kernel, show win0_3.xsize (grid0.coords t0_0) 1 = 256 from by decide +kernel]; omega
  | ⟨2, _⟩ => show win0_3.index t0_0 2 * win0_3.size 2 ≤ (i 2 : Nat) ∧ (i 2 : Nat) < win0_3.index t0_0 2 * win0_3.size 2 + win0_3.xsize (grid0.coords t0_0) 2
              rw [show win0_3.index t0_0 2 * win0_3.size 2 = 0 from by decide +kernel, show win0_3.xsize (grid0.coords t0_0) 2 = 1024 from by decide +kernel]; omega

/-- The result array ends holding the device's result. -/
theorem finalA_out (c : Dev nD) : finalA m c (3 : Fin 4) = resOf m c :=
  (dats m 0 c).arrAt_eq_of_cover 3 (resOf m c) (flushed_eq m c) fun i => ⟨t0_0, by decide, mem_out i⟩

end Cert.RingAttn

end

end
-- ==== Proof.Soft.lean ====
/-
# Sums of exponentials over the extended reals

The row's weights with and without its greatest score subtracted, and the sum over the columns that the mask keeps, cut
into the three groups that the kernel reads.
-/
module

public import Idealize.ShloMosaic.PureOps.Ideal
public import Mathlib.Data.EReal.Operations
public import Mathlib.Algebra.BigOperators.Fin

@[expose] public section

set_option maxRecDepth 8192
set_option maxHeartbeats 4000000

noncomputable section

namespace Cert.RingAttn

open Idealize.ShloMosaic

/-- A finite sum of reals is a real. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A real factor that is not negative goes through a finite sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h, ← ih]
    exact EReal.right_distrib_of_nonneg_of_ne_top (by exact_mod_cast hc) (EReal.coe_ne_top c) _ _

/-- The weight of a column: its exponential where the mask keeps it, else nothing. -/
def wt (keep : Prop) [Decidable keep] (s : ℝ) : ℝ := if keep then Real.exp s else 0

theorem wt_nonneg (keep : Prop) [Decidable keep] (s : ℝ) : 0 ≤ wt keep s := by
  unfold wt; split_ifs
  · exact (Real.exp_pos s).le
  · exact le_refl 0

/-- The row's result: the weighted sum over the weights' sum. -/
def rowVal {ι : Type} [Fintype ι] (keep : ι → Prop) [DecidablePred keep] (s : ι → ℝ) (v : ι → EReal) : EReal :=
  (∑ j, ((wt (keep j) (s j) : ℝ) : EReal) * v j) * ((1 / ∑ j, wt (keep j) (s j) : ℝ) : EReal)

theorem wsum_pos {ι : Type} [Fintype ι] (keep : ι → Prop) [DecidablePred keep] (s : ι → ℝ) (j₀ : ι) (h : keep j₀) :
    0 < ∑ j, wt (keep j) (s j) :=
  Finset.sum_pos' (fun j _ => wt_nonneg _ _) ⟨j₀, Finset.mem_univ _, by unfold wt; rw [if_pos h]; exact Real.exp_pos _⟩

/-- With a real number subtracted from every score before the exponential, the masked ones at minus infinity, the weights
come to the same. -/
theorem softmax_row {ι : Type} [Fintype ι] (keep : ι → Prop) [DecidablePred keep] (s : ι → ℝ) (v : ι → EReal) (M : ℝ) (j₀ : ι) (h : keep j₀) :
    (∑ j, v j * Ideal.div (Ideal.exp ((if keep j then (s j : EReal) else ⊥) - (M : EReal)))
      (∑ k, Ideal.exp ((if keep k then (s k : EReal) else ⊥) - (M : EReal)))) = rowVal keep s v := by
  have he : ∀ j, Ideal.exp ((if keep j then (s j : EReal) else ⊥) - (M : EReal)) = ((wt (keep j) (s j) * Real.exp (-M) : ℝ) : EReal) := by
    intro j
    unfold wt
    by_cases hj : keep j
    · rw [if_pos hj, if_pos hj, ← EReal.coe_sub, ← Real.exp_add, ← sub_eq_add_neg]; rfl
    · rw [if_neg hj, if_neg hj, zero_mul, EReal.bot_sub]; rfl
  have hp := wsum_pos keep s j₀ h
  have hpos : (∑ j, wt (keep j) (s j) * Real.exp (-M)) ≠ 0 := by
    rw [← Finset.sum_mul]; exact mul_ne_zero hp.ne' (Real.exp_pos _).ne'
  simp only [he]
  rw [sum_coe]
  simp only [Ideal.div_coe hpos]
  unfold rowVal
  rw [sum_mul_real _ _ _ (one_div_nonneg.2 hp.le)]
  refine Finset.sum_congr rfl fun j _ => ?_
  have hr : wt (keep j) (s j) * Real.exp (-M) * (1 / ∑ k, wt (keep k) (s k) * Real.exp (-M)) = wt (keep j) (s j) * (1 / ∑ k, wt (keep k) (s k)) := by
    rw [← Finset.sum_mul]
    have := (Real.exp_pos (-M)).ne'
    field_simp
  rw [mul_comm (v j), mul_right_comm ((wt (keep j) (s j) : ℝ) : EReal), ← EReal.coe_mul, ← EReal.coe_mul, hr]

/-- Row block `qb` keeps column `j`. -/
def kept (qb : ℕ) (j : ℕ) : Prop := qb = j / 64 ∨ j / 64 = 0 ∨ (qb + j / 64) % 3 = 0

instance (qb j : ℕ) : Decidable (kept qb j) := by unfold kept; infer_instance

section Columns

variable {M : Type} [AddCommMonoid M]

/-- The columns of a block class: the blocks `3 i + g`, in order. -/
theorem sum_class (Φ : ℕ → M) (h0 : ∀ n, 64 ≤ n → Φ n = 0) (g : ℕ) (hg : g < 3) :
    (∑ b : Fin 64, if b.val % 3 = g then Φ b.val else 0) = ∑ i : Fin 22, Φ (3 * i.val + g) := by
  rw [Fin.sum_univ_eq_sum_range (fun n => if n % 3 = g then Φ n else 0) 64, Fin.sum_univ_eq_sum_range (fun n => Φ (3 * n + g)) 22]
  have h64 := h0 64 (by omega)
  have h65 := h0 65 (by omega)
  have : g = 0 ∨ g = 1 ∨ g = 2 := by omega
  rcases this with rfl | rfl | rfl <;> simp [Finset.sum_range_succ, h64, h65]

/-- What the mask keeps of the blocks, in the kernel's three groups. -/
theorem sum_kept (Φ : ℕ → M) (h0 : ∀ n, 64 ≤ n → Φ n = 0) (qb : ℕ) (hq : qb < 64) :
    (∑ b : Fin 64, if qb = b.val ∨ b.val = 0 ∨ (qb + b.val) % 3 = 0 then Φ b.val else 0)
      = (∑ i : Fin 22, Φ (3 * i.val + (2 * qb) % 3)) + if qb % 3 = 0 then 0 else (Φ 0 + Φ qb) := by
  rw [← sum_class Φ h0 _ (by omega)]
  by_cases hr : qb % 3 = 0
  · rw [if_pos hr, add_zero]
    refine Finset.sum_congr rfl fun b _ => ?_
    refine if_congr ?_ rfl rfl
    omega
  · rw [if_neg hr]
    have e0 : (∑ b : Fin 64, if b.val = 0 then Φ b.val else 0) = Φ 0 := by
      rw [Finset.sum_eq_single (0 : Fin 64)]
      · rfl
      · intro b _ hb; rw [if_neg]; intro h; exact hb (Fin.ext h)
      · intro h; exact absurd (Finset.mem_univ _) h
    have eq : (∑ b : Fin 64, if b.val = qb then Φ b.val else 0) = Φ qb := by
      rw [Finset.sum_eq_single (⟨qb, hq⟩ : Fin 64)]
      · exact if_pos rfl
      · intro b _ hb; rw [if_neg]; intro h; exact hb (Fin.ext h)
      · intro h; exact absurd (Finset.mem_univ _) h
    rw [← e0]
    conv_rhs => rw [← eq]
    rw [← Finset.sum_add_distrib, ← Finset.sum_add_distrib]
    refine Finset.sum_congr rfl fun b _ => ?_
    have hb := b.isLt
    by_cases h1 : b.val % 3 = 2 * qb % 3
    · rw [if_pos (by omega), if_pos h1, if_neg (by omega), if_neg (by omega)]; simp
    · by_cases h2 : b.val = 0
      · rw [if_pos (by omega), if_neg h1, if_pos h2, if_neg (by omega)]; simp
      · by_cases h3 : b.val = qb
        · rw [if_pos (by omega), if_neg h1, if_neg h2, if_pos h3]; simp
        · rw [if_neg (by omega), if_neg h1, if_neg h2, if_neg h3]; simp

/-- A sum over the columns by blocks of 64. -/
theorem sum_blocks (n : ℕ) (f : ℕ → M) : (∑ j : Fin (n * 64), f j.val) = ∑ b : Fin n, ∑ y : Fin 64, f (64 * b.val + y.val) := by
  rw [← Fintype.sum_prod_type', ← finProdFinEquiv.sum_comp]
  refine Finset.sum_congr rfl fun p _ => ?_
  congr 1
  simp [finProdFinEquiv]; omega

/-- The columns that the mask keeps, in the kernel's three groups: the 1408 of the row's class, then the first block and the
row's own, when they are not of that class. -/
theorem sum_kept_columns (f : ℕ → M) (h0 : ∀ n, 4096 ≤ n → f n = 0) (qb : ℕ) (hq : qb < 64) :
    (∑ j : Fin 4096, if qb = j.val / 64 ∨ j.val / 64 = 0 ∨ (qb + j.val / 64) % 3 = 0 then f j.val else 0)
      = (∑ x : Fin 1408, f (64 * (3 * (x.val / 64) + (2 * qb) % 3) + x.val % 64))
        + if qb % 3 = 0 then 0 else ((∑ y : Fin 64, f y.val) + ∑ y : Fin 64, f (64 * qb + y.val)) := by
  have h := sum_kept (fun b => ∑ y : Fin 64, f (64 * b + y.val)) (fun n hn => Finset.sum_eq_zero fun y _ => h0 _ (by omega)) qb hq
  have hl := sum_blocks 64 (fun j => if qb = j / 64 ∨ j / 64 = 0 ∨ (qb + j / 64) % 3 = 0 then f j else 0)
  have hr := sum_blocks 22 (fun x => f (64 * (3 * (x / 64) + (2 * qb) % 3) + x % 64))
  refine hl.trans ?_
  refine Eq.trans ?_ (h.trans ?_)
  · refine Finset.sum_congr rfl fun b _ => ?_
    have hd : ∀ y : Fin 64, (64 * b.val + y.val) / 64 = b.val := fun y => by omega
    simp only [hd]
    split_ifs
    · rfl
    · exact Finset.sum_const_zero
  · refine congrArg₂ (· + ·) (Eq.trans ?_ hr.symm) ?_
    · refine Finset.sum_congr rfl fun i _ => Finset.sum_congr rfl fun y _ => ?_
      rw [show (64 * i.val + y.val) / 64 = i.val by omega, show (64 * i.val + y.val) % 64 = y.val by omega]
    · simp

end Columns

end Cert.RingAttn

end

end
-- ==== Proof.Val.lean ====
/-
# The result at exact values
-/
module

public import proofs.«01_k».proof.Proof.Ops
public import proofs.«01_k».proof.Proof.Soft
public import Idealize.ShloMosaic.Lib.Pointwise

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic

abbrev sc : EReal := Ideal.ofBits .f32 0x3DB504F3#32

theorem pay26_apply (q : Vec Ideal S64x128 .bf16) (km : Vec Ideal S1x1x1408x128 .bf16) (i : Fin 64) (j : Fin 1408) :
    k0_pay26 q km (ix2 i j) = Ideal.exp ((∑ d : Fin 128, q (ix2 i d) * km (ix4 0 0 j d)) * sc) := by
  pointwise [k0_pay26]

theorem select_eq_zero {α : Type} (r : BitVec 32) (a b : α) : Scalar.select (Scalar.cmpi .eq r 0#32) a b = if r = 0#32 then a else b := by
  by_cases h : r = 0#32
  · subst h; rfl
  · rw [if_neg h]
    have e : (r == 0#32) = false := beq_false_of_ne h
    have : Scalar.cmpi .eq r 0#32 = 0#1 := by change BitVec.ofBool (r == 0#32) = 0#1; rw [e]; rfl
    rw [this]; rfl

theorem pay27_lo (r : BitVec 32) (q : Vec Ideal S64x128 .bf16) (k0 kd : Vec Ideal S1x1x64x128 .bf16) (i x : Fin 64) :
    k0_pay27 r q k0 kd (ix2 i ⟨x.val, by omega⟩) = if r = 0#32 then 0 else Ideal.exp ((∑ d : Fin 128, q (ix2 i d) * k0 (ix4 0 0 x d)) * sc) := by
  pointwise [k0_pay27]
  rw [select_eq_zero]

theorem pay27_hi (r : BitVec 32) (q : Vec Ideal S64x128 .bf16) (k0 kd : Vec Ideal S1x1x64x128 .bf16) (i x : Fin 64) :
    k0_pay27 r q k0 kd (ix2 i ⟨64 + x.val, by omega⟩) = if r = 0#32 then 0 else Ideal.exp ((∑ d : Fin 128, q (ix2 i d) * kd (ix4 0 0 x d)) * sc) := by
  pointwise [k0_pay27]
  rw [select_eq_zero]

theorem pay28_apply (r g : BitVec 32) (q : Vec Ideal S64x128 .bf16) (km : Vec Ideal S1x1x1408x128 .bf16) (k0 kd : Vec Ideal S1x1x64x128 .bf16) (i : Fin 64) :
    k0_pay28 r g q km k0 kd (ix2 i 0) = (∑ j : Fin 1408, k0_pay26 q km (ix2 i j)) + (∑ j : Fin 128, k0_pay27 r q k0 kd (ix2 i j)) - (if g = 0#32 then 0 else Ideal.ofBits .f32 1115684864#32) := by
  pointwise [k0_pay28]
  rw [select_eq_zero]

theorem pay29_apply (a : FVec Ideal S64x1408 .f32) (b : FVec Ideal S64x128 .f32) (w : FVec Ideal S64x1 .f32) (vm : Vec Ideal S1x1x1408x128 .bf16) (v0 vd : Vec Ideal S1x1x64x128 .bf16) (i : Fin 64) (d : Fin 128) :
    k0_pay29 a b w vm v0 vd (ix2 i d) = Ideal.div ((∑ x : Fin 1408, a (ix2 i x) * vm (ix4 0 0 x d))
      + ((∑ x : Fin 64, b (ix2 i ⟨x.val, by omega⟩) * v0 (ix4 0 0 x d)) + ∑ x : Fin 64, b (ix2 i ⟨64 + x.val, by omega⟩) * vd (ix4 0 0 x d))) (w (ix2 i 0)) := by
  pointwise [k0_pay29]

/-- A sum over 128 in two halves. -/
theorem sum_halves (f : Fin 128 → EReal) : (∑ j, f j) = (∑ x : Fin 64, f ⟨x.val, by omega⟩) + ∑ x : Fin 64, f ⟨64 + x.val, by omega⟩ :=
  Fin.sum_univ_add (a := 64) (b := 64) f

theorem ofBits_64 : Ideal.ofBits .f32 1115684864#32 = ((64 : ℝ) : EReal) := by
  simp [Ideal.ofBits, Ideal.ieee, -EReal.coe_mul]; norm_num

theorem sc_real : ∃ a : ℝ, sc = (a : EReal) := by
  unfold sc Ideal.ofBits Ideal.ieee
  simp [-EReal.coe_mul]

/-- One block of rows, when every score is a real. -/
theorem blkVal_real (r g : BitVec 32) (q : Vec Ideal S64x128 .bf16) (km : Vec Ideal S1x1x1408x128 .bf16) (k0 kd : Vec Ideal S1x1x64x128 .bf16)
    (vm : Vec Ideal S1x1x1408x128 .bf16) (v0 vd : Vec Ideal S1x1x64x128 .bf16) (i : Fin 64) (d : Fin 128)
    (sM : Fin 1408 → ℝ) (s0 sd : Fin 64 → ℝ)
    (hM : ∀ x, (∑ e : Fin 128, q (ix2 i e) * km (ix4 0 0 x e)) * sc = (sM x : EReal))
    (h0 : ∀ x, (∑ e : Fin 128, q (ix2 i e) * k0 (ix4 0 0 x e)) * sc = (s0 x : EReal))
    (hd : ∀ x, (∑ e : Fin 128, q (ix2 i e) * kd (ix4 0 0 x e)) * sc = (sd x : EReal)) :
    blkVal r g q km k0 kd vm v0 vd (ix2 i d) = Ideal.div
      ((∑ x, ((Real.exp (sM x) : ℝ) : EReal) * vm (ix4 0 0 x d))
        + (if r = 0#32 then 0 else ((∑ x, ((Real.exp (s0 x) : ℝ) : EReal) * v0 (ix4 0 0 x d)) + ∑ x, ((Real.exp (sd x) : ℝ) : EReal) * vd (ix4 0 0 x d))))
      (((∑ x, Real.exp (sM x)) + (if r = 0#32 then 0 else ((∑ x, Real.exp (s0 x)) + ∑ x, Real.exp (sd x))) - (if g = 0#32 then 0 else 64) : ℝ) : EReal) := by
  unfold blkVal
  rw [pay29_apply, pay28_apply, sum_halves]
  simp only [pay26_apply, pay27_lo, pay27_hi, hM, h0, hd, Ideal.exp_coe, ofBits_64]
  by_cases hr : r = 0#32
  · simp only [hr, if_true, zero_mul, Finset.sum_const_zero, add_zero, sum_coe]
    congr 1
    split_ifs <;> simp [EReal.coe_sub]
  · simp only [hr, if_false, sum_coe, ← EReal.coe_add]
    congr 1
    split_ifs <;> simp [EReal.coe_sub]

theorem pay152_apply (wo : FVec Ideal S1024x1024 .bf16) (ct : Vec Ideal S256x1024 .bf16) (i : Fin 256) (o : Fin 1024) :
    k0_pay152 wo ct (ix3 0 i o) = ∑ k : Fin 1024, ct (ix2 i k) * wo (ix2 k o) := by
  pointwise [k0_pay152]
theorem pay150_apply (wq : FVec Ideal S1024x1024 .bf16) (x : Vec Ideal S1x256x1024 .bf16) (i : Fin 256) (o : Fin 1024) :
    k0_pay150 wq x (ix2 i o) = ∑ k : Fin 1024, x (ix3 0 i k) * wq (ix2 k o) := by
  pointwise [k0_pay150]
theorem pay147_apply (x : Vec Ideal S1x256x1024 .f32) (i : Fin 256) (o : Fin 1024) : k0_pay147 x (ix3 0 i o) = x (ix3 0 i o) := by
  pointwise [k0_pay147]
theorem pay148_apply (x : Vec Ideal S1024x1024 .f32) (i : Fin 1024) (o : Fin 1024) : k0_pay148 x (ix2 i o) = x (ix2 i o) := by
  pointwise [k0_pay148]
theorem pay149_apply (x : Vec Ideal S1024x1024 .f32) (i : Fin 1024) (o : Fin 1024) : k0_pay149 x (ix2 i o) = x (ix2 i o) := by
  pointwise [k0_pay149]
theorem pay156_apply (x : Vec Ideal S1x256x1024 .f32) (i : Fin 256) (o : Fin 1024) : k0_pay156 x (ix3 0 i o) = x (ix3 0 i o) := by
  pointwise [k0_pay156]
theorem pay160_apply (x y : Vec Ideal S1x256x1024 .f32) (i : Fin 256) (o : Fin 1024) : k0_pay160 x y (ix3 0 i o) = x (ix3 0 i o) + y (ix3 0 i o) := by
  pointwise [k0_pay160]
theorem pay1_apply (x y : Vec Ideal S1x256x1024 .f32) (i : Fin 256) (o : Fin 1024) : k0_pay1 x y (ix3 0 i o) = x (ix3 0 i o) + y (ix3 0 i o) := by
  pointwise [k0_pay1]
theorem catVal_apply (b0 b1 b2 b3 : FVec Ideal S64x128 .f32) (i : Fin 256) (d : Fin 128) :
    catVal b0 b1 b2 b3 (ix2 i d) = (if i.val < 64 then b0 else if i.val < 128 then b1 else if i.val < 192 then b2 else b3) (ix2 ⟨i.val % 64, Nat.mod_lt _ (by decide)⟩ d) := by
  pointwise [catVal, k0_pay154]
  have h := i.isLt
  have cg : ∀ (b : FVec Ideal S64x128 .f32) (u w : Fin 64), u.val = w.val → b (ix2 u d) = b (ix2 w d) := fun b u w e => by rw [Fin.ext e]
  by_cases h1 : i.val < 64
  · rw [dif_pos h1, if_pos h1]; exact cg _ _ _ (by change i.val = i.val % 64; omega)
  · rw [dif_neg h1, if_neg h1]
    by_cases h2 : i.val < 128
    · rw [dif_pos (by omega), if_pos h2]; exact cg _ _ _ (by change i.val - 64 = i.val % 64; omega)
    · rw [dif_neg (by omega), if_neg h2]
      by_cases h3 : i.val < 192
      · rw [dif_pos (by omega), if_pos h3]; exact cg _ _ _ (by change i.val - 64 - 64 = i.val % 64; omega)
      · rw [dif_neg (by omega), if_neg h3]; exact cg _ _ _ (by change i.val - 64 - 64 - 64 = i.val % 64; omega)

end Cert.RingAttn

end

end
-- ==== Proof.KVal.lean ====
/-
# One block of rows as a row of the plain attention

The kernel's kept columns of a block of rows are the columns of the mask; with real scores its result is the weighted sum
over the weights' sum.
-/
module

public import proofs.«01_k».proof.Proof.Val

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic

/-- A head's row of keys, nothing past the last. -/
def rowOf (K : KaC Ideal) (h : Fin 64) (n : ℕ) (e : Fin 128) : EReal := if hn : n < 4096 then K (ix4 0 ⟨n, hn⟩ h e) else 0

theorem kz_eq : (kz : Ideal .f32) = 0 := by
  change Ideal.ofBits .f32 0x00000000#32 = 0
  simp [Ideal.ofBits, Ideal.ieee]

theorem KBv_row (K : KaC Ideal) (h : ℕ) (hh : h < 64) (x : Shape.Idx S2x3x1408x128) :
    KBv K h hh x = rowOf K ⟨h, hh⟩ (64 * kb x + (x 2).val % 64) (x 3) := by
  unfold KBv rowOf
  by_cases hk : kb x < 64
  · rw [dif_pos hk, dif_pos (by omega)]
  · rw [dif_neg hk, dif_neg (by omega), kz_eq]

theorem pay2_apply (v : Vec Ideal S1x3x1408x128 .f32) (a : Fin 3) (b : Fin 1408) (d : Fin 128) : k0_pay2 v (ix4 0 a b d) = v (ix4 0 a b d) := by
  pointwise [k0_pay2]
theorem pay3_apply (v : Vec Ideal S1x3x1408x128 .f32) (a : Fin 3) (b : Fin 1408) (d : Fin 128) : k0_pay3 v (ix4 0 a b d) = v (ix4 0 a b d) := by
  pointwise [k0_pay3]

/-- The head a device keeps at a place. -/
def hd (c : Dev nD) (t : Fin 8) : Fin 64 := ⟨8 * c.val + t.val, by have h := c.isLt; change c.val < 8 at h; omega⟩

theorem resF2_apply (c : Dev nD) (K : KaC Ideal) (t : Fin 8) (a : Fin 3) (b : Fin 1408) (d : Fin 128) :
    resF k0_pay2 c K (ix4 t a b d) = rowOf K (hd c t) (64 * (3 * (b.val / 64) + a.val) + b.val % 64) d := by
  unfold resF
  refine (pay2_apply _ _ _ _).trans ?_
  exact KBv_row K _ _ _
theorem resF3_apply (c : Dev nD) (K : KaC Ideal) (t : Fin 8) (a : Fin 3) (b : Fin 1408) (d : Fin 128) :
    resF k0_pay3 c K (ix4 t a b d) = rowOf K (hd c t) (64 * (3 * (b.val / 64) + a.val) + b.val % 64) d := by
  unfold resF
  refine (pay3_apply _ _ _ _).trans ?_
  exact KBv_row K _ _ _

theorem rdQ_apply (off : Fin 2 → ℕ) (inb) (Q : QuC Ideal) (i : Fin 64) (e : Fin 128) (u : Fin 256) (w : Fin 1024)
    (hu : u.val = off 0 + i.val) (hw : w.val = off 1 + e.val) : rdQ off inb Q (ix2 i e) = Q (ix2 u w) := by
  unfold rdQ
  refine congrArg Q (funext fun a => Fin.ext ?_)
  match a with
  | 0 => change off 0 + 1 * i.val = u.val; omega
  | 1 => change off 1 + 1 * e.val = w.val; omega

theorem rdM_apply (off : Fin 4 → ℕ) (inb) (X : HdC Ideal) (x : Fin 1408) (e : Fin 128) (t : Fin 8) (a : Fin 3)
    (ht : off 0 = t.val) (ha : off 1 = a.val) (h2 : off 2 = 0) (h3 : off 3 = 0) : rdM krM off inb X (ix4 0 0 x e) = X (ix4 t a x e) := by
  unfold rdM
  refine congrArg X (funext fun b => Fin.ext ?_)
  match b with
  | 0 => change off 0 + 1 * 0 = t.val; omega
  | 1 => change off 1 + 1 * 0 = a.val; omega
  | 2 => change off 2 + 1 * x.val = x.val; omega
  | 3 => change off 3 + 1 * e.val = e.val; omega
theorem rdMv_apply (off : Fin 4 → ℕ) (inb) (X : HdC Ideal) (x : Fin 1408) (e : Fin 128) (t : Fin 8) (a : Fin 3)
    (ht : off 0 = t.val) (ha : off 1 = a.val) (h2 : off 2 = 0) (h3 : off 3 = 0) : rdM vrM off inb X (ix4 0 0 x e) = X (ix4 t a x e) := by
  unfold rdM
  refine congrArg X (funext fun b => Fin.ext ?_)
  match b with
  | 0 => change off 0 + 1 * 0 = t.val; omega
  | 1 => change off 1 + 1 * 0 = a.val; omega
  | 2 => change off 2 + 1 * x.val = x.val; omega
  | 3 => change off 3 + 1 * e.val = e.val; omega
theorem rdB_apply (off : Fin 4 → ℕ) (inb) (X : HdC Ideal) (y : Fin 64) (e : Fin 128) (t : Fin 8) (a : Fin 3) (u : Fin 1408)
    (ht : off 0 = t.val) (ha : off 1 = a.val) (h2 : off 2 + y.val = u.val) (h3 : off 3 = 0) : rdB krM off inb X (ix4 0 0 y e) = X (ix4 t a u e) := by
  unfold rdB
  refine congrArg X (funext fun b => Fin.ext ?_)
  match b with
  | 0 => change off 0 + 1 * 0 = t.val; omega
  | 1 => change off 1 + 1 * 0 = a.val; omega
  | 2 => change off 2 + 1 * y.val = u.val; omega
  | 3 => change off 3 + 1 * e.val = e.val; omega
theorem rdBv_apply (off : Fin 4 → ℕ) (inb) (X : HdC Ideal) (y : Fin 64) (e : Fin 128) (t : Fin 8) (a : Fin 3) (u : Fin 1408)
    (ht : off 0 = t.val) (ha : off 1 = a.val) (h2 : off 2 + y.val = u.val) (h3 : off 3 = 0) : rdB vrM off inb X (ix4 0 0 y e) = X (ix4 t a u e) := by
  unfold rdB
  refine congrArg X (funext fun b => Fin.ext ?_)
  match b with
  | 0 => change off 0 + 1 * 0 = t.val; omega
  | 1 => change off 1 + 1 * 0 = a.val; omega
  | 2 => change off 2 + 1 * y.val = u.val; omega
  | 3 => change off 3 + 1 * e.val = e.val; omega

section Head

variable (c : Dev nD) (s : ℕ) (t : Fin 8) (l : Fin 4) (K V : KaC Ideal)

theorem qbN_lt : qbN c s l < 32 := by have h := org_lt c s; have h' := l.isLt; unfold qbN; omega

theorem kM (x : Fin 1408) (e : Fin 128) : rdM krM (oM c s t l) (oM_inb c s t l) (resF k0_pay2 c K) (ix4 0 0 x e)
    = rowOf K (hd c t) (64 * (3 * (x.val / 64) + 2 * qbN c s l % 3) + x.val % 64) e :=
  (rdM_apply _ _ _ x e t ⟨2 * qbN c s l % 3, Nat.mod_lt _ (by decide)⟩ rfl rfl rfl rfl).trans (resF2_apply c K t _ x e)
theorem vM (x : Fin 1408) (e : Fin 128) : rdM vrM (oM c s t l) (oM_inb c s t l) (resF k0_pay3 c V) (ix4 0 0 x e)
    = rowOf V (hd c t) (64 * (3 * (x.val / 64) + 2 * qbN c s l % 3) + x.val % 64) e :=
  (rdMv_apply _ _ _ x e t ⟨2 * qbN c s l % 3, Nat.mod_lt _ (by decide)⟩ rfl rfl rfl rfl).trans (resF3_apply c V t _ x e)
theorem kB (y : Fin 64) (e : Fin 128) : rdB krM (oB t) (oB_inb t) (resF k0_pay2 c K) (ix4 0 0 y e) = rowOf K (hd c t) y.val e := by
  refine (rdB_apply _ _ _ y e t 0 ⟨y.val, by omega⟩ rfl rfl (Nat.zero_add _) rfl).trans ((resF2_apply c K t _ _ e).trans ?_)
  congr 1; change 64 * (3 * (y.val / 64) + 0) + y.val % 64 = y.val; omega
theorem vB (y : Fin 64) (e : Fin 128) : rdB vrM (oB t) (oB_inb t) (resF k0_pay3 c V) (ix4 0 0 y e) = rowOf V (hd c t) y.val e := by
  refine (rdBv_apply _ _ _ y e t 0 ⟨y.val, by omega⟩ rfl rfl (Nat.zero_add _) rfl).trans ((resF3_apply c V t _ _ e).trans ?_)
  congr 1; change 64 * (3 * (y.val / 64) + 0) + y.val % 64 = y.val; omega
theorem kD (y : Fin 64) (e : Fin 128) : rdB krM (oD c s t l) (oD_inb c s t l) (resF k0_pay2 c K) (ix4 0 0 y e) = rowOf K (hd c t) (64 * qbN c s l + y.val) e := by
  have hq := qbN_lt c s l
  refine (rdB_apply _ _ _ y e t ⟨qbN c s l % 3, Nat.mod_lt _ (by decide)⟩ ⟨64 * (qbN c s l / 3) + y.val, by omega⟩ rfl rfl rfl rfl).trans ((resF2_apply c K t _ _ e).trans ?_)
  congr 1; change 64 * (3 * ((64 * (qbN c s l / 3) + y.val) / 64) + qbN c s l % 3) + (64 * (qbN c s l / 3) + y.val) % 64 = _; omega
theorem vD (y : Fin 64) (e : Fin 128) : rdB vrM (oD c s t l) (oD_inb c s t l) (resF k0_pay3 c V) (ix4 0 0 y e) = rowOf V (hd c t) (64 * qbN c s l + y.val) e := by
  have hq := qbN_lt c s l
  refine (rdBv_apply _ _ _ y e t ⟨qbN c s l % 3, Nat.mod_lt _ (by decide)⟩ ⟨64 * (qbN c s l / 3) + y.val, by omega⟩ rfl rfl rfl rfl).trans ((resF3_apply c V t _ _ e).trans ?_)
  congr 1; change 64 * (3 * ((64 * (qbN c s l / 3) + y.val) / 64) + qbN c s l % 3) + (64 * (qbN c s l / 3) + y.val) % 64 = _; omega

theorem rW_iff : rW (wW c s) (BitVec.ofNat 32 l.val) = 0#32 ↔ qbN c s l % 3 = 0 := by
  have key : ∀ o : Fin 8, ∀ l : Fin 4, rW (BitVec.ofNat 32 o.val) (BitVec.ofNat 32 l.val) = 0#32 ↔ (o.val * 4 + l.val) % 3 = 0 := by decide
  exact key ⟨org c s, org_lt c s⟩ l
theorem gW_iff : gW (wW c s) (BitVec.ofNat 32 l.val) = 0#32 ↔ 2 * qbN c s l % 3 = 0 := by
  have key : ∀ o : Fin 8, ∀ l : Fin 4, gW (BitVec.ofNat 32 o.val) (BitVec.ofNat 32 l.val) = 0#32 ↔ 2 * (o.val * 4 + l.val) % 3 = 0 := by decide
  exact key ⟨org c s, org_lt c s⟩ l

end Head

/-- The padded columns of a class, as many as 64 but for the first. -/
theorem pad_count (g : ℕ) (hg : g < 3) :
    (∑ x : Fin 1408, if 64 * (3 * (x.val / 64) + g) + x.val % 64 < 4096 then (0 : ℝ) else 1) = if g = 0 then 0 else 64 := by
  have h := sum_blocks 22 (fun x => if 64 * (3 * (x / 64) + g) + x % 64 < 4096 then (0 : ℝ) else 1)
  refine h.trans ?_
  have e : ∀ (i : Fin 22) (y : Fin 64), (if 64 * (3 * ((64 * i.val + y.val) / 64) + g) + (64 * i.val + y.val) % 64 < 4096 then (0 : ℝ) else 1) = if 3 * i.val + g < 64 then 0 else 1 := by
    intro i y
    refine if_congr ?_ rfl rfl
    have := y.isLt
    omega
  simp only [e, Finset.sum_const, Finset.card_univ, Fintype.card_fin, nsmul_eq_mul]
  rw [Fin.sum_univ_eq_sum_range (fun n => ((64 : ℕ) : ℝ) * if 3 * n + g < 64 then (0 : ℝ) else 1) 22]
  have : g = 0 ∨ g = 1 ∨ g = 2 := by omega
  rcases this with rfl | rfl | rfl <;> simp [Finset.sum_range_succ]

/-- What the kernel sums, over its three groups of columns, and what the mask keeps. -/
theorem kept_row (qb : ℕ) (hq : qb < 64) (S : ℕ → ℝ) (hS : ∀ n, 4096 ≤ n → S n = 0) (v : ℕ → EReal) (hv : ∀ n, 4096 ≤ n → v n = 0) :
    Ideal.div
      ((∑ x : Fin 1408, ((Real.exp (S (64 * (3 * (x.val / 64) + 2 * qb % 3) + x.val % 64)) : ℝ) : EReal) * v (64 * (3 * (x.val / 64) + 2 * qb % 3) + x.val % 64))
        + (if qb % 3 = 0 then 0 else ((∑ y : Fin 64, ((Real.exp (S y.val) : ℝ) : EReal) * v y.val) + ∑ y : Fin 64, ((Real.exp (S (64 * qb + y.val)) : ℝ) : EReal) * v (64 * qb + y.val))))
      (((∑ x : Fin 1408, Real.exp (S (64 * (3 * (x.val / 64) + 2 * qb % 3) + x.val % 64)))
        + (if qb % 3 = 0 then 0 else ((∑ y : Fin 64, Real.exp (S y.val)) + ∑ y : Fin 64, Real.exp (S (64 * qb + y.val)))) - (if 2 * qb % 3 = 0 then 0 else 64) : ℝ) : EReal)
      = rowVal (fun j : Fin 4096 => kept qb j.val) (fun j => S j.val) (fun j => v j.val) := by
  have hn := sum_kept_columns (fun n => ((Real.exp (S n) : ℝ) : EReal) * v n) (fun n h => by simp [hv n h]) qb hq
  have hd := sum_kept_columns (fun n => if n < 4096 then Real.exp (S n) else 0) (fun n h => if_neg (by omega)) qb hq
  have hnum : (∑ j : Fin 4096, ((wt (kept qb j.val) (S j.val) : ℝ) : EReal) * v j.val) = ∑ j : Fin 4096, if qb = j.val / 64 ∨ j.val / 64 = 0 ∨ (qb + j.val / 64) % 3 = 0 then ((Real.exp (S j.val) : ℝ) : EReal) * v j.val else 0 := by
    refine Finset.sum_congr rfl fun j _ => ?_
    by_cases h : kept qb j.val
    · have h' : qb = j.val / 64 ∨ j.val / 64 = 0 ∨ (qb + j.val / 64) % 3 = 0 := h
      unfold wt; rw [if_pos h, if_pos h']
    · have h' : ¬ (qb = j.val / 64 ∨ j.val / 64 = 0 ∨ (qb + j.val / 64) % 3 = 0) := h
      unfold wt; rw [if_neg h, if_neg h']; simp
  have hden : (∑ j : Fin 4096, wt (kept qb j.val) (S j.val)) = ∑ j : Fin 4096, if qb = j.val / 64 ∨ j.val / 64 = 0 ∨ (qb + j.val / 64) % 3 = 0 then (if j.val < 4096 then Real.exp (S j.val) else 0) else 0 := by
    refine Finset.sum_congr rfl fun j _ => ?_
    unfold wt
    refine if_congr Iff.rfl (if_pos j.isLt).symm rfl
  have hpad : (∑ x : Fin 1408, Real.exp (S (64 * (3 * (x.val / 64) + 2 * qb % 3) + x.val % 64)))
      = (∑ x : Fin 1408, if 64 * (3 * (x.val / 64) + 2 * qb % 3) + x.val % 64 < 4096 then Real.exp (S (64 * (3 * (x.val / 64) + 2 * qb % 3) + x.val % 64)) else 0) + (if 2 * qb % 3 = 0 then 0 else 64) := by
    rw [← pad_count _ (Nat.mod_lt _ (by decide)), ← Finset.sum_add_distrib]
    refine Finset.sum_congr rfl fun x _ => ?_
    split_ifs with h
    · simp
    · rw [hS _ (by omega)]; simp
  have hlo : ∀ y : Fin 64, (if y.val < 4096 then Real.exp (S y.val) else 0) = Real.exp (S y.val) := fun y => if_pos (by omega)
  have hhi : ∀ y : Fin 64, (if 64 * qb + y.val < 4096 then Real.exp (S (64 * qb + y.val)) else 0) = Real.exp (S (64 * qb + y.val)) := fun y => if_pos (by omega)
  simp only [hlo, hhi] at hd
  have hp := wsum_pos (fun j : Fin 4096 => kept qb j.val) (fun j => S j.val) 0 (Or.inr (Or.inl rfl))
  unfold rowVal
  rw [← hn, ← hnum, hpad, add_right_comm, add_sub_cancel_right, ← hd, ← hden]
  exact Ideal.div_coe hp.ne' _

/-- A block of rows of the kernel, from real queries and keys. -/
theorem blkAt_apply (c : Dev nD) (s : ℕ) (t : Fin 8) (l : Fin 4) (Q : QuC Ideal) (K V : KaC Ideal) (i : Fin 64) (d : Fin 128)
    (u : Fin 256) (hu : u.val = 64 * l.val + i.val) (a : ℝ) (ha : sc = (a : EReal))
    (qr : Fin 128 → ℝ) (hQ : ∀ (e : Fin 128) (w : Fin 1024), w.val = 128 * t.val + e.val → Q (ix2 u w) = (qr e : EReal))
    (kr : ℕ → Fin 128 → ℝ) (hK : ∀ n e, rowOf K (hd c t) n e = (kr n e : EReal)) :
    blkAt c s Q (resF k0_pay2 c K) (resF k0_pay3 c V) t l (ix2 i d)
      = rowVal (fun j : Fin 4096 => kept (qbN c s l) j.val) (fun j => (∑ e, qr e * kr j.val e) * a) (fun j => V (ix4 0 j (hd c t) d)) := by
  have hq : ∀ e : Fin 128, rdQ (oQ t l) (oQ_inb t l) Q (ix2 i e) = (qr e : EReal) := fun e =>
    (rdQ_apply _ _ Q i e u ⟨128 * t.val + e.val, by omega⟩ hu rfl).trans (hQ e _ rfl)
  have hS : ∀ n, (∑ e : Fin 128, ((qr e : ℝ) : EReal) * (kr n e : EReal)) * sc = (((∑ e, qr e * kr n e) * a : ℝ) : EReal) := by
    intro n
    simp only [← EReal.coe_mul, sum_coe, ha]
  unfold blkAt
  rw [blkVal_real _ _ _ _ _ _ _ _ _ i d (fun x => (∑ e, qr e * kr (64 * (3 * (x.val / 64) + 2 * qbN c s l % 3) + x.val % 64) e) * a)
    (fun y => (∑ e, qr e * kr y.val e) * a) (fun y => (∑ e, qr e * kr (64 * qbN c s l + y.val) e) * a)
    (fun x => by simp only [hq, kM, hK]; exact hS _) (fun x => by simp only [hq, kB, hK]; exact hS _) (fun x => by simp only [hq, kD, hK]; exact hS _)]
  have hkz : ∀ n, 4096 ≤ n → ∀ e, kr n e = 0 := fun n hn e => by
    have h := hK n e
    unfold rowOf at h
    rw [dif_neg (by omega)] at h
    exact_mod_cast h.symm
  simp only [vM, vB, vD, rW_iff, gW_iff]
  have hb := qbN_lt c s l
  refine (kept_row (qbN c s l) (by omega) (fun n => (∑ e, qr e * kr n e) * a) (fun n hn => by simp [hkz n hn]) (fun n => rowOf V (hd c t) n d) (fun n hn => dif_neg (by omega))).trans ?_
  congr 1
  funext j
  exact dif_pos j.isLt

end Cert.RingAttn

end

end
-- ==== Proof.KOut.lean ====
/-
# The kernel's result as the plain attention's

What device `p` works out in a stage is its eight heads' share of the output projection for the rows of the stage's
device; along the ring the eight shares add up to the sum over all heads.
-/
module

public import proofs.«01_k».proof.Proof.KVal

@[expose] public section

set_option maxRecDepth 8192
set_option maxHeartbeats 4000000

noncomputable section

namespace Cert.RingAttn

open Cert.KernelIdeal Cert.KernelIdeal.Gen

open Idealize.ShloMosaic Idealize.ShloMosaic.TcCoe Idealize.ShloMosaic.Tactic

/-- The attention's value at row `i` and column `z` of the heads laid side by side. -/
def attn (a : ℝ) (X : Fin 2048 → Fin 1024 → ℝ) (W : Fin 1024 → Fin 8192 → ℝ) (Kr : Fin 4096 → Fin 64 → Fin 128 → ℝ)
    (v : FVec Ideal S1x4096x64x128 .f32) (i : Fin 2048) (z : Fin 8192) : EReal :=
  rowVal (fun j : Fin 4096 => kept (i.val / 64) j.val)
    (fun j => (∑ e : Fin 128, (∑ u, X i u * W u ⟨128 * (z.val / 128) + e.val, by omega⟩) * Kr j ⟨z.val / 128, by omega⟩ e) * a)
    (fun j => v (ix4 0 j ⟨z.val / 128, by omega⟩ ⟨z.val % 128, by omega⟩))

theorem ctx_apply (c : Dev nD) (s : ℕ) (Q : QuC Ideal) (K V : KaC Ideal) (r : Fin 256) (n : Fin 1024) (a : ℝ) (ha : sc = (a : EReal))
    (qr : Fin 128 → ℝ) (hQ : ∀ (e : Fin 128) (w : Fin 1024), w.val = 128 * (n.val / 128) + e.val → Q (ix2 r w) = (qr e : EReal))
    (kr : ℕ → Fin 128 → ℝ) (hK : ∀ m e, rowOf K (hd c ⟨n.val / 128, by omega⟩) m e = (kr m e : EReal)) :
    ctx c s Q (resF k0_pay2 c K) (resF k0_pay3 c V) (ix2 r n)
      = rowVal (fun j : Fin 4096 => kept (org c s * 4 + r.val / 64) j.val) (fun j => (∑ e, qr e * kr j.val e) * a)
          (fun j => V (ix4 0 j (hd c ⟨n.val / 128, by omega⟩) ⟨n.val % 128, Nat.mod_lt _ (by decide)⟩)) := by
  refine (catVal_apply (blkAt c s Q (resF k0_pay2 c K) (resF k0_pay3 c V) ⟨n.val / 128, by omega⟩ 0)
    (blkAt c s Q (resF k0_pay2 c K) (resF k0_pay3 c V) ⟨n.val / 128, by omega⟩ 1)
    (blkAt c s Q (resF k0_pay2 c K) (resF k0_pay3 c V) ⟨n.val / 128, by omega⟩ 2)
    (blkAt c s Q (resF k0_pay2 c K) (resF k0_pay3 c V) ⟨n.val / 128, by omega⟩ 3) r ⟨n.val % 128, Nat.mod_lt _ (by decide)⟩).trans ?_
  have hb := fun (l : Fin 4) (hl : l.val = r.val / 64) => blkAt_apply c s ⟨n.val / 128, by omega⟩ l Q K V ⟨r.val % 64, Nat.mod_lt _ (by decide)⟩
    ⟨n.val % 128, Nat.mod_lt _ (by decide)⟩ r (by change r.val = 64 * l.val + r.val % 64; omega) a ha qr hQ kr hK
  have hq : ∀ l : Fin 4, l.val = r.val / 64 → qbN c s l = org c s * 4 + r.val / 64 := fun l hl => by unfold qbN; rw [hl]
  split_ifs with h1 h2 h3
  · have e : (0 : Fin 4).val = r.val / 64 := by change 0 = r.val / 64; omega
    rw [hb 0 e, hq 0 e]
  · have e : (1 : Fin 4).val = r.val / 64 := by change 1 = r.val / 64; omega
    rw [hb 1 e, hq 1 e]
  · have e : (2 : Fin 4).val = r.val / 64 := by change 2 = r.val / 64; omega
    rw [hb 2 e, hq 2 e]
  · have e : (3 : Fin 4).val = r.val / 64 := by change 3 = r.val / 64; omega
    rw [hb 3 e, hq 3 e]

section Ring

variable (xs : Dev nD → Vec Ideal S1x256x1024 .f32) (wqs wos : Dev nD → Vec Ideal S1024x1024 .f32) (kss vss : Dev nD → KaC Ideal)
variable (a : ℝ) (ha : sc = (a : EReal))
variable (X : Fin 2048 → Fin 1024 → ℝ) (W : Fin 1024 → Fin 8192 → ℝ) (Kr : Fin 4096 → Fin 64 → Fin 128 → ℝ)
variable (v : FVec Ideal S1x4096x64x128 .f32) (wo : Fin 8192 → Fin 1024 → EReal)

include ha in
/-- A device's share in a stage: its heads' columns, for the rows of the stage's device. -/
theorem Aof_apply (hx : ∀ (c : Dev nD) (r : Fin 256) (k : Fin 1024) (R : Fin 2048), R.val = 256 * c.val + r.val → xs c (ix3 0 r k) = (X R k : EReal))
    (hw : ∀ (c : Dev nD) (k n : Fin 1024) (N : Fin 8192), N.val = 1024 * c.val + n.val → wqs c (ix2 k n) = (W k N : EReal))
    (hk : ∀ (c : Dev nD) (j : Fin 4096) (h : Fin 64) (e : Fin 128), kss c (ix4 0 j h e) = (Kr j h e : EReal))
    (hv : ∀ c : Dev nD, vss c = v)
    (ho : ∀ (c : Dev nD) (n o : Fin 1024) (N : Fin 8192), N.val = 1024 * c.val + n.val → wos c (ix2 n o) = wo N o)
    (c : Dev nD) (s : ℕ) (r : Fin 256) (o : Fin 1024) (R : Fin 2048) (hR : R.val = 256 * org c s + r.val) :
    Aof xs wqs wos kss vss c s (ix3 0 r o) = ∑ n : Fin 1024, if h : 1024 * c.val + n.val < 8192
      then attn a X W Kr v R ⟨1024 * c.val + n.val, h⟩ * wo ⟨1024 * c.val + n.val, h⟩ o else 0 := by
  have hc : c.val < 8 := c.isLt
  have hol := org_lt c s
  unfold Aof KRf VRf
  rw [pay152_apply]
  refine Finset.sum_congr rfl fun n _ => ?_
  have hn : 1024 * c.val + n.val < 8192 := by omega
  rw [dif_pos hn, pay149_apply, ho c n o ⟨_, hn⟩ rfl]
  congr 1
  have hz1 : (1024 * c.val + n.val) / 128 = 8 * c.val + n.val / 128 := by omega
  have hz2 : (1024 * c.val + n.val) % 128 = n.val % 128 := by omega
  rw [ctx_apply c s _ (kss c) (vss c) r n a ha
    (fun e => ∑ u, X R u * W u ⟨128 * ((1024 * c.val + n.val) / 128) + e.val, by omega⟩)
    (fun e w hw' => by
      unfold Qof
      rw [pay150_apply]
      change (∑ u : Fin 1024, (xRnd xs (org c s) (ix3 0 r u) : EReal) * (k0_pay148 (wqs c) (ix2 u w) : EReal)) = _
      rw [← sum_coe]
      refine Finset.sum_congr rfl fun u _ => ?_
      unfold xRnd
      rw [pay147_apply, pay148_apply, hx _ r u R (by rw [hR]; change 256 * org c s + r.val = 256 * (org c s % 8) + r.val; omega),
        hw c u w ⟨128 * ((1024 * c.val + n.val) / 128) + e.val, by omega⟩ (by change 128 * ((1024 * c.val + n.val) / 128) + e.val = 1024 * c.val + w.val; omega), EReal.coe_mul])
    (fun m e => if hm : m < 4096 then Kr ⟨m, hm⟩ (hd c ⟨n.val / 128, by omega⟩) e else 0)
    (fun m e => by
      unfold rowOf
      split_ifs
      · exact hk _ _ _ _
      · rfl)]
  unfold attn
  have hh : (⟨(1024 * c.val + n.val) / 128, by omega⟩ : Fin 64) = hd c ⟨n.val / 128, by omega⟩ := Fin.ext hz1
  have hd' : (⟨(1024 * c.val + n.val) % 128, by omega⟩ : Fin 128) = ⟨n.val % 128, Nat.mod_lt _ (by decide)⟩ := Fin.ext hz2
  have hrow : org c s * 4 + r.val / 64 = R.val / 64 := by omega
  rw [hrow, hv]
  simp only [hh, hd', dif_pos (Fin.isLt _), Fin.eta]

/-- The eight shares of a device's rows are taken on the eight devices, one each. -/
theorem ring_sum (G : Dev nD → EReal) (c : Dev nD) :
    G c + (G (prv c) + (G (prv (prv c)) + (G (prv (prv (prv c))) + (G (prv (prv (prv (prv c)))) + (G (prv (prv (prv (prv (prv c)))))
      + (G (prv (prv (prv (prv (prv (prv c)))))) + G (prv (prv (prv (prv (prv (prv (prv c))))))))))))) = ∑ p : Dev nD, G p := by
  have e : (∑ p : Dev nD, G p) = ∑ p : Dev nD, G ((fun k : Fin 8 => (⟨(c.val + 8 - k.val) % 8, Nat.mod_lt _ (by decide)⟩ : Fin 8)) p) := by
    refine (Function.Bijective.sum_comp ?_ G).symm
    revert c; decide
  rw [e]
  refine Eq.trans ?_ (Fin.sum_univ_eight _).symm
  simp only [add_assoc]
  have hc : c.val < 8 := c.isLt
  have p1 : ∀ (k : ℕ) (d : Dev nD), k < 7 → d.val = (c.val + 8 - k) % 8 → (prv d).val = (c.val + 8 - (k + 1)) % 8 := by
    intro k d hk hd; unfold prv; dsimp only; omega
  have q0 : c.val = (c.val + 8 - 0) % 8 := by omega
  have q1 := p1 0 _ (by decide) q0
  have q2 := p1 1 _ (by decide) q1
  have q3 := p1 2 _ (by decide) q2
  have q4 := p1 3 _ (by decide) q3
  have q5 := p1 4 _ (by decide) q4
  have q6 := p1 5 _ (by decide) q5
  have q7 := p1 6 _ (by decide) q6
  exact congrArg₂ (· + ·) (congrArg G (Fin.ext q0)) (congrArg₂ (· + ·) (congrArg G (Fin.ext q1)) (congrArg₂ (· + ·) (congrArg G (Fin.ext q2))
    (congrArg₂ (· + ·) (congrArg G (Fin.ext q3)) (congrArg₂ (· + ·) (congrArg G (Fin.ext q4)) (congrArg₂ (· + ·) (congrArg G (Fin.ext q5))
      (congrArg₂ (· + ·) (congrArg G (Fin.ext q6)) (congrArg G (Fin.ext q7))))))))

/-- A sum over all columns, device by device. -/
theorem sum_devices (f : Fin 8192 → EReal) :
    (∑ p : Dev nD, ∑ n : Fin 1024, if h : 1024 * p.val + n.val < 8192 then f ⟨1024 * p.val + n.val, h⟩ else 0) = ∑ z : Fin 8192, f z := by
  change (∑ p : Fin 8, ∑ n : Fin 1024, if h : 1024 * p.val + n.val < 8192 then f ⟨1024 * p.val + n.val, h⟩ else 0) = ∑ z : Fin (8 * 1024), f z
  rw [← Fintype.sum_prod_type', ← finProdFinEquiv.sum_comp]
  refine Finset.sum_congr rfl fun p _ => ?_
  have h1 := p.1.isLt
  have h2 := p.2.isLt
  rw [dif_pos (by omega)]
  congr 1
  refine Fin.ext ?_
  simp [finProdFinEquiv]; omega

include ha in
/-- A device's result is the attention's, through the whole output projection, at the device's rows. -/
theorem outOf_apply (hx : ∀ (c : Dev nD) (r : Fin 256) (k : Fin 1024) (R : Fin 2048), R.val = 256 * c.val + r.val → xs c (ix3 0 r k) = (X R k : EReal))
    (hw : ∀ (c : Dev nD) (k n : Fin 1024) (N : Fin 8192), N.val = 1024 * c.val + n.val → wqs c (ix2 k n) = (W k N : EReal))
    (hk : ∀ (c : Dev nD) (j : Fin 4096) (h : Fin 64) (e : Fin 128), kss c (ix4 0 j h e) = (Kr j h e : EReal))
    (hv : ∀ c : Dev nD, vss c = v)
    (ho : ∀ (c : Dev nD) (n o : Fin 1024) (N : Fin 8192), N.val = 1024 * c.val + n.val → wos c (ix2 n o) = wo N o)
    (c : Dev nD) (r : Fin 256) (o : Fin 1024) (R : Fin 2048) (hR : R.val = 256 * c.val + r.val) :
    outOf xs wqs wos kss vss c (ix3 0 r o) = ∑ z : Fin 8192, attn a X W Kr v R z * wo z o := by
  have hA := fun (p : Dev nD) (s : ℕ) (hs : org p s = c.val) =>
    Aof_apply xs wqs wos kss vss a ha X W Kr v wo hx hw hk hv ho p s r o R (by rw [hs, hR])
  have o1 : ∀ (d : Dev nD) (s : ℕ), s < 8 → org d (s + 1) = c.val → org (prv d) s = c.val := by
    intro d s hs h
    rw [← h, ← org_nxt (prv d) s hs, nxt_prv]
  have o0 : org c 8 = c.val := by have h := c.isLt; change c.val < 8 at h; unfold org; omega
  have o7 := o1 _ 7 (by decide) o0
  have o6 := o1 _ 6 (by decide) o7
  have o5 := o1 _ 5 (by decide) o6
  have o4 := o1 _ 4 (by decide) o5
  have o3 := o1 _ 3 (by decide) o4
  have o2 := o1 _ 2 (by decide) o3
  have o1' := o1 _ 1 (by decide) o2
  unfold outOf
  simp only [SBof, pay1_apply, pay160_apply, pay156_apply]
  rw [hA _ _ (org_zero c), hA _ _ o7, hA _ _ o6, hA _ _ o5, hA _ _ o4, hA _ _ o3, hA _ _ o2, hA _ _ o1']
  exact (ring_sum (fun p => ∑ n : Fin 1024, if h : 1024 * p.val + n.val < 8192
      then attn a X W Kr v R ⟨1024 * p.val + n.val, h⟩ * wo ⟨1024 * p.val + n.val, h⟩ o else 0) c).trans
    (sum_devices fun z => attn a X W Kr v R z * wo z o)

end Ring

end Cert.RingAttn

end

end
-- ==== Proof.RefTerm.lean ====
/-
# The reference's result, by steps

The reference's lines as functions of arrays of exact values; their composition is the result.
-/
module

public import proofs.«01_k».proof.Proof.Gen.ReferenceIdeal.Run
public import Idealize.ShloMosaic.Lib.Pointwise

@[expose] public section

set_option maxRecDepth 100000
set_option maxHeartbeats 4000000

noncomputable section

namespace Cert.RingAttn.Ref

open Cert.ReferenceIdeal Cert.ReferenceIdeal.Gen Idealize.ShloMosaic Idealize.ShloMosaic.TcCoe

/-- The block of each row. -/
def qbV  : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The block of each column. -/
def kbV  : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The divisor three. -/
def thV  : IVec S_ 32 :=
  select (cmpi .eq (id (constantI S_ 32 3#32)) (constantI S_ 32 0#32)) (constantI S_ 32 1#32) (id (constantI S_ 32 3#32))

/-- The sum of the two blocks. -/
def sumIV  : IVec S2048x4096 32 :=
  addi (broadcastInDim S2048x4096 ![0, 1] bcast_S2048x1_S2048x4096_0_1 (broadcastInDim S2048x1 ![0] bcast_S2048_S2048x1_0 qbV)) (broadcastInDim S2048x4096 ![0, 1] bcast_S1x4096_S2048x4096_0_1 (broadcastInDim S1x4096 ![1] bcast_S4096_S1x4096_1 kbV))

/-- Its remainder on division by three. -/
def remV  : IVec S2048x4096 32 :=
  select (andi (cmpi .ne (cmpi .slt (Host.remsi sumIV (broadcastInDim S2048x4096 ![] bcast_S_S2048x4096 thV)) (broadcastInDim S2048x4096 ![] bcast_S_S2048x4096 (constantI S_ 32 0#32))) (broadcastInDim S2048x4096 ![] bcast_S_S2048x4096 (cmpi .slt thV (constantI S_ 32 0#32)))) (cmpi .ne (Host.remsi sumIV (broadcastInDim S2048x4096 ![] bcast_S_S2048x4096 thV)) (broadcastInDim S2048x4096 ![] bcast_S_S2048x4096 (constantI S_ 32 0#32)))) (addi (Host.remsi sumIV (broadcastInDim S2048x4096 ![] bcast_S_S2048x4096 thV)) (broadcastInDim S2048x4096 ![] bcast_S_S2048x4096 thV)) (Host.remsi sumIV (broadcastInDim S2048x4096 ![] bcast_S_S2048x4096 thV))

/-- The mask. -/
def mskV  : IVec S2048x4096 1 :=
  ori (ori (cmpi .eq (broadcastInDim S2048x4096 ![0, 1] bcast_S2048x1_S2048x4096_0_1 (broadcastInDim S2048x1 ![0] bcast_S2048_S2048x1_0 qbV)) (broadcastInDim S2048x4096 ![0, 1] bcast_S1x4096_S2048x4096_0_1 (broadcastInDim S1x4096 ![1] bcast_S4096_S1x4096_1 kbV))) (broadcastInDim S2048x4096 ![0, 1] bcast_S1x4096_S2048x4096_0_1 (cmpi .eq (broadcastInDim S1x4096 ![1] bcast_S4096_S1x4096_1 kbV) (broadcastInDim S1x4096 ![] bcast_S_S1x4096 (constantI S_ 32 0#32))))) (cmpi .eq remV (broadcastInDim S2048x4096 ![] bcast_S_S2048x4096 (constantI S_ 32 0#32)))

/-- Whether a row keeps some column. -/
def anyV  : IVec S2048 1 :=
  Host.reduce IntOp.ori mskV (constantI S_ 1 0#1) reducesTo_S2048x4096_S2048_d1 h_S_

/-- The query rows by heads. -/
def QV (x : FVec Ideal S1x2048x1024 .f32) (wq : FVec Ideal S1024x8192 .f32) : FVec Ideal S1x2048x64x128 .f32 :=
  shapeCast _ (Host.dotGeneral dot_S1x2048x1024_S1024x8192_S1x2048x8192_2_0_01_1_n_n none x wq) shapeCasts_S1x2048x8192_S1x2048x64x128

/-- The scaled scores. -/
def scV (q : FVec Ideal S1x2048x64x128 .f32) (k : FVec Ideal S1x4096x64x128 .f32) : FVec Ideal S1x64x2048x4096 .f32 :=
  mulf (Host.dotGeneral dot_S1x2048x64x128_S1x4096x64x128_S1x64x2048x4096_3_3_1_1_02_02 none q k) (broadcastInDim S1x64x2048x4096 ![] bcast_S_S1x64x2048x4096 (constant S_ .f32 0x3DB504F3#32))

/-- The scores under the mask. -/
def msV (s : FVec Ideal S1x64x2048x4096 .f32) : FVec Ideal S1x64x2048x4096 .f32 :=
  select (broadcastInDim S1x64x2048x4096 ![0, 1, 2, 3] bcast_S1x1x2048x4096_S1x64x2048x4096_0_1_2_3 (broadcastInDim S1x1x2048x4096 ![2, 3] bcast_S2048x4096_S1x1x2048x4096_2_3 mskV)) s (broadcastInDim S1x64x2048x4096 ![] bcast_S_S1x64x2048x4096 (id (constant S_ .f32 0xFF800000#32)))

/-- The greatest score of a row. -/
def maxV (s : FVec Ideal S1x64x2048x4096 .f32) : FVec Ideal S1x64x2048 .f32 :=
  Host.reduce FloatOps.maximumf s (constant S_ .f32 0xFF800000#32) reducesTo_S1x64x2048x4096_S1x64x2048_d3 h_S_

/-- The exponentials. -/
def eV (s : FVec Ideal S1x64x2048x4096 .f32) (mx : FVec Ideal S1x64x2048 .f32) : FVec Ideal S1x64x2048x4096 .f32 :=
  Host.exp (subf s (broadcastInDim S1x64x2048x4096 ![0, 1, 2, 3] bcast_S1x64x2048x1_S1x64x2048x4096_0_1_2_3 (broadcastInDim S1x64x2048x1 ![0, 1, 2] bcast_S1x64x2048_S1x64x2048x1_0_1_2 mx)))

/-- Their sum. -/
def sumV (e : FVec Ideal S1x64x2048x4096 .f32) : FVec Ideal S1x64x2048 .f32 :=
  Host.reduceAdd e (constant S_ .f32 0x00000000#32) reducesTo_S1x64x2048x4096_S1x64x2048_d3 h_S_

/-- The divisor of a row. -/
def wsV (sm : FVec Ideal S1x64x2048 .f32) : FVec Ideal S1x64x2048x1 .f32 :=
  select (broadcastInDim S1x64x2048x1 ![0, 1, 2, 3] bcast_S1x1x2048x1_S1x64x2048x1_0_1_2_3 (broadcastInDim S1x1x2048x1 ![2] bcast_S2048_S1x1x2048x1_2 anyV)) (broadcastInDim S1x64x2048x1 ![0, 1, 2] bcast_S1x64x2048_S1x64x2048x1_0_1_2 sm) (broadcastInDim S1x64x2048x1 ![] bcast_S_S1x64x2048x1 (id (constant S_ .f32 0x3F800000#32)))

/-- The weights. -/
def wV (e : FVec Ideal S1x64x2048x4096 .f32) (ws : FVec Ideal S1x64x2048x1 .f32) : FVec Ideal S1x64x2048x4096 .f32 :=
  select (broadcastInDim S1x64x2048x4096 ![0, 1, 2, 3] bcast_S1x1x2048x1_S1x64x2048x4096_0_1_2_3 (broadcastInDim S1x1x2048x1 ![2] bcast_S2048_S1x1x2048x1_2 anyV)) (Host.divf e (broadcastInDim S1x64x2048x4096 ![0, 1, 2, 3] bcast_S1x64x2048x1_S1x64x2048x4096_0_1_2_3 ws)) (broadcastInDim S1x64x2048x4096 ![] bcast_S_S1x64x2048x4096 (id (constant S_ .f32 0x00000000#32)))

/-- The weighted values. -/
def oV (v : FVec Ideal S1x4096x64x128 .f32) (w : FVec Ideal S1x64x2048x4096 .f32) : FVec Ideal S1x64x128x2048 .f32 :=
  Host.dotGeneral dot_S1x4096x64x128_S1x64x2048x4096_S1x64x128x2048_1_3_3_2_02_01 none v w

/-- The last product. -/
def lastV (o : FVec Ideal S1x64x128x2048 .f32) (wo : FVec Ideal S8192x1024 .f32) : FVec Ideal S1x2048x1024 .f32 :=
  Host.dotGeneral dot_S1x2048x8192_S8192x1024_S1x2048x1024_2_0_01_1_n_n none (shapeCast _ (transpose S1x2048x64x128 [0, 3, 1, 2] o transposes_S1x64x128x2048_S1x2048x64x128_0_3_1_2) shapeCasts_S1x2048x64x128_S1x2048x8192) wo

/-- The scores under the mask, from the arguments. -/
def msOf (x : FVec Ideal S1x2048x1024 .f32) (wq : FVec Ideal S1024x8192 .f32) (k : FVec Ideal S1x4096x64x128 .f32) : FVec Ideal S1x64x2048x4096 .f32 :=
  msV (scV (QV x wq) k)

/-- The exponentials, from the arguments. -/
def eOf (x : FVec Ideal S1x2048x1024 .f32) (wq : FVec Ideal S1024x8192 .f32) (k : FVec Ideal S1x4096x64x128 .f32) : FVec Ideal S1x64x2048x4096 .f32 :=
  eV (msOf x wq k) (maxV (msOf x wq k))

/-- The result, from the arguments. -/
def refOf (x : FVec Ideal S1x2048x1024 .f32) (wq : FVec Ideal S1024x8192 .f32) (k v : FVec Ideal S1x4096x64x128 .f32) (wo : FVec Ideal S8192x1024 .f32) : FVec Ideal S1x2048x1024 .f32 :=
  lastV (oV v (wV (eOf x wq k) (wsV (sumV (eOf x wq k))))) wo

theorem res_eq (m : (ℓ : Loc nD τ sig) → Buf (Elt Ideal) ℓ) (c : Dev nD) :
    Value.res_main_v44 m c = refOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  delta Value.res_main_v44
  rfl

end Cert.RingAttn.Ref

end

end
-- ==== Proof.RefVal.lean ====
/-
# The reference's steps at an index
-/
module

public import proofs.«01_k».proof.Proof.RefTerm
public import proofs.«01_k».proof.Proof.Soft
public import Idealize.ShloMosaic.Lib.Pointwise

@[expose] public section

set_option maxRecDepth 8192
set_option maxHeartbeats 4000000

noncomputable section

namespace Cert.RingAttn.Ref

open Cert.ReferenceIdeal Cert.ReferenceIdeal.Gen Idealize.ShloMosaic Idealize.ShloMosaic.TcCoe Idealize.ShloMosaic.Tactic

/-- The floor of a quotient by 64, as the reference's words compute it. -/
theorem div64 : ∀ n : Fin 4096, Scalar.select
      (IntOp.andi
        (IntOp.cmpi CmpIPredicate.ne
          (if BitVec.ofNat 32 n.val = 0 then 0 else if (BitVec.ofNat 32 n.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

theorem qbV_apply (i : Fin 2048) : qbV (ix1 i) = BitVec.ofNat 32 (i.val / 64) := by
  pointwise [qbV]
  exact div64 ⟨i.val, by omega⟩

theorem kbV_apply (i : Fin 4096) : kbV (ix1 i) = BitVec.ofNat 32 (i.val / 64) := by
  pointwise [kbV]
  exact div64 i

/-- The remainder of a sum of two blocks by three, as the reference's words compute it, is nothing where the sum is a
multiple of three. -/
theorem rem3 : ∀ (a : Fin 32) (b : Fin 64), (IntOp.ori (IntOp.ori (IntOp.cmpi CmpIPredicate.eq (BitVec.ofNat 32 a.val) (BitVec.ofNat 32 b.val))
        (IntOp.cmpi CmpIPredicate.eq (BitVec.ofNat 32 b.val) 0#32))
      (IntOp.cmpi CmpIPredicate.eq (Scalar.select
      (IntOp.andi
        (IntOp.cmpi CmpIPredicate.ne
          (IntOp.cmpi CmpIPredicate.slt
            (IntOp.remsi ArithUnit.host (IntOp.addi (BitVec.ofNat 32 a.val) (BitVec.ofNat 32 b.val))
              (Scalar.select (IntOp.cmpi CmpIPredicate.eq 3#32 0#32) (1#32) (3#32)))
            0#32)
          (IntOp.cmpi CmpIPredicate.slt
            (Scalar.select (IntOp.cmpi CmpIPredicate.eq 3#32 0#32) (1#32) (3#32))
            0#32))
        (IntOp.cmpi CmpIPredicate.ne
          (IntOp.remsi ArithUnit.host (IntOp.addi (BitVec.ofNat 32 a.val) (BitVec.ofNat 32 b.val))
            (Scalar.select (IntOp.cmpi CmpIPredicate.eq 3#32 0#32) (1#32) (3#32)))
          0#32))
      (IntOp.addi
        (IntOp.remsi ArithUnit.host (IntOp.addi (BitVec.ofNat 32 a.val) (BitVec.ofNat 32 b.val))
          (Scalar.select (IntOp.cmpi CmpIPredicate.eq 3#32 0#32) (1#32) (3#32)))
        (Scalar.select (IntOp.cmpi CmpIPredicate.eq 3#32 0#32) (1#32) (3#32)))
      (IntOp.remsi ArithUnit.host (IntOp.addi (BitVec.ofNat 32 a.val) (BitVec.ofNat 32 b.val))
        (Scalar.select (IntOp.cmpi CmpIPredicate.eq 3#32 0#32) (1#32) (3#32)))) 0#32))
    = if a.val = b.val ∨ b.val = 0 ∨ (a.val + b.val) % 3 = 0 then 1#1 else 0#1 := by decide +kernel

theorem mskV_apply (i : Fin 2048) (j : Fin 4096) : mskV (ix2 i j) = if kept (i.val / 64) j.val then 1#1 else 0#1 := by
  pointwise [mskV, remV, sumIV, thV]
  rw [qbV_apply, kbV_apply]
  exact rem3 ⟨i.val / 64, by omega⟩ ⟨j.val / 64, by omega⟩

theorem QV_apply (x : FVec Ideal S1x2048x1024 .f32) (wq : FVec Ideal S1024x8192 .f32) (i : Fin 2048) (h : Fin 64) (d : Fin 128) :
    QV x wq (ix4 0 i h d) = ∑ k : Fin 1024, x (ix3 0 i k) * wq (ix2 k ⟨128 * h.val + d.val, by omega⟩) := by
  pointwise [QV]
  simp only [mul_comm (128 : ℕ)]

theorem scV_apply (q : FVec Ideal S1x2048x64x128 .f32) (k : FVec Ideal S1x4096x64x128 .f32) (h : Fin 64) (i : Fin 2048) (j : Fin 4096) :
    scV q k (ix4 0 h i j) = (∑ d : Fin 128, q (ix4 0 i h d) * k (ix4 0 j h d)) * Ideal.ofBits .f32 0x3DB504F3#32 := by
  pointwise [scV]

theorem msV_apply (s : FVec Ideal S1x64x2048x4096 .f32) (h : Fin 64) (i : Fin 2048) (j : Fin 4096) :
    msV s (ix4 0 h i j) = Scalar.select (mskV (ix2 i j)) (s (ix4 0 h i j)) (Ideal.ofBits .f32 0xFF800000#32) := by
  pointwise [msV]
  rfl

theorem eV_apply (s : FVec Ideal S1x64x2048x4096 .f32) (mx : FVec Ideal S1x64x2048 .f32) (h : Fin 64) (i : Fin 2048) (j : Fin 4096) :
    eV s mx (ix4 0 h i j) = Ideal.exp (s (ix4 0 h i j) - mx (ix3 0 h i)) := by
  pointwise [eV]

theorem sumV_apply (e : FVec Ideal S1x64x2048x4096 .f32) (h : Fin 64) (i : Fin 2048) :
    sumV e (ix3 0 h i) = ∑ j : Fin 4096, e (ix4 0 h i j) := by
  pointwise [sumV]

theorem wsV_apply (sm : FVec Ideal S1x64x2048 .f32) (h : Fin 64) (i : Fin 2048) :
    wsV sm (ix4 0 h i 0) = Scalar.select (anyV (ix1 i)) (sm (ix3 0 h i)) 1 := by
  pointwise [wsV]
  congr 1
  simp [constant, Ideal.ofBits, Ideal.ieee, -EReal.coe_mul]
  norm_num

theorem wV_apply (e : FVec Ideal S1x64x2048x4096 .f32) (ws : FVec Ideal S1x64x2048x1 .f32) (h : Fin 64) (i : Fin 2048) (j : Fin 4096) :
    wV e ws (ix4 0 h i j) = Scalar.select (anyV (ix1 i)) (Ideal.div (e (ix4 0 h i j)) (ws (ix4 0 h i 0))) 0 := by
  pointwise [wV]
  congr 1
  simp [constant, Ideal.ofBits, Ideal.ieee, -EReal.coe_mul]

theorem oV_apply (v : FVec Ideal S1x4096x64x128 .f32) (w : FVec Ideal S1x64x2048x4096 .f32) (h : Fin 64) (i : Fin 2048) (d : Fin 128) :
    oV v w (ix4 0 h d i) = ∑ j : Fin 4096, v (ix4 0 j h d) * w (ix4 0 h i j) := by
  pointwise [oV]

theorem lastV_apply (o : FVec Ideal S1x64x128x2048 .f32) (wo : FVec Ideal S8192x1024 .f32) (i : Fin 2048) (n : Fin 1024) :
    lastV o wo (ix3 0 i n) = ∑ k : Fin 8192, o (ix4 0 ⟨k.val / 128, by omega⟩ ⟨k.val % 128, by omega⟩ i) * wo (ix2 k n) := by
  pointwise [lastV]

theorem anyV_apply (i : Fin 2048) : anyV (ix1 i) = 1#1 := by
  pointwise [anyV]
  rw [← Finset.insert_erase (Finset.mem_univ (0 : Fin 4096)), Finset.fold_insert (Finset.notMem_erase _ _), mskV_apply, if_pos (show kept (i.val / 64) (0 : Fin 4096).val from Or.inr (Or.inl rfl))]
  generalize Finset.fold IntOp.ori (0#1) (fun x => mskV (ix2 i x)) _ = y
  revert y
  decide

/-- The greatest score of a row is a real, when one of them is and none is infinite upwards. -/
theorem maxV_real (s : FVec Ideal S1x64x2048x4096 .f32) (h : Fin 64) (i : Fin 2048) (j₀ : Fin 4096) (r : ℝ) (hr : s (ix4 0 h i j₀) = (r : EReal))
    (hlt : ∀ j, s (ix4 0 h i j) < ⊤) : ∃ M : ℝ, maxV s (ix3 0 h i) = (M : EReal) := by
  have e : maxV s (ix3 0 h i) = Finset.fold max (Ideal.ofBits FTy.f32 4286578688#32) (fun x => s (ix4 0 h i x)) Finset.univ := by
    pointwise [maxV]
  have hb : Ideal.ofBits FTy.f32 4286578688#32 = ⊥ := by simp [Ideal.ofBits, Ideal.ieee]
  rw [e, hb]
  have h1 : Finset.fold max (⊥ : EReal) (fun x => s (ix4 0 h i x)) Finset.univ < ⊤ :=
    (Finset.fold_max_lt _).2 ⟨bot_lt_top, fun x _ => hlt x⟩
  have h2 : (r : EReal) ≤ Finset.fold max (⊥ : EReal) (fun x => s (ix4 0 h i x)) Finset.univ :=
    (Finset.le_fold_max _).2 (Or.inr ⟨j₀, Finset.mem_univ _, hr.ge⟩)
  have h3 : Finset.fold max (⊥ : EReal) (fun x => s (ix4 0 h i x)) Finset.univ ≠ ⊥ := fun h => by
    rw [h] at h2; exact absurd (le_bot_iff.1 h2) (EReal.coe_ne_bot r)
  exact ⟨_, (EReal.coe_toReal h1.ne h3).symm⟩

theorem ofBits_ninf : Ideal.ofBits .f32 0xFF800000#32 = ⊥ := by simp [Ideal.ofBits, Ideal.ieee]

theorem select_kept {α : Type} (p : Prop) [Decidable p] (a b : α) : Scalar.select (if p then 1#1 else 0#1) a b = if p then a else b := by
  split_ifs <;> rfl

/-- The reference's result, from real queries and keys. -/
theorem refOf_apply (x : FVec Ideal S1x2048x1024 .f32) (wq : FVec Ideal S1024x8192 .f32) (k v : FVec Ideal S1x4096x64x128 .f32) (wo : FVec Ideal S8192x1024 .f32)
    (a : ℝ) (ha : Ideal.ofBits .f32 0x3DB504F3#32 = (a : EReal))
    (xr : Fin 2048 → Fin 1024 → ℝ) (hx : ∀ i e, x (ix3 0 i e) = (xr i e : EReal))
    (wr : Fin 1024 → Fin 8192 → ℝ) (hw : ∀ i e, wq (ix2 i e) = (wr i e : EReal))
    (kr : Fin 4096 → Fin 64 → Fin 128 → ℝ) (hk : ∀ j h e, k (ix4 0 j h e) = (kr j h e : EReal)) (i : Fin 2048) (n : Fin 1024) :
    refOf x wq k v wo (ix3 0 i n) = ∑ z : Fin 8192, rowVal (fun j : Fin 4096 => kept (i.val / 64) j.val)
        (fun j => (∑ e : Fin 128, (∑ u, xr i u * wr u ⟨128 * (z.val / 128) + e.val, by omega⟩) * kr j ⟨z.val / 128, by omega⟩ e) * a)
        (fun j => v (ix4 0 j ⟨z.val / 128, by omega⟩ ⟨z.val % 128, by omega⟩)) * wo (ix2 z n) := by
  unfold refOf
  rw [lastV_apply]
  refine Finset.sum_congr rfl fun z _ => ?_
  congr 1
  generalize hh : (⟨z.val / 128, by omega⟩ : Fin 64) = h
  have hv : z.val / 128 = h.val := congrArg Fin.val hh
  generalize (⟨z.val % 128, by omega⟩ : Fin 128) = d
  have hms : ∀ j, msOf x wq k (ix4 0 h i j) = if kept (i.val / 64) j.val
      then (((∑ e : Fin 128, (∑ u, xr i u * wr u ⟨128 * (z.val / 128) + e.val, by omega⟩) * kr j h e) * a : ℝ) : EReal) else ⊥ := by
    intro j
    unfold msOf
    rw [msV_apply, mskV_apply, select_kept, ofBits_ninf, scV_apply, ha]
    refine if_congr Iff.rfl ?_ rfl
    simp only [QV_apply, hx, hw, hk, ← EReal.coe_mul, sum_coe, ← hv]
  have h0 : kept (i.val / 64) (0 : Fin 4096).val := Or.inr (Or.inl rfl)
  obtain ⟨M, hM⟩ := maxV_real (msOf x wq k) h i 0 _ ((hms 0).trans (if_pos h0))
    (fun j => by rw [hms]; split_ifs; exacts [EReal.coe_lt_top _, bot_lt_top])
  rw [oV_apply]
  have he : ∀ j, eOf x wq k (ix4 0 h i j) = Ideal.exp ((if kept (i.val / 64) j.val
      then (((∑ e : Fin 128, (∑ u, xr i u * wr u ⟨128 * (z.val / 128) + e.val, by omega⟩) * kr j h e) * a : ℝ) : EReal) else ⊥) - (M : EReal)) := by
    intro j
    unfold eOf
    rw [eV_apply, hM, hms]
  have hwt : ∀ j, wV (eOf x wq k) (wsV (sumV (eOf x wq k))) (ix4 0 h i j) = Ideal.div (eOf x wq k (ix4 0 h i j)) (∑ j, eOf x wq k (ix4 0 h i j)) := by
    intro j
    rw [wV_apply, wsV_apply, anyV_apply, sumV_apply]
    rfl
  simp only [hwt, he]
  exact softmax_row (fun j : Fin 4096 => kept (i.val / 64) j.val) _ (fun j => v (ix4 0 j h d)) M 0 h0

end Cert.RingAttn.Ref

end

end
-- ==== Proof.Alg.lean ====
/-
# The kernel against the reference

Under the precondition each device's result is its block of the reference's.
-/
module

public import proofs.«01_k».proof.Defs
public import proofs.«01_k».proof.Proof.Pre
public import proofs.«01_k».proof.Proof.Result
public import proofs.«01_k».proof.Proof.KOut
public import proofs.«01_k».proof.Proof.RefVal

@[expose] public section

set_option maxRecDepth 8192
set_option maxHeartbeats 1000000

noncomputable section

namespace Cert.RingAttn

open Cert.KernelIdeal Cert.KernelIdeal.Gen

open Idealize.ShloMosaic Idealize.ShloMosaic.TcCoe Idealize.ShloMosaic.Tactic Idealize.SL.Sem

/-- A block of rows of the tokens. -/
theorem block_rows (x : FVec Ideal ⟨3, ![1, 2048, 1024]⟩ .f32) (c : Fin 8) (r : Fin 256) (k : Fin 1024) (R : Fin 2048) (hR : R.val = 256 * c.val + r.val) :
    Layout.block ⟨3, ![1, 256, 1024]⟩ ⟨3, ![1, 2048, 1024]⟩ 1 8 c x (by decide) (ix3 0 r k) = x (ix3 0 R k) := by
  rw [Layout.block_apply]
  congr 1
  funext a
  match a with
  | ⟨0, _⟩ => rfl
  | ⟨1, _⟩ => exact Fin.ext ((show c.val * 256 + r.val = R.val by omega))
  | ⟨2, _⟩ => rfl

/-- A block of columns of the query weights. -/
theorem block_cols (w : FVec Ideal ⟨2, ![1024, 8192]⟩ .f32) (c : Fin 8) (k n : Fin 1024) (N : Fin 8192) (hN : N.val = 1024 * c.val + n.val) :
    Layout.block ⟨2, ![1024, 1024]⟩ ⟨2, ![1024, 8192]⟩ 1 8 c w (by decide) (ix2 k n) = w (ix2 k N) := by
  rw [Layout.block_apply]
  congr 1
  funext a
  match a with
  | ⟨0, _⟩ => rfl
  | ⟨1, _⟩ => exact Fin.ext ((show c.val * 1024 + n.val = N.val by omega))

/-- A block of rows of the output weights. -/
theorem block_wo (w : FVec Ideal ⟨2, ![8192, 1024]⟩ .f32) (c : Fin 8) (n o : Fin 1024) (N : Fin 8192) (hN : N.val = 1024 * c.val + n.val) :
    Layout.block ⟨2, ![1024, 1024]⟩ ⟨2, ![8192, 1024]⟩ 0 8 c w (by decide) (ix2 n o) = w (ix2 N o) := by
  rw [Layout.block_apply]
  congr 1
  funext a
  match a with
  | ⟨0, _⟩ => exact Fin.ext ((show c.val * 1024 + n.val = N.val by omega))
  | ⟨1, _⟩ => rfl

/-- Each device's result, of its parts of the arguments, is its block of the reference's result. -/
theorem out_block (xs : Dev nD → Vec Ideal S1x256x1024 .f32) (wqs wos : Dev nD → Vec Ideal S1024x1024 .f32) (kss vss : Dev nD → KaC Ideal)
    (x : FVec Ideal ⟨3, ![1, 2048, 1024]⟩ .f32) (wq : FVec Ideal ⟨2, ![1024, 8192]⟩ .f32) (k v : FVec Ideal ⟨4, ![1, 4096, 64, 128]⟩ .f32)
    (wo : FVec Ideal ⟨2, ![8192, 1024]⟩ .f32)
    (hx : ∀ c : Dev nD, xs c = Layout.block ⟨3, ![1, 256, 1024]⟩ ⟨3, ![1, 2048, 1024]⟩ 1 8 c x)
    (hw : ∀ c : Dev nD, wqs c = Layout.block ⟨2, ![1024, 1024]⟩ ⟨2, ![1024, 8192]⟩ 1 8 c wq)
    (hk : ∀ c : Dev nD, kss c = k) (hv : ∀ c : Dev nD, vss c = v)
    (ho : ∀ c : Dev nD, wos c = Layout.block ⟨2, ![1024, 1024]⟩ ⟨2, ![8192, 1024]⟩ 0 8 c wo)
    (rx : ∀ (c : Dev nD) i, ∃ r : ℝ, xs c i = (r : EReal)) (rw' : ∀ (c : Dev nD) i, ∃ r : ℝ, wqs c i = (r : EReal))
    (rk : ∀ (c : Dev nD) i, ∃ r : ℝ, kss c i = (r : EReal)) (c : Dev nD) :
    outOf xs wqs wos kss vss c = Layout.block ⟨3, ![1, 256, 1024]⟩ ⟨3, ![1, 2048, 1024]⟩ 1 8 c (Ref.refOf x wq k v wo) := by
  obtain ⟨a, ha⟩ := sc_real
  have hX : ∀ (R : Fin 2048) (u : Fin 1024), ∃ r : ℝ, x (ix3 0 R u) = (r : EReal) := fun R u => by
    have h := rx ⟨R.val / 256, by change R.val / 256 < 8; omega⟩ (ix3 0 ⟨R.val % 256, by omega⟩ u)
    rw [hx, block_rows x _ _ u R (by change R.val = 256 * (R.val / 256) + R.val % 256; omega)] at h
    exact h
  have hW : ∀ (u : Fin 1024) (N : Fin 8192), ∃ r : ℝ, wq (ix2 u N) = (r : EReal) := fun u N => by
    have h := rw' ⟨N.val / 1024, by change N.val / 1024 < 8; omega⟩ (ix2 u ⟨N.val % 1024, by omega⟩)
    rw [hw, block_cols wq _ u _ N (by change N.val = 1024 * (N.val / 1024) + N.val % 1024; omega)] at h
    exact h
  have hK : ∀ (j : Fin 4096) (h : Fin 64) (e : Fin 128), ∃ r : ℝ, k (ix4 0 j h e) = (r : EReal) := fun j h e => by
    have h := rk 0 (ix4 0 j h e)
    rw [hk] at h
    exact h
  choose X hX using hX
  choose W hW using hW
  choose Kr hK using hK
  have hc : c.val < 8 := c.isLt
  have key : ∀ (r : Fin 256) (o : Fin 1024), outOf xs wqs wos kss vss c (ix3 0 r o)
      = Layout.block ⟨3, ![1, 256, 1024]⟩ ⟨3, ![1, 2048, 1024]⟩ 1 8 c (Ref.refOf x wq k v wo) (by decide) (ix3 0 r o) := by
    intro r o
    have hR : 256 * c.val + r.val < 2048 := by omega
    refine Eq.trans ?_ (block_rows (Ref.refOf x wq k v wo) c r o ⟨256 * c.val + r.val, hR⟩ rfl).symm
    refine Eq.trans ?_ (Ref.refOf_apply x wq k v wo a ha X hX W hW Kr hK ⟨256 * c.val + r.val, hR⟩ o).symm
    exact outOf_apply xs wqs wos kss vss a ha X W Kr v (fun z o => wo (ix2 z o))
      (fun c r u R h => by rw [hx, block_rows x c r u R h, hX]) (fun c u n N h => by rw [hw, block_cols wq c u n N h, hW])
      (fun c j h e => by rw [hk, hK]) hv (fun c n o N h => by rw [ho, block_wo wo c n o N h]) c r o _ rfl
  funext i
  have hi : i = ix3 (0 : Fin 1) (i 1 : Fin 256) (i 2 : Fin 1024) := by
    funext b
    match b with
    | ⟨0, _⟩ => exact Fin.ext (by have h : (i 0).val < 1 := (i 0).isLt; change (i 0).val = 0; omega)
    | ⟨1, _⟩ => rfl
    | ⟨2, _⟩ => rfl
  exact (congrArg _ hi).trans ((key (i 1) (i 2)).trans (congrArg _ hi.symm))

/-- The kernel and the reference agree, block by block. -/
theorem algebraic : Cert.algebraic_KernelIdeal_ReferenceIdeal_pre_finite_KernelIdeal (hPre_finite_KernelIdeal := preK_facts) := by
  intro m g m' g' hpre hin
  haveI := preK_facts
  refine ⟨_, ?_, (θ_run (Cert.ReferenceIdeal.defs (F := Ideal)) _ _).mono (fun r h => ⟨(h 0).1.trans (Ref.res_eq m' 0), (h 0).2⟩)
    (Cert.ReferenceIdeal.Value.run (F := Ideal) m' g')⟩
  refine (θ_run (Cert.KernelIdeal.defs (F := Ideal)) _ _).mono (fun r h c => ⟨?_, QC_args m h.1 c⟩) (run_main (F := Ideal) m g)
  refine (((h.1 c).1 (3 : Fin 4)).trans (finalA_out m c)).trans ?_
  exact out_block (xsOf m) (wqsOf m) (wosOf m) (kssOf m) (vssOf m) _ _ _ _ _
    (fun c => (xsOf_eq m c).trans (hin c).1) (fun c => (wqsOf_eq m c).trans (hin c).2.1) (fun c => (hin c).2.2.1) (fun c => (hin c).2.2.2.1)
    (fun c => (wosOf_eq m c).trans (hin c).2.2.2.2)
    (fun c i => by rw [xsOf_eq]; exact (reals_of_pre _ _ _ _ _ (hpre c)).1 i)
    (fun c i => by rw [wqsOf_eq]; exact (reals_of_pre _ _ _ _ _ (hpre c)).2.1 i)
    (fun c i => (reals_of_pre _ _ _ _ _ (hpre c)).2.2 i) c

end Cert.RingAttn

end

end
-- ==== Proof.lean ====
/- The claims: the frames of the kernel and of its ideal text, both from one run of the ring; the frame of the reference;
   the ideal text's agreement with the kernel's; the kernel's agreement with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Alg

@[expose] public section

noncomputable section

namespace Cert.Proof

open Idealize.ShloMosaic Idealize.ShloMosaic.TcCoe Idealize.SL.Sem

/-- The run, read at exact values. -/
theorem frame_ideal : Cert.quiescent_KernelIdeal := fun m g _ =>
  (θ_run (Cert.KernelIdeal.defs (F := Ideal)) _ _).mono (fun _ h => ⟨fun c => Cert.RingAttn.QC_args m h.1 c, h.2⟩)
    (Cert.RingAttn.run_main (F := Ideal) m g)

set_option smartUnfolding false in
/-- The kernel's text is the ideal text's, read at bits: the same run. -/
theorem run_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => Cert.RingAttn.QC (F := Bits) m r ∧ r.2.sem = fun _ => 0) :=
  Cert.RingAttn.run_main (F := Bits) m g

theorem frame_kernel : Cert.quiescent_Kernel := fun m g _ =>
  (θ_run (Cert.Kernel.defs (F := Bits)) _ _).mono (fun _ h => ⟨fun c => Cert.RingAttn.QC_args (F := Bits) m h.1 c, h.2⟩) (run_kernel m g)

/-- The reference has host operations alone, and declares no counter. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.RingAttn.preK_facts, Cert.RingAttn.preR_facts,
    frame_kernel, frame_ideal, fun m g _ => frame_ideal m g trivial, frame_reference, fun m g _ => frame_reference m g trivial, trivial,
    Cert.RingAttn.algebraic⟩

end Cert.Proof

end

end
